-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_are_real [hPre_logits_are_real : Cert.Pre_logits_are_real.Facts] (m : (ℓ : Loc Cert.KernelIdeal.nD Cert.KernelIdeal.τ Cert.KernelIdeal.sig) → Buf (Elt Ideal) ℓ) : Prop :=
  ∀ c : Dev Cert.KernelIdeal.nD,
    (Cert.Pre_logits_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_logits_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_logits_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_logits_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_logits_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_logits_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_logits_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_logits_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_logits_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_logits_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_logits_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_logits_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_are_real [hPre_logits_are_real : Cert.Pre_logits_are_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_logits_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_logits_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_logits_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_logits_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_logits_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_logits_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_logits_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_logits_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_logits_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_logits_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_logits_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_logits_are_real [hKernelIdeal : Cert.KernelIdeal.Facts] [hPre_logits_are_real : Cert.Pre_logits_are_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_are_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_logits_are_real [hReferenceIdeal : Cert.ReferenceIdeal.Facts] [hPre_logits_are_real : Cert.Pre_logits_are_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_are_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_logits_are_real [hKernelIdeal : Cert.KernelIdeal.Facts] [hReferenceIdeal : Cert.ReferenceIdeal.Facts] [hPre_logits_are_real : Cert.Pre_logits_are_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_are_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v31_1)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_1) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_logits_are_real : Cert.Pre_logits_are_real.Facts),
    quiescent_Kernel (hKernel := hKernel)
    ∧ quiescent_KernelIdeal (hKernelIdeal := hKernelIdeal)
    ∧ quiescent_KernelIdeal_pre_logits_are_real (hKernelIdeal := hKernelIdeal) (hPre_logits_are_real := hPre_logits_are_real)
    ∧ quiescent_ReferenceIdeal (hReferenceIdeal := hReferenceIdeal)
    ∧ quiescent_ReferenceIdeal_pre_logits_are_real (hReferenceIdeal := hReferenceIdeal) (hPre_logits_are_real := hPre_logits_are_real)
    ∧ preserves_Kernel_KernelIdeal
    ∧ algebraic_KernelIdeal_ReferenceIdeal_pre_logits_are_real (hKernelIdeal := hKernelIdeal) (hReferenceIdeal := hReferenceIdeal) (hPre_logits_are_real := hPre_logits_are_real)
-- ==== Pre_logits_are_real.lean ====
abbrev S1x8192x768 : Shape := ⟨3, ![1, 8192, 768]⟩
abbrev S768x768 : Shape := ⟨2, ![768, 768]⟩
abbrev S768 : Shape := ⟨1, ![768]⟩
abbrev S768x1 : Shape := ⟨2, ![768, 1]⟩
abbrev S1 : Shape := ⟨1, ![1]⟩
abbrev S769x768 : Shape := ⟨2, ![769, 768]⟩
abbrev S768x2 : Shape := ⟨2, ![768, 2]⟩
abbrev S2 : Shape := ⟨1, ![2]⟩
abbrev S768x64 : Shape := ⟨2, ![768, 64]⟩
abbrev S64 : Shape := ⟨1, ![64]⟩
abbrev S_ : Shape := ⟨0, ![]⟩

class Facts : Prop where
  bcast_S_S1x8192x768 : S_.BroadcastsInDim S1x8192x768 (![] : Fin 0 → Fin S1x8192x768.rank)
  bcast_S_S768x768 : S_.BroadcastsInDim S768x768 (![] : Fin 0 → Fin S768x768.rank)
  bcast_S_S768 : S_.BroadcastsInDim S768 (![] : Fin 0 → Fin S768.rank)
  bcast_S_S768x1 : S_.BroadcastsInDim S768x1 (![] : Fin 0 → Fin S768x1.rank)
  bcast_S_S1 : S_.BroadcastsInDim S1 (![] : Fin 0 → Fin S1.rank)
  bcast_S_S769x768 : S_.BroadcastsInDim S769x768 (![] : Fin 0 → Fin S769x768.rank)
  bcast_S_S768x2 : S_.BroadcastsInDim S768x2 (![] : Fin 0 → Fin S768x2.rank)
  bcast_S_S2 : S_.BroadcastsInDim S2 (![] : Fin 0 → Fin S2.rank)

variable [Facts]

def fn_part3 {F : FTy → Type} [FloatOps F] (main_arg10 : FVec F S768x2 .f32) (main_arg11 : FVec F S2 .f32) (main_v4 : IVec S1x8192x768 1) (main_v9 : IVec S768x768 1) (main_v14 : IVec S768 1) (main_v19 : IVec S768x1 1) (main_v24 : IVec S1 1) (main_v29 : IVec S769x768 1) (main_v34 : IVec S768 1) (main_v39 : IVec S768x1 1) (main_v44 : IVec S1 1) (main_v49 : IVec S768x768 1) (main_v50 : FVec F S768x2 .f32) : IVec S1x8192x768 1 × IVec S768x768 1 × IVec S768 1 × IVec S768x1 1 × IVec S1 1 × IVec S769x768 1 × IVec S768 1 × IVec S768x1 1 × IVec S1 1 × IVec S768x768 1 × IVec S768x2 1 × IVec S2 1 :=
  let main_v51 : IVec S768x2 1 := cmpf .ogt main_arg10 main_v50
  let main_cst_20 : FVec F S_ .f32 := constant S_ .f32 0x7F800000#32
  let main_v52 : FVec F S768x2 .f32 := broadcastInDim S768x2 ![] bcast_S_S768x2 main_cst_20
  let main_v53 : IVec S768x2 1 := cmpf .olt main_arg10 main_v52
  let main_v54 : IVec S768x2 1 := andi main_v51 main_v53
  let main_cst_21 : FVec F S_ .f32 := constant S_ .f32 0xFF800000#32
  let main_v55 : FVec F S2 .f32 := broadcastInDim S2 ![] bcast_S_S2 main_cst_21
  let main_v56 : IVec S2 1 := cmpf .ogt main_arg11 main_v55
  let main_cst_22 : FVec F S_ .f32 := constant S_ .f32 0x7F800000#32
  let main_v57 : FVec F S2 .f32 := broadcastInDim S2 ![] bcast_S_S2 main_cst_22
  let main_v58 : IVec S2 1 := cmpf .olt main_arg11 main_v57
  let main_v59 : IVec S2 1 := andi main_v56 main_v58
  (main_v4, main_v9, main_v14, main_v19, main_v24, main_v29, main_v34, main_v39, main_v44, main_v49, main_v54, main_v59)

def fn_part2 {F : FTy → Type} [FloatOps F] (main_arg7 : FVec F S768x1 .f32) (main_arg8 : FVec F S1 .f32) (main_arg9 : FVec F S768x768 .f32) (main_arg10 : FVec F S768x2 .f32) (main_arg11 : FVec F S2 .f32) (main_v4 : IVec S1x8192x768 1) (main_v9 : IVec S768x768 1) (main_v14 : IVec S768 1) (main_v19 : IVec S768x1 1) (main_v24 : IVec S1 1) (main_v29 : IVec S769x768 1) (main_v31 : IVec S768 1) (main_v33 : IVec S768 1) : IVec S1x8192x768 1 × IVec S768x768 1 × IVec S768 1 × IVec S768x1 1 × IVec S1 1 × IVec S769x768 1 × IVec S768 1 × IVec S768x1 1 × IVec S1 1 × IVec S768x768 1 × IVec S768x2 1 × IVec S2 1 :=
  let main_v34 : IVec S768 1 := andi main_v31 main_v33
  let main_cst_13 : FVec F S_ .f32 := constant S_ .f32 0xFF800000#32
  let main_v35 : FVec F S768x1 .f32 := broadcastInDim S768x1 ![] bcast_S_S768x1 main_cst_13
  let main_v36 : IVec S768x1 1 := cmpf .ogt main_arg7 main_v35
  let main_cst_14 : FVec F S_ .f32 := constant S_ .f32 0x7F800000#32
  let main_v37 : FVec F S768x1 .f32 := broadcastInDim S768x1 ![] bcast_S_S768x1 main_cst_14
  let main_v38 : IVec S768x1 1 := cmpf .olt main_arg7 main_v37
  let main_v39 : IVec S768x1 1 := andi main_v36 main_v38
  let main_cst_15 : FVec F S_ .f32 := constant S_ .f32 0xFF800000#32
  let main_v40 : FVec F S1 .f32 := broadcastInDim S1 ![] bcast_S_S1 main_cst_15
  let main_v41 : IVec S1 1 := cmpf .ogt main_arg8 main_v40
  let main_cst_16 : FVec F S_ .f32 := constant S_ .f32 0x7F800000#32
  let main_v42 : FVec F S1 .f32 := broadcastInDim S1 ![] bcast_S_S1 main_cst_16
  let main_v43 : IVec S1 1 := cmpf .olt main_arg8 main_v42
  let main_v44 : IVec S1 1 := andi main_v41 main_v43
  let main_cst_17 : FVec F S_ .f32 := constant S_ .f32 0xFF800000#32
  let main_v45 : FVec F S768x768 .f32 := broadcastInDim S768x768 ![] bcast_S_S768x768 main_cst_17
  let main_v46 : IVec S768x768 1 := cmpf .ogt main_arg9 main_v45
  let main_cst_18 : FVec F S_ .f32 := constant S_ .f32 0x7F800000#32
  let main_v47 : FVec F S768x768 .f32 := broadcastInDim S768x768 ![] bcast_S_S768x768 main_cst_18
  let main_v48 : IVec S768x768 1 := cmpf .olt main_arg9 main_v47
  let main_v49 : IVec S768x768 1 := andi main_v46 main_v48
  let main_cst_19 : FVec F S_ .f32 := constant S_ .f32 0xFF800000#32
  let main_v50 : FVec F S768x2 .f32 := broadcastInDim S768x2 ![] bcast_S_S768x2 main_cst_19
  fn_part3 (F := F) main_arg10 main_arg11 main_v4 main_v9 main_v14 main_v19 main_v24 main_v29 main_v34 main_v39 main_v44 main_v49 main_v50

def fn_part1 {F : FTy → Type} [FloatOps F] (main_arg3 : FVec F S768x1 .f32) (main_arg4 : FVec F S1 .f32) (main_arg5 : FVec F S769x768 .f32) (main_arg6 : FVec F S768 .f32) (main_arg7 : FVec F S768x1 .f32) (main_arg8 : FVec F S1 .f32) (main_arg9 : FVec F S768x768 .f32) (main_arg10 : FVec F S768x2 .f32) (main_arg11 : FVec F S2 .f32) (main_v4 : IVec S1x8192x768 1) (main_v9 : IVec S768x768 1) (main_v14 : IVec S768 1) (main_v16 : IVec S768x1 1) : IVec S1x8192x768 1 × IVec S768x768 1 × IVec S768 1 × IVec S768x1 1 × IVec S1 1 × IVec S769x768 1 × IVec S768 1 × IVec S768x1 1 × IVec S1 1 × IVec S768x768 1 × IVec S768x2 1 × IVec S2 1 :=
  let main_cst_6 : FVec F S_ .f32 := constant S_ .f32 0x7F800000#32
  let main_v17 : FVec F S768x1 .f32 := broadcastInDim S768x1 ![] bcast_S_S768x1 main_cst_6
  let main_v18 : IVec S768x1 1 := cmpf .olt main_arg3 main_v17
  let main_v19 : IVec S768x1 1 := andi main_v16 main_v18
  let main_cst_7 : FVec F S_ .f32 := constant S_ .f32 0xFF800000#32
  let main_v20 : FVec F S1 .f32 := broadcastInDim S1 ![] bcast_S_S1 main_cst_7
  let main_v21 : IVec S1 1 := cmpf .ogt main_arg4 main_v20
  let main_cst_8 : FVec F S_ .f32 := constant S_ .f32 0x7F800000#32
  let main_v22 : FVec F S1 .f32 := broadcastInDim S1 ![] bcast_S_S1 main_cst_8
  let main_v23 : IVec S1 1 := cmpf .olt main_arg4 main_v22
  let main_v24 : IVec S1 1 := andi main_v21 main_v23
  let main_cst_9 : FVec F S_ .f32 := constant S_ .f32 0xFF800000#32
  let main_v25 : FVec F S769x768 .f32 := broadcastInDim S769x768 ![] bcast_S_S769x768 main_cst_9
  let main_v26 : IVec S769x768 1 := cmpf .ogt main_arg5 main_v25
  let main_cst_10 : FVec F S_ .f32 := constant S_ .f32 0x7F800000#32
  let main_v27 : FVec F S769x768 .f32 := broadcastInDim S769x768 ![] bcast_S_S769x768 main_cst_10
  let main_v28 : IVec S769x768 1 := cmpf .olt main_arg5 main_v27
  let main_v29 : IVec S769x768 1 := andi main_v26 main_v28
  let main_cst_11 : FVec F S_ .f32 := constant S_ .f32 0xFF800000#32
  let main_v30 : FVec F S768 .f32 := broadcastInDim S768 ![] bcast_S_S768 main_cst_11
  let main_v31 : IVec S768 1 := cmpf .ogt main_arg6 main_v30
  let main_cst_12 : FVec F S_ .f32 := constant S_ .f32 0x7F800000#32
  let main_v32 : FVec F S768 .f32 := broadcastInDim S768 ![] bcast_S_S768 main_cst_12
  let main_v33 : IVec S768 1 := cmpf .olt main_arg6 main_v32
  fn_part2 (F := F) main_arg7 main_arg8 main_arg9 main_arg10 main_arg11 main_v4 main_v9 main_v14 main_v19 main_v24 main_v29 main_v31 main_v33

def fn {F : FTy → Type} [FloatOps F] (main_arg0 : FVec F S1x8192x768 .f32) (main_arg1 : FVec F S768x768 .f32) (main_arg2 : FVec F S768 .f32) (main_arg3 : FVec F S768x1 .f32) (main_arg4 : FVec F S1 .f32) (main_arg5 : FVec F S769x768 .f32) (main_arg6 : FVec F S768 .f32) (main_arg7 : FVec F S768x1 .f32) (main_arg8 : FVec F S1 .f32) (main_arg9 : FVec F S768x768 .f32) (main_arg10 : FVec F S768x2 .f32) (main_arg11 : FVec F S2 .f32) (main_arg12 : FVec F S768x64 .f32) (main_arg13 : FVec F S64 .f32) : IVec S1x8192x768 1 × IVec S768x768 1 × IVec S768 1 × IVec S768x1 1 × IVec S1 1 × IVec S769x768 1 × IVec S768 1 × IVec S768x1 1 × IVec S1 1 × IVec S768x768 1 × IVec S768x2 1 × IVec S2 1 :=
  let main_cst : FVec F S_ .f32 := constant S_ .f32 0xFF800000#32
  let main_v0 : FVec F S1x8192x768 .f32 := broadcastInDim S1x8192x768 ![] bcast_S_S1x8192x768 main_cst
  let main_v1 : IVec S1x8192x768 1 := cmpf .ogt main_arg0 main_v0
  let main_cst_0 : FVec F S_ .f32 := constant S_ .f32 0x7F800000#32
  let main_v2 : FVec F S1x8192x768 .f32 := broadcastInDim S1x8192x768 ![] bcast_S_S1x8192x768 main_cst_0
  let main_v3 : IVec S1x8192x768 1 := cmpf .olt main_arg0 main_v2
  let main_v4 : IVec S1x8192x768 1 := andi main_v1 main_v3
  let main_cst_1 : FVec F S_ .f32 := constant S_ .f32 0xFF800000#32
  let main_v5 : FVec F S768x768 .f32 := broadcastInDim S768x768 ![] bcast_S_S768x768 main_cst_1
  let main_v6 : IVec S768x768 1 := cmpf .ogt main_arg1 main_v5
  let main_cst_2 : FVec F S_ .f32 := constant S_ .f32 0x7F800000#32
  let main_v7 : FVec F S768x768 .f32 := broadcastInDim S768x768 ![] bcast_S_S768x768 main_cst_2
  let main_v8 : IVec S768x768 1 := cmpf .olt main_arg1 main_v7
  let main_v9 : IVec S768x768 1 := andi main_v6 main_v8
  let main_cst_3 : FVec F S_ .f32 := constant S_ .f32 0xFF800000#32
  let main_v10 : FVec F S768 .f32 := broadcastInDim S768 ![] bcast_S_S768 main_cst_3
  let main_v11 : IVec S768 1 := cmpf .ogt main_arg2 main_v10
  let main_cst_4 : FVec F S_ .f32 := constant S_ .f32 0x7F800000#32
  let main_v12 : FVec F S768 .f32 := broadcastInDim S768 ![] bcast_S_S768 main_cst_4
  let main_v13 : IVec S768 1 := cmpf .olt main_arg2 main_v12
  let main_v14 : IVec S768 1 := andi main_v11 main_v13
  let main_cst_5 : FVec F S_ .f32 := constant S_ .f32 0xFF800000#32
  let main_v15 : FVec F S768x1 .f32 := broadcastInDim S768x1 ![] bcast_S_S768x1 main_cst_5
  let main_v16 : IVec S768x1 1 := cmpf .ogt main_arg3 main_v15
  fn_part1 (F := F) main_arg3 main_arg4 main_arg5 main_arg6 main_arg7 main_arg8 main_arg9 main_arg10 main_arg11 main_v4 main_v9 main_v14 main_v16
-- ==== Kernel.lean ====
abbrev S1x8192x768 : Shape := ⟨3, ![1, 8192, 768]⟩
abbrev S768x768 : Shape := ⟨2, ![768, 768]⟩
abbrev S768 : Shape := ⟨1, ![768]⟩
abbrev S768x1 : Shape := ⟨2, ![768, 1]⟩
abbrev S1 : Shape := ⟨1, ![1]⟩
abbrev S769x768 : Shape := ⟨2, ![769, 768]⟩
abbrev S768x2 : Shape := ⟨2, ![768, 2]⟩
abbrev S2 : Shape := ⟨1, ![2]⟩
abbrev S768x64 : Shape := ⟨2, ![768, 64]⟩
abbrev S64 : Shape := ⟨1, ![64]⟩
abbrev S_ : Shape := ⟨0, ![]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S1x1 : Shape := ⟨2, ![1, 1]⟩
abbrev S1x8192 : Shape := ⟨2, ![1, 8192]⟩
abbrev S8192x768 : Shape := ⟨2, ![8192, 768]⟩
abbrev S2368 : Shape := ⟨1, ![2368]⟩
abbrev S1x2368 : Shape := ⟨2, ![1, 2368]⟩
abbrev S1x768 : Shape := ⟨2, ![1, 768]⟩
abbrev S1x64 : Shape := ⟨2, ![1, 64]⟩
abbrev S8192x64 : Shape := ⟨2, ![8192, 64]⟩
abbrev S1x16386 : Shape := ⟨2, ![1, 16386]⟩
abbrev S1024x768 : Shape := ⟨2, ![1024, 768]⟩
abbrev S1024x64 : Shape := ⟨2, ![1024, 64]⟩
abbrev S768x2368 : Shape := ⟨2, ![768, 2368]⟩
abbrev S8x1024x768 : Shape := ⟨3, ![8, 1024, 768]⟩
abbrev S1024x2368 : Shape := ⟨2, ![1024, 2368]⟩
abbrev S1x1024 : Shape := ⟨2, ![1, 1024]⟩
abbrev S1x1024x768 : Shape := ⟨3, ![1, 1024, 768]⟩
abbrev S1x1x8192 : Shape := ⟨3, ![1, 1, 8192]⟩
abbrev S1x1x1 : Shape := ⟨3, ![1, 1, 1]⟩
abbrev S1x8192x64 : Shape := ⟨3, ![1, 8192, 64]⟩

abbrev nBuf : Space → Nat
  | .hbm => 1087
  | .vmem => 23
  | .smem => 3
  | _ => 0

abbrev hbmTy0_0 (i : Nat) : BufTy := match i % 128 with
  | 0 => ⟨S1x8192x768, .f32⟩
  | 1 => ⟨S768x768, .f32⟩
  | 2 => ⟨S768, .f32⟩
  | 3 => ⟨S768x1, .f32⟩
  | 4 => ⟨S1, .f32⟩
  | 5 => ⟨S769x768, .f32⟩
  | 6 => ⟨S768, .f32⟩
  | 7 => ⟨S768x1, .f32⟩
  | 8 => ⟨S1, .f32⟩
  | 9 => ⟨S768x768, .f32⟩
  | 10 => ⟨S768x2, .f32⟩
  | 11 => ⟨S2, .f32⟩
  | 12 => ⟨S768x64, .f32⟩
  | 13 => ⟨S64, .f32⟩
  | 14 => ⟨S_, .i32⟩
  | 15 => ⟨S_, .i32⟩
  | 16 => ⟨S_, .i32⟩
  | 17 => ⟨S_, .i32⟩
  | 18 => ⟨S1, .i32⟩
  | 19 => ⟨S_, .i32⟩
  | 20 => ⟨S_, .i32⟩
  | 21 => ⟨S_, .i32⟩
  | 22 => ⟨S1, .i32⟩
  | 23 => ⟨S2, .i32⟩
  | 24 => ⟨S1, .i32⟩
  | 25 => ⟨S_, .i32⟩
  | 26 => ⟨S1, .i32⟩
  | 27 => ⟨S_, .i32⟩
  | 28 => ⟨S3, .i64⟩
  | 29 => ⟨S_, .i64⟩
  | 30 => ⟨S3, .i64⟩
  | 31 => ⟨S3, .i64⟩
  | 32 => ⟨S_, .i64⟩
  | 33 => ⟨S3, .i64⟩
  | 34 => ⟨S3, .i64⟩
  | 35 => ⟨S3, .i32⟩
  | 36 => ⟨S3, .i32⟩
  | 37 => ⟨S_, .i32⟩
  | 38 => ⟨S_, .i32⟩
  | 39 => ⟨S_, .i32⟩
  | 40 => ⟨S3, .i32⟩
  | 41 => ⟨S3, .i32⟩
  | 42 => ⟨S3, .i32⟩
  | 43 => ⟨S3, .i32⟩
  | 44 => ⟨S3, .i32⟩
  | 45 => ⟨S_, .i32⟩
  | 46 => ⟨S3, .i32⟩
  | 47 => ⟨S3, .i32⟩
  | 48 => ⟨S_, .i32⟩
  | 49 => ⟨S3, .i32⟩
  | 50 => ⟨S3, .i32⟩
  | 51 => ⟨S3, .i32⟩
  | 52 => ⟨S3, .i32⟩
  | 53 => ⟨S3, .i32⟩
  | 54 => ⟨S_, .i32⟩
  | 55 => ⟨S3, .i32⟩
  | 56 => ⟨S3, .i32⟩
  | 57 => ⟨S_, .i32⟩
  | 58 => ⟨S3, .i32⟩
  | 59 => ⟨S3, .i32⟩
  | 60 => ⟨S3, .i32⟩
  | 61 => ⟨S3, .i32⟩
  | 62 => ⟨S3, .i32⟩
  | 63 => ⟨S_, .i32⟩
  | 64 => ⟨S3, .i32⟩
  | 65 => ⟨S3, .i32⟩
  | 66 => ⟨S_, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S_, .i32⟩
  | 76 => ⟨S3, .i32⟩
  | 77 => ⟨S3, .i32⟩
  | 78 => ⟨S3, .i32⟩
  | 79 => ⟨S3, .i32⟩
  | 80 => ⟨S3, .i32⟩
  | 81 => ⟨S3, .i32⟩
  | 82 => ⟨S3, .i32⟩
  | 83 => ⟨S3, .i32⟩
  | 84 => ⟨S_, .i32⟩
  | 85 => ⟨S3, .i32⟩
  | 86 => ⟨S3, .i32⟩
  | 87 => ⟨S3, .i32⟩
  | 88 => ⟨S_, .i32⟩
  | 89 => ⟨S3, .i32⟩
  | 90 => ⟨S3, .i32⟩
  | 91 => ⟨S_, .i32⟩
  | 92 => ⟨S3, .i32⟩
  | 93 => ⟨S3, .i32⟩
  | 94 => ⟨S3, .i32⟩
  | 95 => ⟨S3, .i32⟩
  | 96 => ⟨S3, .i32⟩
  | 97 => ⟨S_, .i32⟩
  | 98 => ⟨S3, .i32⟩
  | 99 => ⟨S3, .i32⟩
  | 100 => ⟨S_, .i32⟩
  | 101 => ⟨S3, .i32⟩
  | 102 => ⟨S3, .i32⟩
  | 103 => ⟨S3, .i32⟩
  | 104 => ⟨S3, .i32⟩
  | 105 => ⟨S3, .i32⟩
  | 106 => ⟨S_, .i32⟩
  | 107 => ⟨S3, .i32⟩
  | 108 => ⟨S3, .i32⟩
  | 109 => ⟨S_, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S_, .i32⟩
  | 119 => ⟨S3, .i32⟩
  | 120 => ⟨S3, .i32⟩
  | 121 => ⟨S3, .i32⟩
  | 122 => ⟨S3, .i32⟩
  | 123 => ⟨S3, .i32⟩
  | 124 => ⟨S3, .i32⟩
  | 125 => ⟨S3, .i32⟩
  | 126 => ⟨S3, .i32⟩
  | 127 => ⟨S_, .i32⟩
  | _ => ⟨S1x8192x768, .f32⟩

abbrev hbmTy0_1 (i : Nat) : BufTy := match i % 128 with
  | 0 => ⟨S3, .i32⟩
  | 1 => ⟨S3, .i32⟩
  | 2 => ⟨S3, .i32⟩
  | 3 => ⟨S_, .i32⟩
  | 4 => ⟨S3, .i32⟩
  | 5 => ⟨S3, .i32⟩
  | 6 => ⟨S_, .i32⟩
  | 7 => ⟨S3, .i32⟩
  | 8 => ⟨S3, .i32⟩
  | 9 => ⟨S3, .i32⟩
  | 10 => ⟨S3, .i32⟩
  | 11 => ⟨S3, .i32⟩
  | 12 => ⟨S_, .i32⟩
  | 13 => ⟨S3, .i32⟩
  | 14 => ⟨S3, .i32⟩
  | 15 => ⟨S_, .i32⟩
  | 16 => ⟨S3, .i32⟩
  | 17 => ⟨S3, .i32⟩
  | 18 => ⟨S3, .i32⟩
  | 19 => ⟨S3, .i32⟩
  | 20 => ⟨S3, .i32⟩
  | 21 => ⟨S_, .i32⟩
  | 22 => ⟨S3, .i32⟩
  | 23 => ⟨S3, .i32⟩
  | 24 => ⟨S_, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S_, .i32⟩
  | 34 => ⟨S3, .i32⟩
  | 35 => ⟨S3, .i32⟩
  | 36 => ⟨S3, .i32⟩
  | 37 => ⟨S3, .i32⟩
  | 38 => ⟨S3, .i32⟩
  | 39 => ⟨S3, .i32⟩
  | 40 => ⟨S3, .i32⟩
  | 41 => ⟨S3, .i32⟩
  | 42 => ⟨S_, .i32⟩
  | 43 => ⟨S3, .i32⟩
  | 44 => ⟨S3, .i32⟩
  | 45 => ⟨S3, .i32⟩
  | 46 => ⟨S_, .i32⟩
  | 47 => ⟨S3, .i32⟩
  | 48 => ⟨S3, .i32⟩
  | 49 => ⟨S_, .i32⟩
  | 50 => ⟨S3, .i32⟩
  | 51 => ⟨S3, .i32⟩
  | 52 => ⟨S3, .i32⟩
  | 53 => ⟨S3, .i32⟩
  | 54 => ⟨S3, .i32⟩
  | 55 => ⟨S_, .i32⟩
  | 56 => ⟨S3, .i32⟩
  | 57 => ⟨S3, .i32⟩
  | 58 => ⟨S_, .i32⟩
  | 59 => ⟨S3, .i32⟩
  | 60 => ⟨S3, .i32⟩
  | 61 => ⟨S3, .i32⟩
  | 62 => ⟨S3, .i32⟩
  | 63 => ⟨S3, .i32⟩
  | 64 => ⟨S_, .i32⟩
  | 65 => ⟨S3, .i32⟩
  | 66 => ⟨S3, .i32⟩
  | 67 => ⟨S_, .i32⟩
  | 68 => ⟨S3, .i32⟩
  | 69 => ⟨S3, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S_, .i32⟩
  | 77 => ⟨S3, .i32⟩
  | 78 => ⟨S3, .i32⟩
  | 79 => ⟨S3, .i32⟩
  | 80 => ⟨S3, .i32⟩
  | 81 => ⟨S3, .i32⟩
  | 82 => ⟨S3, .i32⟩
  | 83 => ⟨S3, .i32⟩
  | 84 => ⟨S3, .i32⟩
  | 85 => ⟨S_, .i32⟩
  | 86 => ⟨S3, .i32⟩
  | 87 => ⟨S3, .i32⟩
  | 88 => ⟨S3, .i32⟩
  | 89 => ⟨S_, .i32⟩
  | 90 => ⟨S3, .i32⟩
  | 91 => ⟨S3, .i32⟩
  | 92 => ⟨S_, .i32⟩
  | 93 => ⟨S3, .i32⟩
  | 94 => ⟨S3, .i32⟩
  | 95 => ⟨S3, .i32⟩
  | 96 => ⟨S3, .i32⟩
  | 97 => ⟨S3, .i32⟩
  | 98 => ⟨S_, .i32⟩
  | 99 => ⟨S3, .i32⟩
  | 100 => ⟨S3, .i32⟩
  | 101 => ⟨S_, .i32⟩
  | 102 => ⟨S3, .i32⟩
  | 103 => ⟨S3, .i32⟩
  | 104 => ⟨S3, .i32⟩
  | 105 => ⟨S3, .i32⟩
  | 106 => ⟨S3, .i32⟩
  | 107 => ⟨S_, .i32⟩
  | 108 => ⟨S3, .i32⟩
  | 109 => ⟨S3, .i32⟩
  | 110 => ⟨S_, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S_, .i32⟩
  | 120 => ⟨S3, .i32⟩
  | 121 => ⟨S3, .i32⟩
  | 122 => ⟨S3, .i32⟩
  | 123 => ⟨S3, .i32⟩
  | 124 => ⟨S3, .i32⟩
  | 125 => ⟨S3, .i32⟩
  | 126 => ⟨S3, .i32⟩
  | 127 => ⟨S3, .i32⟩
  | _ => ⟨S1x8192x768, .f32⟩

abbrev hbmTy0_2 (i : Nat) : BufTy := match i % 128 with
  | 0 => ⟨S_, .i32⟩
  | 1 => ⟨S3, .i32⟩
  | 2 => ⟨S3, .i32⟩
  | 3 => ⟨S3x1, .i32⟩
  | 4 => ⟨S3x1, .i32⟩
  | 5 => ⟨S3x2, .i32⟩
  | 6 => ⟨S1x2, .i32⟩
  | 7 => ⟨S2, .i32⟩
  | 8 => ⟨S1x2, .i32⟩
  | 9 => ⟨S2, .i32⟩
  | 10 => ⟨S1x2, .i32⟩
  | 11 => ⟨S2, .i32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S1x8192, .i64⟩
  | 22 => ⟨S1x8192, .i64⟩
  | 23 => ⟨S_, .i64⟩
  | 24 => ⟨S1x8192, .i64⟩
  | 25 => ⟨S1x8192, .i64⟩
  | 26 => ⟨S_, .i64⟩
  | 27 => ⟨S1x8192, .i64⟩
  | 28 => ⟨S1x8192, .i64⟩
  | 29 => ⟨S1x8192, .i64⟩
  | 30 => ⟨S_, .i64⟩
  | 31 => ⟨S1x8192, .i64⟩
  | 32 => ⟨S1x8192, .i64⟩
  | 33 => ⟨S1x8192, .i32⟩
  | 34 => ⟨S1x8192, .i32⟩
  | 35 => ⟨S_, .i32⟩
  | 36 => ⟨S_, .i32⟩
  | 37 => ⟨S_, .i32⟩
  | 38 => ⟨S1x8192, .i32⟩
  | 39 => ⟨S1x8192, .i32⟩
  | 40 => ⟨S1x8192, .i32⟩
  | 41 => ⟨S1x8192, .i32⟩
  | 42 => ⟨S1x8192, .i32⟩
  | 43 => ⟨S_, .i32⟩
  | 44 => ⟨S1x8192, .i32⟩
  | 45 => ⟨S1x8192, .i32⟩
  | 46 => ⟨S_, .i32⟩
  | 47 => ⟨S1x8192, .i32⟩
  | 48 => ⟨S1x8192, .i32⟩
  | 49 => ⟨S1x8192, .i32⟩
  | 50 => ⟨S1x8192, .i32⟩
  | 51 => ⟨S1x8192, .i32⟩
  | 52 => ⟨S_, .i32⟩
  | 53 => ⟨S1x8192, .i32⟩
  | 54 => ⟨S1x8192, .i32⟩
  | 55 => ⟨S_, .i32⟩
  | 56 => ⟨S1x8192, .i32⟩
  | 57 => ⟨S1x8192, .i32⟩
  | 58 => ⟨S1x8192, .i32⟩
  | 59 => ⟨S1x8192, .i32⟩
  | 60 => ⟨S1x8192, .i32⟩
  | 61 => ⟨S_, .i32⟩
  | 62 => ⟨S1x8192, .i32⟩
  | 63 => ⟨S1x8192, .i32⟩
  | 64 => ⟨S_, .i32⟩
  | 65 => ⟨S1x8192, .i32⟩
  | 66 => ⟨S1x8192, .i32⟩
  | 67 => ⟨S1x8192, .i32⟩
  | 68 => ⟨S1x8192, .i32⟩
  | 69 => ⟨S1x8192, .i32⟩
  | 70 => ⟨S_, .i32⟩
  | 71 => ⟨S1x8192, .i32⟩
  | 72 => ⟨S1x8192, .i32⟩
  | 73 => ⟨S_, .i32⟩
  | 74 => ⟨S1x8192, .i32⟩
  | 75 => ⟨S1x8192, .i32⟩
  | 76 => ⟨S1x8192, .i32⟩
  | 77 => ⟨S1x8192, .i32⟩
  | 78 => ⟨S1x8192, .i32⟩
  | 79 => ⟨S1x8192, .i32⟩
  | 80 => ⟨S1x8192, .i32⟩
  | 81 => ⟨S1x8192, .i32⟩
  | 82 => ⟨S_, .i32⟩
  | 83 => ⟨S1x8192, .i32⟩
  | 84 => ⟨S1x8192, .i32⟩
  | 85 => ⟨S1x8192, .i32⟩
  | 86 => ⟨S_, .i32⟩
  | 87 => ⟨S1x8192, .i32⟩
  | 88 => ⟨S1x8192, .i32⟩
  | 89 => ⟨S_, .i32⟩
  | 90 => ⟨S1x8192, .i32⟩
  | 91 => ⟨S1x8192, .i32⟩
  | 92 => ⟨S1x8192, .i32⟩
  | 93 => ⟨S1x8192, .i32⟩
  | 94 => ⟨S1x8192, .i32⟩
  | 95 => ⟨S_, .i32⟩
  | 96 => ⟨S1x8192, .i32⟩
  | 97 => ⟨S1x8192, .i32⟩
  | 98 => ⟨S_, .i32⟩
  | 99 => ⟨S1x8192, .i32⟩
  | 100 => ⟨S1x8192, .i32⟩
  | 101 => ⟨S1x8192, .i32⟩
  | 102 => ⟨S1x8192, .i32⟩
  | 103 => ⟨S1x8192, .i32⟩
  | 104 => ⟨S_, .i32⟩
  | 105 => ⟨S1x8192, .i32⟩
  | 106 => ⟨S1x8192, .i32⟩
  | 107 => ⟨S_, .i32⟩
  | 108 => ⟨S1x8192, .i32⟩
  | 109 => ⟨S1x8192, .i32⟩
  | 110 => ⟨S1x8192, .i32⟩
  | 111 => ⟨S1x8192, .i32⟩
  | 112 => ⟨S1x8192, .i32⟩
  | 113 => ⟨S_, .i32⟩
  | 114 => ⟨S1x8192, .i32⟩
  | 115 => ⟨S1x8192, .i32⟩
  | 116 => ⟨S_, .i32⟩
  | 117 => ⟨S1x8192, .i32⟩
  | 118 => ⟨S1x8192, .i32⟩
  | 119 => ⟨S1x8192, .i32⟩
  | 120 => ⟨S1x8192, .i32⟩
  | 121 => ⟨S1x8192, .i32⟩
  | 122 => ⟨S1x8192, .i32⟩
  | 123 => ⟨S1x8192, .i32⟩
  | 124 => ⟨S1x8192, .i32⟩
  | 125 => ⟨S_, .i32⟩
  | 126 => ⟨S1x8192, .i32⟩
  | 127 => ⟨S1x8192, .i32⟩
  | _ => ⟨S1x8192x768, .f32⟩

abbrev hbmTy0_3 (i : Nat) : BufTy := match i % 128 with
  | 0 => ⟨S1x8192, .i32⟩
  | 1 => ⟨S_, .i32⟩
  | 2 => ⟨S1x8192, .i32⟩
  | 3 => ⟨S1x8192, .i32⟩
  | 4 => ⟨S_, .i32⟩
  | 5 => ⟨S1x8192, .i32⟩
  | 6 => ⟨S1x8192, .i32⟩
  | 7 => ⟨S1x8192, .i32⟩
  | 8 => ⟨S1x8192, .i32⟩
  | 9 => ⟨S1x8192, .i32⟩
  | 10 => ⟨S_, .i32⟩
  | 11 => ⟨S1x8192, .i32⟩
  | 12 => ⟨S1x8192, .i32⟩
  | 13 => ⟨S_, .i32⟩
  | 14 => ⟨S1x8192, .i32⟩
  | 15 => ⟨S1x8192, .i32⟩
  | 16 => ⟨S1x8192, .i32⟩
  | 17 => ⟨S1x8192, .i32⟩
  | 18 => ⟨S1x8192, .i32⟩
  | 19 => ⟨S_, .i32⟩
  | 20 => ⟨S1x8192, .i32⟩
  | 21 => ⟨S1x8192, .i32⟩
  | 22 => ⟨S_, .i32⟩
  | 23 => ⟨S1x8192, .i32⟩
  | 24 => ⟨S1x8192, .i32⟩
  | 25 => ⟨S1x8192, .i32⟩
  | 26 => ⟨S1x8192, .i32⟩
  | 27 => ⟨S1x8192, .i32⟩
  | 28 => ⟨S_, .i32⟩
  | 29 => ⟨S1x8192, .i32⟩
  | 30 => ⟨S1x8192, .i32⟩
  | 31 => ⟨S_, .i32⟩
  | 32 => ⟨S1x8192, .i32⟩
  | 33 => ⟨S1x8192, .i32⟩
  | 34 => ⟨S1x8192, .i32⟩
  | 35 => ⟨S1x8192, .i32⟩
  | 36 => ⟨S1x8192, .i32⟩
  | 37 => ⟨S1x8192, .i32⟩
  | 38 => ⟨S1x8192, .i32⟩
  | 39 => ⟨S1x8192, .i32⟩
  | 40 => ⟨S_, .i32⟩
  | 41 => ⟨S1x8192, .i32⟩
  | 42 => ⟨S1x8192, .i32⟩
  | 43 => ⟨S1x8192, .i32⟩
  | 44 => ⟨S_, .i32⟩
  | 45 => ⟨S1x8192, .i32⟩
  | 46 => ⟨S1x8192, .i32⟩
  | 47 => ⟨S_, .i32⟩
  | 48 => ⟨S1x8192, .i32⟩
  | 49 => ⟨S1x8192, .i32⟩
  | 50 => ⟨S1x8192, .i32⟩
  | 51 => ⟨S1x8192, .i32⟩
  | 52 => ⟨S1x8192, .i32⟩
  | 53 => ⟨S_, .i32⟩
  | 54 => ⟨S1x8192, .i32⟩
  | 55 => ⟨S1x8192, .i32⟩
  | 56 => ⟨S_, .i32⟩
  | 57 => ⟨S1x8192, .i32⟩
  | 58 => ⟨S1x8192, .i32⟩
  | 59 => ⟨S1x8192, .i32⟩
  | 60 => ⟨S1x8192, .i32⟩
  | 61 => ⟨S1x8192, .i32⟩
  | 62 => ⟨S_, .i32⟩
  | 63 => ⟨S1x8192, .i32⟩
  | 64 => ⟨S1x8192, .i32⟩
  | 65 => ⟨S_, .i32⟩
  | 66 => ⟨S1x8192, .i32⟩
  | 67 => ⟨S1x8192, .i32⟩
  | 68 => ⟨S1x8192, .i32⟩
  | 69 => ⟨S1x8192, .i32⟩
  | 70 => ⟨S1x8192, .i32⟩
  | 71 => ⟨S_, .i32⟩
  | 72 => ⟨S1x8192, .i32⟩
  | 73 => ⟨S1x8192, .i32⟩
  | 74 => ⟨S_, .i32⟩
  | 75 => ⟨S1x8192, .i32⟩
  | 76 => ⟨S1x8192, .i32⟩
  | 77 => ⟨S1x8192, .i32⟩
  | 78 => ⟨S1x8192, .i32⟩
  | 79 => ⟨S1x8192, .i32⟩
  | 80 => ⟨S1x8192, .i32⟩
  | 81 => ⟨S1x8192, .i32⟩
  | 82 => ⟨S1x8192, .i32⟩
  | 83 => ⟨S_, .i32⟩
  | 84 => ⟨S1x8192, .i32⟩
  | 85 => ⟨S1x8192, .i32⟩
  | 86 => ⟨S1x8192, .i32⟩
  | 87 => ⟨S_, .i32⟩
  | 88 => ⟨S1x8192, .i32⟩
  | 89 => ⟨S1x8192, .i32⟩
  | 90 => ⟨S_, .i32⟩
  | 91 => ⟨S1x8192, .i32⟩
  | 92 => ⟨S1x8192, .i32⟩
  | 93 => ⟨S1x8192, .i32⟩
  | 94 => ⟨S1x8192, .i32⟩
  | 95 => ⟨S1x8192, .i32⟩
  | 96 => ⟨S_, .i32⟩
  | 97 => ⟨S1x8192, .i32⟩
  | 98 => ⟨S1x8192, .i32⟩
  | 99 => ⟨S_, .i32⟩
  | 100 => ⟨S1x8192, .i32⟩
  | 101 => ⟨S1x8192, .i32⟩
  | 102 => ⟨S1x8192, .i32⟩
  | 103 => ⟨S1x8192, .i32⟩
  | 104 => ⟨S1x8192, .i32⟩
  | 105 => ⟨S_, .i32⟩
  | 106 => ⟨S1x8192, .i32⟩
  | 107 => ⟨S1x8192, .i32⟩
  | 108 => ⟨S_, .i32⟩
  | 109 => ⟨S1x8192, .i32⟩
  | 110 => ⟨S1x8192, .i32⟩
  | 111 => ⟨S1x8192, .i32⟩
  | 112 => ⟨S1x8192, .i32⟩
  | 113 => ⟨S1x8192, .i32⟩
  | 114 => ⟨S_, .i32⟩
  | 115 => ⟨S1x8192, .i32⟩
  | 116 => ⟨S1x8192, .i32⟩
  | 117 => ⟨S_, .i32⟩
  | 118 => ⟨S1x8192, .i32⟩
  | 119 => ⟨S1x8192, .i32⟩
  | 120 => ⟨S1x8192, .i32⟩
  | 121 => ⟨S1x8192, .i32⟩
  | 122 => ⟨S1x8192, .i32⟩
  | 123 => ⟨S1x8192, .i32⟩
  | 124 => ⟨S1x8192, .i32⟩
  | 125 => ⟨S1x8192, .i32⟩
  | 126 => ⟨S_, .i32⟩
  | 127 => ⟨S1x8192, .i32⟩
  | _ => ⟨S1x8192x768, .f32⟩

abbrev hbmTy0_4 (i : Nat) : BufTy := match i % 128 with
  | 0 => ⟨S1x8192, .i32⟩
  | 1 => ⟨S1x8192, .i32⟩
  | 2 => ⟨S_, .i32⟩
  | 3 => ⟨S1x8192, .i32⟩
  | 4 => ⟨S1x8192, .i32⟩
  | 5 => ⟨S_, .i32⟩
  | 6 => ⟨S1x8192, .i32⟩
  | 7 => ⟨S1x8192, .i32⟩
  | 8 => ⟨S1x8192, .f32⟩
  | 9 => ⟨S_, .f32⟩
  | 10 => ⟨S1x8192, .f32⟩
  | 11 => ⟨S1x8192, .f32⟩
  | 12 => ⟨S1x1, .f32⟩
  | 13 => ⟨S1x8192, .f32⟩
  | 14 => ⟨S1x8192, .f32⟩
  | 15 => ⟨S1x8192, .f32⟩
  | 16 => ⟨S1x8192, .f32⟩
  | 17 => ⟨S1x8192, .f32⟩
  | 18 => ⟨S1x8192, .f32⟩
  | 19 => ⟨S1x8192, .f32⟩
  | 20 => ⟨S1x8192, .f32⟩
  | 21 => ⟨S1x8192, .f32⟩
  | 22 => ⟨S1x8192, .f32⟩
  | 23 => ⟨S_, .f32⟩
  | 24 => ⟨S_, .f32⟩
  | 25 => ⟨S_, .f32⟩
  | 26 => ⟨S1x1, .f32⟩
  | 27 => ⟨S1x1, .f32⟩
  | 28 => ⟨S1, .i32⟩
  | 29 => ⟨S_, .i32⟩
  | 30 => ⟨S1, .i32⟩
  | 31 => ⟨S_, .i32⟩
  | 32 => ⟨S1x8192, .i64⟩
  | 33 => ⟨S1x8192, .i64⟩
  | 34 => ⟨S_, .i64⟩
  | 35 => ⟨S1x8192, .i64⟩
  | 36 => ⟨S1x8192, .i64⟩
  | 37 => ⟨S_, .i64⟩
  | 38 => ⟨S1x8192, .i64⟩
  | 39 => ⟨S1x8192, .i64⟩
  | 40 => ⟨S1x8192, .i64⟩
  | 41 => ⟨S_, .i64⟩
  | 42 => ⟨S1x8192, .i64⟩
  | 43 => ⟨S1x8192, .i64⟩
  | 44 => ⟨S1x8192, .i32⟩
  | 45 => ⟨S1x8192, .i32⟩
  | 46 => ⟨S_, .i32⟩
  | 47 => ⟨S_, .i32⟩
  | 48 => ⟨S_, .i32⟩
  | 49 => ⟨S1x8192, .i32⟩
  | 50 => ⟨S1x8192, .i32⟩
  | 51 => ⟨S1x8192, .i32⟩
  | 52 => ⟨S1x8192, .i32⟩
  | 53 => ⟨S1x8192, .i32⟩
  | 54 => ⟨S_, .i32⟩
  | 55 => ⟨S1x8192, .i32⟩
  | 56 => ⟨S1x8192, .i32⟩
  | 57 => ⟨S_, .i32⟩
  | 58 => ⟨S1x8192, .i32⟩
  | 59 => ⟨S1x8192, .i32⟩
  | 60 => ⟨S1x8192, .i32⟩
  | 61 => ⟨S1x8192, .i32⟩
  | 62 => ⟨S1x8192, .i32⟩
  | 63 => ⟨S_, .i32⟩
  | 64 => ⟨S1x8192, .i32⟩
  | 65 => ⟨S1x8192, .i32⟩
  | 66 => ⟨S_, .i32⟩
  | 67 => ⟨S1x8192, .i32⟩
  | 68 => ⟨S1x8192, .i32⟩
  | 69 => ⟨S1x8192, .i32⟩
  | 70 => ⟨S1x8192, .i32⟩
  | 71 => ⟨S1x8192, .i32⟩
  | 72 => ⟨S_, .i32⟩
  | 73 => ⟨S1x8192, .i32⟩
  | 74 => ⟨S1x8192, .i32⟩
  | 75 => ⟨S_, .i32⟩
  | 76 => ⟨S1x8192, .i32⟩
  | 77 => ⟨S1x8192, .i32⟩
  | 78 => ⟨S1x8192, .i32⟩
  | 79 => ⟨S1x8192, .i32⟩
  | 80 => ⟨S1x8192, .i32⟩
  | 81 => ⟨S_, .i32⟩
  | 82 => ⟨S1x8192, .i32⟩
  | 83 => ⟨S1x8192, .i32⟩
  | 84 => ⟨S_, .i32⟩
  | 85 => ⟨S1x8192, .i32⟩
  | 86 => ⟨S1x8192, .i32⟩
  | 87 => ⟨S1x8192, .i32⟩
  | 88 => ⟨S1x8192, .i32⟩
  | 89 => ⟨S1x8192, .i32⟩
  | 90 => ⟨S1x8192, .i32⟩
  | 91 => ⟨S1x8192, .i32⟩
  | 92 => ⟨S1x8192, .i32⟩
  | 93 => ⟨S_, .i32⟩
  | 94 => ⟨S1x8192, .i32⟩
  | 95 => ⟨S1x8192, .i32⟩
  | 96 => ⟨S1x8192, .i32⟩
  | 97 => ⟨S_, .i32⟩
  | 98 => ⟨S1x8192, .i32⟩
  | 99 => ⟨S1x8192, .i32⟩
  | 100 => ⟨S_, .i32⟩
  | 101 => ⟨S1x8192, .i32⟩
  | 102 => ⟨S1x8192, .i32⟩
  | 103 => ⟨S1x8192, .i32⟩
  | 104 => ⟨S1x8192, .i32⟩
  | 105 => ⟨S1x8192, .i32⟩
  | 106 => ⟨S_, .i32⟩
  | 107 => ⟨S1x8192, .i32⟩
  | 108 => ⟨S1x8192, .i32⟩
  | 109 => ⟨S_, .i32⟩
  | 110 => ⟨S1x8192, .i32⟩
  | 111 => ⟨S1x8192, .i32⟩
  | 112 => ⟨S1x8192, .i32⟩
  | 113 => ⟨S1x8192, .i32⟩
  | 114 => ⟨S1x8192, .i32⟩
  | 115 => ⟨S_, .i32⟩
  | 116 => ⟨S1x8192, .i32⟩
  | 117 => ⟨S1x8192, .i32⟩
  | 118 => ⟨S_, .i32⟩
  | 119 => ⟨S1x8192, .i32⟩
  | 120 => ⟨S1x8192, .i32⟩
  | 121 => ⟨S1x8192, .i32⟩
  | 122 => ⟨S1x8192, .i32⟩
  | 123 => ⟨S1x8192, .i32⟩
  | 124 => ⟨S_, .i32⟩
  | 125 => ⟨S1x8192, .i32⟩
  | 126 => ⟨S1x8192, .i32⟩
  | 127 => ⟨S_, .i32⟩
  | _ => ⟨S1x8192x768, .f32⟩

abbrev hbmTy0_5 (i : Nat) : BufTy := match i % 128 with
  | 0 => ⟨S1x8192, .i32⟩
  | 1 => ⟨S1x8192, .i32⟩
  | 2 => ⟨S1x8192, .i32⟩
  | 3 => ⟨S1x8192, .i32⟩
  | 4 => ⟨S1x8192, .i32⟩
  | 5 => ⟨S1x8192, .i32⟩
  | 6 => ⟨S1x8192, .i32⟩
  | 7 => ⟨S1x8192, .i32⟩
  | 8 => ⟨S_, .i32⟩
  | 9 => ⟨S1x8192, .i32⟩
  | 10 => ⟨S1x8192, .i32⟩
  | 11 => ⟨S1x8192, .i32⟩
  | 12 => ⟨S_, .i32⟩
  | 13 => ⟨S1x8192, .i32⟩
  | 14 => ⟨S1x8192, .i32⟩
  | 15 => ⟨S_, .i32⟩
  | 16 => ⟨S1x8192, .i32⟩
  | 17 => ⟨S1x8192, .i32⟩
  | 18 => ⟨S1x8192, .i32⟩
  | 19 => ⟨S1x8192, .i32⟩
  | 20 => ⟨S1x8192, .i32⟩
  | 21 => ⟨S_, .i32⟩
  | 22 => ⟨S1x8192, .i32⟩
  | 23 => ⟨S1x8192, .i32⟩
  | 24 => ⟨S_, .i32⟩
  | 25 => ⟨S1x8192, .i32⟩
  | 26 => ⟨S1x8192, .i32⟩
  | 27 => ⟨S1x8192, .i32⟩
  | 28 => ⟨S1x8192, .i32⟩
  | 29 => ⟨S1x8192, .i32⟩
  | 30 => ⟨S_, .i32⟩
  | 31 => ⟨S1x8192, .i32⟩
  | 32 => ⟨S1x8192, .i32⟩
  | 33 => ⟨S_, .i32⟩
  | 34 => ⟨S1x8192, .i32⟩
  | 35 => ⟨S1x8192, .i32⟩
  | 36 => ⟨S1x8192, .i32⟩
  | 37 => ⟨S1x8192, .i32⟩
  | 38 => ⟨S1x8192, .i32⟩
  | 39 => ⟨S_, .i32⟩
  | 40 => ⟨S1x8192, .i32⟩
  | 41 => ⟨S1x8192, .i32⟩
  | 42 => ⟨S_, .i32⟩
  | 43 => ⟨S1x8192, .i32⟩
  | 44 => ⟨S1x8192, .i32⟩
  | 45 => ⟨S1x8192, .i32⟩
  | 46 => ⟨S1x8192, .i32⟩
  | 47 => ⟨S1x8192, .i32⟩
  | 48 => ⟨S1x8192, .i32⟩
  | 49 => ⟨S1x8192, .i32⟩
  | 50 => ⟨S1x8192, .i32⟩
  | 51 => ⟨S_, .i32⟩
  | 52 => ⟨S1x8192, .i32⟩
  | 53 => ⟨S1x8192, .i32⟩
  | 54 => ⟨S1x8192, .i32⟩
  | 55 => ⟨S_, .i32⟩
  | 56 => ⟨S1x8192, .i32⟩
  | 57 => ⟨S1x8192, .i32⟩
  | 58 => ⟨S_, .i32⟩
  | 59 => ⟨S1x8192, .i32⟩
  | 60 => ⟨S1x8192, .i32⟩
  | 61 => ⟨S1x8192, .i32⟩
  | 62 => ⟨S1x8192, .i32⟩
  | 63 => ⟨S1x8192, .i32⟩
  | 64 => ⟨S_, .i32⟩
  | 65 => ⟨S1x8192, .i32⟩
  | 66 => ⟨S1x8192, .i32⟩
  | 67 => ⟨S_, .i32⟩
  | 68 => ⟨S1x8192, .i32⟩
  | 69 => ⟨S1x8192, .i32⟩
  | 70 => ⟨S1x8192, .i32⟩
  | 71 => ⟨S1x8192, .i32⟩
  | 72 => ⟨S1x8192, .i32⟩
  | 73 => ⟨S_, .i32⟩
  | 74 => ⟨S1x8192, .i32⟩
  | 75 => ⟨S1x8192, .i32⟩
  | 76 => ⟨S_, .i32⟩
  | 77 => ⟨S1x8192, .i32⟩
  | 78 => ⟨S1x8192, .i32⟩
  | 79 => ⟨S1x8192, .i32⟩
  | 80 => ⟨S1x8192, .i32⟩
  | 81 => ⟨S1x8192, .i32⟩
  | 82 => ⟨S_, .i32⟩
  | 83 => ⟨S1x8192, .i32⟩
  | 84 => ⟨S1x8192, .i32⟩
  | 85 => ⟨S_, .i32⟩
  | 86 => ⟨S1x8192, .i32⟩
  | 87 => ⟨S1x8192, .i32⟩
  | 88 => ⟨S1x8192, .i32⟩
  | 89 => ⟨S1x8192, .i32⟩
  | 90 => ⟨S1x8192, .i32⟩
  | 91 => ⟨S1x8192, .i32⟩
  | 92 => ⟨S1x8192, .i32⟩
  | 93 => ⟨S1x8192, .i32⟩
  | 94 => ⟨S_, .i32⟩
  | 95 => ⟨S1x8192, .i32⟩
  | 96 => ⟨S1x8192, .i32⟩
  | 97 => ⟨S1x8192, .i32⟩
  | 98 => ⟨S_, .i32⟩
  | 99 => ⟨S1x8192, .i32⟩
  | 100 => ⟨S1x8192, .i32⟩
  | 101 => ⟨S_, .i32⟩
  | 102 => ⟨S1x8192, .i32⟩
  | 103 => ⟨S1x8192, .i32⟩
  | 104 => ⟨S1x8192, .i32⟩
  | 105 => ⟨S1x8192, .i32⟩
  | 106 => ⟨S1x8192, .i32⟩
  | 107 => ⟨S_, .i32⟩
  | 108 => ⟨S1x8192, .i32⟩
  | 109 => ⟨S1x8192, .i32⟩
  | 110 => ⟨S_, .i32⟩
  | 111 => ⟨S1x8192, .i32⟩
  | 112 => ⟨S1x8192, .i32⟩
  | 113 => ⟨S1x8192, .i32⟩
  | 114 => ⟨S1x8192, .i32⟩
  | 115 => ⟨S1x8192, .i32⟩
  | 116 => ⟨S_, .i32⟩
  | 117 => ⟨S1x8192, .i32⟩
  | 118 => ⟨S1x8192, .i32⟩
  | 119 => ⟨S_, .i32⟩
  | 120 => ⟨S1x8192, .i32⟩
  | 121 => ⟨S1x8192, .i32⟩
  | 122 => ⟨S1x8192, .i32⟩
  | 123 => ⟨S1x8192, .i32⟩
  | 124 => ⟨S1x8192, .i32⟩
  | 125 => ⟨S_, .i32⟩
  | 126 => ⟨S1x8192, .i32⟩
  | 127 => ⟨S1x8192, .i32⟩
  | _ => ⟨S1x8192x768, .f32⟩

abbrev hbmTy0_6 (i : Nat) : BufTy := match i % 128 with
  | 0 => ⟨S_, .i32⟩
  | 1 => ⟨S1x8192, .i32⟩
  | 2 => ⟨S1x8192, .i32⟩
  | 3 => ⟨S1x8192, .i32⟩
  | 4 => ⟨S1x8192, .i32⟩
  | 5 => ⟨S1x8192, .i32⟩
  | 6 => ⟨S1x8192, .i32⟩
  | 7 => ⟨S1x8192, .i32⟩
  | 8 => ⟨S1x8192, .i32⟩
  | 9 => ⟨S_, .i32⟩
  | 10 => ⟨S1x8192, .i32⟩
  | 11 => ⟨S1x8192, .i32⟩
  | 12 => ⟨S1x8192, .i32⟩
  | 13 => ⟨S_, .i32⟩
  | 14 => ⟨S1x8192, .i32⟩
  | 15 => ⟨S1x8192, .i32⟩
  | 16 => ⟨S_, .i32⟩
  | 17 => ⟨S1x8192, .i32⟩
  | 18 => ⟨S1x8192, .i32⟩
  | 19 => ⟨S1x8192, .f32⟩
  | 20 => ⟨S_, .f32⟩
  | 21 => ⟨S1x8192, .f32⟩
  | 22 => ⟨S1x8192, .f32⟩
  | 23 => ⟨S1x1, .f32⟩
  | 24 => ⟨S1x8192, .f32⟩
  | 25 => ⟨S1x8192, .f32⟩
  | 26 => ⟨S1x8192, .f32⟩
  | 27 => ⟨S1x8192, .f32⟩
  | 28 => ⟨S1x8192, .f32⟩
  | 29 => ⟨S1x8192, .f32⟩
  | 30 => ⟨S1x8192, .f32⟩
  | 31 => ⟨S1x8192, .f32⟩
  | 32 => ⟨S1x8192, .f32⟩
  | 33 => ⟨S1x8192, .f32⟩
  | 34 => ⟨S_, .f32⟩
  | 35 => ⟨S_, .f32⟩
  | 36 => ⟨S_, .f32⟩
  | 37 => ⟨S1x1, .f32⟩
  | 38 => ⟨S1x1, .f32⟩
  | 39 => ⟨S1, .i32⟩
  | 40 => ⟨S_, .i32⟩
  | 41 => ⟨S1, .i32⟩
  | 42 => ⟨S_, .i32⟩
  | 43 => ⟨S1x2, .i64⟩
  | 44 => ⟨S1x2, .i64⟩
  | 45 => ⟨S_, .i64⟩
  | 46 => ⟨S1x2, .i64⟩
  | 47 => ⟨S1x2, .i64⟩
  | 48 => ⟨S_, .i64⟩
  | 49 => ⟨S1x2, .i64⟩
  | 50 => ⟨S1x2, .i64⟩
  | 51 => ⟨S1x2, .i64⟩
  | 52 => ⟨S_, .i64⟩
  | 53 => ⟨S1x2, .i64⟩
  | 54 => ⟨S1x2, .i64⟩
  | 55 => ⟨S1x2, .i32⟩
  | 56 => ⟨S1x2, .i32⟩
  | 57 => ⟨S_, .i32⟩
  | 58 => ⟨S_, .i32⟩
  | 59 => ⟨S_, .i32⟩
  | 60 => ⟨S1x2, .i32⟩
  | 61 => ⟨S1x2, .i32⟩
  | 62 => ⟨S1x2, .i32⟩
  | 63 => ⟨S1x2, .i32⟩
  | 64 => ⟨S1x2, .i32⟩
  | 65 => ⟨S_, .i32⟩
  | 66 => ⟨S1x2, .i32⟩
  | 67 => ⟨S1x2, .i32⟩
  | 68 => ⟨S_, .i32⟩
  | 69 => ⟨S1x2, .i32⟩
  | 70 => ⟨S1x2, .i32⟩
  | 71 => ⟨S1x2, .i32⟩
  | 72 => ⟨S1x2, .i32⟩
  | 73 => ⟨S1x2, .i32⟩
  | 74 => ⟨S_, .i32⟩
  | 75 => ⟨S1x2, .i32⟩
  | 76 => ⟨S1x2, .i32⟩
  | 77 => ⟨S_, .i32⟩
  | 78 => ⟨S1x2, .i32⟩
  | 79 => ⟨S1x2, .i32⟩
  | 80 => ⟨S1x2, .i32⟩
  | 81 => ⟨S1x2, .i32⟩
  | 82 => ⟨S1x2, .i32⟩
  | 83 => ⟨S_, .i32⟩
  | 84 => ⟨S1x2, .i32⟩
  | 85 => ⟨S1x2, .i32⟩
  | 86 => ⟨S_, .i32⟩
  | 87 => ⟨S1x2, .i32⟩
  | 88 => ⟨S1x2, .i32⟩
  | 89 => ⟨S1x2, .i32⟩
  | 90 => ⟨S1x2, .i32⟩
  | 91 => ⟨S1x2, .i32⟩
  | 92 => ⟨S_, .i32⟩
  | 93 => ⟨S1x2, .i32⟩
  | 94 => ⟨S1x2, .i32⟩
  | 95 => ⟨S_, .i32⟩
  | 96 => ⟨S1x2, .i32⟩
  | 97 => ⟨S1x2, .i32⟩
  | 98 => ⟨S1x2, .i32⟩
  | 99 => ⟨S1x2, .i32⟩
  | 100 => ⟨S1x2, .i32⟩
  | 101 => ⟨S1x2, .i32⟩
  | 102 => ⟨S1x2, .i32⟩
  | 103 => ⟨S1x2, .i32⟩
  | 104 => ⟨S_, .i32⟩
  | 105 => ⟨S1x2, .i32⟩
  | 106 => ⟨S1x2, .i32⟩
  | 107 => ⟨S1x2, .i32⟩
  | 108 => ⟨S_, .i32⟩
  | 109 => ⟨S1x2, .i32⟩
  | 110 => ⟨S1x2, .i32⟩
  | 111 => ⟨S_, .i32⟩
  | 112 => ⟨S1x2, .i32⟩
  | 113 => ⟨S1x2, .i32⟩
  | 114 => ⟨S1x2, .i32⟩
  | 115 => ⟨S1x2, .i32⟩
  | 116 => ⟨S1x2, .i32⟩
  | 117 => ⟨S_, .i32⟩
  | 118 => ⟨S1x2, .i32⟩
  | 119 => ⟨S1x2, .i32⟩
  | 120 => ⟨S_, .i32⟩
  | 121 => ⟨S1x2, .i32⟩
  | 122 => ⟨S1x2, .i32⟩
  | 123 => ⟨S1x2, .i32⟩
  | 124 => ⟨S1x2, .i32⟩
  | 125 => ⟨S1x2, .i32⟩
  | 126 => ⟨S_, .i32⟩
  | 127 => ⟨S1x2, .i32⟩
  | _ => ⟨S1x8192x768, .f32⟩

abbrev hbmTy0_7 (i : Nat) : BufTy := match i % 128 with
  | 0 => ⟨S1x2, .i32⟩
  | 1 => ⟨S_, .i32⟩
  | 2 => ⟨S1x2, .i32⟩
  | 3 => ⟨S1x2, .i32⟩
  | 4 => ⟨S1x2, .i32⟩
  | 5 => ⟨S1x2, .i32⟩
  | 6 => ⟨S1x2, .i32⟩
  | 7 => ⟨S_, .i32⟩
  | 8 => ⟨S1x2, .i32⟩
  | 9 => ⟨S1x2, .i32⟩
  | 10 => ⟨S_, .i32⟩
  | 11 => ⟨S1x2, .i32⟩
  | 12 => ⟨S1x2, .i32⟩
  | 13 => ⟨S1x2, .i32⟩
  | 14 => ⟨S1x2, .i32⟩
  | 15 => ⟨S1x2, .i32⟩
  | 16 => ⟨S1x2, .i32⟩
  | 17 => ⟨S1x2, .i32⟩
  | 18 => ⟨S1x2, .i32⟩
  | 19 => ⟨S_, .i32⟩
  | 20 => ⟨S1x2, .i32⟩
  | 21 => ⟨S1x2, .i32⟩
  | 22 => ⟨S1x2, .i32⟩
  | 23 => ⟨S_, .i32⟩
  | 24 => ⟨S1x2, .i32⟩
  | 25 => ⟨S1x2, .i32⟩
  | 26 => ⟨S_, .i32⟩
  | 27 => ⟨S1x2, .i32⟩
  | 28 => ⟨S1x2, .i32⟩
  | 29 => ⟨S1x2, .i32⟩
  | 30 => ⟨S1x2, .i32⟩
  | 31 => ⟨S1x2, .i32⟩
  | 32 => ⟨S_, .i32⟩
  | 33 => ⟨S1x2, .i32⟩
  | 34 => ⟨S1x2, .i32⟩
  | 35 => ⟨S_, .i32⟩
  | 36 => ⟨S1x2, .i32⟩
  | 37 => ⟨S1x2, .i32⟩
  | 38 => ⟨S1x2, .i32⟩
  | 39 => ⟨S1x2, .i32⟩
  | 40 => ⟨S1x2, .i32⟩
  | 41 => ⟨S_, .i32⟩
  | 42 => ⟨S1x2, .i32⟩
  | 43 => ⟨S1x2, .i32⟩
  | 44 => ⟨S_, .i32⟩
  | 45 => ⟨S1x2, .i32⟩
  | 46 => ⟨S1x2, .i32⟩
  | 47 => ⟨S1x2, .i32⟩
  | 48 => ⟨S1x2, .i32⟩
  | 49 => ⟨S1x2, .i32⟩
  | 50 => ⟨S_, .i32⟩
  | 51 => ⟨S1x2, .i32⟩
  | 52 => ⟨S1x2, .i32⟩
  | 53 => ⟨S_, .i32⟩
  | 54 => ⟨S1x2, .i32⟩
  | 55 => ⟨S1x2, .i32⟩
  | 56 => ⟨S1x2, .i32⟩
  | 57 => ⟨S1x2, .i32⟩
  | 58 => ⟨S1x2, .i32⟩
  | 59 => ⟨S1x2, .i32⟩
  | 60 => ⟨S1x2, .i32⟩
  | 61 => ⟨S1x2, .i32⟩
  | 62 => ⟨S_, .i32⟩
  | 63 => ⟨S1x2, .i32⟩
  | 64 => ⟨S1x2, .i32⟩
  | 65 => ⟨S1x2, .i32⟩
  | 66 => ⟨S_, .i32⟩
  | 67 => ⟨S1x2, .i32⟩
  | 68 => ⟨S1x2, .i32⟩
  | 69 => ⟨S_, .i32⟩
  | 70 => ⟨S1x2, .i32⟩
  | 71 => ⟨S1x2, .i32⟩
  | 72 => ⟨S1x2, .i32⟩
  | 73 => ⟨S1x2, .i32⟩
  | 74 => ⟨S1x2, .i32⟩
  | 75 => ⟨S_, .i32⟩
  | 76 => ⟨S1x2, .i32⟩
  | 77 => ⟨S1x2, .i32⟩
  | 78 => ⟨S_, .i32⟩
  | 79 => ⟨S1x2, .i32⟩
  | 80 => ⟨S1x2, .i32⟩
  | 81 => ⟨S1x2, .i32⟩
  | 82 => ⟨S1x2, .i32⟩
  | 83 => ⟨S1x2, .i32⟩
  | 84 => ⟨S_, .i32⟩
  | 85 => ⟨S1x2, .i32⟩
  | 86 => ⟨S1x2, .i32⟩
  | 87 => ⟨S_, .i32⟩
  | 88 => ⟨S1x2, .i32⟩
  | 89 => ⟨S1x2, .i32⟩
  | 90 => ⟨S1x2, .i32⟩
  | 91 => ⟨S1x2, .i32⟩
  | 92 => ⟨S1x2, .i32⟩
  | 93 => ⟨S_, .i32⟩
  | 94 => ⟨S1x2, .i32⟩
  | 95 => ⟨S1x2, .i32⟩
  | 96 => ⟨S_, .i32⟩
  | 97 => ⟨S1x2, .i32⟩
  | 98 => ⟨S1x2, .i32⟩
  | 99 => ⟨S1x2, .i32⟩
  | 100 => ⟨S1x2, .i32⟩
  | 101 => ⟨S1x2, .i32⟩
  | 102 => ⟨S1x2, .i32⟩
  | 103 => ⟨S1x2, .i32⟩
  | 104 => ⟨S1x2, .i32⟩
  | 105 => ⟨S_, .i32⟩
  | 106 => ⟨S1x2, .i32⟩
  | 107 => ⟨S1x2, .i32⟩
  | 108 => ⟨S1x2, .i32⟩
  | 109 => ⟨S_, .i32⟩
  | 110 => ⟨S1x2, .i32⟩
  | 111 => ⟨S1x2, .i32⟩
  | 112 => ⟨S_, .i32⟩
  | 113 => ⟨S1x2, .i32⟩
  | 114 => ⟨S1x2, .i32⟩
  | 115 => ⟨S1x2, .i32⟩
  | 116 => ⟨S1x2, .i32⟩
  | 117 => ⟨S1x2, .i32⟩
  | 118 => ⟨S_, .i32⟩
  | 119 => ⟨S1x2, .i32⟩
  | 120 => ⟨S1x2, .i32⟩
  | 121 => ⟨S_, .i32⟩
  | 122 => ⟨S1x2, .i32⟩
  | 123 => ⟨S1x2, .i32⟩
  | 124 => ⟨S1x2, .i32⟩
  | 125 => ⟨S1x2, .i32⟩
  | 126 => ⟨S1x2, .i32⟩
  | 127 => ⟨S_, .i32⟩
  | _ => ⟨S1x8192x768, .f32⟩

abbrev hbmTy0_8 (i : Nat) : BufTy := match i % 128 with
  | 0 => ⟨S1x2, .i32⟩
  | 1 => ⟨S1x2, .i32⟩
  | 2 => ⟨S_, .i32⟩
  | 3 => ⟨S1x2, .i32⟩
  | 4 => ⟨S1x2, .i32⟩
  | 5 => ⟨S1x2, .i32⟩
  | 6 => ⟨S1x2, .i32⟩
  | 7 => ⟨S1x2, .i32⟩
  | 8 => ⟨S_, .i32⟩
  | 9 => ⟨S1x2, .i32⟩
  | 10 => ⟨S1x2, .i32⟩
  | 11 => ⟨S_, .i32⟩
  | 12 => ⟨S1x2, .i32⟩
  | 13 => ⟨S1x2, .i32⟩
  | 14 => ⟨S1x2, .i32⟩
  | 15 => ⟨S1x2, .i32⟩
  | 16 => ⟨S1x2, .i32⟩
  | 17 => ⟨S1x2, .i32⟩
  | 18 => ⟨S1x2, .i32⟩
  | 19 => ⟨S1x2, .i32⟩
  | 20 => ⟨S_, .i32⟩
  | 21 => ⟨S1x2, .i32⟩
  | 22 => ⟨S1x2, .i32⟩
  | 23 => ⟨S1x2, .i32⟩
  | 24 => ⟨S_, .i32⟩
  | 25 => ⟨S1x2, .i32⟩
  | 26 => ⟨S1x2, .i32⟩
  | 27 => ⟨S_, .i32⟩
  | 28 => ⟨S1x2, .i32⟩
  | 29 => ⟨S1x2, .i32⟩
  | 30 => ⟨S1x2, .f32⟩
  | 31 => ⟨S_, .f32⟩
  | 32 => ⟨S1x2, .f32⟩
  | 33 => ⟨S1x2, .f32⟩
  | 34 => ⟨S1x1, .f32⟩
  | 35 => ⟨S1x2, .f32⟩
  | 36 => ⟨S1x2, .f32⟩
  | 37 => ⟨S1x2, .f32⟩
  | 38 => ⟨S1x2, .f32⟩
  | 39 => ⟨S1x2, .f32⟩
  | 40 => ⟨S1x2, .f32⟩
  | 41 => ⟨S1x2, .f32⟩
  | 42 => ⟨S1x2, .f32⟩
  | 43 => ⟨S1x2, .f32⟩
  | 44 => ⟨S1x2, .f32⟩
  | 45 => ⟨S8192x768, .f32⟩
  | 46 => ⟨S_, .f32⟩
  | 47 => ⟨S768, .f32⟩
  | 48 => ⟨S2368, .f32⟩
  | 49 => ⟨S1x2368, .f32⟩
  | 50 => ⟨S1x768, .f32⟩
  | 51 => ⟨S1x1, .f32⟩
  | 52 => ⟨S1x768, .f32⟩
  | 53 => ⟨S768, .f32⟩
  | 54 => ⟨S1x768, .f32⟩
  | 55 => ⟨S1x768, .f32⟩
  | 56 => ⟨S1x1, .f32⟩
  | 57 => ⟨S1x2, .f32⟩
  | 58 => ⟨S1x64, .f32⟩
  | 59 => ⟨S768x768, .f32⟩
  | 60 => ⟨S8192x64, .f32⟩
  | 61 => ⟨S1x16386, .f32⟩
  | 62 => ⟨S1x8192x64, .f32⟩
  | _ => ⟨S1x8192x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1x8192x768, .f32⟩

abbrev bufTy : (tb : Table) → Fin (tcTables nBuf tb) → BufTy
  | .hbm, ⟨i, _⟩ => hbmTy i
  | .local _ .vmem, ⟨0, _⟩ => ⟨S1024x768, .f32⟩
  | .local _ .vmem, ⟨1, _⟩ => ⟨S1024x768, .f32⟩
  | .local _ .vmem, ⟨2, _⟩ => ⟨S768x768, .f32⟩
  | .local _ .vmem, ⟨3, _⟩ => ⟨S768x768, .f32⟩
  | .local _ .vmem, ⟨4, _⟩ => ⟨S768x768, .f32⟩
  | .local _ .vmem, ⟨5, _⟩ => ⟨S768x64, .f32⟩
  | .local _ .vmem, ⟨6, _⟩ => ⟨S1x2368, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S768x2, .f32⟩
  | .local _ .vmem, ⟨11, _⟩ => ⟨S1x2, .f32⟩
  | .local _ .vmem, ⟨12, _⟩ => ⟨S1x8192, .f32⟩
  | .local _ .vmem, ⟨13, _⟩ => ⟨S1x8192, .f32⟩
  | .local _ .vmem, ⟨14, _⟩ => ⟨S1x2, .f32⟩
  | .local _ .vmem, ⟨15, _⟩ => ⟨S1024x64, .f32⟩
  | .local _ .vmem, ⟨16, _⟩ => ⟨S1024x64, .f32⟩
  | .local _ .vmem, ⟨17, _⟩ => ⟨S1x16386, .f32⟩
  | .local _ .vmem, ⟨18, _⟩ => ⟨S768x2368, .bf16⟩
  | .local _ .vmem, ⟨19, _⟩ => ⟨S8x1024x768, .f32⟩
  | .local _ .vmem, ⟨20, _⟩ => ⟨S1x8192, .f32⟩
  | .local _ .vmem, ⟨21, _⟩ => ⟨S1x8192, .f32⟩
  | .local _ .vmem, ⟨22, _⟩ => ⟨S1x768, .f32⟩
  | .local _ .smem, ⟨0, _⟩ => ⟨S1x1, .f32⟩
  | .local _ .smem, ⟨1, _⟩ => ⟨S1x1, .f32⟩
  | .local _ .smem, ⟨2, _⟩ => ⟨S1x1, .i32⟩
  | _, _ => ⟨S1x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c_1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c : Ref sig .tc := ⟨.hbm, 29, rfl⟩
abbrev main_call0_v5 : Ref sig .tc := ⟨.hbm, 30, rfl⟩
abbrev main_call0_v6 : Ref sig .tc := ⟨.hbm, 31, rfl⟩
abbrev main_call0_c_0 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v11_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v11_1 : Ref sig .tc := ⟨.hbm, 258, rfl⟩
abbrev main_call0_v12 : Ref sig .tc := ⟨.hbm, 259, rfl⟩
abbrev main_call0_v13 : Ref sig .tc := ⟨.hbm, 260, rfl⟩
abbrev main_v7 : Ref sig .tc := ⟨.hbm, 261, rfl⟩
abbrev main_v8 : Ref sig .tc := ⟨.hbm, 262, rfl⟩
abbrev main_v9 : Ref sig .tc := ⟨.hbm, 263, rfl⟩
abbrev main_v10 : Ref sig .tc := ⟨.hbm, 264, rfl⟩
abbrev main_v11 : Ref sig .tc := ⟨.hbm, 265, rfl⟩
abbrev main_v12 : Ref sig .tc := ⟨.hbm, 266, rfl⟩
abbrev main_v13 : Ref sig .tc := ⟨.hbm, 267, rfl⟩
abbrev main_call1_cst : Ref sig .tc := ⟨.hbm, 268, rfl⟩
abbrev main_call1_cst_0 : Ref sig .tc := ⟨.hbm, 269, rfl⟩
abbrev main_call1_call0_v0 : Ref sig .tc := ⟨.hbm, 270, rfl⟩
abbrev main_call1_call0_v1 : Ref sig .tc := ⟨.hbm, 271, rfl⟩
abbrev main_call1_call0_v2 : Ref sig .tc := ⟨.hbm, 272, rfl⟩
abbrev main_call1_call0_v3 : Ref sig .tc := ⟨.hbm, 273, rfl⟩
abbrev main_call1_call0_v4 : Ref sig .tc := ⟨.hbm, 274, rfl⟩
abbrev main_call1_call0_v5 : Ref sig .tc := ⟨.hbm, 275, rfl⟩
abbrev main_call1_call0_v6 : Ref sig .tc := ⟨.hbm, 276, rfl⟩
abbrev main_call1_call0_v7 : Ref sig .tc := ⟨.hbm, 277, rfl⟩
abbrev main_call1_call0_v8 : Ref sig .tc := ⟨.hbm, 278, rfl⟩
abbrev main_call1_call0_c : Ref sig .tc := ⟨.hbm, 279, rfl⟩
abbrev main_call1_call0_v9 : Ref sig .tc := ⟨.hbm, 280, rfl⟩
abbrev main_call1_call0_v10 : Ref sig .tc := ⟨.hbm, 281, rfl⟩
abbrev main_call1_call0_c_0 : Ref sig .tc := ⟨.hbm, 282, rfl⟩
abbrev main_call1_call0_v11 : Ref sig .tc := ⟨.hbm, 283, rfl⟩
abbrev main_call1_call0_v12 : Ref sig .tc := ⟨.hbm, 284, rfl⟩
abbrev main_call1_call0_v13 : Ref sig .tc := ⟨.hbm, 285, rfl⟩
abbrev main_call1_call0_c_1 : Ref sig .tc := ⟨.hbm, 286, rfl⟩
abbrev main_call1_call0_v14 : Ref sig .tc := ⟨.hbm, 287, rfl⟩
abbrev main_call1_call0_v15 : Ref sig .tc := ⟨.hbm, 288, rfl⟩
abbrev main_call1_call0_v16 : Ref sig .tc := ⟨.hbm, 289, rfl⟩
abbrev main_call1_call0_v17 : Ref sig .tc := ⟨.hbm, 290, rfl⟩
abbrev main_call1_call0_call0_v0 : Ref sig .tc := ⟨.hbm, 291, rfl⟩
abbrev main_call1_call0_call0_c : Ref sig .tc := ⟨.hbm, 292, rfl⟩
abbrev main_call1_call0_call0_v1 : Ref sig .tc := ⟨.hbm, 293, rfl⟩
abbrev main_call1_call0_call0_v2 : Ref sig .tc := ⟨.hbm, 294, rfl⟩
abbrev main_call1_call0_call0_v3 : Ref sig .tc := ⟨.hbm, 295, rfl⟩
abbrev main_call1_call0_call0_v4 : Ref sig .tc := ⟨.hbm, 296, rfl⟩
abbrev main_call1_call0_call0_v5 : Ref sig .tc := ⟨.hbm, 297, rfl⟩
abbrev main_call1_call0_call0_v6 : Ref sig .tc := ⟨.hbm, 298, rfl⟩
abbrev main_call1_call0_call0_c_0 : Ref sig .tc := ⟨.hbm, 299, rfl⟩
abbrev main_call1_call0_call0_v7 : Ref sig .tc := ⟨.hbm, 300, rfl⟩
abbrev main_call1_call0_call0_v8 : Ref sig .tc := ⟨.hbm, 301, rfl⟩
abbrev main_call1_call0_call0_c_1 : Ref sig .tc := ⟨.hbm, 302, rfl⟩
abbrev main_call1_call0_call0_v9 : Ref sig .tc := ⟨.hbm, 303, rfl⟩
abbrev main_call1_call0_call0_v10 : Ref sig .tc := ⟨.hbm, 304, rfl⟩
abbrev main_call1_call0_call0_v11 : Ref sig .tc := ⟨.hbm, 305, rfl⟩
abbrev main_call1_call0_call0_v12 : Ref sig .tc := ⟨.hbm, 306, rfl⟩
abbrev main_call1_call0_call0_v13 : Ref sig .tc := ⟨.hbm, 307, rfl⟩
abbrev main_call1_call0_call0_c_2 : Ref sig .tc := ⟨.hbm, 308, rfl⟩
abbrev main_call1_call0_call0_v14 : Ref sig .tc := ⟨.hbm, 309, rfl⟩
abbrev main_call1_call0_call0_v15 : Ref sig .tc := ⟨.hbm, 310, rfl⟩
abbrev main_call1_call0_call0_c_3 : Ref sig .tc := ⟨.hbm, 311, rfl⟩
abbrev main_call1_call0_call0_v16 : Ref sig .tc := ⟨.hbm, 312, rfl⟩
abbrev main_call1_call0_call0_v17 : Ref sig .tc := ⟨.hbm, 313, rfl⟩
abbrev main_call1_call0_call0_v18 : Ref sig .tc := ⟨.hbm, 314, rfl⟩
abbrev main_call1_call0_call0_v19 : Ref sig .tc := ⟨.hbm, 315, rfl⟩
abbrev main_call1_call0_call0_v20 : Ref sig .tc := ⟨.hbm, 316, rfl⟩
abbrev main_call1_call0_call0_c_4 : Ref sig .tc := ⟨.hbm, 317, rfl⟩
abbrev main_call1_call0_call0_v21 : Ref sig .tc := ⟨.hbm, 318, rfl⟩
abbrev main_call1_call0_call0_v22 : Ref sig .tc := ⟨.hbm, 319, rfl⟩
abbrev main_call1_call0_call0_c_5 : Ref sig .tc := ⟨.hbm, 320, rfl⟩
abbrev main_call1_call0_call0_v23 : Ref sig .tc := ⟨.hbm, 321, rfl⟩
abbrev main_call1_call0_call0_v24 : Ref sig .tc := ⟨.hbm, 322, rfl⟩
abbrev main_call1_call0_call0_v25 : Ref sig .tc := ⟨.hbm, 323, rfl⟩
abbrev main_call1_call0_call0_v26 : Ref sig .tc := ⟨.hbm, 324, rfl⟩
abbrev main_call1_call0_call0_v27 : Ref sig .tc := ⟨.hbm, 325, rfl⟩
abbrev main_call1_call0_call0_c_6 : Ref sig .tc := ⟨.hbm, 326, rfl⟩
abbrev main_call1_call0_call0_v28 : Ref sig .tc := ⟨.hbm, 327, rfl⟩
abbrev main_call1_call0_call0_v29 : Ref sig .tc := ⟨.hbm, 328, rfl⟩
abbrev main_call1_call0_call0_c_7 : Ref sig .tc := ⟨.hbm, 329, rfl⟩
abbrev main_call1_call0_call0_v30 : Ref sig .tc := ⟨.hbm, 330, rfl⟩
abbrev main_call1_call0_call0_v31 : Ref sig .tc := ⟨.hbm, 331, rfl⟩
abbrev main_call1_call0_call0_v32 : Ref sig .tc := ⟨.hbm, 332, rfl⟩
abbrev main_call1_call0_call0_v33 : Ref sig .tc := ⟨.hbm, 333, rfl⟩
abbrev main_call1_call0_call0_v34 : Ref sig .tc := ⟨.hbm, 334, rfl⟩
abbrev main_call1_call0_call0_v35 : Ref sig .tc := ⟨.hbm, 335, rfl⟩
abbrev main_call1_call0_call0_v36 : Ref sig .tc := ⟨.hbm, 336, rfl⟩
abbrev main_call1_call0_call0_v37 : Ref sig .tc := ⟨.hbm, 337, rfl⟩
abbrev main_call1_call0_call0_c_8 : Ref sig .tc := ⟨.hbm, 338, rfl⟩
abbrev main_call1_call0_call0_v38 : Ref sig .tc := ⟨.hbm, 339, rfl⟩
abbrev main_call1_call0_call0_v39 : Ref sig .tc := ⟨.hbm, 340, rfl⟩
abbrev main_call1_call0_call0_v40 : Ref sig .tc := ⟨.hbm, 341, rfl⟩
abbrev main_call1_call0_call0_c_9 : Ref sig .tc := ⟨.hbm, 342, rfl⟩
abbrev main_call1_call0_call0_v41 : Ref sig .tc := ⟨.hbm, 343, rfl⟩
abbrev main_call1_call0_call0_v42 : Ref sig .tc := ⟨.hbm, 344, rfl⟩
abbrev main_call1_call0_call0_c_10 : Ref sig .tc := ⟨.hbm, 345, rfl⟩
abbrev main_call1_call0_call0_v43 : Ref sig .tc := ⟨.hbm, 346, rfl⟩
abbrev main_call1_call0_call0_v44 : Ref sig .tc := ⟨.hbm, 347, rfl⟩
abbrev main_call1_call0_call0_v45 : Ref sig .tc := ⟨.hbm, 348, rfl⟩
abbrev main_call1_call0_call0_v46 : Ref sig .tc := ⟨.hbm, 349, rfl⟩
abbrev main_call1_call0_call0_v47 : Ref sig .tc := ⟨.hbm, 350, rfl⟩
abbrev main_call1_call0_call0_c_11 : Ref sig .tc := ⟨.hbm, 351, rfl⟩
abbrev main_call1_call0_call0_v48 : Ref sig .tc := ⟨.hbm, 352, rfl⟩
abbrev main_call1_call0_call0_v49 : Ref sig .tc := ⟨.hbm, 353, rfl⟩
abbrev main_call1_call0_call0_c_12 : Ref sig .tc := ⟨.hbm, 354, rfl⟩
abbrev main_call1_call0_call0_v50 : Ref sig .tc := ⟨.hbm, 355, rfl⟩
abbrev main_call1_call0_call0_v51 : Ref sig .tc := ⟨.hbm, 356, rfl⟩
abbrev main_call1_call0_call0_v52 : Ref sig .tc := ⟨.hbm, 357, rfl⟩
abbrev main_call1_call0_call0_v53 : Ref sig .tc := ⟨.hbm, 358, rfl⟩
abbrev main_call1_call0_call0_v54 : Ref sig .tc := ⟨.hbm, 359, rfl⟩
abbrev main_call1_call0_call0_c_13 : Ref sig .tc := ⟨.hbm, 360, rfl⟩
abbrev main_call1_call0_call0_v55 : Ref sig .tc := ⟨.hbm, 361, rfl⟩
abbrev main_call1_call0_call0_v56 : Ref sig .tc := ⟨.hbm, 362, rfl⟩
abbrev main_call1_call0_call0_c_14 : Ref sig .tc := ⟨.hbm, 363, rfl⟩
abbrev main_call1_call0_call0_v57 : Ref sig .tc := ⟨.hbm, 364, rfl⟩
abbrev main_call1_call0_call0_v58 : Ref sig .tc := ⟨.hbm, 365, rfl⟩
abbrev main_call1_call0_call0_v59 : Ref sig .tc := ⟨.hbm, 366, rfl⟩
abbrev main_call1_call0_call0_v60 : Ref sig .tc := ⟨.hbm, 367, rfl⟩
abbrev main_call1_call0_call0_v61 : Ref sig .tc := ⟨.hbm, 368, rfl⟩
abbrev main_call1_call0_call0_c_15 : Ref sig .tc := ⟨.hbm, 369, rfl⟩
abbrev main_call1_call0_call0_v62 : Ref sig .tc := ⟨.hbm, 370, rfl⟩
abbrev main_call1_call0_call0_v63 : Ref sig .tc := ⟨.hbm, 371, rfl⟩
abbrev main_call1_call0_call0_c_16 : Ref sig .tc := ⟨.hbm, 372, rfl⟩
abbrev main_call1_call0_call0_v64 : Ref sig .tc := ⟨.hbm, 373, rfl⟩
abbrev main_call1_call0_call0_v65 : Ref sig .tc := ⟨.hbm, 374, rfl⟩
abbrev main_call1_call0_call0_v66 : Ref sig .tc := ⟨.hbm, 375, rfl⟩
abbrev main_call1_call0_call0_v67 : Ref sig .tc := ⟨.hbm, 376, rfl⟩
abbrev main_call1_call0_call0_v68 : Ref sig .tc := ⟨.hbm, 377, rfl⟩
abbrev main_call1_call0_call0_v69 : Ref sig .tc := ⟨.hbm, 378, rfl⟩
abbrev main_call1_call0_call0_v70 : Ref sig .tc := ⟨.hbm, 379, rfl⟩
abbrev main_call1_call0_call0_v71 : Ref sig .tc := ⟨.hbm, 380, rfl⟩
abbrev main_call1_call0_call0_c_17 : Ref sig .tc := ⟨.hbm, 381, rfl⟩
abbrev main_call1_call0_call0_v72 : Ref sig .tc := ⟨.hbm, 382, rfl⟩
abbrev main_call1_call0_call0_v73 : Ref sig .tc := ⟨.hbm, 383, rfl⟩
abbrev main_call1_call0_call0_v74 : Ref sig .tc := ⟨.hbm, 384, rfl⟩
abbrev main_call1_call0_call0_c_18 : Ref sig .tc := ⟨.hbm, 385, rfl⟩
abbrev main_call1_call0_call0_v75 : Ref sig .tc := ⟨.hbm, 386, rfl⟩
abbrev main_call1_call0_call0_v76 : Ref sig .tc := ⟨.hbm, 387, rfl⟩
abbrev main_call1_call0_call0_c_19 : Ref sig .tc := ⟨.hbm, 388, rfl⟩
abbrev main_call1_call0_call0_v77 : Ref sig .tc := ⟨.hbm, 389, rfl⟩
abbrev main_call1_call0_call0_v78 : Ref sig .tc := ⟨.hbm, 390, rfl⟩
abbrev main_call1_call0_call0_v79 : Ref sig .tc := ⟨.hbm, 391, rfl⟩
abbrev main_call1_call0_call0_v80 : Ref sig .tc := ⟨.hbm, 392, rfl⟩
abbrev main_call1_call0_call0_v81 : Ref sig .tc := ⟨.hbm, 393, rfl⟩
abbrev main_call1_call0_call0_c_20 : Ref sig .tc := ⟨.hbm, 394, rfl⟩
abbrev main_call1_call0_call0_v82 : Ref sig .tc := ⟨.hbm, 395, rfl⟩
abbrev main_call1_call0_call0_v83 : Ref sig .tc := ⟨.hbm, 396, rfl⟩
abbrev main_call1_call0_call0_c_21 : Ref sig .tc := ⟨.hbm, 397, rfl⟩
abbrev main_call1_call0_call0_v84 : Ref sig .tc := ⟨.hbm, 398, rfl⟩
abbrev main_call1_call0_call0_v85 : Ref sig .tc := ⟨.hbm, 399, rfl⟩
abbrev main_call1_call0_call0_v86 : Ref sig .tc := ⟨.hbm, 400, rfl⟩
abbrev main_call1_call0_call0_v87 : Ref sig .tc := ⟨.hbm, 401, rfl⟩
abbrev main_call1_call0_call0_v88 : Ref sig .tc := ⟨.hbm, 402, rfl⟩
abbrev main_call1_call0_call0_c_22 : Ref sig .tc := ⟨.hbm, 403, rfl⟩
abbrev main_call1_call0_call0_v89 : Ref sig .tc := ⟨.hbm, 404, rfl⟩
abbrev main_call1_call0_call0_v90 : Ref sig .tc := ⟨.hbm, 405, rfl⟩
abbrev main_call1_call0_call0_c_23 : Ref sig .tc := ⟨.hbm, 406, rfl⟩
abbrev main_call1_call0_call0_v91 : Ref sig .tc := ⟨.hbm, 407, rfl⟩
abbrev main_call1_call0_call0_v92 : Ref sig .tc := ⟨.hbm, 408, rfl⟩
abbrev main_call1_call0_call0_v93 : Ref sig .tc := ⟨.hbm, 409, rfl⟩
abbrev main_call1_call0_call0_v94 : Ref sig .tc := ⟨.hbm, 410, rfl⟩
abbrev main_call1_call0_call0_v95 : Ref sig .tc := ⟨.hbm, 411, rfl⟩
abbrev main_call1_call0_call0_c_24 : Ref sig .tc := ⟨.hbm, 412, rfl⟩
abbrev main_call1_call0_call0_v96 : Ref sig .tc := ⟨.hbm, 413, rfl⟩
abbrev main_call1_call0_call0_v97 : Ref sig .tc := ⟨.hbm, 414, rfl⟩
abbrev main_call1_call0_call0_c_25 : Ref sig .tc := ⟨.hbm, 415, rfl⟩
abbrev main_call1_call0_call0_v98 : Ref sig .tc := ⟨.hbm, 416, rfl⟩
abbrev main_call1_call0_call0_v99 : Ref sig .tc := ⟨.hbm, 417, rfl⟩
abbrev main_call1_call0_call0_v100 : Ref sig .tc := ⟨.hbm, 418, rfl⟩
abbrev main_call1_call0_call0_v101 : Ref sig .tc := ⟨.hbm, 419, rfl⟩
abbrev main_call1_call0_call0_v102 : Ref sig .tc := ⟨.hbm, 420, rfl⟩
abbrev main_call1_call0_call0_v103 : Ref sig .tc := ⟨.hbm, 421, rfl⟩
abbrev main_call1_call0_call0_v104 : Ref sig .tc := ⟨.hbm, 422, rfl⟩
abbrev main_call1_call0_call0_v105 : Ref sig .tc := ⟨.hbm, 423, rfl⟩
abbrev main_call1_call0_call0_c_26 : Ref sig .tc := ⟨.hbm, 424, rfl⟩
abbrev main_call1_call0_call0_v106 : Ref sig .tc := ⟨.hbm, 425, rfl⟩
abbrev main_call1_call0_call0_v107 : Ref sig .tc := ⟨.hbm, 426, rfl⟩
abbrev main_call1_call0_call0_v108 : Ref sig .tc := ⟨.hbm, 427, rfl⟩
abbrev main_call1_call0_call0_c_27 : Ref sig .tc := ⟨.hbm, 428, rfl⟩
abbrev main_call1_call0_call0_v109 : Ref sig .tc := ⟨.hbm, 429, rfl⟩
abbrev main_call1_call0_call0_v110 : Ref sig .tc := ⟨.hbm, 430, rfl⟩
abbrev main_call1_call0_call0_c_28 : Ref sig .tc := ⟨.hbm, 431, rfl⟩
abbrev main_call1_call0_call0_v111 : Ref sig .tc := ⟨.hbm, 432, rfl⟩
abbrev main_call1_call0_call0_v112 : Ref sig .tc := ⟨.hbm, 433, rfl⟩
abbrev main_call1_call0_call0_v113 : Ref sig .tc := ⟨.hbm, 434, rfl⟩
abbrev main_call1_call0_call0_v114 : Ref sig .tc := ⟨.hbm, 435, rfl⟩
abbrev main_call1_call0_call0_v115 : Ref sig .tc := ⟨.hbm, 436, rfl⟩
abbrev main_call1_call0_call0_c_29 : Ref sig .tc := ⟨.hbm, 437, rfl⟩
abbrev main_call1_call0_call0_v116 : Ref sig .tc := ⟨.hbm, 438, rfl⟩
abbrev main_call1_call0_call0_v117 : Ref sig .tc := ⟨.hbm, 439, rfl⟩
abbrev main_call1_call0_call0_c_30 : Ref sig .tc := ⟨.hbm, 440, rfl⟩
abbrev main_call1_call0_call0_v118 : Ref sig .tc := ⟨.hbm, 441, rfl⟩
abbrev main_call1_call0_call0_v119 : Ref sig .tc := ⟨.hbm, 442, rfl⟩
abbrev main_call1_call0_call0_v120 : Ref sig .tc := ⟨.hbm, 443, rfl⟩
abbrev main_call1_call0_call0_v121 : Ref sig .tc := ⟨.hbm, 444, rfl⟩
abbrev main_call1_call0_call0_v122 : Ref sig .tc := ⟨.hbm, 445, rfl⟩
abbrev main_call1_call0_call0_c_31 : Ref sig .tc := ⟨.hbm, 446, rfl⟩
abbrev main_call1_call0_call0_v123 : Ref sig .tc := ⟨.hbm, 447, rfl⟩
abbrev main_call1_call0_call0_v124 : Ref sig .tc := ⟨.hbm, 448, rfl⟩
abbrev main_call1_call0_call0_c_32 : Ref sig .tc := ⟨.hbm, 449, rfl⟩
abbrev main_call1_call0_call0_v125 : Ref sig .tc := ⟨.hbm, 450, rfl⟩
abbrev main_call1_call0_call0_v126 : Ref sig .tc := ⟨.hbm, 451, rfl⟩
abbrev main_call1_call0_call0_v127 : Ref sig .tc := ⟨.hbm, 452, rfl⟩
abbrev main_call1_call0_call0_v128 : Ref sig .tc := ⟨.hbm, 453, rfl⟩
abbrev main_call1_call0_call0_v129 : Ref sig .tc := ⟨.hbm, 454, rfl⟩
abbrev main_call1_call0_call0_c_33 : Ref sig .tc := ⟨.hbm, 455, rfl⟩
abbrev main_call1_call0_call0_v130 : Ref sig .tc := ⟨.hbm, 456, rfl⟩
abbrev main_call1_call0_call0_v131 : Ref sig .tc := ⟨.hbm, 457, rfl⟩
abbrev main_call1_call0_call0_c_34 : Ref sig .tc := ⟨.hbm, 458, rfl⟩
abbrev main_call1_call0_call0_v132 : Ref sig .tc := ⟨.hbm, 459, rfl⟩
abbrev main_call1_call0_call0_v133 : Ref sig .tc := ⟨.hbm, 460, rfl⟩
abbrev main_call1_call0_call0_v134 : Ref sig .tc := ⟨.hbm, 461, rfl⟩
abbrev main_call1_call0_call0_v135 : Ref sig .tc := ⟨.hbm, 462, rfl⟩
abbrev main_call1_call0_call0_v136 : Ref sig .tc := ⟨.hbm, 463, rfl⟩
abbrev main_call1_call0_call0_v137 : Ref sig .tc := ⟨.hbm, 464, rfl⟩
abbrev main_call1_call0_call0_v138 : Ref sig .tc := ⟨.hbm, 465, rfl⟩
abbrev main_call1_call0_call0_v139 : Ref sig .tc := ⟨.hbm, 466, rfl⟩
abbrev main_call1_call0_call0_c_35 : Ref sig .tc := ⟨.hbm, 467, rfl⟩
abbrev main_call1_call0_call0_v140 : Ref sig .tc := ⟨.hbm, 468, rfl⟩
abbrev main_call1_call0_call0_v141 : Ref sig .tc := ⟨.hbm, 469, rfl⟩
abbrev main_call1_call0_call0_v142 : Ref sig .tc := ⟨.hbm, 470, rfl⟩
abbrev main_call1_call0_call0_c_36 : Ref sig .tc := ⟨.hbm, 471, rfl⟩
abbrev main_call1_call0_call0_v143 : Ref sig .tc := ⟨.hbm, 472, rfl⟩
abbrev main_call1_call0_call0_v144 : Ref sig .tc := ⟨.hbm, 473, rfl⟩
abbrev main_call1_call0_call0_c_37 : Ref sig .tc := ⟨.hbm, 474, rfl⟩
abbrev main_call1_call0_call0_v145 : Ref sig .tc := ⟨.hbm, 475, rfl⟩
abbrev main_call1_call0_call0_v146 : Ref sig .tc := ⟨.hbm, 476, rfl⟩
abbrev main_call1_call0_call0_v147 : Ref sig .tc := ⟨.hbm, 477, rfl⟩
abbrev main_call1_call0_call0_v148 : Ref sig .tc := ⟨.hbm, 478, rfl⟩
abbrev main_call1_call0_call0_v149 : Ref sig .tc := ⟨.hbm, 479, rfl⟩
abbrev main_call1_call0_call0_c_38 : Ref sig .tc := ⟨.hbm, 480, rfl⟩
abbrev main_call1_call0_call0_v150 : Ref sig .tc := ⟨.hbm, 481, rfl⟩
abbrev main_call1_call0_call0_v151 : Ref sig .tc := ⟨.hbm, 482, rfl⟩
abbrev main_call1_call0_call0_c_39 : Ref sig .tc := ⟨.hbm, 483, rfl⟩
abbrev main_call1_call0_call0_v152 : Ref sig .tc := ⟨.hbm, 484, rfl⟩
abbrev main_call1_call0_call0_v153 : Ref sig .tc := ⟨.hbm, 485, rfl⟩
abbrev main_call1_call0_call0_v154 : Ref sig .tc := ⟨.hbm, 486, rfl⟩
abbrev main_call1_call0_call0_v155 : Ref sig .tc := ⟨.hbm, 487, rfl⟩
abbrev main_call1_call0_call0_v156 : Ref sig .tc := ⟨.hbm, 488, rfl⟩
abbrev main_call1_call0_call0_c_40 : Ref sig .tc := ⟨.hbm, 489, rfl⟩
abbrev main_call1_call0_call0_v157 : Ref sig .tc := ⟨.hbm, 490, rfl⟩
abbrev main_call1_call0_call0_v158 : Ref sig .tc := ⟨.hbm, 491, rfl⟩
abbrev main_call1_call0_call0_c_41 : Ref sig .tc := ⟨.hbm, 492, rfl⟩
abbrev main_call1_call0_call0_v159 : Ref sig .tc := ⟨.hbm, 493, rfl⟩
abbrev main_call1_call0_call0_v160 : Ref sig .tc := ⟨.hbm, 494, rfl⟩
abbrev main_call1_call0_call0_v161 : Ref sig .tc := ⟨.hbm, 495, rfl⟩
abbrev main_call1_call0_call0_v162 : Ref sig .tc := ⟨.hbm, 496, rfl⟩
abbrev main_call1_call0_call0_v163 : Ref sig .tc := ⟨.hbm, 497, rfl⟩
abbrev main_call1_call0_call0_c_42 : Ref sig .tc := ⟨.hbm, 498, rfl⟩
abbrev main_call1_call0_call0_v164 : Ref sig .tc := ⟨.hbm, 499, rfl⟩
abbrev main_call1_call0_call0_v165 : Ref sig .tc := ⟨.hbm, 500, rfl⟩
abbrev main_call1_call0_call0_c_43 : Ref sig .tc := ⟨.hbm, 501, rfl⟩
abbrev main_call1_call0_call0_v166 : Ref sig .tc := ⟨.hbm, 502, rfl⟩
abbrev main_call1_call0_call0_v167 : Ref sig .tc := ⟨.hbm, 503, rfl⟩
abbrev main_call1_call0_call0_v168 : Ref sig .tc := ⟨.hbm, 504, rfl⟩
abbrev main_call1_call0_call0_v169 : Ref sig .tc := ⟨.hbm, 505, rfl⟩
abbrev main_call1_call0_call0_v170 : Ref sig .tc := ⟨.hbm, 506, rfl⟩
abbrev main_call1_call0_v18_0 : Ref sig .tc := ⟨.hbm, 507, rfl⟩
abbrev main_call1_call0_call0_v172 : Ref sig .tc := ⟨.hbm, 508, rfl⟩
abbrev main_call1_call0_call0_v173 : Ref sig .tc := ⟨.hbm, 509, rfl⟩
abbrev main_call1_call0_call0_c_44 : Ref sig .tc := ⟨.hbm, 510, rfl⟩
abbrev main_call1_call0_call0_v174 : Ref sig .tc := ⟨.hbm, 511, rfl⟩
abbrev main_call1_call0_v18_1 : Ref sig .tc := ⟨.hbm, 512, rfl⟩
abbrev main_call1_call0_v19 : Ref sig .tc := ⟨.hbm, 513, rfl⟩
abbrev main_call1_call0_c_2 : Ref sig .tc := ⟨.hbm, 514, rfl⟩
abbrev main_call1_call0_v20 : Ref sig .tc := ⟨.hbm, 515, rfl⟩
abbrev main_call1_call0_v21 : Ref sig .tc := ⟨.hbm, 516, rfl⟩
abbrev main_call1_call0_c_3 : Ref sig .tc := ⟨.hbm, 517, rfl⟩
abbrev main_call1_call0_v22 : Ref sig .tc := ⟨.hbm, 518, rfl⟩
abbrev main_call1_call0_v23 : Ref sig .tc := ⟨.hbm, 519, rfl⟩
abbrev main_call1_call0_v24 : Ref sig .tc := ⟨.hbm, 520, rfl⟩
abbrev main_call1_call0_cst : Ref sig .tc := ⟨.hbm, 521, rfl⟩
abbrev main_call1_call0_v25 : Ref sig .tc := ⟨.hbm, 522, rfl⟩
abbrev main_call1_call0_v26 : Ref sig .tc := ⟨.hbm, 523, rfl⟩
abbrev main_call1_call0_v27 : Ref sig .tc := ⟨.hbm, 524, rfl⟩
abbrev main_call1_call0_v28 : Ref sig .tc := ⟨.hbm, 525, rfl⟩
abbrev main_call1_call0_v29 : Ref sig .tc := ⟨.hbm, 526, rfl⟩
abbrev main_call1_call0_v30 : Ref sig .tc := ⟨.hbm, 527, rfl⟩
abbrev main_call1_call0_v31 : Ref sig .tc := ⟨.hbm, 528, rfl⟩
abbrev main_call1_call0_v32 : Ref sig .tc := ⟨.hbm, 529, rfl⟩
abbrev main_call1_v0 : Ref sig .tc := ⟨.hbm, 530, rfl⟩
abbrev main_call1_v1 : Ref sig .tc := ⟨.hbm, 531, rfl⟩
abbrev main_call1_v2 : Ref sig .tc := ⟨.hbm, 532, rfl⟩
abbrev main_call1_v3 : Ref sig .tc := ⟨.hbm, 533, rfl⟩
abbrev main_v14 : Ref sig .tc := ⟨.hbm, 534, rfl⟩
abbrev main_call2_cst : Ref sig .tc := ⟨.hbm, 535, rfl⟩
abbrev main_call2_cst_0 : Ref sig .tc := ⟨.hbm, 536, rfl⟩
abbrev main_call2_call0_v0 : Ref sig .tc := ⟨.hbm, 537, rfl⟩
abbrev main_call2_call0_v1 : Ref sig .tc := ⟨.hbm, 538, rfl⟩
abbrev main_call2_call0_v2 : Ref sig .tc := ⟨.hbm, 539, rfl⟩
abbrev main_call2_call0_v3 : Ref sig .tc := ⟨.hbm, 540, rfl⟩
abbrev main_call2_call0_v4 : Ref sig .tc := ⟨.hbm, 541, rfl⟩
abbrev main_call2_call0_v5 : Ref sig .tc := ⟨.hbm, 542, rfl⟩
abbrev main_call2_call0_v6 : Ref sig .tc := ⟨.hbm, 543, rfl⟩
abbrev main_call2_call0_v7 : Ref sig .tc := ⟨.hbm, 544, rfl⟩
abbrev main_call2_call0_v8 : Ref sig .tc := ⟨.hbm, 545, rfl⟩
abbrev main_call2_call0_c : Ref sig .tc := ⟨.hbm, 546, rfl⟩
abbrev main_call2_call0_v9 : Ref sig .tc := ⟨.hbm, 547, rfl⟩
abbrev main_call2_call0_v10 : Ref sig .tc := ⟨.hbm, 548, rfl⟩
abbrev main_call2_call0_c_0 : Ref sig .tc := ⟨.hbm, 549, rfl⟩
abbrev main_call2_call0_v11 : Ref sig .tc := ⟨.hbm, 550, rfl⟩
abbrev main_call2_call0_v12 : Ref sig .tc := ⟨.hbm, 551, rfl⟩
abbrev main_call2_call0_v13 : Ref sig .tc := ⟨.hbm, 552, rfl⟩
abbrev main_call2_call0_c_1 : Ref sig .tc := ⟨.hbm, 553, rfl⟩
abbrev main_call2_call0_v14 : Ref sig .tc := ⟨.hbm, 554, rfl⟩
abbrev main_call2_call0_v15 : Ref sig .tc := ⟨.hbm, 555, rfl⟩
abbrev main_call2_call0_v16 : Ref sig .tc := ⟨.hbm, 556, rfl⟩
abbrev main_call2_call0_v17 : Ref sig .tc := ⟨.hbm, 557, rfl⟩
abbrev main_call2_call0_call0_v0 : Ref sig .tc := ⟨.hbm, 558, rfl⟩
abbrev main_call2_call0_call0_c : Ref sig .tc := ⟨.hbm, 559, rfl⟩
abbrev main_call2_call0_call0_v1 : Ref sig .tc := ⟨.hbm, 560, rfl⟩
abbrev main_call2_call0_call0_v2 : Ref sig .tc := ⟨.hbm, 561, rfl⟩
abbrev main_call2_call0_call0_v3 : Ref sig .tc := ⟨.hbm, 562, rfl⟩
abbrev main_call2_call0_call0_v4 : Ref sig .tc := ⟨.hbm, 563, rfl⟩
abbrev main_call2_call0_call0_v5 : Ref sig .tc := ⟨.hbm, 564, rfl⟩
abbrev main_call2_call0_call0_v6 : Ref sig .tc := ⟨.hbm, 565, rfl⟩
abbrev main_call2_call0_call0_c_0 : Ref sig .tc := ⟨.hbm, 566, rfl⟩
abbrev main_call2_call0_call0_v7 : Ref sig .tc := ⟨.hbm, 567, rfl⟩
abbrev main_call2_call0_call0_v8 : Ref sig .tc := ⟨.hbm, 568, rfl⟩
abbrev main_call2_call0_call0_c_1 : Ref sig .tc := ⟨.hbm, 569, rfl⟩
abbrev main_call2_call0_call0_v9 : Ref sig .tc := ⟨.hbm, 570, rfl⟩
abbrev main_call2_call0_call0_v10 : Ref sig .tc := ⟨.hbm, 571, rfl⟩
abbrev main_call2_call0_call0_v11 : Ref sig .tc := ⟨.hbm, 572, rfl⟩
abbrev main_call2_call0_call0_v12 : Ref sig .tc := ⟨.hbm, 573, rfl⟩
abbrev main_call2_call0_call0_v13 : Ref sig .tc := ⟨.hbm, 574, rfl⟩
abbrev main_call2_call0_call0_c_2 : Ref sig .tc := ⟨.hbm, 575, rfl⟩
abbrev main_call2_call0_call0_v14 : Ref sig .tc := ⟨.hbm, 576, rfl⟩
abbrev main_call2_call0_call0_v15 : Ref sig .tc := ⟨.hbm, 577, rfl⟩
abbrev main_call2_call0_call0_c_3 : Ref sig .tc := ⟨.hbm, 578, rfl⟩
abbrev main_call2_call0_call0_v16 : Ref sig .tc := ⟨.hbm, 579, rfl⟩
abbrev main_call2_call0_call0_v17 : Ref sig .tc := ⟨.hbm, 580, rfl⟩
abbrev main_call2_call0_call0_v18 : Ref sig .tc := ⟨.hbm, 581, rfl⟩
abbrev main_call2_call0_call0_v19 : Ref sig .tc := ⟨.hbm, 582, rfl⟩
abbrev main_call2_call0_call0_v20 : Ref sig .tc := ⟨.hbm, 583, rfl⟩
abbrev main_call2_call0_call0_c_4 : Ref sig .tc := ⟨.hbm, 584, rfl⟩
abbrev main_call2_call0_call0_v21 : Ref sig .tc := ⟨.hbm, 585, rfl⟩
abbrev main_call2_call0_call0_v22 : Ref sig .tc := ⟨.hbm, 586, rfl⟩
abbrev main_call2_call0_call0_c_5 : Ref sig .tc := ⟨.hbm, 587, rfl⟩
abbrev main_call2_call0_call0_v23 : Ref sig .tc := ⟨.hbm, 588, rfl⟩
abbrev main_call2_call0_call0_v24 : Ref sig .tc := ⟨.hbm, 589, rfl⟩
abbrev main_call2_call0_call0_v25 : Ref sig .tc := ⟨.hbm, 590, rfl⟩
abbrev main_call2_call0_call0_v26 : Ref sig .tc := ⟨.hbm, 591, rfl⟩
abbrev main_call2_call0_call0_v27 : Ref sig .tc := ⟨.hbm, 592, rfl⟩
abbrev main_call2_call0_call0_c_6 : Ref sig .tc := ⟨.hbm, 593, rfl⟩
abbrev main_call2_call0_call0_v28 : Ref sig .tc := ⟨.hbm, 594, rfl⟩
abbrev main_call2_call0_call0_v29 : Ref sig .tc := ⟨.hbm, 595, rfl⟩
abbrev main_call2_call0_call0_c_7 : Ref sig .tc := ⟨.hbm, 596, rfl⟩
abbrev main_call2_call0_call0_v30 : Ref sig .tc := ⟨.hbm, 597, rfl⟩
abbrev main_call2_call0_call0_v31 : Ref sig .tc := ⟨.hbm, 598, rfl⟩
abbrev main_call2_call0_call0_v32 : Ref sig .tc := ⟨.hbm, 599, rfl⟩
abbrev main_call2_call0_call0_v33 : Ref sig .tc := ⟨.hbm, 600, rfl⟩
abbrev main_call2_call0_call0_v34 : Ref sig .tc := ⟨.hbm, 601, rfl⟩
abbrev main_call2_call0_call0_v35 : Ref sig .tc := ⟨.hbm, 602, rfl⟩
abbrev main_call2_call0_call0_v36 : Ref sig .tc := ⟨.hbm, 603, rfl⟩
abbrev main_call2_call0_call0_v37 : Ref sig .tc := ⟨.hbm, 604, rfl⟩
abbrev main_call2_call0_call0_c_8 : Ref sig .tc := ⟨.hbm, 605, rfl⟩
abbrev main_call2_call0_call0_v38 : Ref sig .tc := ⟨.hbm, 606, rfl⟩
abbrev main_call2_call0_call0_v39 : Ref sig .tc := ⟨.hbm, 607, rfl⟩
abbrev main_call2_call0_call0_v40 : Ref sig .tc := ⟨.hbm, 608, rfl⟩
abbrev main_call2_call0_call0_c_9 : Ref sig .tc := ⟨.hbm, 609, rfl⟩
abbrev main_call2_call0_call0_v41 : Ref sig .tc := ⟨.hbm, 610, rfl⟩
abbrev main_call2_call0_call0_v42 : Ref sig .tc := ⟨.hbm, 611, rfl⟩
abbrev main_call2_call0_call0_c_10 : Ref sig .tc := ⟨.hbm, 612, rfl⟩
abbrev main_call2_call0_call0_v43 : Ref sig .tc := ⟨.hbm, 613, rfl⟩
abbrev main_call2_call0_call0_v44 : Ref sig .tc := ⟨.hbm, 614, rfl⟩
abbrev main_call2_call0_call0_v45 : Ref sig .tc := ⟨.hbm, 615, rfl⟩
abbrev main_call2_call0_call0_v46 : Ref sig .tc := ⟨.hbm, 616, rfl⟩
abbrev main_call2_call0_call0_v47 : Ref sig .tc := ⟨.hbm, 617, rfl⟩
abbrev main_call2_call0_call0_c_11 : Ref sig .tc := ⟨.hbm, 618, rfl⟩
abbrev main_call2_call0_call0_v48 : Ref sig .tc := ⟨.hbm, 619, rfl⟩
abbrev main_call2_call0_call0_v49 : Ref sig .tc := ⟨.hbm, 620, rfl⟩
abbrev main_call2_call0_call0_c_12 : Ref sig .tc := ⟨.hbm, 621, rfl⟩
abbrev main_call2_call0_call0_v50 : Ref sig .tc := ⟨.hbm, 622, rfl⟩
abbrev main_call2_call0_call0_v51 : Ref sig .tc := ⟨.hbm, 623, rfl⟩
abbrev main_call2_call0_call0_v52 : Ref sig .tc := ⟨.hbm, 624, rfl⟩
abbrev main_call2_call0_call0_v53 : Ref sig .tc := ⟨.hbm, 625, rfl⟩
abbrev main_call2_call0_call0_v54 : Ref sig .tc := ⟨.hbm, 626, rfl⟩
abbrev main_call2_call0_call0_c_13 : Ref sig .tc := ⟨.hbm, 627, rfl⟩
abbrev main_call2_call0_call0_v55 : Ref sig .tc := ⟨.hbm, 628, rfl⟩
abbrev main_call2_call0_call0_v56 : Ref sig .tc := ⟨.hbm, 629, rfl⟩
abbrev main_call2_call0_call0_c_14 : Ref sig .tc := ⟨.hbm, 630, rfl⟩
abbrev main_call2_call0_call0_v57 : Ref sig .tc := ⟨.hbm, 631, rfl⟩
abbrev main_call2_call0_call0_v58 : Ref sig .tc := ⟨.hbm, 632, rfl⟩
abbrev main_call2_call0_call0_v59 : Ref sig .tc := ⟨.hbm, 633, rfl⟩
abbrev main_call2_call0_call0_v60 : Ref sig .tc := ⟨.hbm, 634, rfl⟩
abbrev main_call2_call0_call0_v61 : Ref sig .tc := ⟨.hbm, 635, rfl⟩
abbrev main_call2_call0_call0_c_15 : Ref sig .tc := ⟨.hbm, 636, rfl⟩
abbrev main_call2_call0_call0_v62 : Ref sig .tc := ⟨.hbm, 637, rfl⟩
abbrev main_call2_call0_call0_v63 : Ref sig .tc := ⟨.hbm, 638, rfl⟩
abbrev main_call2_call0_call0_c_16 : Ref sig .tc := ⟨.hbm, 639, rfl⟩
abbrev main_call2_call0_call0_v64 : Ref sig .tc := ⟨.hbm, 640, rfl⟩
abbrev main_call2_call0_call0_v65 : Ref sig .tc := ⟨.hbm, 641, rfl⟩
abbrev main_call2_call0_call0_v66 : Ref sig .tc := ⟨.hbm, 642, rfl⟩
abbrev main_call2_call0_call0_v67 : Ref sig .tc := ⟨.hbm, 643, rfl⟩
abbrev main_call2_call0_call0_v68 : Ref sig .tc := ⟨.hbm, 644, rfl⟩
abbrev main_call2_call0_call0_v69 : Ref sig .tc := ⟨.hbm, 645, rfl⟩
abbrev main_call2_call0_call0_v70 : Ref sig .tc := ⟨.hbm, 646, rfl⟩
abbrev main_call2_call0_call0_v71 : Ref sig .tc := ⟨.hbm, 647, rfl⟩
abbrev main_call2_call0_call0_c_17 : Ref sig .tc := ⟨.hbm, 648, rfl⟩
abbrev main_call2_call0_call0_v72 : Ref sig .tc := ⟨.hbm, 649, rfl⟩
abbrev main_call2_call0_call0_v73 : Ref sig .tc := ⟨.hbm, 650, rfl⟩
abbrev main_call2_call0_call0_v74 : Ref sig .tc := ⟨.hbm, 651, rfl⟩
abbrev main_call2_call0_call0_c_18 : Ref sig .tc := ⟨.hbm, 652, rfl⟩
abbrev main_call2_call0_call0_v75 : Ref sig .tc := ⟨.hbm, 653, rfl⟩
abbrev main_call2_call0_call0_v76 : Ref sig .tc := ⟨.hbm, 654, rfl⟩
abbrev main_call2_call0_call0_c_19 : Ref sig .tc := ⟨.hbm, 655, rfl⟩
abbrev main_call2_call0_call0_v77 : Ref sig .tc := ⟨.hbm, 656, rfl⟩
abbrev main_call2_call0_call0_v78 : Ref sig .tc := ⟨.hbm, 657, rfl⟩
abbrev main_call2_call0_call0_v79 : Ref sig .tc := ⟨.hbm, 658, rfl⟩
abbrev main_call2_call0_call0_v80 : Ref sig .tc := ⟨.hbm, 659, rfl⟩
abbrev main_call2_call0_call0_v81 : Ref sig .tc := ⟨.hbm, 660, rfl⟩
abbrev main_call2_call0_call0_c_20 : Ref sig .tc := ⟨.hbm, 661, rfl⟩
abbrev main_call2_call0_call0_v82 : Ref sig .tc := ⟨.hbm, 662, rfl⟩
abbrev main_call2_call0_call0_v83 : Ref sig .tc := ⟨.hbm, 663, rfl⟩
abbrev main_call2_call0_call0_c_21 : Ref sig .tc := ⟨.hbm, 664, rfl⟩
abbrev main_call2_call0_call0_v84 : Ref sig .tc := ⟨.hbm, 665, rfl⟩
abbrev main_call2_call0_call0_v85 : Ref sig .tc := ⟨.hbm, 666, rfl⟩
abbrev main_call2_call0_call0_v86 : Ref sig .tc := ⟨.hbm, 667, rfl⟩
abbrev main_call2_call0_call0_v87 : Ref sig .tc := ⟨.hbm, 668, rfl⟩
abbrev main_call2_call0_call0_v88 : Ref sig .tc := ⟨.hbm, 669, rfl⟩
abbrev main_call2_call0_call0_c_22 : Ref sig .tc := ⟨.hbm, 670, rfl⟩
abbrev main_call2_call0_call0_v89 : Ref sig .tc := ⟨.hbm, 671, rfl⟩
abbrev main_call2_call0_call0_v90 : Ref sig .tc := ⟨.hbm, 672, rfl⟩
abbrev main_call2_call0_call0_c_23 : Ref sig .tc := ⟨.hbm, 673, rfl⟩
abbrev main_call2_call0_call0_v91 : Ref sig .tc := ⟨.hbm, 674, rfl⟩
abbrev main_call2_call0_call0_v92 : Ref sig .tc := ⟨.hbm, 675, rfl⟩
abbrev main_call2_call0_call0_v93 : Ref sig .tc := ⟨.hbm, 676, rfl⟩
abbrev main_call2_call0_call0_v94 : Ref sig .tc := ⟨.hbm, 677, rfl⟩
abbrev main_call2_call0_call0_v95 : Ref sig .tc := ⟨.hbm, 678, rfl⟩
abbrev main_call2_call0_call0_c_24 : Ref sig .tc := ⟨.hbm, 679, rfl⟩
abbrev main_call2_call0_call0_v96 : Ref sig .tc := ⟨.hbm, 680, rfl⟩
abbrev main_call2_call0_call0_v97 : Ref sig .tc := ⟨.hbm, 681, rfl⟩
abbrev main_call2_call0_call0_c_25 : Ref sig .tc := ⟨.hbm, 682, rfl⟩
abbrev main_call2_call0_call0_v98 : Ref sig .tc := ⟨.hbm, 683, rfl⟩
abbrev main_call2_call0_call0_v99 : Ref sig .tc := ⟨.hbm, 684, rfl⟩
abbrev main_call2_call0_call0_v100 : Ref sig .tc := ⟨.hbm, 685, rfl⟩
abbrev main_call2_call0_call0_v101 : Ref sig .tc := ⟨.hbm, 686, rfl⟩
abbrev main_call2_call0_call0_v102 : Ref sig .tc := ⟨.hbm, 687, rfl⟩
abbrev main_call2_call0_call0_v103 : Ref sig .tc := ⟨.hbm, 688, rfl⟩
abbrev main_call2_call0_call0_v104 : Ref sig .tc := ⟨.hbm, 689, rfl⟩
abbrev main_call2_call0_call0_v105 : Ref sig .tc := ⟨.hbm, 690, rfl⟩
abbrev main_call2_call0_call0_c_26 : Ref sig .tc := ⟨.hbm, 691, rfl⟩
abbrev main_call2_call0_call0_v106 : Ref sig .tc := ⟨.hbm, 692, rfl⟩
abbrev main_call2_call0_call0_v107 : Ref sig .tc := ⟨.hbm, 693, rfl⟩
abbrev main_call2_call0_call0_v108 : Ref sig .tc := ⟨.hbm, 694, rfl⟩
abbrev main_call2_call0_call0_c_27 : Ref sig .tc := ⟨.hbm, 695, rfl⟩
abbrev main_call2_call0_call0_v109 : Ref sig .tc := ⟨.hbm, 696, rfl⟩
abbrev main_call2_call0_call0_v110 : Ref sig .tc := ⟨.hbm, 697, rfl⟩
abbrev main_call2_call0_call0_c_28 : Ref sig .tc := ⟨.hbm, 698, rfl⟩
abbrev main_call2_call0_call0_v111 : Ref sig .tc := ⟨.hbm, 699, rfl⟩
abbrev main_call2_call0_call0_v112 : Ref sig .tc := ⟨.hbm, 700, rfl⟩
abbrev main_call2_call0_call0_v113 : Ref sig .tc := ⟨.hbm, 701, rfl⟩
abbrev main_call2_call0_call0_v114 : Ref sig .tc := ⟨.hbm, 702, rfl⟩
abbrev main_call2_call0_call0_v115 : Ref sig .tc := ⟨.hbm, 703, rfl⟩
abbrev main_call2_call0_call0_c_29 : Ref sig .tc := ⟨.hbm, 704, rfl⟩
abbrev main_call2_call0_call0_v116 : Ref sig .tc := ⟨.hbm, 705, rfl⟩
abbrev main_call2_call0_call0_v117 : Ref sig .tc := ⟨.hbm, 706, rfl⟩
abbrev main_call2_call0_call0_c_30 : Ref sig .tc := ⟨.hbm, 707, rfl⟩
abbrev main_call2_call0_call0_v118 : Ref sig .tc := ⟨.hbm, 708, rfl⟩
abbrev main_call2_call0_call0_v119 : Ref sig .tc := ⟨.hbm, 709, rfl⟩
abbrev main_call2_call0_call0_v120 : Ref sig .tc := ⟨.hbm, 710, rfl⟩
abbrev main_call2_call0_call0_v121 : Ref sig .tc := ⟨.hbm, 711, rfl⟩
abbrev main_call2_call0_call0_v122 : Ref sig .tc := ⟨.hbm, 712, rfl⟩
abbrev main_call2_call0_call0_c_31 : Ref sig .tc := ⟨.hbm, 713, rfl⟩
abbrev main_call2_call0_call0_v123 : Ref sig .tc := ⟨.hbm, 714, rfl⟩
abbrev main_call2_call0_call0_v124 : Ref sig .tc := ⟨.hbm, 715, rfl⟩
abbrev main_call2_call0_call0_c_32 : Ref sig .tc := ⟨.hbm, 716, rfl⟩
abbrev main_call2_call0_call0_v125 : Ref sig .tc := ⟨.hbm, 717, rfl⟩
abbrev main_call2_call0_call0_v126 : Ref sig .tc := ⟨.hbm, 718, rfl⟩
abbrev main_call2_call0_call0_v127 : Ref sig .tc := ⟨.hbm, 719, rfl⟩
abbrev main_call2_call0_call0_v128 : Ref sig .tc := ⟨.hbm, 720, rfl⟩
abbrev main_call2_call0_call0_v129 : Ref sig .tc := ⟨.hbm, 721, rfl⟩
abbrev main_call2_call0_call0_c_33 : Ref sig .tc := ⟨.hbm, 722, rfl⟩
abbrev main_call2_call0_call0_v130 : Ref sig .tc := ⟨.hbm, 723, rfl⟩
abbrev main_call2_call0_call0_v131 : Ref sig .tc := ⟨.hbm, 724, rfl⟩
abbrev main_call2_call0_call0_c_34 : Ref sig .tc := ⟨.hbm, 725, rfl⟩
abbrev main_call2_call0_call0_v132 : Ref sig .tc := ⟨.hbm, 726, rfl⟩
abbrev main_call2_call0_call0_v133 : Ref sig .tc := ⟨.hbm, 727, rfl⟩
abbrev main_call2_call0_call0_v134 : Ref sig .tc := ⟨.hbm, 728, rfl⟩
abbrev main_call2_call0_call0_v135 : Ref sig .tc := ⟨.hbm, 729, rfl⟩
abbrev main_call2_call0_call0_v136 : Ref sig .tc := ⟨.hbm, 730, rfl⟩
abbrev main_call2_call0_call0_v137 : Ref sig .tc := ⟨.hbm, 731, rfl⟩
abbrev main_call2_call0_call0_v138 : Ref sig .tc := ⟨.hbm, 732, rfl⟩
abbrev main_call2_call0_call0_v139 : Ref sig .tc := ⟨.hbm, 733, rfl⟩
abbrev main_call2_call0_call0_c_35 : Ref sig .tc := ⟨.hbm, 734, rfl⟩
abbrev main_call2_call0_call0_v140 : Ref sig .tc := ⟨.hbm, 735, rfl⟩
abbrev main_call2_call0_call0_v141 : Ref sig .tc := ⟨.hbm, 736, rfl⟩
abbrev main_call2_call0_call0_v142 : Ref sig .tc := ⟨.hbm, 737, rfl⟩
abbrev main_call2_call0_call0_c_36 : Ref sig .tc := ⟨.hbm, 738, rfl⟩
abbrev main_call2_call0_call0_v143 : Ref sig .tc := ⟨.hbm, 739, rfl⟩
abbrev main_call2_call0_call0_v144 : Ref sig .tc := ⟨.hbm, 740, rfl⟩
abbrev main_call2_call0_call0_c_37 : Ref sig .tc := ⟨.hbm, 741, rfl⟩
abbrev main_call2_call0_call0_v145 : Ref sig .tc := ⟨.hbm, 742, rfl⟩
abbrev main_call2_call0_call0_v146 : Ref sig .tc := ⟨.hbm, 743, rfl⟩
abbrev main_call2_call0_call0_v147 : Ref sig .tc := ⟨.hbm, 744, rfl⟩
abbrev main_call2_call0_call0_v148 : Ref sig .tc := ⟨.hbm, 745, rfl⟩
abbrev main_call2_call0_call0_v149 : Ref sig .tc := ⟨.hbm, 746, rfl⟩
abbrev main_call2_call0_call0_c_38 : Ref sig .tc := ⟨.hbm, 747, rfl⟩
abbrev main_call2_call0_call0_v150 : Ref sig .tc := ⟨.hbm, 748, rfl⟩
abbrev main_call2_call0_call0_v151 : Ref sig .tc := ⟨.hbm, 749, rfl⟩
abbrev main_call2_call0_call0_c_39 : Ref sig .tc := ⟨.hbm, 750, rfl⟩
abbrev main_call2_call0_call0_v152 : Ref sig .tc := ⟨.hbm, 751, rfl⟩
abbrev main_call2_call0_call0_v153 : Ref sig .tc := ⟨.hbm, 752, rfl⟩
abbrev main_call2_call0_call0_v154 : Ref sig .tc := ⟨.hbm, 753, rfl⟩
abbrev main_call2_call0_call0_v155 : Ref sig .tc := ⟨.hbm, 754, rfl⟩
abbrev main_call2_call0_call0_v156 : Ref sig .tc := ⟨.hbm, 755, rfl⟩
abbrev main_call2_call0_call0_c_40 : Ref sig .tc := ⟨.hbm, 756, rfl⟩
abbrev main_call2_call0_call0_v157 : Ref sig .tc := ⟨.hbm, 757, rfl⟩
abbrev main_call2_call0_call0_v158 : Ref sig .tc := ⟨.hbm, 758, rfl⟩
abbrev main_call2_call0_call0_c_41 : Ref sig .tc := ⟨.hbm, 759, rfl⟩
abbrev main_call2_call0_call0_v159 : Ref sig .tc := ⟨.hbm, 760, rfl⟩
abbrev main_call2_call0_call0_v160 : Ref sig .tc := ⟨.hbm, 761, rfl⟩
abbrev main_call2_call0_call0_v161 : Ref sig .tc := ⟨.hbm, 762, rfl⟩
abbrev main_call2_call0_call0_v162 : Ref sig .tc := ⟨.hbm, 763, rfl⟩
abbrev main_call2_call0_call0_v163 : Ref sig .tc := ⟨.hbm, 764, rfl⟩
abbrev main_call2_call0_call0_c_42 : Ref sig .tc := ⟨.hbm, 765, rfl⟩
abbrev main_call2_call0_call0_v164 : Ref sig .tc := ⟨.hbm, 766, rfl⟩
abbrev main_call2_call0_call0_v165 : Ref sig .tc := ⟨.hbm, 767, rfl⟩
abbrev main_call2_call0_call0_c_43 : Ref sig .tc := ⟨.hbm, 768, rfl⟩
abbrev main_call2_call0_call0_v166 : Ref sig .tc := ⟨.hbm, 769, rfl⟩
abbrev main_call2_call0_call0_v167 : Ref sig .tc := ⟨.hbm, 770, rfl⟩
abbrev main_call2_call0_call0_v168 : Ref sig .tc := ⟨.hbm, 771, rfl⟩
abbrev main_call2_call0_call0_v169 : Ref sig .tc := ⟨.hbm, 772, rfl⟩
abbrev main_call2_call0_call0_v170 : Ref sig .tc := ⟨.hbm, 773, rfl⟩
abbrev main_call2_call0_v18_0 : Ref sig .tc := ⟨.hbm, 774, rfl⟩
abbrev main_call2_call0_call0_v172 : Ref sig .tc := ⟨.hbm, 775, rfl⟩
abbrev main_call2_call0_call0_v173 : Ref sig .tc := ⟨.hbm, 776, rfl⟩
abbrev main_call2_call0_call0_c_44 : Ref sig .tc := ⟨.hbm, 777, rfl⟩
abbrev main_call2_call0_call0_v174 : Ref sig .tc := ⟨.hbm, 778, rfl⟩
abbrev main_call2_call0_v18_1 : Ref sig .tc := ⟨.hbm, 779, rfl⟩
abbrev main_call2_call0_v19 : Ref sig .tc := ⟨.hbm, 780, rfl⟩
abbrev main_call2_call0_c_2 : Ref sig .tc := ⟨.hbm, 781, rfl⟩
abbrev main_call2_call0_v20 : Ref sig .tc := ⟨.hbm, 782, rfl⟩
abbrev main_call2_call0_v21 : Ref sig .tc := ⟨.hbm, 783, rfl⟩
abbrev main_call2_call0_c_3 : Ref sig .tc := ⟨.hbm, 784, rfl⟩
abbrev main_call2_call0_v22 : Ref sig .tc := ⟨.hbm, 785, rfl⟩
abbrev main_call2_call0_v23 : Ref sig .tc := ⟨.hbm, 786, rfl⟩
abbrev main_call2_call0_v24 : Ref sig .tc := ⟨.hbm, 787, rfl⟩
abbrev main_call2_call0_cst : Ref sig .tc := ⟨.hbm, 788, rfl⟩
abbrev main_call2_call0_v25 : Ref sig .tc := ⟨.hbm, 789, rfl⟩
abbrev main_call2_call0_v26 : Ref sig .tc := ⟨.hbm, 790, rfl⟩
abbrev main_call2_call0_v27 : Ref sig .tc := ⟨.hbm, 791, rfl⟩
abbrev main_call2_call0_v28 : Ref sig .tc := ⟨.hbm, 792, rfl⟩
abbrev main_call2_call0_v29 : Ref sig .tc := ⟨.hbm, 793, rfl⟩
abbrev main_call2_call0_v30 : Ref sig .tc := ⟨.hbm, 794, rfl⟩
abbrev main_call2_call0_v31 : Ref sig .tc := ⟨.hbm, 795, rfl⟩
abbrev main_call2_call0_v32 : Ref sig .tc := ⟨.hbm, 796, rfl⟩
abbrev main_call2_v0 : Ref sig .tc := ⟨.hbm, 797, rfl⟩
abbrev main_call2_v1 : Ref sig .tc := ⟨.hbm, 798, rfl⟩
abbrev main_call2_v2 : Ref sig .tc := ⟨.hbm, 799, rfl⟩
abbrev main_call2_v3 : Ref sig .tc := ⟨.hbm, 800, rfl⟩
abbrev main_v15 : Ref sig .tc := ⟨.hbm, 801, rfl⟩
abbrev main_call3_cst : Ref sig .tc := ⟨.hbm, 802, rfl⟩
abbrev main_call3_cst_0 : Ref sig .tc := ⟨.hbm, 803, rfl⟩
abbrev main_call3_call0_v0 : Ref sig .tc := ⟨.hbm, 804, rfl⟩
abbrev main_call3_call0_v1 : Ref sig .tc := ⟨.hbm, 805, rfl⟩
abbrev main_call3_call0_v2 : Ref sig .tc := ⟨.hbm, 806, rfl⟩
abbrev main_call3_call0_v3 : Ref sig .tc := ⟨.hbm, 807, rfl⟩
abbrev main_call3_call0_v4 : Ref sig .tc := ⟨.hbm, 808, rfl⟩
abbrev main_call3_call0_v5 : Ref sig .tc := ⟨.hbm, 809, rfl⟩
abbrev main_call3_call0_v6 : Ref sig .tc := ⟨.hbm, 810, rfl⟩
abbrev main_call3_call0_v7 : Ref sig .tc := ⟨.hbm, 811, rfl⟩
abbrev main_call3_call0_v8 : Ref sig .tc := ⟨.hbm, 812, rfl⟩
abbrev main_call3_call0_c : Ref sig .tc := ⟨.hbm, 813, rfl⟩
abbrev main_call3_call0_v9 : Ref sig .tc := ⟨.hbm, 814, rfl⟩
abbrev main_call3_call0_v10 : Ref sig .tc := ⟨.hbm, 815, rfl⟩
abbrev main_call3_call0_c_0 : Ref sig .tc := ⟨.hbm, 816, rfl⟩
abbrev main_call3_call0_v11 : Ref sig .tc := ⟨.hbm, 817, rfl⟩
abbrev main_call3_call0_v12 : Ref sig .tc := ⟨.hbm, 818, rfl⟩
abbrev main_call3_call0_v13 : Ref sig .tc := ⟨.hbm, 819, rfl⟩
abbrev main_call3_call0_c_1 : Ref sig .tc := ⟨.hbm, 820, rfl⟩
abbrev main_call3_call0_v14 : Ref sig .tc := ⟨.hbm, 821, rfl⟩
abbrev main_call3_call0_v15 : Ref sig .tc := ⟨.hbm, 822, rfl⟩
abbrev main_call3_call0_v16 : Ref sig .tc := ⟨.hbm, 823, rfl⟩
abbrev main_call3_call0_v17 : Ref sig .tc := ⟨.hbm, 824, rfl⟩
abbrev main_call3_call0_call0_v0 : Ref sig .tc := ⟨.hbm, 825, rfl⟩
abbrev main_call3_call0_call0_c : Ref sig .tc := ⟨.hbm, 826, rfl⟩
abbrev main_call3_call0_call0_v1 : Ref sig .tc := ⟨.hbm, 827, rfl⟩
abbrev main_call3_call0_call0_v2 : Ref sig .tc := ⟨.hbm, 828, rfl⟩
abbrev main_call3_call0_call0_v3 : Ref sig .tc := ⟨.hbm, 829, rfl⟩
abbrev main_call3_call0_call0_v4 : Ref sig .tc := ⟨.hbm, 830, rfl⟩
abbrev main_call3_call0_call0_v5 : Ref sig .tc := ⟨.hbm, 831, rfl⟩
abbrev main_call3_call0_call0_v6 : Ref sig .tc := ⟨.hbm, 832, rfl⟩
abbrev main_call3_call0_call0_c_0 : Ref sig .tc := ⟨.hbm, 833, rfl⟩
abbrev main_call3_call0_call0_v7 : Ref sig .tc := ⟨.hbm, 834, rfl⟩
abbrev main_call3_call0_call0_v8 : Ref sig .tc := ⟨.hbm, 835, rfl⟩
abbrev main_call3_call0_call0_c_1 : Ref sig .tc := ⟨.hbm, 836, rfl⟩
abbrev main_call3_call0_call0_v9 : Ref sig .tc := ⟨.hbm, 837, rfl⟩
abbrev main_call3_call0_call0_v10 : Ref sig .tc := ⟨.hbm, 838, rfl⟩
abbrev main_call3_call0_call0_v11 : Ref sig .tc := ⟨.hbm, 839, rfl⟩
abbrev main_call3_call0_call0_v12 : Ref sig .tc := ⟨.hbm, 840, rfl⟩
abbrev main_call3_call0_call0_v13 : Ref sig .tc := ⟨.hbm, 841, rfl⟩
abbrev main_call3_call0_call0_c_2 : Ref sig .tc := ⟨.hbm, 842, rfl⟩
abbrev main_call3_call0_call0_v14 : Ref sig .tc := ⟨.hbm, 843, rfl⟩
abbrev main_call3_call0_call0_v15 : Ref sig .tc := ⟨.hbm, 844, rfl⟩
abbrev main_call3_call0_call0_c_3 : Ref sig .tc := ⟨.hbm, 845, rfl⟩
abbrev main_call3_call0_call0_v16 : Ref sig .tc := ⟨.hbm, 846, rfl⟩
abbrev main_call3_call0_call0_v17 : Ref sig .tc := ⟨.hbm, 847, rfl⟩
abbrev main_call3_call0_call0_v18 : Ref sig .tc := ⟨.hbm, 848, rfl⟩
abbrev main_call3_call0_call0_v19 : Ref sig .tc := ⟨.hbm, 849, rfl⟩
abbrev main_call3_call0_call0_v20 : Ref sig .tc := ⟨.hbm, 850, rfl⟩
abbrev main_call3_call0_call0_c_4 : Ref sig .tc := ⟨.hbm, 851, rfl⟩
abbrev main_call3_call0_call0_v21 : Ref sig .tc := ⟨.hbm, 852, rfl⟩
abbrev main_call3_call0_call0_v22 : Ref sig .tc := ⟨.hbm, 853, rfl⟩
abbrev main_call3_call0_call0_c_5 : Ref sig .tc := ⟨.hbm, 854, rfl⟩
abbrev main_call3_call0_call0_v23 : Ref sig .tc := ⟨.hbm, 855, rfl⟩
abbrev main_call3_call0_call0_v24 : Ref sig .tc := ⟨.hbm, 856, rfl⟩
abbrev main_call3_call0_call0_v25 : Ref sig .tc := ⟨.hbm, 857, rfl⟩
abbrev main_call3_call0_call0_v26 : Ref sig .tc := ⟨.hbm, 858, rfl⟩
abbrev main_call3_call0_call0_v27 : Ref sig .tc := ⟨.hbm, 859, rfl⟩
abbrev main_call3_call0_call0_c_6 : Ref sig .tc := ⟨.hbm, 860, rfl⟩
abbrev main_call3_call0_call0_v28 : Ref sig .tc := ⟨.hbm, 861, rfl⟩
abbrev main_call3_call0_call0_v29 : Ref sig .tc := ⟨.hbm, 862, rfl⟩
abbrev main_call3_call0_call0_c_7 : Ref sig .tc := ⟨.hbm, 863, rfl⟩
abbrev main_call3_call0_call0_v30 : Ref sig .tc := ⟨.hbm, 864, rfl⟩
abbrev main_call3_call0_call0_v31 : Ref sig .tc := ⟨.hbm, 865, rfl⟩
abbrev main_call3_call0_call0_v32 : Ref sig .tc := ⟨.hbm, 866, rfl⟩
abbrev main_call3_call0_call0_v33 : Ref sig .tc := ⟨.hbm, 867, rfl⟩
abbrev main_call3_call0_call0_v34 : Ref sig .tc := ⟨.hbm, 868, rfl⟩
abbrev main_call3_call0_call0_v35 : Ref sig .tc := ⟨.hbm, 869, rfl⟩
abbrev main_call3_call0_call0_v36 : Ref sig .tc := ⟨.hbm, 870, rfl⟩
abbrev main_call3_call0_call0_v37 : Ref sig .tc := ⟨.hbm, 871, rfl⟩
abbrev main_call3_call0_call0_c_8 : Ref sig .tc := ⟨.hbm, 872, rfl⟩
abbrev main_call3_call0_call0_v38 : Ref sig .tc := ⟨.hbm, 873, rfl⟩
abbrev main_call3_call0_call0_v39 : Ref sig .tc := ⟨.hbm, 874, rfl⟩
abbrev main_call3_call0_call0_v40 : Ref sig .tc := ⟨.hbm, 875, rfl⟩
abbrev main_call3_call0_call0_c_9 : Ref sig .tc := ⟨.hbm, 876, rfl⟩
abbrev main_call3_call0_call0_v41 : Ref sig .tc := ⟨.hbm, 877, rfl⟩
abbrev main_call3_call0_call0_v42 : Ref sig .tc := ⟨.hbm, 878, rfl⟩
abbrev main_call3_call0_call0_c_10 : Ref sig .tc := ⟨.hbm, 879, rfl⟩
abbrev main_call3_call0_call0_v43 : Ref sig .tc := ⟨.hbm, 880, rfl⟩
abbrev main_call3_call0_call0_v44 : Ref sig .tc := ⟨.hbm, 881, rfl⟩
abbrev main_call3_call0_call0_v45 : Ref sig .tc := ⟨.hbm, 882, rfl⟩
abbrev main_call3_call0_call0_v46 : Ref sig .tc := ⟨.hbm, 883, rfl⟩
abbrev main_call3_call0_call0_v47 : Ref sig .tc := ⟨.hbm, 884, rfl⟩
abbrev main_call3_call0_call0_c_11 : Ref sig .tc := ⟨.hbm, 885, rfl⟩
abbrev main_call3_call0_call0_v48 : Ref sig .tc := ⟨.hbm, 886, rfl⟩
abbrev main_call3_call0_call0_v49 : Ref sig .tc := ⟨.hbm, 887, rfl⟩
abbrev main_call3_call0_call0_c_12 : Ref sig .tc := ⟨.hbm, 888, rfl⟩
abbrev main_call3_call0_call0_v50 : Ref sig .tc := ⟨.hbm, 889, rfl⟩
abbrev main_call3_call0_call0_v51 : Ref sig .tc := ⟨.hbm, 890, rfl⟩
abbrev main_call3_call0_call0_v52 : Ref sig .tc := ⟨.hbm, 891, rfl⟩
abbrev main_call3_call0_call0_v53 : Ref sig .tc := ⟨.hbm, 892, rfl⟩
abbrev main_call3_call0_call0_v54 : Ref sig .tc := ⟨.hbm, 893, rfl⟩
abbrev main_call3_call0_call0_c_13 : Ref sig .tc := ⟨.hbm, 894, rfl⟩
abbrev main_call3_call0_call0_v55 : Ref sig .tc := ⟨.hbm, 895, rfl⟩
abbrev main_call3_call0_call0_v56 : Ref sig .tc := ⟨.hbm, 896, rfl⟩
abbrev main_call3_call0_call0_c_14 : Ref sig .tc := ⟨.hbm, 897, rfl⟩
abbrev main_call3_call0_call0_v57 : Ref sig .tc := ⟨.hbm, 898, rfl⟩
abbrev main_call3_call0_call0_v58 : Ref sig .tc := ⟨.hbm, 899, rfl⟩
abbrev main_call3_call0_call0_v59 : Ref sig .tc := ⟨.hbm, 900, rfl⟩
abbrev main_call3_call0_call0_v60 : Ref sig .tc := ⟨.hbm, 901, rfl⟩
abbrev main_call3_call0_call0_v61 : Ref sig .tc := ⟨.hbm, 902, rfl⟩
abbrev main_call3_call0_call0_c_15 : Ref sig .tc := ⟨.hbm, 903, rfl⟩
abbrev main_call3_call0_call0_v62 : Ref sig .tc := ⟨.hbm, 904, rfl⟩
abbrev main_call3_call0_call0_v63 : Ref sig .tc := ⟨.hbm, 905, rfl⟩
abbrev main_call3_call0_call0_c_16 : Ref sig .tc := ⟨.hbm, 906, rfl⟩
abbrev main_call3_call0_call0_v64 : Ref sig .tc := ⟨.hbm, 907, rfl⟩
abbrev main_call3_call0_call0_v65 : Ref sig .tc := ⟨.hbm, 908, rfl⟩
abbrev main_call3_call0_call0_v66 : Ref sig .tc := ⟨.hbm, 909, rfl⟩
abbrev main_call3_call0_call0_v67 : Ref sig .tc := ⟨.hbm, 910, rfl⟩
abbrev main_call3_call0_call0_v68 : Ref sig .tc := ⟨.hbm, 911, rfl⟩
abbrev main_call3_call0_call0_v69 : Ref sig .tc := ⟨.hbm, 912, rfl⟩
abbrev main_call3_call0_call0_v70 : Ref sig .tc := ⟨.hbm, 913, rfl⟩
abbrev main_call3_call0_call0_v71 : Ref sig .tc := ⟨.hbm, 914, rfl⟩
abbrev main_call3_call0_call0_c_17 : Ref sig .tc := ⟨.hbm, 915, rfl⟩
abbrev main_call3_call0_call0_v72 : Ref sig .tc := ⟨.hbm, 916, rfl⟩
abbrev main_call3_call0_call0_v73 : Ref sig .tc := ⟨.hbm, 917, rfl⟩
abbrev main_call3_call0_call0_v74 : Ref sig .tc := ⟨.hbm, 918, rfl⟩
abbrev main_call3_call0_call0_c_18 : Ref sig .tc := ⟨.hbm, 919, rfl⟩
abbrev main_call3_call0_call0_v75 : Ref sig .tc := ⟨.hbm, 920, rfl⟩
abbrev main_call3_call0_call0_v76 : Ref sig .tc := ⟨.hbm, 921, rfl⟩
abbrev main_call3_call0_call0_c_19 : Ref sig .tc := ⟨.hbm, 922, rfl⟩
abbrev main_call3_call0_call0_v77 : Ref sig .tc := ⟨.hbm, 923, rfl⟩
abbrev main_call3_call0_call0_v78 : Ref sig .tc := ⟨.hbm, 924, rfl⟩
abbrev main_call3_call0_call0_v79 : Ref sig .tc := ⟨.hbm, 925, rfl⟩
abbrev main_call3_call0_call0_v80 : Ref sig .tc := ⟨.hbm, 926, rfl⟩
abbrev main_call3_call0_call0_v81 : Ref sig .tc := ⟨.hbm, 927, rfl⟩
abbrev main_call3_call0_call0_c_20 : Ref sig .tc := ⟨.hbm, 928, rfl⟩
abbrev main_call3_call0_call0_v82 : Ref sig .tc := ⟨.hbm, 929, rfl⟩
abbrev main_call3_call0_call0_v83 : Ref sig .tc := ⟨.hbm, 930, rfl⟩
abbrev main_call3_call0_call0_c_21 : Ref sig .tc := ⟨.hbm, 931, rfl⟩
abbrev main_call3_call0_call0_v84 : Ref sig .tc := ⟨.hbm, 932, rfl⟩
abbrev main_call3_call0_call0_v85 : Ref sig .tc := ⟨.hbm, 933, rfl⟩
abbrev main_call3_call0_call0_v86 : Ref sig .tc := ⟨.hbm, 934, rfl⟩
abbrev main_call3_call0_call0_v87 : Ref sig .tc := ⟨.hbm, 935, rfl⟩
abbrev main_call3_call0_call0_v88 : Ref sig .tc := ⟨.hbm, 936, rfl⟩
abbrev main_call3_call0_call0_c_22 : Ref sig .tc := ⟨.hbm, 937, rfl⟩
abbrev main_call3_call0_call0_v89 : Ref sig .tc := ⟨.hbm, 938, rfl⟩
abbrev main_call3_call0_call0_v90 : Ref sig .tc := ⟨.hbm, 939, rfl⟩
abbrev main_call3_call0_call0_c_23 : Ref sig .tc := ⟨.hbm, 940, rfl⟩
abbrev main_call3_call0_call0_v91 : Ref sig .tc := ⟨.hbm, 941, rfl⟩
abbrev main_call3_call0_call0_v92 : Ref sig .tc := ⟨.hbm, 942, rfl⟩
abbrev main_call3_call0_call0_v93 : Ref sig .tc := ⟨.hbm, 943, rfl⟩
abbrev main_call3_call0_call0_v94 : Ref sig .tc := ⟨.hbm, 944, rfl⟩
abbrev main_call3_call0_call0_v95 : Ref sig .tc := ⟨.hbm, 945, rfl⟩
abbrev main_call3_call0_call0_c_24 : Ref sig .tc := ⟨.hbm, 946, rfl⟩
abbrev main_call3_call0_call0_v96 : Ref sig .tc := ⟨.hbm, 947, rfl⟩
abbrev main_call3_call0_call0_v97 : Ref sig .tc := ⟨.hbm, 948, rfl⟩
abbrev main_call3_call0_call0_c_25 : Ref sig .tc := ⟨.hbm, 949, rfl⟩
abbrev main_call3_call0_call0_v98 : Ref sig .tc := ⟨.hbm, 950, rfl⟩
abbrev main_call3_call0_call0_v99 : Ref sig .tc := ⟨.hbm, 951, rfl⟩
abbrev main_call3_call0_call0_v100 : Ref sig .tc := ⟨.hbm, 952, rfl⟩
abbrev main_call3_call0_call0_v101 : Ref sig .tc := ⟨.hbm, 953, rfl⟩
abbrev main_call3_call0_call0_v102 : Ref sig .tc := ⟨.hbm, 954, rfl⟩
abbrev main_call3_call0_call0_v103 : Ref sig .tc := ⟨.hbm, 955, rfl⟩
abbrev main_call3_call0_call0_v104 : Ref sig .tc := ⟨.hbm, 956, rfl⟩
abbrev main_call3_call0_call0_v105 : Ref sig .tc := ⟨.hbm, 957, rfl⟩
abbrev main_call3_call0_call0_c_26 : Ref sig .tc := ⟨.hbm, 958, rfl⟩
abbrev main_call3_call0_call0_v106 : Ref sig .tc := ⟨.hbm, 959, rfl⟩
abbrev main_call3_call0_call0_v107 : Ref sig .tc := ⟨.hbm, 960, rfl⟩
abbrev main_call3_call0_call0_v108 : Ref sig .tc := ⟨.hbm, 961, rfl⟩
abbrev main_call3_call0_call0_c_27 : Ref sig .tc := ⟨.hbm, 962, rfl⟩
abbrev main_call3_call0_call0_v109 : Ref sig .tc := ⟨.hbm, 963, rfl⟩
abbrev main_call3_call0_call0_v110 : Ref sig .tc := ⟨.hbm, 964, rfl⟩
abbrev main_call3_call0_call0_c_28 : Ref sig .tc := ⟨.hbm, 965, rfl⟩
abbrev main_call3_call0_call0_v111 : Ref sig .tc := ⟨.hbm, 966, rfl⟩
abbrev main_call3_call0_call0_v112 : Ref sig .tc := ⟨.hbm, 967, rfl⟩
abbrev main_call3_call0_call0_v113 : Ref sig .tc := ⟨.hbm, 968, rfl⟩
abbrev main_call3_call0_call0_v114 : Ref sig .tc := ⟨.hbm, 969, rfl⟩
abbrev main_call3_call0_call0_v115 : Ref sig .tc := ⟨.hbm, 970, rfl⟩
abbrev main_call3_call0_call0_c_29 : Ref sig .tc := ⟨.hbm, 971, rfl⟩
abbrev main_call3_call0_call0_v116 : Ref sig .tc := ⟨.hbm, 972, rfl⟩
abbrev main_call3_call0_call0_v117 : Ref sig .tc := ⟨.hbm, 973, rfl⟩
abbrev main_call3_call0_call0_c_30 : Ref sig .tc := ⟨.hbm, 974, rfl⟩
abbrev main_call3_call0_call0_v118 : Ref sig .tc := ⟨.hbm, 975, rfl⟩
abbrev main_call3_call0_call0_v119 : Ref sig .tc := ⟨.hbm, 976, rfl⟩
abbrev main_call3_call0_call0_v120 : Ref sig .tc := ⟨.hbm, 977, rfl⟩
abbrev main_call3_call0_call0_v121 : Ref sig .tc := ⟨.hbm, 978, rfl⟩
abbrev main_call3_call0_call0_v122 : Ref sig .tc := ⟨.hbm, 979, rfl⟩
abbrev main_call3_call0_call0_c_31 : Ref sig .tc := ⟨.hbm, 980, rfl⟩
abbrev main_call3_call0_call0_v123 : Ref sig .tc := ⟨.hbm, 981, rfl⟩
abbrev main_call3_call0_call0_v124 : Ref sig .tc := ⟨.hbm, 982, rfl⟩
abbrev main_call3_call0_call0_c_32 : Ref sig .tc := ⟨.hbm, 983, rfl⟩
abbrev main_call3_call0_call0_v125 : Ref sig .tc := ⟨.hbm, 984, rfl⟩
abbrev main_call3_call0_call0_v126 : Ref sig .tc := ⟨.hbm, 985, rfl⟩
abbrev main_call3_call0_call0_v127 : Ref sig .tc := ⟨.hbm, 986, rfl⟩
abbrev main_call3_call0_call0_v128 : Ref sig .tc := ⟨.hbm, 987, rfl⟩
abbrev main_call3_call0_call0_v129 : Ref sig .tc := ⟨.hbm, 988, rfl⟩
abbrev main_call3_call0_call0_c_33 : Ref sig .tc := ⟨.hbm, 989, rfl⟩
abbrev main_call3_call0_call0_v130 : Ref sig .tc := ⟨.hbm, 990, rfl⟩
abbrev main_call3_call0_call0_v131 : Ref sig .tc := ⟨.hbm, 991, rfl⟩
abbrev main_call3_call0_call0_c_34 : Ref sig .tc := ⟨.hbm, 992, rfl⟩
abbrev main_call3_call0_call0_v132 : Ref sig .tc := ⟨.hbm, 993, rfl⟩
abbrev main_call3_call0_call0_v133 : Ref sig .tc := ⟨.hbm, 994, rfl⟩
abbrev main_call3_call0_call0_v134 : Ref sig .tc := ⟨.hbm, 995, rfl⟩
abbrev main_call3_call0_call0_v135 : Ref sig .tc := ⟨.hbm, 996, rfl⟩
abbrev main_call3_call0_call0_v136 : Ref sig .tc := ⟨.hbm, 997, rfl⟩
abbrev main_call3_call0_call0_v137 : Ref sig .tc := ⟨.hbm, 998, rfl⟩
abbrev main_call3_call0_call0_v138 : Ref sig .tc := ⟨.hbm, 999, rfl⟩
abbrev main_call3_call0_call0_v139 : Ref sig .tc := ⟨.hbm, 1000, rfl⟩
abbrev main_call3_call0_call0_c_35 : Ref sig .tc := ⟨.hbm, 1001, rfl⟩
abbrev main_call3_call0_call0_v140 : Ref sig .tc := ⟨.hbm, 1002, rfl⟩
abbrev main_call3_call0_call0_v141 : Ref sig .tc := ⟨.hbm, 1003, rfl⟩
abbrev main_call3_call0_call0_v142 : Ref sig .tc := ⟨.hbm, 1004, rfl⟩
abbrev main_call3_call0_call0_c_36 : Ref sig .tc := ⟨.hbm, 1005, rfl⟩
abbrev main_call3_call0_call0_v143 : Ref sig .tc := ⟨.hbm, 1006, rfl⟩
abbrev main_call3_call0_call0_v144 : Ref sig .tc := ⟨.hbm, 1007, rfl⟩
abbrev main_call3_call0_call0_c_37 : Ref sig .tc := ⟨.hbm, 1008, rfl⟩
abbrev main_call3_call0_call0_v145 : Ref sig .tc := ⟨.hbm, 1009, rfl⟩
abbrev main_call3_call0_call0_v146 : Ref sig .tc := ⟨.hbm, 1010, rfl⟩
abbrev main_call3_call0_call0_v147 : Ref sig .tc := ⟨.hbm, 1011, rfl⟩
abbrev main_call3_call0_call0_v148 : Ref sig .tc := ⟨.hbm, 1012, rfl⟩
abbrev main_call3_call0_call0_v149 : Ref sig .tc := ⟨.hbm, 1013, rfl⟩
abbrev main_call3_call0_call0_c_38 : Ref sig .tc := ⟨.hbm, 1014, rfl⟩
abbrev main_call3_call0_call0_v150 : Ref sig .tc := ⟨.hbm, 1015, rfl⟩
abbrev main_call3_call0_call0_v151 : Ref sig .tc := ⟨.hbm, 1016, rfl⟩
abbrev main_call3_call0_call0_c_39 : Ref sig .tc := ⟨.hbm, 1017, rfl⟩
abbrev main_call3_call0_call0_v152 : Ref sig .tc := ⟨.hbm, 1018, rfl⟩
abbrev main_call3_call0_call0_v153 : Ref sig .tc := ⟨.hbm, 1019, rfl⟩
abbrev main_call3_call0_call0_v154 : Ref sig .tc := ⟨.hbm, 1020, rfl⟩
abbrev main_call3_call0_call0_v155 : Ref sig .tc := ⟨.hbm, 1021, rfl⟩
abbrev main_call3_call0_call0_v156 : Ref sig .tc := ⟨.hbm, 1022, rfl⟩
abbrev main_call3_call0_call0_c_40 : Ref sig .tc := ⟨.hbm, 1023, rfl⟩
abbrev main_call3_call0_call0_v157 : Ref sig .tc := ⟨.hbm, 1024, rfl⟩
abbrev main_call3_call0_call0_v158 : Ref sig .tc := ⟨.hbm, 1025, rfl⟩
abbrev main_call3_call0_call0_c_41 : Ref sig .tc := ⟨.hbm, 1026, rfl⟩
abbrev main_call3_call0_call0_v159 : Ref sig .tc := ⟨.hbm, 1027, rfl⟩
abbrev main_call3_call0_call0_v160 : Ref sig .tc := ⟨.hbm, 1028, rfl⟩
abbrev main_call3_call0_call0_v161 : Ref sig .tc := ⟨.hbm, 1029, rfl⟩
abbrev main_call3_call0_call0_v162 : Ref sig .tc := ⟨.hbm, 1030, rfl⟩
abbrev main_call3_call0_call0_v163 : Ref sig .tc := ⟨.hbm, 1031, rfl⟩
abbrev main_call3_call0_call0_c_42 : Ref sig .tc := ⟨.hbm, 1032, rfl⟩
abbrev main_call3_call0_call0_v164 : Ref sig .tc := ⟨.hbm, 1033, rfl⟩
abbrev main_call3_call0_call0_v165 : Ref sig .tc := ⟨.hbm, 1034, rfl⟩
abbrev main_call3_call0_call0_c_43 : Ref sig .tc := ⟨.hbm, 1035, rfl⟩
abbrev main_call3_call0_call0_v166 : Ref sig .tc := ⟨.hbm, 1036, rfl⟩
abbrev main_call3_call0_call0_v167 : Ref sig .tc := ⟨.hbm, 1037, rfl⟩
abbrev main_call3_call0_call0_v168 : Ref sig .tc := ⟨.hbm, 1038, rfl⟩
abbrev main_call3_call0_call0_v169 : Ref sig .tc := ⟨.hbm, 1039, rfl⟩
abbrev main_call3_call0_call0_v170 : Ref sig .tc := ⟨.hbm, 1040, rfl⟩
abbrev main_call3_call0_v18_0 : Ref sig .tc := ⟨.hbm, 1041, rfl⟩
abbrev main_call3_call0_call0_v172 : Ref sig .tc := ⟨.hbm, 1042, rfl⟩
abbrev main_call3_call0_call0_v173 : Ref sig .tc := ⟨.hbm, 1043, rfl⟩
abbrev main_call3_call0_call0_c_44 : Ref sig .tc := ⟨.hbm, 1044, rfl⟩
abbrev main_call3_call0_call0_v174 : Ref sig .tc := ⟨.hbm, 1045, rfl⟩
abbrev main_call3_call0_v18_1 : Ref sig .tc := ⟨.hbm, 1046, rfl⟩
abbrev main_call3_call0_v19 : Ref sig .tc := ⟨.hbm, 1047, rfl⟩
abbrev main_call3_call0_c_2 : Ref sig .tc := ⟨.hbm, 1048, rfl⟩
abbrev main_call3_call0_v20 : Ref sig .tc := ⟨.hbm, 1049, rfl⟩
abbrev main_call3_call0_v21 : Ref sig .tc := ⟨.hbm, 1050, rfl⟩
abbrev main_call3_call0_c_3 : Ref sig .tc := ⟨.hbm, 1051, rfl⟩
abbrev main_call3_call0_v22 : Ref sig .tc := ⟨.hbm, 1052, rfl⟩
abbrev main_call3_call0_v23 : Ref sig .tc := ⟨.hbm, 1053, rfl⟩
abbrev main_call3_call0_v24 : Ref sig .tc := ⟨.hbm, 1054, rfl⟩
abbrev main_call3_call0_cst : Ref sig .tc := ⟨.hbm, 1055, rfl⟩
abbrev main_call3_call0_v25 : Ref sig .tc := ⟨.hbm, 1056, rfl⟩
abbrev main_call3_call0_v26 : Ref sig .tc := ⟨.hbm, 1057, rfl⟩
abbrev main_call3_call0_v27 : Ref sig .tc := ⟨.hbm, 1058, rfl⟩
abbrev main_call3_call0_v28 : Ref sig .tc := ⟨.hbm, 1059, rfl⟩
abbrev main_call3_call0_v29 : Ref sig .tc := ⟨.hbm, 1060, rfl⟩
abbrev main_call3_call0_v30 : Ref sig .tc := ⟨.hbm, 1061, rfl⟩
abbrev main_call3_call0_v31 : Ref sig .tc := ⟨.hbm, 1062, rfl⟩
abbrev main_call3_call0_v32 : Ref sig .tc := ⟨.hbm, 1063, rfl⟩
abbrev main_call3_v0 : Ref sig .tc := ⟨.hbm, 1064, rfl⟩
abbrev main_call3_v1 : Ref sig .tc := ⟨.hbm, 1065, rfl⟩
abbrev main_call3_v2 : Ref sig .tc := ⟨.hbm, 1066, rfl⟩
abbrev main_call3_v3 : Ref sig .tc := ⟨.hbm, 1067, rfl⟩
abbrev main_v16 : Ref sig .tc := ⟨.hbm, 1068, rfl⟩
abbrev main_v17 : Ref sig .tc := ⟨.hbm, 1069, rfl⟩
abbrev main_cst : Ref sig .tc := ⟨.hbm, 1070, rfl⟩
abbrev main_v18 : Ref sig .tc := ⟨.hbm, 1071, rfl⟩
abbrev main_v19 : Ref sig .tc := ⟨.hbm, 1072, rfl⟩
abbrev main_v20 : Ref sig .tc := ⟨.hbm, 1073, rfl⟩
abbrev main_v21 : Ref sig .tc := ⟨.hbm, 1074, rfl⟩
abbrev main_v22 : Ref sig .tc := ⟨.hbm, 1075, rfl⟩
abbrev main_v23 : Ref sig .tc := ⟨.hbm, 1076, rfl⟩
abbrev main_v24 : Ref sig .tc := ⟨.hbm, 1077, rfl⟩
abbrev main_v25 : Ref sig .tc := ⟨.hbm, 1078, rfl⟩
abbrev main_v26 : Ref sig .tc := ⟨.hbm, 1079, rfl⟩
abbrev main_v27 : Ref sig .tc := ⟨.hbm, 1080, rfl⟩
abbrev main_v28 : Ref sig .tc := ⟨.hbm, 1081, rfl⟩
abbrev main_v29 : Ref sig .tc := ⟨.hbm, 1082, rfl⟩
abbrev main_v30 : Ref sig .tc := ⟨.hbm, 1083, rfl⟩
abbrev main_v31_0 : Ref sig .tc := ⟨.hbm, 1084, rfl⟩
abbrev main_v31_1 : Ref sig .tc := ⟨.hbm, 1085, rfl⟩
abbrev main_v32 : Ref sig .tc := ⟨.hbm, 1086, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg16_1 : Ref sig .tc := ⟨.vmem, 16, rfl⟩
abbrev cc0_stg17_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_stg7_0 : Ref sig .tc := ⟨.smem, 0, rfl⟩
abbrev cc0_stg10_0 : Ref sig .tc := ⟨.smem, 1, rfl⟩
abbrev cc0_scratch5 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_13 : Index := 0#32
  let arg0 : BitVec 32 := BitVec.ofNat 32 (i 0).val
  let c1024_i32 : BitVec 32 := 1024#32
  let v24 : BitVec 32 := Scalar.muli arg0 c1024_i32
  let v25 : Index := Scalar.indexCast v24
  ![0, v25.toNat]
def k0_off2 (i : grid0.Coords) : Fin 3 → Nat :=
  let arg0 : BitVec 32 := BitVec.ofNat 32 (i 0).val
  let v30 : Index := Scalar.indexCast arg0
  let c0_14 : Index := 0#32
  let c0_15 : Index := 0#32
  ![v30.toNat, 0, 0]
def k0_cond5 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def k0_off3 (i : grid0.Coords) : Fin 3 → Nat :=
  let arg0 : BitVec 32 := BitVec.ofNat 32 (i 0).val
  let c8_i32_4 : BitVec 32 := 8#32
  let v9 : BitVec 32 := Scalar.subi arg0 c8_i32_4
  let v12 : Index := Scalar.indexCast v9
  let c0_6 : Index := 0#32
  let c0_7 : Index := 0#32
  ![v12.toNat, 0, 0]
def k0_off4 (i : grid0.Coords) : Fin 2 → Nat :=
  let c0_13 : Index := 0#32
  let arg0 : BitVec 32 := BitVec.ofNat 32 (i 0).val
  let c8_i32_4 : BitVec 32 := 8#32
  let v9 : BitVec 32 := Scalar.subi arg0 c8_i32_4
  let c1024_i32 : BitVec 32 := 1024#32
  let v26 : BitVec 32 := Scalar.muli v9 c1024_i32
  let v27 : Index := Scalar.indexCast v26
  ![0, v27.toNat]
def k0_cond6 (i : grid0.Coords) : BitVec 1 :=
  let arg0 : BitVec 32 := BitVec.ofNat 32 (i 0).val
  let c15_i32 : BitVec 32 := 15#32
  let v31 : BitVec 1 := Scalar.cmpi .eq arg0 c15_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2368 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x8192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x16386 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S1x8192x768 : Shape := ⟨3, ![1, 8192, 768]⟩
abbrev S768x768 : Shape := ⟨2, ![768, 768]⟩
abbrev S768 : Shape := ⟨1, ![768]⟩
abbrev S768x1 : Shape := ⟨2, ![768, 1]⟩
abbrev S1 : Shape := ⟨1, ![1]⟩
abbrev S769x768 : Shape := ⟨2, ![769, 768]⟩
abbrev S768x2 : Shape := ⟨2, ![768, 2]⟩
abbrev S2 : Shape := ⟨1, ![2]⟩
abbrev S768x64 : Shape := ⟨2, ![768, 64]⟩
abbrev S64 : Shape := ⟨1, ![64]⟩
abbrev S_ : Shape := ⟨0, ![]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S1x1x768 : Shape := ⟨3, ![1, 1, 768]⟩
abbrev S1x8192x1 : Shape := ⟨3, ![1, 8192, 1]⟩
abbrev S1x1x1 : Shape := ⟨3, ![1, 1, 1]⟩
abbrev S1x8192 : Shape := ⟨2, ![1, 8192]⟩
abbrev S1x1 : Shape := ⟨2, ![1, 1]⟩
abbrev S1x1x8192 : Shape := ⟨3, ![1, 1, 8192]⟩
abbrev S1x1x1x1x1x1 : Shape := ⟨6, ![1, 1, 1, 1, 1, 1]⟩
abbrev S1x1x8192x1x1x1 : Shape := ⟨6, ![1, 1, 8192, 1, 1, 1]⟩
abbrev S1x8192x769 : Shape := ⟨3, ![1, 8192, 769]⟩
abbrev S1x1x2 : Shape := ⟨3, ![1, 1, 2]⟩
abbrev S1x768 : Shape := ⟨2, ![1, 768]⟩
abbrev S1x16386 : Shape := ⟨2, ![1, 16386]⟩
abbrev S1x8192x64 : Shape := ⟨3, ![1, 8192, 64]⟩
abbrev S1x1x64 : Shape := ⟨3, ![1, 1, 64]⟩

abbrev nBuf : Space → Nat
  | .hbm => 1237
  | .vmem => 0
  | .smem => 0
  | _ => 0

abbrev hbmTy0_0 (i : Nat) : BufTy := match i % 128 with
  | 0 => ⟨S1x8192x768, .f32⟩
  | 1 => ⟨S768x768, .f32⟩
  | 2 => ⟨S768, .f32⟩
  | 3 => ⟨S768x1, .f32⟩
  | 4 => ⟨S1, .f32⟩
  | 5 => ⟨S769x768, .f32⟩
  | 6 => ⟨S768, .f32⟩
  | 7 => ⟨S768x1, .f32⟩
  | 8 => ⟨S1, .f32⟩
  | 9 => ⟨S768x768, .f32⟩
  | 10 => ⟨S768x2, .f32⟩
  | 11 => ⟨S2, .f32⟩
  | 12 => ⟨S768x64, .f32⟩
  | 13 => ⟨S64, .f32⟩
  | 14 => ⟨S_, .i32⟩
  | 15 => ⟨S_, .i32⟩
  | 16 => ⟨S_, .i32⟩
  | 17 => ⟨S_, .i32⟩
  | 18 => ⟨S1, .i32⟩
  | 19 => ⟨S_, .i32⟩
  | 20 => ⟨S_, .i32⟩
  | 21 => ⟨S_, .i32⟩
  | 22 => ⟨S1, .i32⟩
  | 23 => ⟨S2, .i32⟩
  | 24 => ⟨S1, .i32⟩
  | 25 => ⟨S_, .i32⟩
  | 26 => ⟨S1, .i32⟩
  | 27 => ⟨S_, .i32⟩
  | 28 => ⟨S3, .i64⟩
  | 29 => ⟨S_, .i64⟩
  | 30 => ⟨S3, .i64⟩
  | 31 => ⟨S3, .i64⟩
  | 32 => ⟨S_, .i64⟩
  | 33 => ⟨S3, .i64⟩
  | 34 => ⟨S3, .i64⟩
  | 35 => ⟨S3, .i32⟩
  | 36 => ⟨S3, .i32⟩
  | 37 => ⟨S_, .i32⟩
  | 38 => ⟨S_, .i32⟩
  | 39 => ⟨S_, .i32⟩
  | 40 => ⟨S3, .i32⟩
  | 41 => ⟨S3, .i32⟩
  | 42 => ⟨S3, .i32⟩
  | 43 => ⟨S3, .i32⟩
  | 44 => ⟨S3, .i32⟩
  | 45 => ⟨S_, .i32⟩
  | 46 => ⟨S3, .i32⟩
  | 47 => ⟨S3, .i32⟩
  | 48 => ⟨S_, .i32⟩
  | 49 => ⟨S3, .i32⟩
  | 50 => ⟨S3, .i32⟩
  | 51 => ⟨S3, .i32⟩
  | 52 => ⟨S3, .i32⟩
  | 53 => ⟨S3, .i32⟩
  | 54 => ⟨S_, .i32⟩
  | 55 => ⟨S3, .i32⟩
  | 56 => ⟨S3, .i32⟩
  | 57 => ⟨S_, .i32⟩
  | 58 => ⟨S3, .i32⟩
  | 59 => ⟨S3, .i32⟩
  | 60 => ⟨S3, .i32⟩
  | 61 => ⟨S3, .i32⟩
  | 62 => ⟨S3, .i32⟩
  | 63 => ⟨S_, .i32⟩
  | 64 => ⟨S3, .i32⟩
  | 65 => ⟨S3, .i32⟩
  | 66 => ⟨S_, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S_, .i32⟩
  | 76 => ⟨S3, .i32⟩
  | 77 => ⟨S3, .i32⟩
  | 78 => ⟨S3, .i32⟩
  | 79 => ⟨S3, .i32⟩
  | 80 => ⟨S3, .i32⟩
  | 81 => ⟨S3, .i32⟩
  | 82 => ⟨S3, .i32⟩
  | 83 => ⟨S3, .i32⟩
  | 84 => ⟨S_, .i32⟩
  | 85 => ⟨S3, .i32⟩
  | 86 => ⟨S3, .i32⟩
  | 87 => ⟨S3, .i32⟩
  | 88 => ⟨S_, .i32⟩
  | 89 => ⟨S3, .i32⟩
  | 90 => ⟨S3, .i32⟩
  | 91 => ⟨S_, .i32⟩
  | 92 => ⟨S3, .i32⟩
  | 93 => ⟨S3, .i32⟩
  | 94 => ⟨S3, .i32⟩
  | 95 => ⟨S3, .i32⟩
  | 96 => ⟨S3, .i32⟩
  | 97 => ⟨S_, .i32⟩
  | 98 => ⟨S3, .i32⟩
  | 99 => ⟨S3, .i32⟩
  | 100 => ⟨S_, .i32⟩
  | 101 => ⟨S3, .i32⟩
  | 102 => ⟨S3, .i32⟩
  | 103 => ⟨S3, .i32⟩
  | 104 => ⟨S3, .i32⟩
  | 105 => ⟨S3, .i32⟩
  | 106 => ⟨S_, .i32⟩
  | 107 => ⟨S3, .i32⟩
  | 108 => ⟨S3, .i32⟩
  | 109 => ⟨S_, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S_, .i32⟩
  | 119 => ⟨S3, .i32⟩
  | 120 => ⟨S3, .i32⟩
  | 121 => ⟨S3, .i32⟩
  | 122 => ⟨S3, .i32⟩
  | 123 => ⟨S3, .i32⟩
  | 124 => ⟨S3, .i32⟩
  | 125 => ⟨S3, .i32⟩
  | 126 => ⟨S3, .i32⟩
  | 127 => ⟨S_, .i32⟩
  | _ => ⟨S1x8192x768, .f32⟩

abbrev hbmTy0_1 (i : Nat) : BufTy := match i % 128 with
  | 0 => ⟨S3, .i32⟩
  | 1 => ⟨S3, .i32⟩
  | 2 => ⟨S3, .i32⟩
  | 3 => ⟨S_, .i32⟩
  | 4 => ⟨S3, .i32⟩
  | 5 => ⟨S3, .i32⟩
  | 6 => ⟨S_, .i32⟩
  | 7 => ⟨S3, .i32⟩
  | 8 => ⟨S3, .i32⟩
  | 9 => ⟨S3, .i32⟩
  | 10 => ⟨S3, .i32⟩
  | 11 => ⟨S3, .i32⟩
  | 12 => ⟨S_, .i32⟩
  | 13 => ⟨S3, .i32⟩
  | 14 => ⟨S3, .i32⟩
  | 15 => ⟨S_, .i32⟩
  | 16 => ⟨S3, .i32⟩
  | 17 => ⟨S3, .i32⟩
  | 18 => ⟨S3, .i32⟩
  | 19 => ⟨S3, .i32⟩
  | 20 => ⟨S3, .i32⟩
  | 21 => ⟨S_, .i32⟩
  | 22 => ⟨S3, .i32⟩
  | 23 => ⟨S3, .i32⟩
  | 24 => ⟨S_, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S_, .i32⟩
  | 34 => ⟨S3, .i32⟩
  | 35 => ⟨S3, .i32⟩
  | 36 => ⟨S3, .i32⟩
  | 37 => ⟨S3, .i32⟩
  | 38 => ⟨S3, .i32⟩
  | 39 => ⟨S3, .i32⟩
  | 40 => ⟨S3, .i32⟩
  | 41 => ⟨S3, .i32⟩
  | 42 => ⟨S_, .i32⟩
  | 43 => ⟨S3, .i32⟩
  | 44 => ⟨S3, .i32⟩
  | 45 => ⟨S3, .i32⟩
  | 46 => ⟨S_, .i32⟩
  | 47 => ⟨S3, .i32⟩
  | 48 => ⟨S3, .i32⟩
  | 49 => ⟨S_, .i32⟩
  | 50 => ⟨S3, .i32⟩
  | 51 => ⟨S3, .i32⟩
  | 52 => ⟨S3, .i32⟩
  | 53 => ⟨S3, .i32⟩
  | 54 => ⟨S3, .i32⟩
  | 55 => ⟨S_, .i32⟩
  | 56 => ⟨S3, .i32⟩
  | 57 => ⟨S3, .i32⟩
  | 58 => ⟨S_, .i32⟩
  | 59 => ⟨S3, .i32⟩
  | 60 => ⟨S3, .i32⟩
  | 61 => ⟨S3, .i32⟩
  | 62 => ⟨S3, .i32⟩
  | 63 => ⟨S3, .i32⟩
  | 64 => ⟨S_, .i32⟩
  | 65 => ⟨S3, .i32⟩
  | 66 => ⟨S3, .i32⟩
  | 67 => ⟨S_, .i32⟩
  | 68 => ⟨S3, .i32⟩
  | 69 => ⟨S3, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S_, .i32⟩
  | 77 => ⟨S3, .i32⟩
  | 78 => ⟨S3, .i32⟩
  | 79 => ⟨S3, .i32⟩
  | 80 => ⟨S3, .i32⟩
  | 81 => ⟨S3, .i32⟩
  | 82 => ⟨S3, .i32⟩
  | 83 => ⟨S3, .i32⟩
  | 84 => ⟨S3, .i32⟩
  | 85 => ⟨S_, .i32⟩
  | 86 => ⟨S3, .i32⟩
  | 87 => ⟨S3, .i32⟩
  | 88 => ⟨S3, .i32⟩
  | 89 => ⟨S_, .i32⟩
  | 90 => ⟨S3, .i32⟩
  | 91 => ⟨S3, .i32⟩
  | 92 => ⟨S_, .i32⟩
  | 93 => ⟨S3, .i32⟩
  | 94 => ⟨S3, .i32⟩
  | 95 => ⟨S3, .i32⟩
  | 96 => ⟨S3, .i32⟩
  | 97 => ⟨S3, .i32⟩
  | 98 => ⟨S_, .i32⟩
  | 99 => ⟨S3, .i32⟩
  | 100 => ⟨S3, .i32⟩
  | 101 => ⟨S_, .i32⟩
  | 102 => ⟨S3, .i32⟩
  | 103 => ⟨S3, .i32⟩
  | 104 => ⟨S3, .i32⟩
  | 105 => ⟨S3, .i32⟩
  | 106 => ⟨S3, .i32⟩
  | 107 => ⟨S_, .i32⟩
  | 108 => ⟨S3, .i32⟩
  | 109 => ⟨S3, .i32⟩
  | 110 => ⟨S_, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S_, .i32⟩
  | 120 => ⟨S3, .i32⟩
  | 121 => ⟨S3, .i32⟩
  | 122 => ⟨S3, .i32⟩
  | 123 => ⟨S3, .i32⟩
  | 124 => ⟨S3, .i32⟩
  | 125 => ⟨S3, .i32⟩
  | 126 => ⟨S3, .i32⟩
  | 127 => ⟨S3, .i32⟩
  | _ => ⟨S1x8192x768, .f32⟩

abbrev hbmTy0_2 (i : Nat) : BufTy := match i % 128 with
  | 0 => ⟨S_, .i32⟩
  | 1 => ⟨S3, .i32⟩
  | 2 => ⟨S3, .i32⟩
  | 3 => ⟨S3x1, .i32⟩
  | 4 => ⟨S3x1, .i32⟩
  | 5 => ⟨S3x2, .i32⟩
  | 6 => ⟨S1x2, .i32⟩
  | 7 => ⟨S2, .i32⟩
  | 8 => ⟨S1x2, .i32⟩
  | 9 => ⟨S2, .i32⟩
  | 10 => ⟨S1x2, .i32⟩
  | 11 => ⟨S2, .i32⟩
  | 12 => ⟨S1x8192x768, .f32⟩
  | 13 => ⟨S1x1x768, .f32⟩
  | 14 => ⟨S1x8192x768, .f32⟩
  | 15 => ⟨S1x8192x768, .f32⟩
  | 16 => ⟨S_, .f32⟩
  | 17 => ⟨S1x8192x768, .f32⟩
  | 18 => ⟨S1x8192x768, .f32⟩
  | 19 => ⟨S1x8192x1, .f32⟩
  | 20 => ⟨S1x1x1, .f32⟩
  | 21 => ⟨S1x8192x1, .f32⟩
  | 22 => ⟨S1x8192x1, .f32⟩
  | 23 => ⟨S1x8192, .f32⟩
  | 24 => ⟨S_, .f32⟩
  | 25 => ⟨S1, .f32⟩
  | 26 => ⟨S_, .f32⟩
  | 27 => ⟨S1, .f32⟩
  | 28 => ⟨S1, .f32⟩
  | 29 => ⟨S1x1, .f32⟩
  | 30 => ⟨S1x8192, .f32⟩
  | 31 => ⟨S1x8192, .f32⟩
  | 32 => ⟨S1x8192, .f32⟩
  | 33 => ⟨S_, .f32⟩
  | 34 => ⟨S1, .f32⟩
  | 35 => ⟨S1x1, .f32⟩
  | 36 => ⟨S1x8192, .f32⟩
  | 37 => ⟨S1x8192, .f32⟩
  | 38 => ⟨S1x8192, .f32⟩
  | 39 => ⟨S_, .f32⟩
  | 40 => ⟨S_, .f32⟩
  | 41 => ⟨S_, .f32⟩
  | 42 => ⟨S1x1, .f32⟩
  | 43 => ⟨S1x1, .f32⟩
  | 44 => ⟨S1, .i32⟩
  | 45 => ⟨S_, .i32⟩
  | 46 => ⟨S1, .i32⟩
  | 47 => ⟨S_, .i32⟩
  | 48 => ⟨S1x8192, .i64⟩
  | 49 => ⟨S1x8192, .i64⟩
  | 50 => ⟨S_, .i64⟩
  | 51 => ⟨S1x8192, .i64⟩
  | 52 => ⟨S1x8192, .i64⟩
  | 53 => ⟨S_, .i64⟩
  | 54 => ⟨S1x8192, .i64⟩
  | 55 => ⟨S1x8192, .i64⟩
  | 56 => ⟨S1x8192, .i64⟩
  | 57 => ⟨S_, .i64⟩
  | 58 => ⟨S1x8192, .i64⟩
  | 59 => ⟨S1x8192, .i64⟩
  | 60 => ⟨S1x8192, .i32⟩
  | 61 => ⟨S1x8192, .i32⟩
  | 62 => ⟨S_, .i32⟩
  | 63 => ⟨S_, .i32⟩
  | 64 => ⟨S_, .i32⟩
  | 65 => ⟨S1x8192, .i32⟩
  | 66 => ⟨S1x8192, .i32⟩
  | 67 => ⟨S1x8192, .i32⟩
  | 68 => ⟨S1x8192, .i32⟩
  | 69 => ⟨S1x8192, .i32⟩
  | 70 => ⟨S_, .i32⟩
  | 71 => ⟨S1x8192, .i32⟩
  | 72 => ⟨S1x8192, .i32⟩
  | 73 => ⟨S_, .i32⟩
  | 74 => ⟨S1x8192, .i32⟩
  | 75 => ⟨S1x8192, .i32⟩
  | 76 => ⟨S1x8192, .i32⟩
  | 77 => ⟨S1x8192, .i32⟩
  | 78 => ⟨S1x8192, .i32⟩
  | 79 => ⟨S_, .i32⟩
  | 80 => ⟨S1x8192, .i32⟩
  | 81 => ⟨S1x8192, .i32⟩
  | 82 => ⟨S_, .i32⟩
  | 83 => ⟨S1x8192, .i32⟩
  | 84 => ⟨S1x8192, .i32⟩
  | 85 => ⟨S1x8192, .i32⟩
  | 86 => ⟨S1x8192, .i32⟩
  | 87 => ⟨S1x8192, .i32⟩
  | 88 => ⟨S_, .i32⟩
  | 89 => ⟨S1x8192, .i32⟩
  | 90 => ⟨S1x8192, .i32⟩
  | 91 => ⟨S_, .i32⟩
  | 92 => ⟨S1x8192, .i32⟩
  | 93 => ⟨S1x8192, .i32⟩
  | 94 => ⟨S1x8192, .i32⟩
  | 95 => ⟨S1x8192, .i32⟩
  | 96 => ⟨S1x8192, .i32⟩
  | 97 => ⟨S_, .i32⟩
  | 98 => ⟨S1x8192, .i32⟩
  | 99 => ⟨S1x8192, .i32⟩
  | 100 => ⟨S_, .i32⟩
  | 101 => ⟨S1x8192, .i32⟩
  | 102 => ⟨S1x8192, .i32⟩
  | 103 => ⟨S1x8192, .i32⟩
  | 104 => ⟨S1x8192, .i32⟩
  | 105 => ⟨S1x8192, .i32⟩
  | 106 => ⟨S1x8192, .i32⟩
  | 107 => ⟨S1x8192, .i32⟩
  | 108 => ⟨S1x8192, .i32⟩
  | 109 => ⟨S_, .i32⟩
  | 110 => ⟨S1x8192, .i32⟩
  | 111 => ⟨S1x8192, .i32⟩
  | 112 => ⟨S1x8192, .i32⟩
  | 113 => ⟨S_, .i32⟩
  | 114 => ⟨S1x8192, .i32⟩
  | 115 => ⟨S1x8192, .i32⟩
  | 116 => ⟨S_, .i32⟩
  | 117 => ⟨S1x8192, .i32⟩
  | 118 => ⟨S1x8192, .i32⟩
  | 119 => ⟨S1x8192, .i32⟩
  | 120 => ⟨S1x8192, .i32⟩
  | 121 => ⟨S1x8192, .i32⟩
  | 122 => ⟨S_, .i32⟩
  | 123 => ⟨S1x8192, .i32⟩
  | 124 => ⟨S1x8192, .i32⟩
  | 125 => ⟨S_, .i32⟩
  | 126 => ⟨S1x8192, .i32⟩
  | 127 => ⟨S1x8192, .i32⟩
  | _ => ⟨S1x8192x768, .f32⟩

abbrev hbmTy0_3 (i : Nat) : BufTy := match i % 128 with
  | 0 => ⟨S1x8192, .i32⟩
  | 1 => ⟨S1x8192, .i32⟩
  | 2 => ⟨S1x8192, .i32⟩
  | 3 => ⟨S_, .i32⟩
  | 4 => ⟨S1x8192, .i32⟩
  | 5 => ⟨S1x8192, .i32⟩
  | 6 => ⟨S_, .i32⟩
  | 7 => ⟨S1x8192, .i32⟩
  | 8 => ⟨S1x8192, .i32⟩
  | 9 => ⟨S1x8192, .i32⟩
  | 10 => ⟨S1x8192, .i32⟩
  | 11 => ⟨S1x8192, .i32⟩
  | 12 => ⟨S_, .i32⟩
  | 13 => ⟨S1x8192, .i32⟩
  | 14 => ⟨S1x8192, .i32⟩
  | 15 => ⟨S_, .i32⟩
  | 16 => ⟨S1x8192, .i32⟩
  | 17 => ⟨S1x8192, .i32⟩
  | 18 => ⟨S1x8192, .i32⟩
  | 19 => ⟨S1x8192, .i32⟩
  | 20 => ⟨S1x8192, .i32⟩
  | 21 => ⟨S1x8192, .i32⟩
  | 22 => ⟨S1x8192, .i32⟩
  | 23 => ⟨S1x8192, .i32⟩
  | 24 => ⟨S_, .i32⟩
  | 25 => ⟨S1x8192, .i32⟩
  | 26 => ⟨S1x8192, .i32⟩
  | 27 => ⟨S1x8192, .i32⟩
  | 28 => ⟨S_, .i32⟩
  | 29 => ⟨S1x8192, .i32⟩
  | 30 => ⟨S1x8192, .i32⟩
  | 31 => ⟨S_, .i32⟩
  | 32 => ⟨S1x8192, .i32⟩
  | 33 => ⟨S1x8192, .i32⟩
  | 34 => ⟨S1x8192, .i32⟩
  | 35 => ⟨S1x8192, .i32⟩
  | 36 => ⟨S1x8192, .i32⟩
  | 37 => ⟨S_, .i32⟩
  | 38 => ⟨S1x8192, .i32⟩
  | 39 => ⟨S1x8192, .i32⟩
  | 40 => ⟨S_, .i32⟩
  | 41 => ⟨S1x8192, .i32⟩
  | 42 => ⟨S1x8192, .i32⟩
  | 43 => ⟨S1x8192, .i32⟩
  | 44 => ⟨S1x8192, .i32⟩
  | 45 => ⟨S1x8192, .i32⟩
  | 46 => ⟨S_, .i32⟩
  | 47 => ⟨S1x8192, .i32⟩
  | 48 => ⟨S1x8192, .i32⟩
  | 49 => ⟨S_, .i32⟩
  | 50 => ⟨S1x8192, .i32⟩
  | 51 => ⟨S1x8192, .i32⟩
  | 52 => ⟨S1x8192, .i32⟩
  | 53 => ⟨S1x8192, .i32⟩
  | 54 => ⟨S1x8192, .i32⟩
  | 55 => ⟨S_, .i32⟩
  | 56 => ⟨S1x8192, .i32⟩
  | 57 => ⟨S1x8192, .i32⟩
  | 58 => ⟨S_, .i32⟩
  | 59 => ⟨S1x8192, .i32⟩
  | 60 => ⟨S1x8192, .i32⟩
  | 61 => ⟨S1x8192, .i32⟩
  | 62 => ⟨S1x8192, .i32⟩
  | 63 => ⟨S1x8192, .i32⟩
  | 64 => ⟨S1x8192, .i32⟩
  | 65 => ⟨S1x8192, .i32⟩
  | 66 => ⟨S1x8192, .i32⟩
  | 67 => ⟨S_, .i32⟩
  | 68 => ⟨S1x8192, .i32⟩
  | 69 => ⟨S1x8192, .i32⟩
  | 70 => ⟨S1x8192, .i32⟩
  | 71 => ⟨S_, .i32⟩
  | 72 => ⟨S1x8192, .i32⟩
  | 73 => ⟨S1x8192, .i32⟩
  | 74 => ⟨S_, .i32⟩
  | 75 => ⟨S1x8192, .i32⟩
  | 76 => ⟨S1x8192, .i32⟩
  | 77 => ⟨S1x8192, .i32⟩
  | 78 => ⟨S1x8192, .i32⟩
  | 79 => ⟨S1x8192, .i32⟩
  | 80 => ⟨S_, .i32⟩
  | 81 => ⟨S1x8192, .i32⟩
  | 82 => ⟨S1x8192, .i32⟩
  | 83 => ⟨S_, .i32⟩
  | 84 => ⟨S1x8192, .i32⟩
  | 85 => ⟨S1x8192, .i32⟩
  | 86 => ⟨S1x8192, .i32⟩
  | 87 => ⟨S1x8192, .i32⟩
  | 88 => ⟨S1x8192, .i32⟩
  | 89 => ⟨S_, .i32⟩
  | 90 => ⟨S1x8192, .i32⟩
  | 91 => ⟨S1x8192, .i32⟩
  | 92 => ⟨S_, .i32⟩
  | 93 => ⟨S1x8192, .i32⟩
  | 94 => ⟨S1x8192, .i32⟩
  | 95 => ⟨S1x8192, .i32⟩
  | 96 => ⟨S1x8192, .i32⟩
  | 97 => ⟨S1x8192, .i32⟩
  | 98 => ⟨S_, .i32⟩
  | 99 => ⟨S1x8192, .i32⟩
  | 100 => ⟨S1x8192, .i32⟩
  | 101 => ⟨S_, .i32⟩
  | 102 => ⟨S1x8192, .i32⟩
  | 103 => ⟨S1x8192, .i32⟩
  | 104 => ⟨S1x8192, .i32⟩
  | 105 => ⟨S1x8192, .i32⟩
  | 106 => ⟨S1x8192, .i32⟩
  | 107 => ⟨S1x8192, .i32⟩
  | 108 => ⟨S1x8192, .i32⟩
  | 109 => ⟨S1x8192, .i32⟩
  | 110 => ⟨S_, .i32⟩
  | 111 => ⟨S1x8192, .i32⟩
  | 112 => ⟨S1x8192, .i32⟩
  | 113 => ⟨S1x8192, .i32⟩
  | 114 => ⟨S_, .i32⟩
  | 115 => ⟨S1x8192, .i32⟩
  | 116 => ⟨S1x8192, .i32⟩
  | 117 => ⟨S_, .i32⟩
  | 118 => ⟨S1x8192, .i32⟩
  | 119 => ⟨S1x8192, .i32⟩
  | 120 => ⟨S1x8192, .i32⟩
  | 121 => ⟨S1x8192, .i32⟩
  | 122 => ⟨S1x8192, .i32⟩
  | 123 => ⟨S_, .i32⟩
  | 124 => ⟨S1x8192, .i32⟩
  | 125 => ⟨S1x8192, .i32⟩
  | 126 => ⟨S_, .i32⟩
  | 127 => ⟨S1x8192, .i32⟩
  | _ => ⟨S1x8192x768, .f32⟩

abbrev hbmTy0_4 (i : Nat) : BufTy := match i % 128 with
  | 0 => ⟨S1x8192, .i32⟩
  | 1 => ⟨S1x8192, .i32⟩
  | 2 => ⟨S1x8192, .i32⟩
  | 3 => ⟨S1x8192, .i32⟩
  | 4 => ⟨S_, .i32⟩
  | 5 => ⟨S1x8192, .i32⟩
  | 6 => ⟨S1x8192, .i32⟩
  | 7 => ⟨S_, .i32⟩
  | 8 => ⟨S1x8192, .i32⟩
  | 9 => ⟨S1x8192, .i32⟩
  | 10 => ⟨S1x8192, .i32⟩
  | 11 => ⟨S1x8192, .i32⟩
  | 12 => ⟨S1x8192, .i32⟩
  | 13 => ⟨S_, .i32⟩
  | 14 => ⟨S1x8192, .i32⟩
  | 15 => ⟨S1x8192, .i32⟩
  | 16 => ⟨S_, .i32⟩
  | 17 => ⟨S1x8192, .i32⟩
  | 18 => ⟨S1x8192, .i32⟩
  | 19 => ⟨S1x8192, .i32⟩
  | 20 => ⟨S1x8192, .i32⟩
  | 21 => ⟨S1x8192, .i32⟩
  | 22 => ⟨S1x8192, .i32⟩
  | 23 => ⟨S1x8192, .i32⟩
  | 24 => ⟨S1x8192, .i32⟩
  | 25 => ⟨S_, .i32⟩
  | 26 => ⟨S1x8192, .i32⟩
  | 27 => ⟨S1x8192, .i32⟩
  | 28 => ⟨S1x8192, .i32⟩
  | 29 => ⟨S_, .i32⟩
  | 30 => ⟨S1x8192, .i32⟩
  | 31 => ⟨S1x8192, .i32⟩
  | 32 => ⟨S_, .i32⟩
  | 33 => ⟨S1x8192, .i32⟩
  | 34 => ⟨S1x8192, .i32⟩
  | 35 => ⟨S1x8192, .f32⟩
  | 36 => ⟨S_, .f32⟩
  | 37 => ⟨S1x8192, .f32⟩
  | 38 => ⟨S1x8192, .f32⟩
  | 39 => ⟨S1x1, .f32⟩
  | 40 => ⟨S1x8192, .f32⟩
  | 41 => ⟨S1x8192, .f32⟩
  | 42 => ⟨S1x8192, .f32⟩
  | 43 => ⟨S1x8192, .f32⟩
  | 44 => ⟨S1x8192, .f32⟩
  | 45 => ⟨S1x8192, .f32⟩
  | 46 => ⟨S1x8192, .f32⟩
  | 47 => ⟨S1x8192, .f32⟩
  | 48 => ⟨S1x8192, .f32⟩
  | 49 => ⟨S1x8192, .f32⟩
  | 50 => ⟨S1x8192, .f32⟩
  | 51 => ⟨S1x8192, .i32⟩
  | 52 => ⟨S_, .f32⟩
  | 53 => ⟨S_, .i32⟩
  | 54 => ⟨S1, .f32⟩
  | 55 => ⟨S1, .i32⟩
  | 56 => ⟨S1x1, .i32⟩
  | 57 => ⟨S_, .f32⟩
  | 58 => ⟨S1x8192, .f32⟩
  | 59 => ⟨S_, .i32⟩
  | 60 => ⟨S1x1, .i32⟩
  | 61 => ⟨S1x1, .i1⟩
  | 62 => ⟨S_, .i32⟩
  | 63 => ⟨S1x1, .i32⟩
  | 64 => ⟨S1x1, .i32⟩
  | 65 => ⟨S1x1, .i32⟩
  | 66 => ⟨S1x1x1, .i32⟩
  | 67 => ⟨S_, .f32⟩
  | 68 => ⟨S1x1x8192, .f32⟩
  | 69 => ⟨S1x8192, .f32⟩
  | 70 => ⟨S1x1, .f32⟩
  | 71 => ⟨S1x1x1, .f32⟩
  | 72 => ⟨S1x1x1x1x1x1, .f32⟩
  | 73 => ⟨S1x1x8192x1x1x1, .f32⟩
  | 74 => ⟨S1x8192x1, .f32⟩
  | 75 => ⟨S1x8192x769, .f32⟩
  | 76 => ⟨S1x8192x768, .f32⟩
  | 77 => ⟨S1x1x768, .f32⟩
  | 78 => ⟨S1x8192x768, .f32⟩
  | 79 => ⟨S1x8192x768, .f32⟩
  | 80 => ⟨S_, .f32⟩
  | 81 => ⟨S1x8192x768, .f32⟩
  | 82 => ⟨S1x8192x768, .f32⟩
  | 83 => ⟨S1x8192x1, .f32⟩
  | 84 => ⟨S1x1x1, .f32⟩
  | 85 => ⟨S1x8192x1, .f32⟩
  | 86 => ⟨S1x8192x1, .f32⟩
  | 87 => ⟨S1x8192, .f32⟩
  | 88 => ⟨S_, .f32⟩
  | 89 => ⟨S1, .f32⟩
  | 90 => ⟨S_, .f32⟩
  | 91 => ⟨S1, .f32⟩
  | 92 => ⟨S1, .f32⟩
  | 93 => ⟨S1x1, .f32⟩
  | 94 => ⟨S1x8192, .f32⟩
  | 95 => ⟨S1x8192, .f32⟩
  | 96 => ⟨S1x8192, .f32⟩
  | 97 => ⟨S_, .f32⟩
  | 98 => ⟨S1, .f32⟩
  | 99 => ⟨S1x1, .f32⟩
  | 100 => ⟨S1x8192, .f32⟩
  | 101 => ⟨S1x8192, .f32⟩
  | 102 => ⟨S_, .i32⟩
  | 103 => ⟨S1x1, .i32⟩
  | 104 => ⟨S1x1, .i1⟩
  | 105 => ⟨S_, .i32⟩
  | 106 => ⟨S1x1, .i32⟩
  | 107 => ⟨S1x1, .i32⟩
  | 108 => ⟨S1x1, .i32⟩
  | 109 => ⟨S_, .i32⟩
  | 110 => ⟨S1x1, .i32⟩
  | 111 => ⟨S1x1, .i32⟩
  | 112 => ⟨S1x1x1, .i32⟩
  | 113 => ⟨S1x1x1, .i32⟩
  | 114 => ⟨S1x1x2, .i32⟩
  | 115 => ⟨S_, .f32⟩
  | 116 => ⟨S1x1, .f32⟩
  | 117 => ⟨S1x8192, .f32⟩
  | 118 => ⟨S1x8192, .f32⟩
  | 119 => ⟨S_, .f32⟩
  | 120 => ⟨S_, .f32⟩
  | 121 => ⟨S_, .f32⟩
  | 122 => ⟨S1x1, .f32⟩
  | 123 => ⟨S1x1, .f32⟩
  | 124 => ⟨S1, .i32⟩
  | 125 => ⟨S_, .i32⟩
  | 126 => ⟨S1, .i32⟩
  | 127 => ⟨S_, .i32⟩
  | _ => ⟨S1x8192x768, .f32⟩

abbrev hbmTy0_5 (i : Nat) : BufTy := match i % 128 with
  | 0 => ⟨S1x8192, .i64⟩
  | 1 => ⟨S1x8192, .i64⟩
  | 2 => ⟨S_, .i64⟩
  | 3 => ⟨S1x8192, .i64⟩
  | 4 => ⟨S1x8192, .i64⟩
  | 5 => ⟨S_, .i64⟩
  | 6 => ⟨S1x8192, .i64⟩
  | 7 => ⟨S1x8192, .i64⟩
  | 8 => ⟨S1x8192, .i64⟩
  | 9 => ⟨S_, .i64⟩
  | 10 => ⟨S1x8192, .i64⟩
  | 11 => ⟨S1x8192, .i64⟩
  | 12 => ⟨S1x8192, .i32⟩
  | 13 => ⟨S1x8192, .i32⟩
  | 14 => ⟨S_, .i32⟩
  | 15 => ⟨S_, .i32⟩
  | 16 => ⟨S_, .i32⟩
  | 17 => ⟨S1x8192, .i32⟩
  | 18 => ⟨S1x8192, .i32⟩
  | 19 => ⟨S1x8192, .i32⟩
  | 20 => ⟨S1x8192, .i32⟩
  | 21 => ⟨S1x8192, .i32⟩
  | 22 => ⟨S_, .i32⟩
  | 23 => ⟨S1x8192, .i32⟩
  | 24 => ⟨S1x8192, .i32⟩
  | 25 => ⟨S_, .i32⟩
  | 26 => ⟨S1x8192, .i32⟩
  | 27 => ⟨S1x8192, .i32⟩
  | 28 => ⟨S1x8192, .i32⟩
  | 29 => ⟨S1x8192, .i32⟩
  | 30 => ⟨S1x8192, .i32⟩
  | 31 => ⟨S_, .i32⟩
  | 32 => ⟨S1x8192, .i32⟩
  | 33 => ⟨S1x8192, .i32⟩
  | 34 => ⟨S_, .i32⟩
  | 35 => ⟨S1x8192, .i32⟩
  | 36 => ⟨S1x8192, .i32⟩
  | 37 => ⟨S1x8192, .i32⟩
  | 38 => ⟨S1x8192, .i32⟩
  | 39 => ⟨S1x8192, .i32⟩
  | 40 => ⟨S_, .i32⟩
  | 41 => ⟨S1x8192, .i32⟩
  | 42 => ⟨S1x8192, .i32⟩
  | 43 => ⟨S_, .i32⟩
  | 44 => ⟨S1x8192, .i32⟩
  | 45 => ⟨S1x8192, .i32⟩
  | 46 => ⟨S1x8192, .i32⟩
  | 47 => ⟨S1x8192, .i32⟩
  | 48 => ⟨S1x8192, .i32⟩
  | 49 => ⟨S_, .i32⟩
  | 50 => ⟨S1x8192, .i32⟩
  | 51 => ⟨S1x8192, .i32⟩
  | 52 => ⟨S_, .i32⟩
  | 53 => ⟨S1x8192, .i32⟩
  | 54 => ⟨S1x8192, .i32⟩
  | 55 => ⟨S1x8192, .i32⟩
  | 56 => ⟨S1x8192, .i32⟩
  | 57 => ⟨S1x8192, .i32⟩
  | 58 => ⟨S1x8192, .i32⟩
  | 59 => ⟨S1x8192, .i32⟩
  | 60 => ⟨S1x8192, .i32⟩
  | 61 => ⟨S_, .i32⟩
  | 62 => ⟨S1x8192, .i32⟩
  | 63 => ⟨S1x8192, .i32⟩
  | 64 => ⟨S1x8192, .i32⟩
  | 65 => ⟨S_, .i32⟩
  | 66 => ⟨S1x8192, .i32⟩
  | 67 => ⟨S1x8192, .i32⟩
  | 68 => ⟨S_, .i32⟩
  | 69 => ⟨S1x8192, .i32⟩
  | 70 => ⟨S1x8192, .i32⟩
  | 71 => ⟨S1x8192, .i32⟩
  | 72 => ⟨S1x8192, .i32⟩
  | 73 => ⟨S1x8192, .i32⟩
  | 74 => ⟨S_, .i32⟩
  | 75 => ⟨S1x8192, .i32⟩
  | 76 => ⟨S1x8192, .i32⟩
  | 77 => ⟨S_, .i32⟩
  | 78 => ⟨S1x8192, .i32⟩
  | 79 => ⟨S1x8192, .i32⟩
  | 80 => ⟨S1x8192, .i32⟩
  | 81 => ⟨S1x8192, .i32⟩
  | 82 => ⟨S1x8192, .i32⟩
  | 83 => ⟨S_, .i32⟩
  | 84 => ⟨S1x8192, .i32⟩
  | 85 => ⟨S1x8192, .i32⟩
  | 86 => ⟨S_, .i32⟩
  | 87 => ⟨S1x8192, .i32⟩
  | 88 => ⟨S1x8192, .i32⟩
  | 89 => ⟨S1x8192, .i32⟩
  | 90 => ⟨S1x8192, .i32⟩
  | 91 => ⟨S1x8192, .i32⟩
  | 92 => ⟨S_, .i32⟩
  | 93 => ⟨S1x8192, .i32⟩
  | 94 => ⟨S1x8192, .i32⟩
  | 95 => ⟨S_, .i32⟩
  | 96 => ⟨S1x8192, .i32⟩
  | 97 => ⟨S1x8192, .i32⟩
  | 98 => ⟨S1x8192, .i32⟩
  | 99 => ⟨S1x8192, .i32⟩
  | 100 => ⟨S1x8192, .i32⟩
  | 101 => ⟨S1x8192, .i32⟩
  | 102 => ⟨S1x8192, .i32⟩
  | 103 => ⟨S1x8192, .i32⟩
  | 104 => ⟨S_, .i32⟩
  | 105 => ⟨S1x8192, .i32⟩
  | 106 => ⟨S1x8192, .i32⟩
  | 107 => ⟨S1x8192, .i32⟩
  | 108 => ⟨S_, .i32⟩
  | 109 => ⟨S1x8192, .i32⟩
  | 110 => ⟨S1x8192, .i32⟩
  | 111 => ⟨S_, .i32⟩
  | 112 => ⟨S1x8192, .i32⟩
  | 113 => ⟨S1x8192, .i32⟩
  | 114 => ⟨S1x8192, .i32⟩
  | 115 => ⟨S1x8192, .i32⟩
  | 116 => ⟨S1x8192, .i32⟩
  | 117 => ⟨S_, .i32⟩
  | 118 => ⟨S1x8192, .i32⟩
  | 119 => ⟨S1x8192, .i32⟩
  | 120 => ⟨S_, .i32⟩
  | 121 => ⟨S1x8192, .i32⟩
  | 122 => ⟨S1x8192, .i32⟩
  | 123 => ⟨S1x8192, .i32⟩
  | 124 => ⟨S1x8192, .i32⟩
  | 125 => ⟨S1x8192, .i32⟩
  | 126 => ⟨S_, .i32⟩
  | 127 => ⟨S1x8192, .i32⟩
  | _ => ⟨S1x8192x768, .f32⟩

abbrev hbmTy0_6 (i : Nat) : BufTy := match i % 128 with
  | 0 => ⟨S1x8192, .i32⟩
  | 1 => ⟨S_, .i32⟩
  | 2 => ⟨S1x8192, .i32⟩
  | 3 => ⟨S1x8192, .i32⟩
  | 4 => ⟨S1x8192, .i32⟩
  | 5 => ⟨S1x8192, .i32⟩
  | 6 => ⟨S1x8192, .i32⟩
  | 7 => ⟨S_, .i32⟩
  | 8 => ⟨S1x8192, .i32⟩
  | 9 => ⟨S1x8192, .i32⟩
  | 10 => ⟨S_, .i32⟩
  | 11 => ⟨S1x8192, .i32⟩
  | 12 => ⟨S1x8192, .i32⟩
  | 13 => ⟨S1x8192, .i32⟩
  | 14 => ⟨S1x8192, .i32⟩
  | 15 => ⟨S1x8192, .i32⟩
  | 16 => ⟨S1x8192, .i32⟩
  | 17 => ⟨S1x8192, .i32⟩
  | 18 => ⟨S1x8192, .i32⟩
  | 19 => ⟨S_, .i32⟩
  | 20 => ⟨S1x8192, .i32⟩
  | 21 => ⟨S1x8192, .i32⟩
  | 22 => ⟨S1x8192, .i32⟩
  | 23 => ⟨S_, .i32⟩
  | 24 => ⟨S1x8192, .i32⟩
  | 25 => ⟨S1x8192, .i32⟩
  | 26 => ⟨S_, .i32⟩
  | 27 => ⟨S1x8192, .i32⟩
  | 28 => ⟨S1x8192, .i32⟩
  | 29 => ⟨S1x8192, .i32⟩
  | 30 => ⟨S1x8192, .i32⟩
  | 31 => ⟨S1x8192, .i32⟩
  | 32 => ⟨S_, .i32⟩
  | 33 => ⟨S1x8192, .i32⟩
  | 34 => ⟨S1x8192, .i32⟩
  | 35 => ⟨S_, .i32⟩
  | 36 => ⟨S1x8192, .i32⟩
  | 37 => ⟨S1x8192, .i32⟩
  | 38 => ⟨S1x8192, .i32⟩
  | 39 => ⟨S1x8192, .i32⟩
  | 40 => ⟨S1x8192, .i32⟩
  | 41 => ⟨S_, .i32⟩
  | 42 => ⟨S1x8192, .i32⟩
  | 43 => ⟨S1x8192, .i32⟩
  | 44 => ⟨S_, .i32⟩
  | 45 => ⟨S1x8192, .i32⟩
  | 46 => ⟨S1x8192, .i32⟩
  | 47 => ⟨S1x8192, .i32⟩
  | 48 => ⟨S1x8192, .i32⟩
  | 49 => ⟨S1x8192, .i32⟩
  | 50 => ⟨S_, .i32⟩
  | 51 => ⟨S1x8192, .i32⟩
  | 52 => ⟨S1x8192, .i32⟩
  | 53 => ⟨S_, .i32⟩
  | 54 => ⟨S1x8192, .i32⟩
  | 55 => ⟨S1x8192, .i32⟩
  | 56 => ⟨S1x8192, .i32⟩
  | 57 => ⟨S1x8192, .i32⟩
  | 58 => ⟨S1x8192, .i32⟩
  | 59 => ⟨S1x8192, .i32⟩
  | 60 => ⟨S1x8192, .i32⟩
  | 61 => ⟨S1x8192, .i32⟩
  | 62 => ⟨S_, .i32⟩
  | 63 => ⟨S1x8192, .i32⟩
  | 64 => ⟨S1x8192, .i32⟩
  | 65 => ⟨S1x8192, .i32⟩
  | 66 => ⟨S_, .i32⟩
  | 67 => ⟨S1x8192, .i32⟩
  | 68 => ⟨S1x8192, .i32⟩
  | 69 => ⟨S_, .i32⟩
  | 70 => ⟨S1x8192, .i32⟩
  | 71 => ⟨S1x8192, .i32⟩
  | 72 => ⟨S1x8192, .i32⟩
  | 73 => ⟨S1x8192, .i32⟩
  | 74 => ⟨S1x8192, .i32⟩
  | 75 => ⟨S_, .i32⟩
  | 76 => ⟨S1x8192, .i32⟩
  | 77 => ⟨S1x8192, .i32⟩
  | 78 => ⟨S_, .i32⟩
  | 79 => ⟨S1x8192, .i32⟩
  | 80 => ⟨S1x8192, .i32⟩
  | 81 => ⟨S1x8192, .i32⟩
  | 82 => ⟨S1x8192, .i32⟩
  | 83 => ⟨S1x8192, .i32⟩
  | 84 => ⟨S_, .i32⟩
  | 85 => ⟨S1x8192, .i32⟩
  | 86 => ⟨S1x8192, .i32⟩
  | 87 => ⟨S_, .i32⟩
  | 88 => ⟨S1x8192, .i32⟩
  | 89 => ⟨S1x8192, .i32⟩
  | 90 => ⟨S1x8192, .i32⟩
  | 91 => ⟨S1x8192, .i32⟩
  | 92 => ⟨S1x8192, .i32⟩
  | 93 => ⟨S_, .i32⟩
  | 94 => ⟨S1x8192, .i32⟩
  | 95 => ⟨S1x8192, .i32⟩
  | 96 => ⟨S_, .i32⟩
  | 97 => ⟨S1x8192, .i32⟩
  | 98 => ⟨S1x8192, .i32⟩
  | 99 => ⟨S1x8192, .i32⟩
  | 100 => ⟨S1x8192, .i32⟩
  | 101 => ⟨S1x8192, .i32⟩
  | 102 => ⟨S1x8192, .i32⟩
  | 103 => ⟨S1x8192, .i32⟩
  | 104 => ⟨S1x8192, .i32⟩
  | 105 => ⟨S_, .i32⟩
  | 106 => ⟨S1x8192, .i32⟩
  | 107 => ⟨S1x8192, .i32⟩
  | 108 => ⟨S1x8192, .i32⟩
  | 109 => ⟨S_, .i32⟩
  | 110 => ⟨S1x8192, .i32⟩
  | 111 => ⟨S1x8192, .i32⟩
  | 112 => ⟨S_, .i32⟩
  | 113 => ⟨S1x8192, .i32⟩
  | 114 => ⟨S1x8192, .i32⟩
  | 115 => ⟨S1x8192, .f32⟩
  | 116 => ⟨S_, .f32⟩
  | 117 => ⟨S1x8192, .f32⟩
  | 118 => ⟨S1x8192, .f32⟩
  | 119 => ⟨S1x1, .f32⟩
  | 120 => ⟨S1x8192, .f32⟩
  | 121 => ⟨S1x8192, .f32⟩
  | 122 => ⟨S1x8192, .f32⟩
  | 123 => ⟨S1x8192, .f32⟩
  | 124 => ⟨S1x8192, .f32⟩
  | 125 => ⟨S1x8192, .f32⟩
  | 126 => ⟨S1x8192, .f32⟩
  | 127 => ⟨S1x8192, .f32⟩
  | _ => ⟨S1x8192x768, .f32⟩

abbrev hbmTy0_7 (i : Nat) : BufTy := match i % 128 with
  | 0 => ⟨S1x8192, .f32⟩
  | 1 => ⟨S1x8192, .f32⟩
  | 2 => ⟨S1x8192, .f32⟩
  | 3 => ⟨S1x8192, .i32⟩
  | 4 => ⟨S_, .f32⟩
  | 5 => ⟨S_, .i32⟩
  | 6 => ⟨S1, .f32⟩
  | 7 => ⟨S1, .i32⟩
  | 8 => ⟨S1x1, .i32⟩
  | 9 => ⟨S_, .f32⟩
  | 10 => ⟨S1x8192, .f32⟩
  | 11 => ⟨S_, .i32⟩
  | 12 => ⟨S1x1, .i32⟩
  | 13 => ⟨S1x1, .i1⟩
  | 14 => ⟨S_, .i32⟩
  | 15 => ⟨S1x1, .i32⟩
  | 16 => ⟨S1x1, .i32⟩
  | 17 => ⟨S1x1, .i32⟩
  | 18 => ⟨S1x1x1, .i32⟩
  | 19 => ⟨S_, .f32⟩
  | 20 => ⟨S1x1x8192, .f32⟩
  | 21 => ⟨S1x8192, .f32⟩
  | 22 => ⟨S1x8192x768, .f32⟩
  | 23 => ⟨S_, .f32⟩
  | 24 => ⟨S1x8192x768, .f32⟩
  | 25 => ⟨S1x8192x768, .f32⟩
  | 26 => ⟨S_, .f32⟩
  | 27 => ⟨S1x768, .f32⟩
  | 28 => ⟨S1x2, .f32⟩
  | 29 => ⟨S1x2, .f32⟩
  | 30 => ⟨S1x2, .f32⟩
  | 31 => ⟨S_, .f32⟩
  | 32 => ⟨S1, .f32⟩
  | 33 => ⟨S_, .f32⟩
  | 34 => ⟨S1, .f32⟩
  | 35 => ⟨S1, .f32⟩
  | 36 => ⟨S1x1, .f32⟩
  | 37 => ⟨S1x2, .f32⟩
  | 38 => ⟨S1x2, .f32⟩
  | 39 => ⟨S1x2, .f32⟩
  | 40 => ⟨S_, .f32⟩
  | 41 => ⟨S1, .f32⟩
  | 42 => ⟨S1x1, .f32⟩
  | 43 => ⟨S1x2, .f32⟩
  | 44 => ⟨S1x2, .f32⟩
  | 45 => ⟨S1x2, .f32⟩
  | 46 => ⟨S_, .f32⟩
  | 47 => ⟨S_, .f32⟩
  | 48 => ⟨S_, .f32⟩
  | 49 => ⟨S1x1, .f32⟩
  | 50 => ⟨S1x1, .f32⟩
  | 51 => ⟨S1, .i32⟩
  | 52 => ⟨S_, .i32⟩
  | 53 => ⟨S1, .i32⟩
  | 54 => ⟨S_, .i32⟩
  | 55 => ⟨S1x2, .i64⟩
  | 56 => ⟨S1x2, .i64⟩
  | 57 => ⟨S_, .i64⟩
  | 58 => ⟨S1x2, .i64⟩
  | 59 => ⟨S1x2, .i64⟩
  | 60 => ⟨S_, .i64⟩
  | 61 => ⟨S1x2, .i64⟩
  | 62 => ⟨S1x2, .i64⟩
  | 63 => ⟨S1x2, .i64⟩
  | 64 => ⟨S_, .i64⟩
  | 65 => ⟨S1x2, .i64⟩
  | 66 => ⟨S1x2, .i64⟩
  | 67 => ⟨S1x2, .i32⟩
  | 68 => ⟨S1x2, .i32⟩
  | 69 => ⟨S_, .i32⟩
  | 70 => ⟨S_, .i32⟩
  | 71 => ⟨S_, .i32⟩
  | 72 => ⟨S1x2, .i32⟩
  | 73 => ⟨S1x2, .i32⟩
  | 74 => ⟨S1x2, .i32⟩
  | 75 => ⟨S1x2, .i32⟩
  | 76 => ⟨S1x2, .i32⟩
  | 77 => ⟨S_, .i32⟩
  | 78 => ⟨S1x2, .i32⟩
  | 79 => ⟨S1x2, .i32⟩
  | 80 => ⟨S_, .i32⟩
  | 81 => ⟨S1x2, .i32⟩
  | 82 => ⟨S1x2, .i32⟩
  | 83 => ⟨S1x2, .i32⟩
  | 84 => ⟨S1x2, .i32⟩
  | 85 => ⟨S1x2, .i32⟩
  | 86 => ⟨S_, .i32⟩
  | 87 => ⟨S1x2, .i32⟩
  | 88 => ⟨S1x2, .i32⟩
  | 89 => ⟨S_, .i32⟩
  | 90 => ⟨S1x2, .i32⟩
  | 91 => ⟨S1x2, .i32⟩
  | 92 => ⟨S1x2, .i32⟩
  | 93 => ⟨S1x2, .i32⟩
  | 94 => ⟨S1x2, .i32⟩
  | 95 => ⟨S_, .i32⟩
  | 96 => ⟨S1x2, .i32⟩
  | 97 => ⟨S1x2, .i32⟩
  | 98 => ⟨S_, .i32⟩
  | 99 => ⟨S1x2, .i32⟩
  | 100 => ⟨S1x2, .i32⟩
  | 101 => ⟨S1x2, .i32⟩
  | 102 => ⟨S1x2, .i32⟩
  | 103 => ⟨S1x2, .i32⟩
  | 104 => ⟨S_, .i32⟩
  | 105 => ⟨S1x2, .i32⟩
  | 106 => ⟨S1x2, .i32⟩
  | 107 => ⟨S_, .i32⟩
  | 108 => ⟨S1x2, .i32⟩
  | 109 => ⟨S1x2, .i32⟩
  | 110 => ⟨S1x2, .i32⟩
  | 111 => ⟨S1x2, .i32⟩
  | 112 => ⟨S1x2, .i32⟩
  | 113 => ⟨S1x2, .i32⟩
  | 114 => ⟨S1x2, .i32⟩
  | 115 => ⟨S1x2, .i32⟩
  | 116 => ⟨S_, .i32⟩
  | 117 => ⟨S1x2, .i32⟩
  | 118 => ⟨S1x2, .i32⟩
  | 119 => ⟨S1x2, .i32⟩
  | 120 => ⟨S_, .i32⟩
  | 121 => ⟨S1x2, .i32⟩
  | 122 => ⟨S1x2, .i32⟩
  | 123 => ⟨S_, .i32⟩
  | 124 => ⟨S1x2, .i32⟩
  | 125 => ⟨S1x2, .i32⟩
  | 126 => ⟨S1x2, .i32⟩
  | 127 => ⟨S1x2, .i32⟩
  | _ => ⟨S1x8192x768, .f32⟩

abbrev hbmTy0_8 (i : Nat) : BufTy := match i % 128 with
  | 0 => ⟨S1x2, .i32⟩
  | 1 => ⟨S_, .i32⟩
  | 2 => ⟨S1x2, .i32⟩
  | 3 => ⟨S1x2, .i32⟩
  | 4 => ⟨S_, .i32⟩
  | 5 => ⟨S1x2, .i32⟩
  | 6 => ⟨S1x2, .i32⟩
  | 7 => ⟨S1x2, .i32⟩
  | 8 => ⟨S1x2, .i32⟩
  | 9 => ⟨S1x2, .i32⟩
  | 10 => ⟨S_, .i32⟩
  | 11 => ⟨S1x2, .i32⟩
  | 12 => ⟨S1x2, .i32⟩
  | 13 => ⟨S_, .i32⟩
  | 14 => ⟨S1x2, .i32⟩
  | 15 => ⟨S1x2, .i32⟩
  | 16 => ⟨S1x2, .i32⟩
  | 17 => ⟨S1x2, .i32⟩
  | 18 => ⟨S1x2, .i32⟩
  | 19 => ⟨S_, .i32⟩
  | 20 => ⟨S1x2, .i32⟩
  | 21 => ⟨S1x2, .i32⟩
  | 22 => ⟨S_, .i32⟩
  | 23 => ⟨S1x2, .i32⟩
  | 24 => ⟨S1x2, .i32⟩
  | 25 => ⟨S1x2, .i32⟩
  | 26 => ⟨S1x2, .i32⟩
  | 27 => ⟨S1x2, .i32⟩
  | 28 => ⟨S1x2, .i32⟩
  | 29 => ⟨S1x2, .i32⟩
  | 30 => ⟨S1x2, .i32⟩
  | 31 => ⟨S_, .i32⟩
  | 32 => ⟨S1x2, .i32⟩
  | 33 => ⟨S1x2, .i32⟩
  | 34 => ⟨S1x2, .i32⟩
  | 35 => ⟨S_, .i32⟩
  | 36 => ⟨S1x2, .i32⟩
  | 37 => ⟨S1x2, .i32⟩
  | 38 => ⟨S_, .i32⟩
  | 39 => ⟨S1x2, .i32⟩
  | 40 => ⟨S1x2, .i32⟩
  | 41 => ⟨S1x2, .i32⟩
  | 42 => ⟨S1x2, .i32⟩
  | 43 => ⟨S1x2, .i32⟩
  | 44 => ⟨S_, .i32⟩
  | 45 => ⟨S1x2, .i32⟩
  | 46 => ⟨S1x2, .i32⟩
  | 47 => ⟨S_, .i32⟩
  | 48 => ⟨S1x2, .i32⟩
  | 49 => ⟨S1x2, .i32⟩
  | 50 => ⟨S1x2, .i32⟩
  | 51 => ⟨S1x2, .i32⟩
  | 52 => ⟨S1x2, .i32⟩
  | 53 => ⟨S_, .i32⟩
  | 54 => ⟨S1x2, .i32⟩
  | 55 => ⟨S1x2, .i32⟩
  | 56 => ⟨S_, .i32⟩
  | 57 => ⟨S1x2, .i32⟩
  | 58 => ⟨S1x2, .i32⟩
  | 59 => ⟨S1x2, .i32⟩
  | 60 => ⟨S1x2, .i32⟩
  | 61 => ⟨S1x2, .i32⟩
  | 62 => ⟨S_, .i32⟩
  | 63 => ⟨S1x2, .i32⟩
  | 64 => ⟨S1x2, .i32⟩
  | 65 => ⟨S_, .i32⟩
  | 66 => ⟨S1x2, .i32⟩
  | 67 => ⟨S1x2, .i32⟩
  | 68 => ⟨S1x2, .i32⟩
  | 69 => ⟨S1x2, .i32⟩
  | 70 => ⟨S1x2, .i32⟩
  | 71 => ⟨S1x2, .i32⟩
  | 72 => ⟨S1x2, .i32⟩
  | 73 => ⟨S1x2, .i32⟩
  | 74 => ⟨S_, .i32⟩
  | 75 => ⟨S1x2, .i32⟩
  | 76 => ⟨S1x2, .i32⟩
  | 77 => ⟨S1x2, .i32⟩
  | 78 => ⟨S_, .i32⟩
  | 79 => ⟨S1x2, .i32⟩
  | 80 => ⟨S1x2, .i32⟩
  | 81 => ⟨S_, .i32⟩
  | 82 => ⟨S1x2, .i32⟩
  | 83 => ⟨S1x2, .i32⟩
  | 84 => ⟨S1x2, .i32⟩
  | 85 => ⟨S1x2, .i32⟩
  | 86 => ⟨S1x2, .i32⟩
  | 87 => ⟨S_, .i32⟩
  | 88 => ⟨S1x2, .i32⟩
  | 89 => ⟨S1x2, .i32⟩
  | 90 => ⟨S_, .i32⟩
  | 91 => ⟨S1x2, .i32⟩
  | 92 => ⟨S1x2, .i32⟩
  | 93 => ⟨S1x2, .i32⟩
  | 94 => ⟨S1x2, .i32⟩
  | 95 => ⟨S1x2, .i32⟩
  | 96 => ⟨S_, .i32⟩
  | 97 => ⟨S1x2, .i32⟩
  | 98 => ⟨S1x2, .i32⟩
  | 99 => ⟨S_, .i32⟩
  | 100 => ⟨S1x2, .i32⟩
  | 101 => ⟨S1x2, .i32⟩
  | 102 => ⟨S1x2, .i32⟩
  | 103 => ⟨S1x2, .i32⟩
  | 104 => ⟨S1x2, .i32⟩
  | 105 => ⟨S_, .i32⟩
  | 106 => ⟨S1x2, .i32⟩
  | 107 => ⟨S1x2, .i32⟩
  | 108 => ⟨S_, .i32⟩
  | 109 => ⟨S1x2, .i32⟩
  | 110 => ⟨S1x2, .i32⟩
  | 111 => ⟨S1x2, .i32⟩
  | 112 => ⟨S1x2, .i32⟩
  | 113 => ⟨S1x2, .i32⟩
  | 114 => ⟨S1x2, .i32⟩
  | 115 => ⟨S1x2, .i32⟩
  | 116 => ⟨S1x2, .i32⟩
  | 117 => ⟨S_, .i32⟩
  | 118 => ⟨S1x2, .i32⟩
  | 119 => ⟨S1x2, .i32⟩
  | 120 => ⟨S1x2, .i32⟩
  | 121 => ⟨S_, .i32⟩
  | 122 => ⟨S1x2, .i32⟩
  | 123 => ⟨S1x2, .i32⟩
  | 124 => ⟨S_, .i32⟩
  | 125 => ⟨S1x2, .i32⟩
  | 126 => ⟨S1x2, .i32⟩
  | 127 => ⟨S1x2, .i32⟩
  | _ => ⟨S1x8192x768, .f32⟩

abbrev hbmTy0_9 (i : Nat) : BufTy := match i % 128 with
  | 0 => ⟨S1x2, .i32⟩
  | 1 => ⟨S1x2, .i32⟩
  | 2 => ⟨S_, .i32⟩
  | 3 => ⟨S1x2, .i32⟩
  | 4 => ⟨S1x2, .i32⟩
  | 5 => ⟨S_, .i32⟩
  | 6 => ⟨S1x2, .i32⟩
  | 7 => ⟨S1x2, .i32⟩
  | 8 => ⟨S1x2, .i32⟩
  | 9 => ⟨S1x2, .i32⟩
  | 10 => ⟨S1x2, .i32⟩
  | 11 => ⟨S_, .i32⟩
  | 12 => ⟨S1x2, .i32⟩
  | 13 => ⟨S1x2, .i32⟩
  | 14 => ⟨S_, .i32⟩
  | 15 => ⟨S1x2, .i32⟩
  | 16 => ⟨S1x2, .i32⟩
  | 17 => ⟨S1x2, .i32⟩
  | 18 => ⟨S1x2, .i32⟩
  | 19 => ⟨S1x2, .i32⟩
  | 20 => ⟨S_, .i32⟩
  | 21 => ⟨S1x2, .i32⟩
  | 22 => ⟨S1x2, .i32⟩
  | 23 => ⟨S_, .i32⟩
  | 24 => ⟨S1x2, .i32⟩
  | 25 => ⟨S1x2, .i32⟩
  | 26 => ⟨S1x2, .i32⟩
  | 27 => ⟨S1x2, .i32⟩
  | 28 => ⟨S1x2, .i32⟩
  | 29 => ⟨S1x2, .i32⟩
  | 30 => ⟨S1x2, .i32⟩
  | 31 => ⟨S1x2, .i32⟩
  | 32 => ⟨S_, .i32⟩
  | 33 => ⟨S1x2, .i32⟩
  | 34 => ⟨S1x2, .i32⟩
  | 35 => ⟨S1x2, .i32⟩
  | 36 => ⟨S_, .i32⟩
  | 37 => ⟨S1x2, .i32⟩
  | 38 => ⟨S1x2, .i32⟩
  | 39 => ⟨S_, .i32⟩
  | 40 => ⟨S1x2, .i32⟩
  | 41 => ⟨S1x2, .i32⟩
  | 42 => ⟨S1x2, .f32⟩
  | 43 => ⟨S_, .f32⟩
  | 44 => ⟨S1x2, .f32⟩
  | 45 => ⟨S1x2, .f32⟩
  | 46 => ⟨S1x1, .f32⟩
  | 47 => ⟨S1x2, .f32⟩
  | 48 => ⟨S1x2, .f32⟩
  | 49 => ⟨S1x2, .f32⟩
  | 50 => ⟨S1x2, .f32⟩
  | 51 => ⟨S1x2, .f32⟩
  | 52 => ⟨S1x2, .f32⟩
  | 53 => ⟨S1x2, .f32⟩
  | 54 => ⟨S1x2, .f32⟩
  | 55 => ⟨S1x2, .f32⟩
  | 56 => ⟨S1x2, .f32⟩
  | 57 => ⟨S1x2, .f32⟩
  | 58 => ⟨S1x2, .i32⟩
  | 59 => ⟨S_, .f32⟩
  | 60 => ⟨S_, .i32⟩
  | 61 => ⟨S1, .f32⟩
  | 62 => ⟨S1, .i32⟩
  | 63 => ⟨S1x1, .i32⟩
  | 64 => ⟨S_, .f32⟩
  | 65 => ⟨S1x2, .f32⟩
  | 66 => ⟨S_, .i32⟩
  | 67 => ⟨S1x1, .i32⟩
  | 68 => ⟨S1x1, .i1⟩
  | 69 => ⟨S_, .i32⟩
  | 70 => ⟨S1x1, .i32⟩
  | 71 => ⟨S1x1, .i32⟩
  | 72 => ⟨S1x1, .i32⟩
  | 73 => ⟨S1x1x1, .i32⟩
  | 74 => ⟨S_, .f32⟩
  | 75 => ⟨S1x1x2, .f32⟩
  | 76 => ⟨S1x2, .f32⟩
  | 77 => ⟨S1x16386, .f32⟩
  | 78 => ⟨S1x8192x64, .f32⟩
  | 79 => ⟨S1x1x64, .f32⟩
  | 80 => ⟨S1x8192x64, .f32⟩
  | 81 => ⟨S1x8192x64, .f32⟩
  | 82 => ⟨S_, .f32⟩
  | 83 => ⟨S1x8192x64, .f32⟩
  | 84 => ⟨S1x8192x64, .f32⟩
  | _ => ⟨S1x8192x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S1x8192x768, .f32⟩

abbrev bufTy : (tb : Table) → Fin (tcTables nBuf tb) → BufTy
  | .hbm, ⟨i, _⟩ => hbmTy i
  | _, _ => ⟨S1x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c_1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c : Ref sig .tc := ⟨.hbm, 29, rfl⟩
abbrev main_call0_v5 : Ref sig .tc := ⟨.hbm, 30, rfl⟩
abbrev main_call0_v6 : Ref sig .tc := ⟨.hbm, 31, rfl⟩
abbrev main_call0_c_0 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v11_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v11_1 : Ref sig .tc := ⟨.hbm, 258, rfl⟩
abbrev main_call0_v12 : Ref sig .tc := ⟨.hbm, 259, rfl⟩
abbrev main_call0_v13 : Ref sig .tc := ⟨.hbm, 260, rfl⟩
abbrev main_v7 : Ref sig .tc := ⟨.hbm, 261, rfl⟩
abbrev main_v8 : Ref sig .tc := ⟨.hbm, 262, rfl⟩
abbrev main_v9 : Ref sig .tc := ⟨.hbm, 263, rfl⟩
abbrev main_v10 : Ref sig .tc := ⟨.hbm, 264, rfl⟩
abbrev main_v11 : Ref sig .tc := ⟨.hbm, 265, rfl⟩
abbrev main_v12 : Ref sig .tc := ⟨.hbm, 266, rfl⟩
abbrev main_v13 : Ref sig .tc := ⟨.hbm, 267, rfl⟩
abbrev main_v14 : Ref sig .tc := ⟨.hbm, 268, rfl⟩
abbrev main_v15 : Ref sig .tc := ⟨.hbm, 269, rfl⟩
abbrev main_v16 : Ref sig .tc := ⟨.hbm, 270, rfl⟩
abbrev main_v17 : Ref sig .tc := ⟨.hbm, 271, rfl⟩
abbrev main_call1_cst : Ref sig .tc := ⟨.hbm, 272, rfl⟩
abbrev main_call1_v0 : Ref sig .tc := ⟨.hbm, 273, rfl⟩
abbrev main_v18 : Ref sig .tc := ⟨.hbm, 274, rfl⟩
abbrev main_v19 : Ref sig .tc := ⟨.hbm, 275, rfl⟩
abbrev main_v20 : Ref sig .tc := ⟨.hbm, 276, rfl⟩
abbrev main_v21 : Ref sig .tc := ⟨.hbm, 277, rfl⟩
abbrev main_v22 : Ref sig .tc := ⟨.hbm, 278, rfl⟩
abbrev main_v23 : Ref sig .tc := ⟨.hbm, 279, rfl⟩
abbrev main_cst : Ref sig .tc := ⟨.hbm, 280, rfl⟩
abbrev main_v24 : Ref sig .tc := ⟨.hbm, 281, rfl⟩
abbrev main_cst_2 : Ref sig .tc := ⟨.hbm, 282, rfl⟩
abbrev main_v25 : Ref sig .tc := ⟨.hbm, 283, rfl⟩
abbrev main_v26 : Ref sig .tc := ⟨.hbm, 284, rfl⟩
abbrev main_v27 : Ref sig .tc := ⟨.hbm, 285, rfl⟩
abbrev main_v28 : Ref sig .tc := ⟨.hbm, 286, rfl⟩
abbrev main_v29 : Ref sig .tc := ⟨.hbm, 287, rfl⟩
abbrev main_v30 : Ref sig .tc := ⟨.hbm, 288, rfl⟩
abbrev main_cst_3 : Ref sig .tc := ⟨.hbm, 289, rfl⟩
abbrev main_v31 : Ref sig .tc := ⟨.hbm, 290, rfl⟩
abbrev main_v32 : Ref sig .tc := ⟨.hbm, 291, rfl⟩
abbrev main_v33 : Ref sig .tc := ⟨.hbm, 292, rfl⟩
abbrev main_v34 : Ref sig .tc := ⟨.hbm, 293, rfl⟩
abbrev main_v35 : Ref sig .tc := ⟨.hbm, 294, rfl⟩
abbrev main_call2_cst : Ref sig .tc := ⟨.hbm, 295, rfl⟩
abbrev main_call2_cst_0 : Ref sig .tc := ⟨.hbm, 296, rfl⟩
abbrev main_call2_call0_v0 : Ref sig .tc := ⟨.hbm, 297, rfl⟩
abbrev main_call2_call0_v1 : Ref sig .tc := ⟨.hbm, 298, rfl⟩
abbrev main_call2_call0_v2 : Ref sig .tc := ⟨.hbm, 299, rfl⟩
abbrev main_call2_call0_v3 : Ref sig .tc := ⟨.hbm, 300, rfl⟩
abbrev main_call2_call0_v4 : Ref sig .tc := ⟨.hbm, 301, rfl⟩
abbrev main_call2_call0_v5 : Ref sig .tc := ⟨.hbm, 302, rfl⟩
abbrev main_call2_call0_v6 : Ref sig .tc := ⟨.hbm, 303, rfl⟩
abbrev main_call2_call0_v7 : Ref sig .tc := ⟨.hbm, 304, rfl⟩
abbrev main_call2_call0_v8 : Ref sig .tc := ⟨.hbm, 305, rfl⟩
abbrev main_call2_call0_c : Ref sig .tc := ⟨.hbm, 306, rfl⟩
abbrev main_call2_call0_v9 : Ref sig .tc := ⟨.hbm, 307, rfl⟩
abbrev main_call2_call0_v10 : Ref sig .tc := ⟨.hbm, 308, rfl⟩
abbrev main_call2_call0_c_0 : Ref sig .tc := ⟨.hbm, 309, rfl⟩
abbrev main_call2_call0_v11 : Ref sig .tc := ⟨.hbm, 310, rfl⟩
abbrev main_call2_call0_v12 : Ref sig .tc := ⟨.hbm, 311, rfl⟩
abbrev main_call2_call0_v13 : Ref sig .tc := ⟨.hbm, 312, rfl⟩
abbrev main_call2_call0_c_1 : Ref sig .tc := ⟨.hbm, 313, rfl⟩
abbrev main_call2_call0_v14 : Ref sig .tc := ⟨.hbm, 314, rfl⟩
abbrev main_call2_call0_v15 : Ref sig .tc := ⟨.hbm, 315, rfl⟩
abbrev main_call2_call0_v16 : Ref sig .tc := ⟨.hbm, 316, rfl⟩
abbrev main_call2_call0_v17 : Ref sig .tc := ⟨.hbm, 317, rfl⟩
abbrev main_call2_call0_call0_v0 : Ref sig .tc := ⟨.hbm, 318, rfl⟩
abbrev main_call2_call0_call0_c : Ref sig .tc := ⟨.hbm, 319, rfl⟩
abbrev main_call2_call0_call0_v1 : Ref sig .tc := ⟨.hbm, 320, rfl⟩
abbrev main_call2_call0_call0_v2 : Ref sig .tc := ⟨.hbm, 321, rfl⟩
abbrev main_call2_call0_call0_v3 : Ref sig .tc := ⟨.hbm, 322, rfl⟩
abbrev main_call2_call0_call0_v4 : Ref sig .tc := ⟨.hbm, 323, rfl⟩
abbrev main_call2_call0_call0_v5 : Ref sig .tc := ⟨.hbm, 324, rfl⟩
abbrev main_call2_call0_call0_v6 : Ref sig .tc := ⟨.hbm, 325, rfl⟩
abbrev main_call2_call0_call0_c_0 : Ref sig .tc := ⟨.hbm, 326, rfl⟩
abbrev main_call2_call0_call0_v7 : Ref sig .tc := ⟨.hbm, 327, rfl⟩
abbrev main_call2_call0_call0_v8 : Ref sig .tc := ⟨.hbm, 328, rfl⟩
abbrev main_call2_call0_call0_c_1 : Ref sig .tc := ⟨.hbm, 329, rfl⟩
abbrev main_call2_call0_call0_v9 : Ref sig .tc := ⟨.hbm, 330, rfl⟩
abbrev main_call2_call0_call0_v10 : Ref sig .tc := ⟨.hbm, 331, rfl⟩
abbrev main_call2_call0_call0_v11 : Ref sig .tc := ⟨.hbm, 332, rfl⟩
abbrev main_call2_call0_call0_v12 : Ref sig .tc := ⟨.hbm, 333, rfl⟩
abbrev main_call2_call0_call0_v13 : Ref sig .tc := ⟨.hbm, 334, rfl⟩
abbrev main_call2_call0_call0_c_2 : Ref sig .tc := ⟨.hbm, 335, rfl⟩
abbrev main_call2_call0_call0_v14 : Ref sig .tc := ⟨.hbm, 336, rfl⟩
abbrev main_call2_call0_call0_v15 : Ref sig .tc := ⟨.hbm, 337, rfl⟩
abbrev main_call2_call0_call0_c_3 : Ref sig .tc := ⟨.hbm, 338, rfl⟩
abbrev main_call2_call0_call0_v16 : Ref sig .tc := ⟨.hbm, 339, rfl⟩
abbrev main_call2_call0_call0_v17 : Ref sig .tc := ⟨.hbm, 340, rfl⟩
abbrev main_call2_call0_call0_v18 : Ref sig .tc := ⟨.hbm, 341, rfl⟩
abbrev main_call2_call0_call0_v19 : Ref sig .tc := ⟨.hbm, 342, rfl⟩
abbrev main_call2_call0_call0_v20 : Ref sig .tc := ⟨.hbm, 343, rfl⟩
abbrev main_call2_call0_call0_c_4 : Ref sig .tc := ⟨.hbm, 344, rfl⟩
abbrev main_call2_call0_call0_v21 : Ref sig .tc := ⟨.hbm, 345, rfl⟩
abbrev main_call2_call0_call0_v22 : Ref sig .tc := ⟨.hbm, 346, rfl⟩
abbrev main_call2_call0_call0_c_5 : Ref sig .tc := ⟨.hbm, 347, rfl⟩
abbrev main_call2_call0_call0_v23 : Ref sig .tc := ⟨.hbm, 348, rfl⟩
abbrev main_call2_call0_call0_v24 : Ref sig .tc := ⟨.hbm, 349, rfl⟩
abbrev main_call2_call0_call0_v25 : Ref sig .tc := ⟨.hbm, 350, rfl⟩
abbrev main_call2_call0_call0_v26 : Ref sig .tc := ⟨.hbm, 351, rfl⟩
abbrev main_call2_call0_call0_v27 : Ref sig .tc := ⟨.hbm, 352, rfl⟩
abbrev main_call2_call0_call0_c_6 : Ref sig .tc := ⟨.hbm, 353, rfl⟩
abbrev main_call2_call0_call0_v28 : Ref sig .tc := ⟨.hbm, 354, rfl⟩
abbrev main_call2_call0_call0_v29 : Ref sig .tc := ⟨.hbm, 355, rfl⟩
abbrev main_call2_call0_call0_c_7 : Ref sig .tc := ⟨.hbm, 356, rfl⟩
abbrev main_call2_call0_call0_v30 : Ref sig .tc := ⟨.hbm, 357, rfl⟩
abbrev main_call2_call0_call0_v31 : Ref sig .tc := ⟨.hbm, 358, rfl⟩
abbrev main_call2_call0_call0_v32 : Ref sig .tc := ⟨.hbm, 359, rfl⟩
abbrev main_call2_call0_call0_v33 : Ref sig .tc := ⟨.hbm, 360, rfl⟩
abbrev main_call2_call0_call0_v34 : Ref sig .tc := ⟨.hbm, 361, rfl⟩
abbrev main_call2_call0_call0_v35 : Ref sig .tc := ⟨.hbm, 362, rfl⟩
abbrev main_call2_call0_call0_v36 : Ref sig .tc := ⟨.hbm, 363, rfl⟩
abbrev main_call2_call0_call0_v37 : Ref sig .tc := ⟨.hbm, 364, rfl⟩
abbrev main_call2_call0_call0_c_8 : Ref sig .tc := ⟨.hbm, 365, rfl⟩
abbrev main_call2_call0_call0_v38 : Ref sig .tc := ⟨.hbm, 366, rfl⟩
abbrev main_call2_call0_call0_v39 : Ref sig .tc := ⟨.hbm, 367, rfl⟩
abbrev main_call2_call0_call0_v40 : Ref sig .tc := ⟨.hbm, 368, rfl⟩
abbrev main_call2_call0_call0_c_9 : Ref sig .tc := ⟨.hbm, 369, rfl⟩
abbrev main_call2_call0_call0_v41 : Ref sig .tc := ⟨.hbm, 370, rfl⟩
abbrev main_call2_call0_call0_v42 : Ref sig .tc := ⟨.hbm, 371, rfl⟩
abbrev main_call2_call0_call0_c_10 : Ref sig .tc := ⟨.hbm, 372, rfl⟩
abbrev main_call2_call0_call0_v43 : Ref sig .tc := ⟨.hbm, 373, rfl⟩
abbrev main_call2_call0_call0_v44 : Ref sig .tc := ⟨.hbm, 374, rfl⟩
abbrev main_call2_call0_call0_v45 : Ref sig .tc := ⟨.hbm, 375, rfl⟩
abbrev main_call2_call0_call0_v46 : Ref sig .tc := ⟨.hbm, 376, rfl⟩
abbrev main_call2_call0_call0_v47 : Ref sig .tc := ⟨.hbm, 377, rfl⟩
abbrev main_call2_call0_call0_c_11 : Ref sig .tc := ⟨.hbm, 378, rfl⟩
abbrev main_call2_call0_call0_v48 : Ref sig .tc := ⟨.hbm, 379, rfl⟩
abbrev main_call2_call0_call0_v49 : Ref sig .tc := ⟨.hbm, 380, rfl⟩
abbrev main_call2_call0_call0_c_12 : Ref sig .tc := ⟨.hbm, 381, rfl⟩
abbrev main_call2_call0_call0_v50 : Ref sig .tc := ⟨.hbm, 382, rfl⟩
abbrev main_call2_call0_call0_v51 : Ref sig .tc := ⟨.hbm, 383, rfl⟩
abbrev main_call2_call0_call0_v52 : Ref sig .tc := ⟨.hbm, 384, rfl⟩
abbrev main_call2_call0_call0_v53 : Ref sig .tc := ⟨.hbm, 385, rfl⟩
abbrev main_call2_call0_call0_v54 : Ref sig .tc := ⟨.hbm, 386, rfl⟩
abbrev main_call2_call0_call0_c_13 : Ref sig .tc := ⟨.hbm, 387, rfl⟩
abbrev main_call2_call0_call0_v55 : Ref sig .tc := ⟨.hbm, 388, rfl⟩
abbrev main_call2_call0_call0_v56 : Ref sig .tc := ⟨.hbm, 389, rfl⟩
abbrev main_call2_call0_call0_c_14 : Ref sig .tc := ⟨.hbm, 390, rfl⟩
abbrev main_call2_call0_call0_v57 : Ref sig .tc := ⟨.hbm, 391, rfl⟩
abbrev main_call2_call0_call0_v58 : Ref sig .tc := ⟨.hbm, 392, rfl⟩
abbrev main_call2_call0_call0_v59 : Ref sig .tc := ⟨.hbm, 393, rfl⟩
abbrev main_call2_call0_call0_v60 : Ref sig .tc := ⟨.hbm, 394, rfl⟩
abbrev main_call2_call0_call0_v61 : Ref sig .tc := ⟨.hbm, 395, rfl⟩
abbrev main_call2_call0_call0_c_15 : Ref sig .tc := ⟨.hbm, 396, rfl⟩
abbrev main_call2_call0_call0_v62 : Ref sig .tc := ⟨.hbm, 397, rfl⟩
abbrev main_call2_call0_call0_v63 : Ref sig .tc := ⟨.hbm, 398, rfl⟩
abbrev main_call2_call0_call0_c_16 : Ref sig .tc := ⟨.hbm, 399, rfl⟩
abbrev main_call2_call0_call0_v64 : Ref sig .tc := ⟨.hbm, 400, rfl⟩
abbrev main_call2_call0_call0_v65 : Ref sig .tc := ⟨.hbm, 401, rfl⟩
abbrev main_call2_call0_call0_v66 : Ref sig .tc := ⟨.hbm, 402, rfl⟩
abbrev main_call2_call0_call0_v67 : Ref sig .tc := ⟨.hbm, 403, rfl⟩
abbrev main_call2_call0_call0_v68 : Ref sig .tc := ⟨.hbm, 404, rfl⟩
abbrev main_call2_call0_call0_v69 : Ref sig .tc := ⟨.hbm, 405, rfl⟩
abbrev main_call2_call0_call0_v70 : Ref sig .tc := ⟨.hbm, 406, rfl⟩
abbrev main_call2_call0_call0_v71 : Ref sig .tc := ⟨.hbm, 407, rfl⟩
abbrev main_call2_call0_call0_c_17 : Ref sig .tc := ⟨.hbm, 408, rfl⟩
abbrev main_call2_call0_call0_v72 : Ref sig .tc := ⟨.hbm, 409, rfl⟩
abbrev main_call2_call0_call0_v73 : Ref sig .tc := ⟨.hbm, 410, rfl⟩
abbrev main_call2_call0_call0_v74 : Ref sig .tc := ⟨.hbm, 411, rfl⟩
abbrev main_call2_call0_call0_c_18 : Ref sig .tc := ⟨.hbm, 412, rfl⟩
abbrev main_call2_call0_call0_v75 : Ref sig .tc := ⟨.hbm, 413, rfl⟩
abbrev main_call2_call0_call0_v76 : Ref sig .tc := ⟨.hbm, 414, rfl⟩
abbrev main_call2_call0_call0_c_19 : Ref sig .tc := ⟨.hbm, 415, rfl⟩
abbrev main_call2_call0_call0_v77 : Ref sig .tc := ⟨.hbm, 416, rfl⟩
abbrev main_call2_call0_call0_v78 : Ref sig .tc := ⟨.hbm, 417, rfl⟩
abbrev main_call2_call0_call0_v79 : Ref sig .tc := ⟨.hbm, 418, rfl⟩
abbrev main_call2_call0_call0_v80 : Ref sig .tc := ⟨.hbm, 419, rfl⟩
abbrev main_call2_call0_call0_v81 : Ref sig .tc := ⟨.hbm, 420, rfl⟩
abbrev main_call2_call0_call0_c_20 : Ref sig .tc := ⟨.hbm, 421, rfl⟩
abbrev main_call2_call0_call0_v82 : Ref sig .tc := ⟨.hbm, 422, rfl⟩
abbrev main_call2_call0_call0_v83 : Ref sig .tc := ⟨.hbm, 423, rfl⟩
abbrev main_call2_call0_call0_c_21 : Ref sig .tc := ⟨.hbm, 424, rfl⟩
abbrev main_call2_call0_call0_v84 : Ref sig .tc := ⟨.hbm, 425, rfl⟩
abbrev main_call2_call0_call0_v85 : Ref sig .tc := ⟨.hbm, 426, rfl⟩
abbrev main_call2_call0_call0_v86 : Ref sig .tc := ⟨.hbm, 427, rfl⟩
abbrev main_call2_call0_call0_v87 : Ref sig .tc := ⟨.hbm, 428, rfl⟩
abbrev main_call2_call0_call0_v88 : Ref sig .tc := ⟨.hbm, 429, rfl⟩
abbrev main_call2_call0_call0_c_22 : Ref sig .tc := ⟨.hbm, 430, rfl⟩
abbrev main_call2_call0_call0_v89 : Ref sig .tc := ⟨.hbm, 431, rfl⟩
abbrev main_call2_call0_call0_v90 : Ref sig .tc := ⟨.hbm, 432, rfl⟩
abbrev main_call2_call0_call0_c_23 : Ref sig .tc := ⟨.hbm, 433, rfl⟩
abbrev main_call2_call0_call0_v91 : Ref sig .tc := ⟨.hbm, 434, rfl⟩
abbrev main_call2_call0_call0_v92 : Ref sig .tc := ⟨.hbm, 435, rfl⟩
abbrev main_call2_call0_call0_v93 : Ref sig .tc := ⟨.hbm, 436, rfl⟩
abbrev main_call2_call0_call0_v94 : Ref sig .tc := ⟨.hbm, 437, rfl⟩
abbrev main_call2_call0_call0_v95 : Ref sig .tc := ⟨.hbm, 438, rfl⟩
abbrev main_call2_call0_call0_c_24 : Ref sig .tc := ⟨.hbm, 439, rfl⟩
abbrev main_call2_call0_call0_v96 : Ref sig .tc := ⟨.hbm, 440, rfl⟩
abbrev main_call2_call0_call0_v97 : Ref sig .tc := ⟨.hbm, 441, rfl⟩
abbrev main_call2_call0_call0_c_25 : Ref sig .tc := ⟨.hbm, 442, rfl⟩
abbrev main_call2_call0_call0_v98 : Ref sig .tc := ⟨.hbm, 443, rfl⟩
abbrev main_call2_call0_call0_v99 : Ref sig .tc := ⟨.hbm, 444, rfl⟩
abbrev main_call2_call0_call0_v100 : Ref sig .tc := ⟨.hbm, 445, rfl⟩
abbrev main_call2_call0_call0_v101 : Ref sig .tc := ⟨.hbm, 446, rfl⟩
abbrev main_call2_call0_call0_v102 : Ref sig .tc := ⟨.hbm, 447, rfl⟩
abbrev main_call2_call0_call0_v103 : Ref sig .tc := ⟨.hbm, 448, rfl⟩
abbrev main_call2_call0_call0_v104 : Ref sig .tc := ⟨.hbm, 449, rfl⟩
abbrev main_call2_call0_call0_v105 : Ref sig .tc := ⟨.hbm, 450, rfl⟩
abbrev main_call2_call0_call0_c_26 : Ref sig .tc := ⟨.hbm, 451, rfl⟩
abbrev main_call2_call0_call0_v106 : Ref sig .tc := ⟨.hbm, 452, rfl⟩
abbrev main_call2_call0_call0_v107 : Ref sig .tc := ⟨.hbm, 453, rfl⟩
abbrev main_call2_call0_call0_v108 : Ref sig .tc := ⟨.hbm, 454, rfl⟩
abbrev main_call2_call0_call0_c_27 : Ref sig .tc := ⟨.hbm, 455, rfl⟩
abbrev main_call2_call0_call0_v109 : Ref sig .tc := ⟨.hbm, 456, rfl⟩
abbrev main_call2_call0_call0_v110 : Ref sig .tc := ⟨.hbm, 457, rfl⟩
abbrev main_call2_call0_call0_c_28 : Ref sig .tc := ⟨.hbm, 458, rfl⟩
abbrev main_call2_call0_call0_v111 : Ref sig .tc := ⟨.hbm, 459, rfl⟩
abbrev main_call2_call0_call0_v112 : Ref sig .tc := ⟨.hbm, 460, rfl⟩
abbrev main_call2_call0_call0_v113 : Ref sig .tc := ⟨.hbm, 461, rfl⟩
abbrev main_call2_call0_call0_v114 : Ref sig .tc := ⟨.hbm, 462, rfl⟩
abbrev main_call2_call0_call0_v115 : Ref sig .tc := ⟨.hbm, 463, rfl⟩
abbrev main_call2_call0_call0_c_29 : Ref sig .tc := ⟨.hbm, 464, rfl⟩
abbrev main_call2_call0_call0_v116 : Ref sig .tc := ⟨.hbm, 465, rfl⟩
abbrev main_call2_call0_call0_v117 : Ref sig .tc := ⟨.hbm, 466, rfl⟩
abbrev main_call2_call0_call0_c_30 : Ref sig .tc := ⟨.hbm, 467, rfl⟩
abbrev main_call2_call0_call0_v118 : Ref sig .tc := ⟨.hbm, 468, rfl⟩
abbrev main_call2_call0_call0_v119 : Ref sig .tc := ⟨.hbm, 469, rfl⟩
abbrev main_call2_call0_call0_v120 : Ref sig .tc := ⟨.hbm, 470, rfl⟩
abbrev main_call2_call0_call0_v121 : Ref sig .tc := ⟨.hbm, 471, rfl⟩
abbrev main_call2_call0_call0_v122 : Ref sig .tc := ⟨.hbm, 472, rfl⟩
abbrev main_call2_call0_call0_c_31 : Ref sig .tc := ⟨.hbm, 473, rfl⟩
abbrev main_call2_call0_call0_v123 : Ref sig .tc := ⟨.hbm, 474, rfl⟩
abbrev main_call2_call0_call0_v124 : Ref sig .tc := ⟨.hbm, 475, rfl⟩
abbrev main_call2_call0_call0_c_32 : Ref sig .tc := ⟨.hbm, 476, rfl⟩
abbrev main_call2_call0_call0_v125 : Ref sig .tc := ⟨.hbm, 477, rfl⟩
abbrev main_call2_call0_call0_v126 : Ref sig .tc := ⟨.hbm, 478, rfl⟩
abbrev main_call2_call0_call0_v127 : Ref sig .tc := ⟨.hbm, 479, rfl⟩
abbrev main_call2_call0_call0_v128 : Ref sig .tc := ⟨.hbm, 480, rfl⟩
abbrev main_call2_call0_call0_v129 : Ref sig .tc := ⟨.hbm, 481, rfl⟩
abbrev main_call2_call0_call0_c_33 : Ref sig .tc := ⟨.hbm, 482, rfl⟩
abbrev main_call2_call0_call0_v130 : Ref sig .tc := ⟨.hbm, 483, rfl⟩
abbrev main_call2_call0_call0_v131 : Ref sig .tc := ⟨.hbm, 484, rfl⟩
abbrev main_call2_call0_call0_c_34 : Ref sig .tc := ⟨.hbm, 485, rfl⟩
abbrev main_call2_call0_call0_v132 : Ref sig .tc := ⟨.hbm, 486, rfl⟩
abbrev main_call2_call0_call0_v133 : Ref sig .tc := ⟨.hbm, 487, rfl⟩
abbrev main_call2_call0_call0_v134 : Ref sig .tc := ⟨.hbm, 488, rfl⟩
abbrev main_call2_call0_call0_v135 : Ref sig .tc := ⟨.hbm, 489, rfl⟩
abbrev main_call2_call0_call0_v136 : Ref sig .tc := ⟨.hbm, 490, rfl⟩
abbrev main_call2_call0_call0_v137 : Ref sig .tc := ⟨.hbm, 491, rfl⟩
abbrev main_call2_call0_call0_v138 : Ref sig .tc := ⟨.hbm, 492, rfl⟩
abbrev main_call2_call0_call0_v139 : Ref sig .tc := ⟨.hbm, 493, rfl⟩
abbrev main_call2_call0_call0_c_35 : Ref sig .tc := ⟨.hbm, 494, rfl⟩
abbrev main_call2_call0_call0_v140 : Ref sig .tc := ⟨.hbm, 495, rfl⟩
abbrev main_call2_call0_call0_v141 : Ref sig .tc := ⟨.hbm, 496, rfl⟩
abbrev main_call2_call0_call0_v142 : Ref sig .tc := ⟨.hbm, 497, rfl⟩
abbrev main_call2_call0_call0_c_36 : Ref sig .tc := ⟨.hbm, 498, rfl⟩
abbrev main_call2_call0_call0_v143 : Ref sig .tc := ⟨.hbm, 499, rfl⟩
abbrev main_call2_call0_call0_v144 : Ref sig .tc := ⟨.hbm, 500, rfl⟩
abbrev main_call2_call0_call0_c_37 : Ref sig .tc := ⟨.hbm, 501, rfl⟩
abbrev main_call2_call0_call0_v145 : Ref sig .tc := ⟨.hbm, 502, rfl⟩
abbrev main_call2_call0_call0_v146 : Ref sig .tc := ⟨.hbm, 503, rfl⟩
abbrev main_call2_call0_call0_v147 : Ref sig .tc := ⟨.hbm, 504, rfl⟩
abbrev main_call2_call0_call0_v148 : Ref sig .tc := ⟨.hbm, 505, rfl⟩
abbrev main_call2_call0_call0_v149 : Ref sig .tc := ⟨.hbm, 506, rfl⟩
abbrev main_call2_call0_call0_c_38 : Ref sig .tc := ⟨.hbm, 507, rfl⟩
abbrev main_call2_call0_call0_v150 : Ref sig .tc := ⟨.hbm, 508, rfl⟩
abbrev main_call2_call0_call0_v151 : Ref sig .tc := ⟨.hbm, 509, rfl⟩
abbrev main_call2_call0_call0_c_39 : Ref sig .tc := ⟨.hbm, 510, rfl⟩
abbrev main_call2_call0_call0_v152 : Ref sig .tc := ⟨.hbm, 511, rfl⟩
abbrev main_call2_call0_call0_v153 : Ref sig .tc := ⟨.hbm, 512, rfl⟩
abbrev main_call2_call0_call0_v154 : Ref sig .tc := ⟨.hbm, 513, rfl⟩
abbrev main_call2_call0_call0_v155 : Ref sig .tc := ⟨.hbm, 514, rfl⟩
abbrev main_call2_call0_call0_v156 : Ref sig .tc := ⟨.hbm, 515, rfl⟩
abbrev main_call2_call0_call0_c_40 : Ref sig .tc := ⟨.hbm, 516, rfl⟩
abbrev main_call2_call0_call0_v157 : Ref sig .tc := ⟨.hbm, 517, rfl⟩
abbrev main_call2_call0_call0_v158 : Ref sig .tc := ⟨.hbm, 518, rfl⟩
abbrev main_call2_call0_call0_c_41 : Ref sig .tc := ⟨.hbm, 519, rfl⟩
abbrev main_call2_call0_call0_v159 : Ref sig .tc := ⟨.hbm, 520, rfl⟩
abbrev main_call2_call0_call0_v160 : Ref sig .tc := ⟨.hbm, 521, rfl⟩
abbrev main_call2_call0_call0_v161 : Ref sig .tc := ⟨.hbm, 522, rfl⟩
abbrev main_call2_call0_call0_v162 : Ref sig .tc := ⟨.hbm, 523, rfl⟩
abbrev main_call2_call0_call0_v163 : Ref sig .tc := ⟨.hbm, 524, rfl⟩
abbrev main_call2_call0_call0_c_42 : Ref sig .tc := ⟨.hbm, 525, rfl⟩
abbrev main_call2_call0_call0_v164 : Ref sig .tc := ⟨.hbm, 526, rfl⟩
abbrev main_call2_call0_call0_v165 : Ref sig .tc := ⟨.hbm, 527, rfl⟩
abbrev main_call2_call0_call0_c_43 : Ref sig .tc := ⟨.hbm, 528, rfl⟩
abbrev main_call2_call0_call0_v166 : Ref sig .tc := ⟨.hbm, 529, rfl⟩
abbrev main_call2_call0_call0_v167 : Ref sig .tc := ⟨.hbm, 530, rfl⟩
abbrev main_call2_call0_call0_v168 : Ref sig .tc := ⟨.hbm, 531, rfl⟩
abbrev main_call2_call0_call0_v169 : Ref sig .tc := ⟨.hbm, 532, rfl⟩
abbrev main_call2_call0_call0_v170 : Ref sig .tc := ⟨.hbm, 533, rfl⟩
abbrev main_call2_call0_v18_0 : Ref sig .tc := ⟨.hbm, 534, rfl⟩
abbrev main_call2_call0_call0_v172 : Ref sig .tc := ⟨.hbm, 535, rfl⟩
abbrev main_call2_call0_call0_v173 : Ref sig .tc := ⟨.hbm, 536, rfl⟩
abbrev main_call2_call0_call0_c_44 : Ref sig .tc := ⟨.hbm, 537, rfl⟩
abbrev main_call2_call0_call0_v174 : Ref sig .tc := ⟨.hbm, 538, rfl⟩
abbrev main_call2_call0_v18_1 : Ref sig .tc := ⟨.hbm, 539, rfl⟩
abbrev main_call2_call0_v19 : Ref sig .tc := ⟨.hbm, 540, rfl⟩
abbrev main_call2_call0_c_2 : Ref sig .tc := ⟨.hbm, 541, rfl⟩
abbrev main_call2_call0_v20 : Ref sig .tc := ⟨.hbm, 542, rfl⟩
abbrev main_call2_call0_v21 : Ref sig .tc := ⟨.hbm, 543, rfl⟩
abbrev main_call2_call0_c_3 : Ref sig .tc := ⟨.hbm, 544, rfl⟩
abbrev main_call2_call0_v22 : Ref sig .tc := ⟨.hbm, 545, rfl⟩
abbrev main_call2_call0_v23 : Ref sig .tc := ⟨.hbm, 546, rfl⟩
abbrev main_call2_call0_v24 : Ref sig .tc := ⟨.hbm, 547, rfl⟩
abbrev main_call2_call0_cst : Ref sig .tc := ⟨.hbm, 548, rfl⟩
abbrev main_call2_call0_v25 : Ref sig .tc := ⟨.hbm, 549, rfl⟩
abbrev main_call2_call0_v26 : Ref sig .tc := ⟨.hbm, 550, rfl⟩
abbrev main_call2_call0_v27 : Ref sig .tc := ⟨.hbm, 551, rfl⟩
abbrev main_call2_call0_v28 : Ref sig .tc := ⟨.hbm, 552, rfl⟩
abbrev main_call2_call0_v29 : Ref sig .tc := ⟨.hbm, 553, rfl⟩
abbrev main_call2_call0_v30 : Ref sig .tc := ⟨.hbm, 554, rfl⟩
abbrev main_call2_call0_v31 : Ref sig .tc := ⟨.hbm, 555, rfl⟩
abbrev main_call2_call0_v32 : Ref sig .tc := ⟨.hbm, 556, rfl⟩
abbrev main_call2_v0 : Ref sig .tc := ⟨.hbm, 557, rfl⟩
abbrev main_call2_v1 : Ref sig .tc := ⟨.hbm, 558, rfl⟩
abbrev main_call2_v2 : Ref sig .tc := ⟨.hbm, 559, rfl⟩
abbrev main_call2_v3 : Ref sig .tc := ⟨.hbm, 560, rfl⟩
abbrev main_v36 : Ref sig .tc := ⟨.hbm, 561, rfl⟩
abbrev main_v37 : Ref sig .tc := ⟨.hbm, 562, rfl⟩
abbrev main_call3_v0 : Ref sig .tc := ⟨.hbm, 563, rfl⟩
abbrev main_call3_cst : Ref sig .tc := ⟨.hbm, 564, rfl⟩
abbrev main_call3_c : Ref sig .tc := ⟨.hbm, 565, rfl⟩
abbrev main_call3_v1_0 : Ref sig .tc := ⟨.hbm, 566, rfl⟩
abbrev main_v38 : Ref sig .tc := ⟨.hbm, 567, rfl⟩
abbrev main_v39 : Ref sig .tc := ⟨.hbm, 568, rfl⟩
abbrev main_cst_4 : Ref sig .tc := ⟨.hbm, 569, rfl⟩
abbrev main_v40 : Ref sig .tc := ⟨.hbm, 570, rfl⟩
abbrev main_c_5 : Ref sig .tc := ⟨.hbm, 571, rfl⟩
abbrev main_v41 : Ref sig .tc := ⟨.hbm, 572, rfl⟩
abbrev main_v42 : Ref sig .tc := ⟨.hbm, 573, rfl⟩
abbrev main_c_6 : Ref sig .tc := ⟨.hbm, 574, rfl⟩
abbrev main_v43 : Ref sig .tc := ⟨.hbm, 575, rfl⟩
abbrev main_v44 : Ref sig .tc := ⟨.hbm, 576, rfl⟩
abbrev main_v45 : Ref sig .tc := ⟨.hbm, 577, rfl⟩
abbrev main_v46 : Ref sig .tc := ⟨.hbm, 578, rfl⟩
abbrev main_cst_7 : Ref sig .tc := ⟨.hbm, 579, rfl⟩
abbrev main_v47 : Ref sig .tc := ⟨.hbm, 580, rfl⟩
abbrev main_v48 : Ref sig .tc := ⟨.hbm, 581, rfl⟩
abbrev main_v49 : Ref sig .tc := ⟨.hbm, 582, rfl⟩
abbrev main_v50 : Ref sig .tc := ⟨.hbm, 583, rfl⟩
abbrev main_v51 : Ref sig .tc := ⟨.hbm, 584, rfl⟩
abbrev main_v52 : Ref sig .tc := ⟨.hbm, 585, rfl⟩
abbrev main_v53 : Ref sig .tc := ⟨.hbm, 586, rfl⟩
abbrev main_v54 : Ref sig .tc := ⟨.hbm, 587, rfl⟩
abbrev main_v55 : Ref sig .tc := ⟨.hbm, 588, rfl⟩
abbrev main_v56 : Ref sig .tc := ⟨.hbm, 589, rfl⟩
abbrev main_v57 : Ref sig .tc := ⟨.hbm, 590, rfl⟩
abbrev main_v58 : Ref sig .tc := ⟨.hbm, 591, rfl⟩
abbrev main_call4_cst : Ref sig .tc := ⟨.hbm, 592, rfl⟩
abbrev main_call4_v0 : Ref sig .tc := ⟨.hbm, 593, rfl⟩
abbrev main_v59 : Ref sig .tc := ⟨.hbm, 594, rfl⟩
abbrev main_v60 : Ref sig .tc := ⟨.hbm, 595, rfl⟩
abbrev main_v61 : Ref sig .tc := ⟨.hbm, 596, rfl⟩
abbrev main_v62 : Ref sig .tc := ⟨.hbm, 597, rfl⟩
abbrev main_v63 : Ref sig .tc := ⟨.hbm, 598, rfl⟩
abbrev main_v64 : Ref sig .tc := ⟨.hbm, 599, rfl⟩
abbrev main_cst_8 : Ref sig .tc := ⟨.hbm, 600, rfl⟩
abbrev main_v65 : Ref sig .tc := ⟨.hbm, 601, rfl⟩
abbrev main_cst_9 : Ref sig .tc := ⟨.hbm, 602, rfl⟩
abbrev main_v66 : Ref sig .tc := ⟨.hbm, 603, rfl⟩
abbrev main_v67 : Ref sig .tc := ⟨.hbm, 604, rfl⟩
abbrev main_v68 : Ref sig .tc := ⟨.hbm, 605, rfl⟩
abbrev main_v69 : Ref sig .tc := ⟨.hbm, 606, rfl⟩
abbrev main_v70 : Ref sig .tc := ⟨.hbm, 607, rfl⟩
abbrev main_v71 : Ref sig .tc := ⟨.hbm, 608, rfl⟩
abbrev main_cst_10 : Ref sig .tc := ⟨.hbm, 609, rfl⟩
abbrev main_v72 : Ref sig .tc := ⟨.hbm, 610, rfl⟩
abbrev main_v73 : Ref sig .tc := ⟨.hbm, 611, rfl⟩
abbrev main_v74 : Ref sig .tc := ⟨.hbm, 612, rfl⟩
abbrev main_v75 : Ref sig .tc := ⟨.hbm, 613, rfl⟩
abbrev main_c_11 : Ref sig .tc := ⟨.hbm, 614, rfl⟩
abbrev main_v76 : Ref sig .tc := ⟨.hbm, 615, rfl⟩
abbrev main_v77 : Ref sig .tc := ⟨.hbm, 616, rfl⟩
abbrev main_c_12 : Ref sig .tc := ⟨.hbm, 617, rfl⟩
abbrev main_v78 : Ref sig .tc := ⟨.hbm, 618, rfl⟩
abbrev main_v79 : Ref sig .tc := ⟨.hbm, 619, rfl⟩
abbrev main_v80 : Ref sig .tc := ⟨.hbm, 620, rfl⟩
abbrev main_c_13 : Ref sig .tc := ⟨.hbm, 621, rfl⟩
abbrev main_v81 : Ref sig .tc := ⟨.hbm, 622, rfl⟩
abbrev main_v82 : Ref sig .tc := ⟨.hbm, 623, rfl⟩
abbrev main_v83 : Ref sig .tc := ⟨.hbm, 624, rfl⟩
abbrev main_v84 : Ref sig .tc := ⟨.hbm, 625, rfl⟩
abbrev main_v85 : Ref sig .tc := ⟨.hbm, 626, rfl⟩
abbrev main_cst_14 : Ref sig .tc := ⟨.hbm, 627, rfl⟩
abbrev main_v86 : Ref sig .tc := ⟨.hbm, 628, rfl⟩
abbrev main_v87 : Ref sig .tc := ⟨.hbm, 629, rfl⟩
abbrev main_v88 : Ref sig .tc := ⟨.hbm, 630, rfl⟩
abbrev main_call5_cst : Ref sig .tc := ⟨.hbm, 631, rfl⟩
abbrev main_call5_cst_0 : Ref sig .tc := ⟨.hbm, 632, rfl⟩
abbrev main_call5_call0_v0 : Ref sig .tc := ⟨.hbm, 633, rfl⟩
abbrev main_call5_call0_v1 : Ref sig .tc := ⟨.hbm, 634, rfl⟩
abbrev main_call5_call0_v2 : Ref sig .tc := ⟨.hbm, 635, rfl⟩
abbrev main_call5_call0_v3 : Ref sig .tc := ⟨.hbm, 636, rfl⟩
abbrev main_call5_call0_v4 : Ref sig .tc := ⟨.hbm, 637, rfl⟩
abbrev main_call5_call0_v5 : Ref sig .tc := ⟨.hbm, 638, rfl⟩
abbrev main_call5_call0_v6 : Ref sig .tc := ⟨.hbm, 639, rfl⟩
abbrev main_call5_call0_v7 : Ref sig .tc := ⟨.hbm, 640, rfl⟩
abbrev main_call5_call0_v8 : Ref sig .tc := ⟨.hbm, 641, rfl⟩
abbrev main_call5_call0_c : Ref sig .tc := ⟨.hbm, 642, rfl⟩
abbrev main_call5_call0_v9 : Ref sig .tc := ⟨.hbm, 643, rfl⟩
abbrev main_call5_call0_v10 : Ref sig .tc := ⟨.hbm, 644, rfl⟩
abbrev main_call5_call0_c_0 : Ref sig .tc := ⟨.hbm, 645, rfl⟩
abbrev main_call5_call0_v11 : Ref sig .tc := ⟨.hbm, 646, rfl⟩
abbrev main_call5_call0_v12 : Ref sig .tc := ⟨.hbm, 647, rfl⟩
abbrev main_call5_call0_v13 : Ref sig .tc := ⟨.hbm, 648, rfl⟩
abbrev main_call5_call0_c_1 : Ref sig .tc := ⟨.hbm, 649, rfl⟩
abbrev main_call5_call0_v14 : Ref sig .tc := ⟨.hbm, 650, rfl⟩
abbrev main_call5_call0_v15 : Ref sig .tc := ⟨.hbm, 651, rfl⟩
abbrev main_call5_call0_v16 : Ref sig .tc := ⟨.hbm, 652, rfl⟩
abbrev main_call5_call0_v17 : Ref sig .tc := ⟨.hbm, 653, rfl⟩
abbrev main_call5_call0_call0_v0 : Ref sig .tc := ⟨.hbm, 654, rfl⟩
abbrev main_call5_call0_call0_c : Ref sig .tc := ⟨.hbm, 655, rfl⟩
abbrev main_call5_call0_call0_v1 : Ref sig .tc := ⟨.hbm, 656, rfl⟩
abbrev main_call5_call0_call0_v2 : Ref sig .tc := ⟨.hbm, 657, rfl⟩
abbrev main_call5_call0_call0_v3 : Ref sig .tc := ⟨.hbm, 658, rfl⟩
abbrev main_call5_call0_call0_v4 : Ref sig .tc := ⟨.hbm, 659, rfl⟩
abbrev main_call5_call0_call0_v5 : Ref sig .tc := ⟨.hbm, 660, rfl⟩
abbrev main_call5_call0_call0_v6 : Ref sig .tc := ⟨.hbm, 661, rfl⟩
abbrev main_call5_call0_call0_c_0 : Ref sig .tc := ⟨.hbm, 662, rfl⟩
abbrev main_call5_call0_call0_v7 : Ref sig .tc := ⟨.hbm, 663, rfl⟩
abbrev main_call5_call0_call0_v8 : Ref sig .tc := ⟨.hbm, 664, rfl⟩
abbrev main_call5_call0_call0_c_1 : Ref sig .tc := ⟨.hbm, 665, rfl⟩
abbrev main_call5_call0_call0_v9 : Ref sig .tc := ⟨.hbm, 666, rfl⟩
abbrev main_call5_call0_call0_v10 : Ref sig .tc := ⟨.hbm, 667, rfl⟩
abbrev main_call5_call0_call0_v11 : Ref sig .tc := ⟨.hbm, 668, rfl⟩
abbrev main_call5_call0_call0_v12 : Ref sig .tc := ⟨.hbm, 669, rfl⟩
abbrev main_call5_call0_call0_v13 : Ref sig .tc := ⟨.hbm, 670, rfl⟩
abbrev main_call5_call0_call0_c_2 : Ref sig .tc := ⟨.hbm, 671, rfl⟩
abbrev main_call5_call0_call0_v14 : Ref sig .tc := ⟨.hbm, 672, rfl⟩
abbrev main_call5_call0_call0_v15 : Ref sig .tc := ⟨.hbm, 673, rfl⟩
abbrev main_call5_call0_call0_c_3 : Ref sig .tc := ⟨.hbm, 674, rfl⟩
abbrev main_call5_call0_call0_v16 : Ref sig .tc := ⟨.hbm, 675, rfl⟩
abbrev main_call5_call0_call0_v17 : Ref sig .tc := ⟨.hbm, 676, rfl⟩
abbrev main_call5_call0_call0_v18 : Ref sig .tc := ⟨.hbm, 677, rfl⟩
abbrev main_call5_call0_call0_v19 : Ref sig .tc := ⟨.hbm, 678, rfl⟩
abbrev main_call5_call0_call0_v20 : Ref sig .tc := ⟨.hbm, 679, rfl⟩
abbrev main_call5_call0_call0_c_4 : Ref sig .tc := ⟨.hbm, 680, rfl⟩
abbrev main_call5_call0_call0_v21 : Ref sig .tc := ⟨.hbm, 681, rfl⟩
abbrev main_call5_call0_call0_v22 : Ref sig .tc := ⟨.hbm, 682, rfl⟩
abbrev main_call5_call0_call0_c_5 : Ref sig .tc := ⟨.hbm, 683, rfl⟩
abbrev main_call5_call0_call0_v23 : Ref sig .tc := ⟨.hbm, 684, rfl⟩
abbrev main_call5_call0_call0_v24 : Ref sig .tc := ⟨.hbm, 685, rfl⟩
abbrev main_call5_call0_call0_v25 : Ref sig .tc := ⟨.hbm, 686, rfl⟩
abbrev main_call5_call0_call0_v26 : Ref sig .tc := ⟨.hbm, 687, rfl⟩
abbrev main_call5_call0_call0_v27 : Ref sig .tc := ⟨.hbm, 688, rfl⟩
abbrev main_call5_call0_call0_c_6 : Ref sig .tc := ⟨.hbm, 689, rfl⟩
abbrev main_call5_call0_call0_v28 : Ref sig .tc := ⟨.hbm, 690, rfl⟩
abbrev main_call5_call0_call0_v29 : Ref sig .tc := ⟨.hbm, 691, rfl⟩
abbrev main_call5_call0_call0_c_7 : Ref sig .tc := ⟨.hbm, 692, rfl⟩
abbrev main_call5_call0_call0_v30 : Ref sig .tc := ⟨.hbm, 693, rfl⟩
abbrev main_call5_call0_call0_v31 : Ref sig .tc := ⟨.hbm, 694, rfl⟩
abbrev main_call5_call0_call0_v32 : Ref sig .tc := ⟨.hbm, 695, rfl⟩
abbrev main_call5_call0_call0_v33 : Ref sig .tc := ⟨.hbm, 696, rfl⟩
abbrev main_call5_call0_call0_v34 : Ref sig .tc := ⟨.hbm, 697, rfl⟩
abbrev main_call5_call0_call0_v35 : Ref sig .tc := ⟨.hbm, 698, rfl⟩
abbrev main_call5_call0_call0_v36 : Ref sig .tc := ⟨.hbm, 699, rfl⟩
abbrev main_call5_call0_call0_v37 : Ref sig .tc := ⟨.hbm, 700, rfl⟩
abbrev main_call5_call0_call0_c_8 : Ref sig .tc := ⟨.hbm, 701, rfl⟩
abbrev main_call5_call0_call0_v38 : Ref sig .tc := ⟨.hbm, 702, rfl⟩
abbrev main_call5_call0_call0_v39 : Ref sig .tc := ⟨.hbm, 703, rfl⟩
abbrev main_call5_call0_call0_v40 : Ref sig .tc := ⟨.hbm, 704, rfl⟩
abbrev main_call5_call0_call0_c_9 : Ref sig .tc := ⟨.hbm, 705, rfl⟩
abbrev main_call5_call0_call0_v41 : Ref sig .tc := ⟨.hbm, 706, rfl⟩
abbrev main_call5_call0_call0_v42 : Ref sig .tc := ⟨.hbm, 707, rfl⟩
abbrev main_call5_call0_call0_c_10 : Ref sig .tc := ⟨.hbm, 708, rfl⟩
abbrev main_call5_call0_call0_v43 : Ref sig .tc := ⟨.hbm, 709, rfl⟩
abbrev main_call5_call0_call0_v44 : Ref sig .tc := ⟨.hbm, 710, rfl⟩
abbrev main_call5_call0_call0_v45 : Ref sig .tc := ⟨.hbm, 711, rfl⟩
abbrev main_call5_call0_call0_v46 : Ref sig .tc := ⟨.hbm, 712, rfl⟩
abbrev main_call5_call0_call0_v47 : Ref sig .tc := ⟨.hbm, 713, rfl⟩
abbrev main_call5_call0_call0_c_11 : Ref sig .tc := ⟨.hbm, 714, rfl⟩
abbrev main_call5_call0_call0_v48 : Ref sig .tc := ⟨.hbm, 715, rfl⟩
abbrev main_call5_call0_call0_v49 : Ref sig .tc := ⟨.hbm, 716, rfl⟩
abbrev main_call5_call0_call0_c_12 : Ref sig .tc := ⟨.hbm, 717, rfl⟩
abbrev main_call5_call0_call0_v50 : Ref sig .tc := ⟨.hbm, 718, rfl⟩
abbrev main_call5_call0_call0_v51 : Ref sig .tc := ⟨.hbm, 719, rfl⟩
abbrev main_call5_call0_call0_v52 : Ref sig .tc := ⟨.hbm, 720, rfl⟩
abbrev main_call5_call0_call0_v53 : Ref sig .tc := ⟨.hbm, 721, rfl⟩
abbrev main_call5_call0_call0_v54 : Ref sig .tc := ⟨.hbm, 722, rfl⟩
abbrev main_call5_call0_call0_c_13 : Ref sig .tc := ⟨.hbm, 723, rfl⟩
abbrev main_call5_call0_call0_v55 : Ref sig .tc := ⟨.hbm, 724, rfl⟩
abbrev main_call5_call0_call0_v56 : Ref sig .tc := ⟨.hbm, 725, rfl⟩
abbrev main_call5_call0_call0_c_14 : Ref sig .tc := ⟨.hbm, 726, rfl⟩
abbrev main_call5_call0_call0_v57 : Ref sig .tc := ⟨.hbm, 727, rfl⟩
abbrev main_call5_call0_call0_v58 : Ref sig .tc := ⟨.hbm, 728, rfl⟩
abbrev main_call5_call0_call0_v59 : Ref sig .tc := ⟨.hbm, 729, rfl⟩
abbrev main_call5_call0_call0_v60 : Ref sig .tc := ⟨.hbm, 730, rfl⟩
abbrev main_call5_call0_call0_v61 : Ref sig .tc := ⟨.hbm, 731, rfl⟩
abbrev main_call5_call0_call0_c_15 : Ref sig .tc := ⟨.hbm, 732, rfl⟩
abbrev main_call5_call0_call0_v62 : Ref sig .tc := ⟨.hbm, 733, rfl⟩
abbrev main_call5_call0_call0_v63 : Ref sig .tc := ⟨.hbm, 734, rfl⟩
abbrev main_call5_call0_call0_c_16 : Ref sig .tc := ⟨.hbm, 735, rfl⟩
abbrev main_call5_call0_call0_v64 : Ref sig .tc := ⟨.hbm, 736, rfl⟩
abbrev main_call5_call0_call0_v65 : Ref sig .tc := ⟨.hbm, 737, rfl⟩
abbrev main_call5_call0_call0_v66 : Ref sig .tc := ⟨.hbm, 738, rfl⟩
abbrev main_call5_call0_call0_v67 : Ref sig .tc := ⟨.hbm, 739, rfl⟩
abbrev main_call5_call0_call0_v68 : Ref sig .tc := ⟨.hbm, 740, rfl⟩
abbrev main_call5_call0_call0_v69 : Ref sig .tc := ⟨.hbm, 741, rfl⟩
abbrev main_call5_call0_call0_v70 : Ref sig .tc := ⟨.hbm, 742, rfl⟩
abbrev main_call5_call0_call0_v71 : Ref sig .tc := ⟨.hbm, 743, rfl⟩
abbrev main_call5_call0_call0_c_17 : Ref sig .tc := ⟨.hbm, 744, rfl⟩
abbrev main_call5_call0_call0_v72 : Ref sig .tc := ⟨.hbm, 745, rfl⟩
abbrev main_call5_call0_call0_v73 : Ref sig .tc := ⟨.hbm, 746, rfl⟩
abbrev main_call5_call0_call0_v74 : Ref sig .tc := ⟨.hbm, 747, rfl⟩
abbrev main_call5_call0_call0_c_18 : Ref sig .tc := ⟨.hbm, 748, rfl⟩
abbrev main_call5_call0_call0_v75 : Ref sig .tc := ⟨.hbm, 749, rfl⟩
abbrev main_call5_call0_call0_v76 : Ref sig .tc := ⟨.hbm, 750, rfl⟩
abbrev main_call5_call0_call0_c_19 : Ref sig .tc := ⟨.hbm, 751, rfl⟩
abbrev main_call5_call0_call0_v77 : Ref sig .tc := ⟨.hbm, 752, rfl⟩
abbrev main_call5_call0_call0_v78 : Ref sig .tc := ⟨.hbm, 753, rfl⟩
abbrev main_call5_call0_call0_v79 : Ref sig .tc := ⟨.hbm, 754, rfl⟩
abbrev main_call5_call0_call0_v80 : Ref sig .tc := ⟨.hbm, 755, rfl⟩
abbrev main_call5_call0_call0_v81 : Ref sig .tc := ⟨.hbm, 756, rfl⟩
abbrev main_call5_call0_call0_c_20 : Ref sig .tc := ⟨.hbm, 757, rfl⟩
abbrev main_call5_call0_call0_v82 : Ref sig .tc := ⟨.hbm, 758, rfl⟩
abbrev main_call5_call0_call0_v83 : Ref sig .tc := ⟨.hbm, 759, rfl⟩
abbrev main_call5_call0_call0_c_21 : Ref sig .tc := ⟨.hbm, 760, rfl⟩
abbrev main_call5_call0_call0_v84 : Ref sig .tc := ⟨.hbm, 761, rfl⟩
abbrev main_call5_call0_call0_v85 : Ref sig .tc := ⟨.hbm, 762, rfl⟩
abbrev main_call5_call0_call0_v86 : Ref sig .tc := ⟨.hbm, 763, rfl⟩
abbrev main_call5_call0_call0_v87 : Ref sig .tc := ⟨.hbm, 764, rfl⟩
abbrev main_call5_call0_call0_v88 : Ref sig .tc := ⟨.hbm, 765, rfl⟩
abbrev main_call5_call0_call0_c_22 : Ref sig .tc := ⟨.hbm, 766, rfl⟩
abbrev main_call5_call0_call0_v89 : Ref sig .tc := ⟨.hbm, 767, rfl⟩
abbrev main_call5_call0_call0_v90 : Ref sig .tc := ⟨.hbm, 768, rfl⟩
abbrev main_call5_call0_call0_c_23 : Ref sig .tc := ⟨.hbm, 769, rfl⟩
abbrev main_call5_call0_call0_v91 : Ref sig .tc := ⟨.hbm, 770, rfl⟩
abbrev main_call5_call0_call0_v92 : Ref sig .tc := ⟨.hbm, 771, rfl⟩
abbrev main_call5_call0_call0_v93 : Ref sig .tc := ⟨.hbm, 772, rfl⟩
abbrev main_call5_call0_call0_v94 : Ref sig .tc := ⟨.hbm, 773, rfl⟩
abbrev main_call5_call0_call0_v95 : Ref sig .tc := ⟨.hbm, 774, rfl⟩
abbrev main_call5_call0_call0_c_24 : Ref sig .tc := ⟨.hbm, 775, rfl⟩
abbrev main_call5_call0_call0_v96 : Ref sig .tc := ⟨.hbm, 776, rfl⟩
abbrev main_call5_call0_call0_v97 : Ref sig .tc := ⟨.hbm, 777, rfl⟩
abbrev main_call5_call0_call0_c_25 : Ref sig .tc := ⟨.hbm, 778, rfl⟩
abbrev main_call5_call0_call0_v98 : Ref sig .tc := ⟨.hbm, 779, rfl⟩
abbrev main_call5_call0_call0_v99 : Ref sig .tc := ⟨.hbm, 780, rfl⟩
abbrev main_call5_call0_call0_v100 : Ref sig .tc := ⟨.hbm, 781, rfl⟩
abbrev main_call5_call0_call0_v101 : Ref sig .tc := ⟨.hbm, 782, rfl⟩
abbrev main_call5_call0_call0_v102 : Ref sig .tc := ⟨.hbm, 783, rfl⟩
abbrev main_call5_call0_call0_v103 : Ref sig .tc := ⟨.hbm, 784, rfl⟩
abbrev main_call5_call0_call0_v104 : Ref sig .tc := ⟨.hbm, 785, rfl⟩
abbrev main_call5_call0_call0_v105 : Ref sig .tc := ⟨.hbm, 786, rfl⟩
abbrev main_call5_call0_call0_c_26 : Ref sig .tc := ⟨.hbm, 787, rfl⟩
abbrev main_call5_call0_call0_v106 : Ref sig .tc := ⟨.hbm, 788, rfl⟩
abbrev main_call5_call0_call0_v107 : Ref sig .tc := ⟨.hbm, 789, rfl⟩
abbrev main_call5_call0_call0_v108 : Ref sig .tc := ⟨.hbm, 790, rfl⟩
abbrev main_call5_call0_call0_c_27 : Ref sig .tc := ⟨.hbm, 791, rfl⟩
abbrev main_call5_call0_call0_v109 : Ref sig .tc := ⟨.hbm, 792, rfl⟩
abbrev main_call5_call0_call0_v110 : Ref sig .tc := ⟨.hbm, 793, rfl⟩
abbrev main_call5_call0_call0_c_28 : Ref sig .tc := ⟨.hbm, 794, rfl⟩
abbrev main_call5_call0_call0_v111 : Ref sig .tc := ⟨.hbm, 795, rfl⟩
abbrev main_call5_call0_call0_v112 : Ref sig .tc := ⟨.hbm, 796, rfl⟩
abbrev main_call5_call0_call0_v113 : Ref sig .tc := ⟨.hbm, 797, rfl⟩
abbrev main_call5_call0_call0_v114 : Ref sig .tc := ⟨.hbm, 798, rfl⟩
abbrev main_call5_call0_call0_v115 : Ref sig .tc := ⟨.hbm, 799, rfl⟩
abbrev main_call5_call0_call0_c_29 : Ref sig .tc := ⟨.hbm, 800, rfl⟩
abbrev main_call5_call0_call0_v116 : Ref sig .tc := ⟨.hbm, 801, rfl⟩
abbrev main_call5_call0_call0_v117 : Ref sig .tc := ⟨.hbm, 802, rfl⟩
abbrev main_call5_call0_call0_c_30 : Ref sig .tc := ⟨.hbm, 803, rfl⟩
abbrev main_call5_call0_call0_v118 : Ref sig .tc := ⟨.hbm, 804, rfl⟩
abbrev main_call5_call0_call0_v119 : Ref sig .tc := ⟨.hbm, 805, rfl⟩
abbrev main_call5_call0_call0_v120 : Ref sig .tc := ⟨.hbm, 806, rfl⟩
abbrev main_call5_call0_call0_v121 : Ref sig .tc := ⟨.hbm, 807, rfl⟩
abbrev main_call5_call0_call0_v122 : Ref sig .tc := ⟨.hbm, 808, rfl⟩
abbrev main_call5_call0_call0_c_31 : Ref sig .tc := ⟨.hbm, 809, rfl⟩
abbrev main_call5_call0_call0_v123 : Ref sig .tc := ⟨.hbm, 810, rfl⟩
abbrev main_call5_call0_call0_v124 : Ref sig .tc := ⟨.hbm, 811, rfl⟩
abbrev main_call5_call0_call0_c_32 : Ref sig .tc := ⟨.hbm, 812, rfl⟩
abbrev main_call5_call0_call0_v125 : Ref sig .tc := ⟨.hbm, 813, rfl⟩
abbrev main_call5_call0_call0_v126 : Ref sig .tc := ⟨.hbm, 814, rfl⟩
abbrev main_call5_call0_call0_v127 : Ref sig .tc := ⟨.hbm, 815, rfl⟩
abbrev main_call5_call0_call0_v128 : Ref sig .tc := ⟨.hbm, 816, rfl⟩
abbrev main_call5_call0_call0_v129 : Ref sig .tc := ⟨.hbm, 817, rfl⟩
abbrev main_call5_call0_call0_c_33 : Ref sig .tc := ⟨.hbm, 818, rfl⟩
abbrev main_call5_call0_call0_v130 : Ref sig .tc := ⟨.hbm, 819, rfl⟩
abbrev main_call5_call0_call0_v131 : Ref sig .tc := ⟨.hbm, 820, rfl⟩
abbrev main_call5_call0_call0_c_34 : Ref sig .tc := ⟨.hbm, 821, rfl⟩
abbrev main_call5_call0_call0_v132 : Ref sig .tc := ⟨.hbm, 822, rfl⟩
abbrev main_call5_call0_call0_v133 : Ref sig .tc := ⟨.hbm, 823, rfl⟩
abbrev main_call5_call0_call0_v134 : Ref sig .tc := ⟨.hbm, 824, rfl⟩
abbrev main_call5_call0_call0_v135 : Ref sig .tc := ⟨.hbm, 825, rfl⟩
abbrev main_call5_call0_call0_v136 : Ref sig .tc := ⟨.hbm, 826, rfl⟩
abbrev main_call5_call0_call0_v137 : Ref sig .tc := ⟨.hbm, 827, rfl⟩
abbrev main_call5_call0_call0_v138 : Ref sig .tc := ⟨.hbm, 828, rfl⟩
abbrev main_call5_call0_call0_v139 : Ref sig .tc := ⟨.hbm, 829, rfl⟩
abbrev main_call5_call0_call0_c_35 : Ref sig .tc := ⟨.hbm, 830, rfl⟩
abbrev main_call5_call0_call0_v140 : Ref sig .tc := ⟨.hbm, 831, rfl⟩
abbrev main_call5_call0_call0_v141 : Ref sig .tc := ⟨.hbm, 832, rfl⟩
abbrev main_call5_call0_call0_v142 : Ref sig .tc := ⟨.hbm, 833, rfl⟩
abbrev main_call5_call0_call0_c_36 : Ref sig .tc := ⟨.hbm, 834, rfl⟩
abbrev main_call5_call0_call0_v143 : Ref sig .tc := ⟨.hbm, 835, rfl⟩
abbrev main_call5_call0_call0_v144 : Ref sig .tc := ⟨.hbm, 836, rfl⟩
abbrev main_call5_call0_call0_c_37 : Ref sig .tc := ⟨.hbm, 837, rfl⟩
abbrev main_call5_call0_call0_v145 : Ref sig .tc := ⟨.hbm, 838, rfl⟩
abbrev main_call5_call0_call0_v146 : Ref sig .tc := ⟨.hbm, 839, rfl⟩
abbrev main_call5_call0_call0_v147 : Ref sig .tc := ⟨.hbm, 840, rfl⟩
abbrev main_call5_call0_call0_v148 : Ref sig .tc := ⟨.hbm, 841, rfl⟩
abbrev main_call5_call0_call0_v149 : Ref sig .tc := ⟨.hbm, 842, rfl⟩
abbrev main_call5_call0_call0_c_38 : Ref sig .tc := ⟨.hbm, 843, rfl⟩
abbrev main_call5_call0_call0_v150 : Ref sig .tc := ⟨.hbm, 844, rfl⟩
abbrev main_call5_call0_call0_v151 : Ref sig .tc := ⟨.hbm, 845, rfl⟩
abbrev main_call5_call0_call0_c_39 : Ref sig .tc := ⟨.hbm, 846, rfl⟩
abbrev main_call5_call0_call0_v152 : Ref sig .tc := ⟨.hbm, 847, rfl⟩
abbrev main_call5_call0_call0_v153 : Ref sig .tc := ⟨.hbm, 848, rfl⟩
abbrev main_call5_call0_call0_v154 : Ref sig .tc := ⟨.hbm, 849, rfl⟩
abbrev main_call5_call0_call0_v155 : Ref sig .tc := ⟨.hbm, 850, rfl⟩
abbrev main_call5_call0_call0_v156 : Ref sig .tc := ⟨.hbm, 851, rfl⟩
abbrev main_call5_call0_call0_c_40 : Ref sig .tc := ⟨.hbm, 852, rfl⟩
abbrev main_call5_call0_call0_v157 : Ref sig .tc := ⟨.hbm, 853, rfl⟩
abbrev main_call5_call0_call0_v158 : Ref sig .tc := ⟨.hbm, 854, rfl⟩
abbrev main_call5_call0_call0_c_41 : Ref sig .tc := ⟨.hbm, 855, rfl⟩
abbrev main_call5_call0_call0_v159 : Ref sig .tc := ⟨.hbm, 856, rfl⟩
abbrev main_call5_call0_call0_v160 : Ref sig .tc := ⟨.hbm, 857, rfl⟩
abbrev main_call5_call0_call0_v161 : Ref sig .tc := ⟨.hbm, 858, rfl⟩
abbrev main_call5_call0_call0_v162 : Ref sig .tc := ⟨.hbm, 859, rfl⟩
abbrev main_call5_call0_call0_v163 : Ref sig .tc := ⟨.hbm, 860, rfl⟩
abbrev main_call5_call0_call0_c_42 : Ref sig .tc := ⟨.hbm, 861, rfl⟩
abbrev main_call5_call0_call0_v164 : Ref sig .tc := ⟨.hbm, 862, rfl⟩
abbrev main_call5_call0_call0_v165 : Ref sig .tc := ⟨.hbm, 863, rfl⟩
abbrev main_call5_call0_call0_c_43 : Ref sig .tc := ⟨.hbm, 864, rfl⟩
abbrev main_call5_call0_call0_v166 : Ref sig .tc := ⟨.hbm, 865, rfl⟩
abbrev main_call5_call0_call0_v167 : Ref sig .tc := ⟨.hbm, 866, rfl⟩
abbrev main_call5_call0_call0_v168 : Ref sig .tc := ⟨.hbm, 867, rfl⟩
abbrev main_call5_call0_call0_v169 : Ref sig .tc := ⟨.hbm, 868, rfl⟩
abbrev main_call5_call0_call0_v170 : Ref sig .tc := ⟨.hbm, 869, rfl⟩
abbrev main_call5_call0_v18_0 : Ref sig .tc := ⟨.hbm, 870, rfl⟩
abbrev main_call5_call0_call0_v172 : Ref sig .tc := ⟨.hbm, 871, rfl⟩
abbrev main_call5_call0_call0_v173 : Ref sig .tc := ⟨.hbm, 872, rfl⟩
abbrev main_call5_call0_call0_c_44 : Ref sig .tc := ⟨.hbm, 873, rfl⟩
abbrev main_call5_call0_call0_v174 : Ref sig .tc := ⟨.hbm, 874, rfl⟩
abbrev main_call5_call0_v18_1 : Ref sig .tc := ⟨.hbm, 875, rfl⟩
abbrev main_call5_call0_v19 : Ref sig .tc := ⟨.hbm, 876, rfl⟩
abbrev main_call5_call0_c_2 : Ref sig .tc := ⟨.hbm, 877, rfl⟩
abbrev main_call5_call0_v20 : Ref sig .tc := ⟨.hbm, 878, rfl⟩
abbrev main_call5_call0_v21 : Ref sig .tc := ⟨.hbm, 879, rfl⟩
abbrev main_call5_call0_c_3 : Ref sig .tc := ⟨.hbm, 880, rfl⟩
abbrev main_call5_call0_v22 : Ref sig .tc := ⟨.hbm, 881, rfl⟩
abbrev main_call5_call0_v23 : Ref sig .tc := ⟨.hbm, 882, rfl⟩
abbrev main_call5_call0_v24 : Ref sig .tc := ⟨.hbm, 883, rfl⟩
abbrev main_call5_call0_cst : Ref sig .tc := ⟨.hbm, 884, rfl⟩
abbrev main_call5_call0_v25 : Ref sig .tc := ⟨.hbm, 885, rfl⟩
abbrev main_call5_call0_v26 : Ref sig .tc := ⟨.hbm, 886, rfl⟩
abbrev main_call5_call0_v27 : Ref sig .tc := ⟨.hbm, 887, rfl⟩
abbrev main_call5_call0_v28 : Ref sig .tc := ⟨.hbm, 888, rfl⟩
abbrev main_call5_call0_v29 : Ref sig .tc := ⟨.hbm, 889, rfl⟩
abbrev main_call5_call0_v30 : Ref sig .tc := ⟨.hbm, 890, rfl⟩
abbrev main_call5_call0_v31 : Ref sig .tc := ⟨.hbm, 891, rfl⟩
abbrev main_call5_call0_v32 : Ref sig .tc := ⟨.hbm, 892, rfl⟩
abbrev main_call5_v0 : Ref sig .tc := ⟨.hbm, 893, rfl⟩
abbrev main_call5_v1 : Ref sig .tc := ⟨.hbm, 894, rfl⟩
abbrev main_call5_v2 : Ref sig .tc := ⟨.hbm, 895, rfl⟩
abbrev main_call5_v3 : Ref sig .tc := ⟨.hbm, 896, rfl⟩
abbrev main_v89 : Ref sig .tc := ⟨.hbm, 897, rfl⟩
abbrev main_v90 : Ref sig .tc := ⟨.hbm, 898, rfl⟩
abbrev main_call6_v0 : Ref sig .tc := ⟨.hbm, 899, rfl⟩
abbrev main_call6_cst : Ref sig .tc := ⟨.hbm, 900, rfl⟩
abbrev main_call6_c : Ref sig .tc := ⟨.hbm, 901, rfl⟩
abbrev main_call6_v1_0 : Ref sig .tc := ⟨.hbm, 902, rfl⟩
abbrev main_v91 : Ref sig .tc := ⟨.hbm, 903, rfl⟩
abbrev main_v92 : Ref sig .tc := ⟨.hbm, 904, rfl⟩
abbrev main_cst_15 : Ref sig .tc := ⟨.hbm, 905, rfl⟩
abbrev main_v93 : Ref sig .tc := ⟨.hbm, 906, rfl⟩
abbrev main_c_16 : Ref sig .tc := ⟨.hbm, 907, rfl⟩
abbrev main_v94 : Ref sig .tc := ⟨.hbm, 908, rfl⟩
abbrev main_v95 : Ref sig .tc := ⟨.hbm, 909, rfl⟩
abbrev main_c_17 : Ref sig .tc := ⟨.hbm, 910, rfl⟩
abbrev main_v96 : Ref sig .tc := ⟨.hbm, 911, rfl⟩
abbrev main_v97 : Ref sig .tc := ⟨.hbm, 912, rfl⟩
abbrev main_v98 : Ref sig .tc := ⟨.hbm, 913, rfl⟩
abbrev main_v99 : Ref sig .tc := ⟨.hbm, 914, rfl⟩
abbrev main_cst_18 : Ref sig .tc := ⟨.hbm, 915, rfl⟩
abbrev main_v100 : Ref sig .tc := ⟨.hbm, 916, rfl⟩
abbrev main_v101 : Ref sig .tc := ⟨.hbm, 917, rfl⟩
abbrev main_v102 : Ref sig .tc := ⟨.hbm, 918, rfl⟩
abbrev main_call7_cst : Ref sig .tc := ⟨.hbm, 919, rfl⟩
abbrev main_call7_v0 : Ref sig .tc := ⟨.hbm, 920, rfl⟩
abbrev main_v103 : Ref sig .tc := ⟨.hbm, 921, rfl⟩
abbrev main_cst_19 : Ref sig .tc := ⟨.hbm, 922, rfl⟩
abbrev main_v104 : Ref sig .tc := ⟨.hbm, 923, rfl⟩
abbrev main_v105 : Ref sig .tc := ⟨.hbm, 924, rfl⟩
abbrev main_v106 : Ref sig .tc := ⟨.hbm, 925, rfl⟩
abbrev main_v107 : Ref sig .tc := ⟨.hbm, 926, rfl⟩
abbrev main_cst_20 : Ref sig .tc := ⟨.hbm, 927, rfl⟩
abbrev main_v108 : Ref sig .tc := ⟨.hbm, 928, rfl⟩
abbrev main_cst_21 : Ref sig .tc := ⟨.hbm, 929, rfl⟩
abbrev main_v109 : Ref sig .tc := ⟨.hbm, 930, rfl⟩
abbrev main_v110 : Ref sig .tc := ⟨.hbm, 931, rfl⟩
abbrev main_v111 : Ref sig .tc := ⟨.hbm, 932, rfl⟩
abbrev main_v112 : Ref sig .tc := ⟨.hbm, 933, rfl⟩
abbrev main_v113 : Ref sig .tc := ⟨.hbm, 934, rfl⟩
abbrev main_v114 : Ref sig .tc := ⟨.hbm, 935, rfl⟩
abbrev main_cst_22 : Ref sig .tc := ⟨.hbm, 936, rfl⟩
abbrev main_v115 : Ref sig .tc := ⟨.hbm, 937, rfl⟩
abbrev main_v116 : Ref sig .tc := ⟨.hbm, 938, rfl⟩
abbrev main_v117 : Ref sig .tc := ⟨.hbm, 939, rfl⟩
abbrev main_v118 : Ref sig .tc := ⟨.hbm, 940, rfl⟩
abbrev main_v119 : Ref sig .tc := ⟨.hbm, 941, rfl⟩
abbrev main_call8_cst : Ref sig .tc := ⟨.hbm, 942, rfl⟩
abbrev main_call8_cst_0 : Ref sig .tc := ⟨.hbm, 943, rfl⟩
abbrev main_call8_call0_v0 : Ref sig .tc := ⟨.hbm, 944, rfl⟩
abbrev main_call8_call0_v1 : Ref sig .tc := ⟨.hbm, 945, rfl⟩
abbrev main_call8_call0_v2 : Ref sig .tc := ⟨.hbm, 946, rfl⟩
abbrev main_call8_call0_v3 : Ref sig .tc := ⟨.hbm, 947, rfl⟩
abbrev main_call8_call0_v4 : Ref sig .tc := ⟨.hbm, 948, rfl⟩
abbrev main_call8_call0_v5 : Ref sig .tc := ⟨.hbm, 949, rfl⟩
abbrev main_call8_call0_v6 : Ref sig .tc := ⟨.hbm, 950, rfl⟩
abbrev main_call8_call0_v7 : Ref sig .tc := ⟨.hbm, 951, rfl⟩
abbrev main_call8_call0_v8 : Ref sig .tc := ⟨.hbm, 952, rfl⟩
abbrev main_call8_call0_c : Ref sig .tc := ⟨.hbm, 953, rfl⟩
abbrev main_call8_call0_v9 : Ref sig .tc := ⟨.hbm, 954, rfl⟩
abbrev main_call8_call0_v10 : Ref sig .tc := ⟨.hbm, 955, rfl⟩
abbrev main_call8_call0_c_0 : Ref sig .tc := ⟨.hbm, 956, rfl⟩
abbrev main_call8_call0_v11 : Ref sig .tc := ⟨.hbm, 957, rfl⟩
abbrev main_call8_call0_v12 : Ref sig .tc := ⟨.hbm, 958, rfl⟩
abbrev main_call8_call0_v13 : Ref sig .tc := ⟨.hbm, 959, rfl⟩
abbrev main_call8_call0_c_1 : Ref sig .tc := ⟨.hbm, 960, rfl⟩
abbrev main_call8_call0_v14 : Ref sig .tc := ⟨.hbm, 961, rfl⟩
abbrev main_call8_call0_v15 : Ref sig .tc := ⟨.hbm, 962, rfl⟩
abbrev main_call8_call0_v16 : Ref sig .tc := ⟨.hbm, 963, rfl⟩
abbrev main_call8_call0_v17 : Ref sig .tc := ⟨.hbm, 964, rfl⟩
abbrev main_call8_call0_call0_v0 : Ref sig .tc := ⟨.hbm, 965, rfl⟩
abbrev main_call8_call0_call0_c : Ref sig .tc := ⟨.hbm, 966, rfl⟩
abbrev main_call8_call0_call0_v1 : Ref sig .tc := ⟨.hbm, 967, rfl⟩
abbrev main_call8_call0_call0_v2 : Ref sig .tc := ⟨.hbm, 968, rfl⟩
abbrev main_call8_call0_call0_v3 : Ref sig .tc := ⟨.hbm, 969, rfl⟩
abbrev main_call8_call0_call0_v4 : Ref sig .tc := ⟨.hbm, 970, rfl⟩
abbrev main_call8_call0_call0_v5 : Ref sig .tc := ⟨.hbm, 971, rfl⟩
abbrev main_call8_call0_call0_v6 : Ref sig .tc := ⟨.hbm, 972, rfl⟩
abbrev main_call8_call0_call0_c_0 : Ref sig .tc := ⟨.hbm, 973, rfl⟩
abbrev main_call8_call0_call0_v7 : Ref sig .tc := ⟨.hbm, 974, rfl⟩
abbrev main_call8_call0_call0_v8 : Ref sig .tc := ⟨.hbm, 975, rfl⟩
abbrev main_call8_call0_call0_c_1 : Ref sig .tc := ⟨.hbm, 976, rfl⟩
abbrev main_call8_call0_call0_v9 : Ref sig .tc := ⟨.hbm, 977, rfl⟩
abbrev main_call8_call0_call0_v10 : Ref sig .tc := ⟨.hbm, 978, rfl⟩
abbrev main_call8_call0_call0_v11 : Ref sig .tc := ⟨.hbm, 979, rfl⟩
abbrev main_call8_call0_call0_v12 : Ref sig .tc := ⟨.hbm, 980, rfl⟩
abbrev main_call8_call0_call0_v13 : Ref sig .tc := ⟨.hbm, 981, rfl⟩
abbrev main_call8_call0_call0_c_2 : Ref sig .tc := ⟨.hbm, 982, rfl⟩
abbrev main_call8_call0_call0_v14 : Ref sig .tc := ⟨.hbm, 983, rfl⟩
abbrev main_call8_call0_call0_v15 : Ref sig .tc := ⟨.hbm, 984, rfl⟩
abbrev main_call8_call0_call0_c_3 : Ref sig .tc := ⟨.hbm, 985, rfl⟩
abbrev main_call8_call0_call0_v16 : Ref sig .tc := ⟨.hbm, 986, rfl⟩
abbrev main_call8_call0_call0_v17 : Ref sig .tc := ⟨.hbm, 987, rfl⟩
abbrev main_call8_call0_call0_v18 : Ref sig .tc := ⟨.hbm, 988, rfl⟩
abbrev main_call8_call0_call0_v19 : Ref sig .tc := ⟨.hbm, 989, rfl⟩
abbrev main_call8_call0_call0_v20 : Ref sig .tc := ⟨.hbm, 990, rfl⟩
abbrev main_call8_call0_call0_c_4 : Ref sig .tc := ⟨.hbm, 991, rfl⟩
abbrev main_call8_call0_call0_v21 : Ref sig .tc := ⟨.hbm, 992, rfl⟩
abbrev main_call8_call0_call0_v22 : Ref sig .tc := ⟨.hbm, 993, rfl⟩
abbrev main_call8_call0_call0_c_5 : Ref sig .tc := ⟨.hbm, 994, rfl⟩
abbrev main_call8_call0_call0_v23 : Ref sig .tc := ⟨.hbm, 995, rfl⟩
abbrev main_call8_call0_call0_v24 : Ref sig .tc := ⟨.hbm, 996, rfl⟩
abbrev main_call8_call0_call0_v25 : Ref sig .tc := ⟨.hbm, 997, rfl⟩
abbrev main_call8_call0_call0_v26 : Ref sig .tc := ⟨.hbm, 998, rfl⟩
abbrev main_call8_call0_call0_v27 : Ref sig .tc := ⟨.hbm, 999, rfl⟩
abbrev main_call8_call0_call0_c_6 : Ref sig .tc := ⟨.hbm, 1000, rfl⟩
abbrev main_call8_call0_call0_v28 : Ref sig .tc := ⟨.hbm, 1001, rfl⟩
abbrev main_call8_call0_call0_v29 : Ref sig .tc := ⟨.hbm, 1002, rfl⟩
abbrev main_call8_call0_call0_c_7 : Ref sig .tc := ⟨.hbm, 1003, rfl⟩
abbrev main_call8_call0_call0_v30 : Ref sig .tc := ⟨.hbm, 1004, rfl⟩
abbrev main_call8_call0_call0_v31 : Ref sig .tc := ⟨.hbm, 1005, rfl⟩
abbrev main_call8_call0_call0_v32 : Ref sig .tc := ⟨.hbm, 1006, rfl⟩
abbrev main_call8_call0_call0_v33 : Ref sig .tc := ⟨.hbm, 1007, rfl⟩
abbrev main_call8_call0_call0_v34 : Ref sig .tc := ⟨.hbm, 1008, rfl⟩
abbrev main_call8_call0_call0_v35 : Ref sig .tc := ⟨.hbm, 1009, rfl⟩
abbrev main_call8_call0_call0_v36 : Ref sig .tc := ⟨.hbm, 1010, rfl⟩
abbrev main_call8_call0_call0_v37 : Ref sig .tc := ⟨.hbm, 1011, rfl⟩
abbrev main_call8_call0_call0_c_8 : Ref sig .tc := ⟨.hbm, 1012, rfl⟩
abbrev main_call8_call0_call0_v38 : Ref sig .tc := ⟨.hbm, 1013, rfl⟩
abbrev main_call8_call0_call0_v39 : Ref sig .tc := ⟨.hbm, 1014, rfl⟩
abbrev main_call8_call0_call0_v40 : Ref sig .tc := ⟨.hbm, 1015, rfl⟩
abbrev main_call8_call0_call0_c_9 : Ref sig .tc := ⟨.hbm, 1016, rfl⟩
abbrev main_call8_call0_call0_v41 : Ref sig .tc := ⟨.hbm, 1017, rfl⟩
abbrev main_call8_call0_call0_v42 : Ref sig .tc := ⟨.hbm, 1018, rfl⟩
abbrev main_call8_call0_call0_c_10 : Ref sig .tc := ⟨.hbm, 1019, rfl⟩
abbrev main_call8_call0_call0_v43 : Ref sig .tc := ⟨.hbm, 1020, rfl⟩
abbrev main_call8_call0_call0_v44 : Ref sig .tc := ⟨.hbm, 1021, rfl⟩
abbrev main_call8_call0_call0_v45 : Ref sig .tc := ⟨.hbm, 1022, rfl⟩
abbrev main_call8_call0_call0_v46 : Ref sig .tc := ⟨.hbm, 1023, rfl⟩
abbrev main_call8_call0_call0_v47 : Ref sig .tc := ⟨.hbm, 1024, rfl⟩
abbrev main_call8_call0_call0_c_11 : Ref sig .tc := ⟨.hbm, 1025, rfl⟩
abbrev main_call8_call0_call0_v48 : Ref sig .tc := ⟨.hbm, 1026, rfl⟩
abbrev main_call8_call0_call0_v49 : Ref sig .tc := ⟨.hbm, 1027, rfl⟩
abbrev main_call8_call0_call0_c_12 : Ref sig .tc := ⟨.hbm, 1028, rfl⟩
abbrev main_call8_call0_call0_v50 : Ref sig .tc := ⟨.hbm, 1029, rfl⟩
abbrev main_call8_call0_call0_v51 : Ref sig .tc := ⟨.hbm, 1030, rfl⟩
abbrev main_call8_call0_call0_v52 : Ref sig .tc := ⟨.hbm, 1031, rfl⟩
abbrev main_call8_call0_call0_v53 : Ref sig .tc := ⟨.hbm, 1032, rfl⟩
abbrev main_call8_call0_call0_v54 : Ref sig .tc := ⟨.hbm, 1033, rfl⟩
abbrev main_call8_call0_call0_c_13 : Ref sig .tc := ⟨.hbm, 1034, rfl⟩
abbrev main_call8_call0_call0_v55 : Ref sig .tc := ⟨.hbm, 1035, rfl⟩
abbrev main_call8_call0_call0_v56 : Ref sig .tc := ⟨.hbm, 1036, rfl⟩
abbrev main_call8_call0_call0_c_14 : Ref sig .tc := ⟨.hbm, 1037, rfl⟩
abbrev main_call8_call0_call0_v57 : Ref sig .tc := ⟨.hbm, 1038, rfl⟩
abbrev main_call8_call0_call0_v58 : Ref sig .tc := ⟨.hbm, 1039, rfl⟩
abbrev main_call8_call0_call0_v59 : Ref sig .tc := ⟨.hbm, 1040, rfl⟩
abbrev main_call8_call0_call0_v60 : Ref sig .tc := ⟨.hbm, 1041, rfl⟩
abbrev main_call8_call0_call0_v61 : Ref sig .tc := ⟨.hbm, 1042, rfl⟩
abbrev main_call8_call0_call0_c_15 : Ref sig .tc := ⟨.hbm, 1043, rfl⟩
abbrev main_call8_call0_call0_v62 : Ref sig .tc := ⟨.hbm, 1044, rfl⟩
abbrev main_call8_call0_call0_v63 : Ref sig .tc := ⟨.hbm, 1045, rfl⟩
abbrev main_call8_call0_call0_c_16 : Ref sig .tc := ⟨.hbm, 1046, rfl⟩
abbrev main_call8_call0_call0_v64 : Ref sig .tc := ⟨.hbm, 1047, rfl⟩
abbrev main_call8_call0_call0_v65 : Ref sig .tc := ⟨.hbm, 1048, rfl⟩
abbrev main_call8_call0_call0_v66 : Ref sig .tc := ⟨.hbm, 1049, rfl⟩
abbrev main_call8_call0_call0_v67 : Ref sig .tc := ⟨.hbm, 1050, rfl⟩
abbrev main_call8_call0_call0_v68 : Ref sig .tc := ⟨.hbm, 1051, rfl⟩
abbrev main_call8_call0_call0_v69 : Ref sig .tc := ⟨.hbm, 1052, rfl⟩
abbrev main_call8_call0_call0_v70 : Ref sig .tc := ⟨.hbm, 1053, rfl⟩
abbrev main_call8_call0_call0_v71 : Ref sig .tc := ⟨.hbm, 1054, rfl⟩
abbrev main_call8_call0_call0_c_17 : Ref sig .tc := ⟨.hbm, 1055, rfl⟩
abbrev main_call8_call0_call0_v72 : Ref sig .tc := ⟨.hbm, 1056, rfl⟩
abbrev main_call8_call0_call0_v73 : Ref sig .tc := ⟨.hbm, 1057, rfl⟩
abbrev main_call8_call0_call0_v74 : Ref sig .tc := ⟨.hbm, 1058, rfl⟩
abbrev main_call8_call0_call0_c_18 : Ref sig .tc := ⟨.hbm, 1059, rfl⟩
abbrev main_call8_call0_call0_v75 : Ref sig .tc := ⟨.hbm, 1060, rfl⟩
abbrev main_call8_call0_call0_v76 : Ref sig .tc := ⟨.hbm, 1061, rfl⟩
abbrev main_call8_call0_call0_c_19 : Ref sig .tc := ⟨.hbm, 1062, rfl⟩
abbrev main_call8_call0_call0_v77 : Ref sig .tc := ⟨.hbm, 1063, rfl⟩
abbrev main_call8_call0_call0_v78 : Ref sig .tc := ⟨.hbm, 1064, rfl⟩
abbrev main_call8_call0_call0_v79 : Ref sig .tc := ⟨.hbm, 1065, rfl⟩
abbrev main_call8_call0_call0_v80 : Ref sig .tc := ⟨.hbm, 1066, rfl⟩
abbrev main_call8_call0_call0_v81 : Ref sig .tc := ⟨.hbm, 1067, rfl⟩
abbrev main_call8_call0_call0_c_20 : Ref sig .tc := ⟨.hbm, 1068, rfl⟩
abbrev main_call8_call0_call0_v82 : Ref sig .tc := ⟨.hbm, 1069, rfl⟩
abbrev main_call8_call0_call0_v83 : Ref sig .tc := ⟨.hbm, 1070, rfl⟩
abbrev main_call8_call0_call0_c_21 : Ref sig .tc := ⟨.hbm, 1071, rfl⟩
abbrev main_call8_call0_call0_v84 : Ref sig .tc := ⟨.hbm, 1072, rfl⟩
abbrev main_call8_call0_call0_v85 : Ref sig .tc := ⟨.hbm, 1073, rfl⟩
abbrev main_call8_call0_call0_v86 : Ref sig .tc := ⟨.hbm, 1074, rfl⟩
abbrev main_call8_call0_call0_v87 : Ref sig .tc := ⟨.hbm, 1075, rfl⟩
abbrev main_call8_call0_call0_v88 : Ref sig .tc := ⟨.hbm, 1076, rfl⟩
abbrev main_call8_call0_call0_c_22 : Ref sig .tc := ⟨.hbm, 1077, rfl⟩
abbrev main_call8_call0_call0_v89 : Ref sig .tc := ⟨.hbm, 1078, rfl⟩
abbrev main_call8_call0_call0_v90 : Ref sig .tc := ⟨.hbm, 1079, rfl⟩
abbrev main_call8_call0_call0_c_23 : Ref sig .tc := ⟨.hbm, 1080, rfl⟩
abbrev main_call8_call0_call0_v91 : Ref sig .tc := ⟨.hbm, 1081, rfl⟩
abbrev main_call8_call0_call0_v92 : Ref sig .tc := ⟨.hbm, 1082, rfl⟩
abbrev main_call8_call0_call0_v93 : Ref sig .tc := ⟨.hbm, 1083, rfl⟩
abbrev main_call8_call0_call0_v94 : Ref sig .tc := ⟨.hbm, 1084, rfl⟩
abbrev main_call8_call0_call0_v95 : Ref sig .tc := ⟨.hbm, 1085, rfl⟩
abbrev main_call8_call0_call0_c_24 : Ref sig .tc := ⟨.hbm, 1086, rfl⟩
abbrev main_call8_call0_call0_v96 : Ref sig .tc := ⟨.hbm, 1087, rfl⟩
abbrev main_call8_call0_call0_v97 : Ref sig .tc := ⟨.hbm, 1088, rfl⟩
abbrev main_call8_call0_call0_c_25 : Ref sig .tc := ⟨.hbm, 1089, rfl⟩
abbrev main_call8_call0_call0_v98 : Ref sig .tc := ⟨.hbm, 1090, rfl⟩
abbrev main_call8_call0_call0_v99 : Ref sig .tc := ⟨.hbm, 1091, rfl⟩
abbrev main_call8_call0_call0_v100 : Ref sig .tc := ⟨.hbm, 1092, rfl⟩
abbrev main_call8_call0_call0_v101 : Ref sig .tc := ⟨.hbm, 1093, rfl⟩
abbrev main_call8_call0_call0_v102 : Ref sig .tc := ⟨.hbm, 1094, rfl⟩
abbrev main_call8_call0_call0_v103 : Ref sig .tc := ⟨.hbm, 1095, rfl⟩
abbrev main_call8_call0_call0_v104 : Ref sig .tc := ⟨.hbm, 1096, rfl⟩
abbrev main_call8_call0_call0_v105 : Ref sig .tc := ⟨.hbm, 1097, rfl⟩
abbrev main_call8_call0_call0_c_26 : Ref sig .tc := ⟨.hbm, 1098, rfl⟩
abbrev main_call8_call0_call0_v106 : Ref sig .tc := ⟨.hbm, 1099, rfl⟩
abbrev main_call8_call0_call0_v107 : Ref sig .tc := ⟨.hbm, 1100, rfl⟩
abbrev main_call8_call0_call0_v108 : Ref sig .tc := ⟨.hbm, 1101, rfl⟩
abbrev main_call8_call0_call0_c_27 : Ref sig .tc := ⟨.hbm, 1102, rfl⟩
abbrev main_call8_call0_call0_v109 : Ref sig .tc := ⟨.hbm, 1103, rfl⟩
abbrev main_call8_call0_call0_v110 : Ref sig .tc := ⟨.hbm, 1104, rfl⟩
abbrev main_call8_call0_call0_c_28 : Ref sig .tc := ⟨.hbm, 1105, rfl⟩
abbrev main_call8_call0_call0_v111 : Ref sig .tc := ⟨.hbm, 1106, rfl⟩
abbrev main_call8_call0_call0_v112 : Ref sig .tc := ⟨.hbm, 1107, rfl⟩
abbrev main_call8_call0_call0_v113 : Ref sig .tc := ⟨.hbm, 1108, rfl⟩
abbrev main_call8_call0_call0_v114 : Ref sig .tc := ⟨.hbm, 1109, rfl⟩
abbrev main_call8_call0_call0_v115 : Ref sig .tc := ⟨.hbm, 1110, rfl⟩
abbrev main_call8_call0_call0_c_29 : Ref sig .tc := ⟨.hbm, 1111, rfl⟩
abbrev main_call8_call0_call0_v116 : Ref sig .tc := ⟨.hbm, 1112, rfl⟩
abbrev main_call8_call0_call0_v117 : Ref sig .tc := ⟨.hbm, 1113, rfl⟩
abbrev main_call8_call0_call0_c_30 : Ref sig .tc := ⟨.hbm, 1114, rfl⟩
abbrev main_call8_call0_call0_v118 : Ref sig .tc := ⟨.hbm, 1115, rfl⟩
abbrev main_call8_call0_call0_v119 : Ref sig .tc := ⟨.hbm, 1116, rfl⟩
abbrev main_call8_call0_call0_v120 : Ref sig .tc := ⟨.hbm, 1117, rfl⟩
abbrev main_call8_call0_call0_v121 : Ref sig .tc := ⟨.hbm, 1118, rfl⟩
abbrev main_call8_call0_call0_v122 : Ref sig .tc := ⟨.hbm, 1119, rfl⟩
abbrev main_call8_call0_call0_c_31 : Ref sig .tc := ⟨.hbm, 1120, rfl⟩
abbrev main_call8_call0_call0_v123 : Ref sig .tc := ⟨.hbm, 1121, rfl⟩
abbrev main_call8_call0_call0_v124 : Ref sig .tc := ⟨.hbm, 1122, rfl⟩
abbrev main_call8_call0_call0_c_32 : Ref sig .tc := ⟨.hbm, 1123, rfl⟩
abbrev main_call8_call0_call0_v125 : Ref sig .tc := ⟨.hbm, 1124, rfl⟩
abbrev main_call8_call0_call0_v126 : Ref sig .tc := ⟨.hbm, 1125, rfl⟩
abbrev main_call8_call0_call0_v127 : Ref sig .tc := ⟨.hbm, 1126, rfl⟩
abbrev main_call8_call0_call0_v128 : Ref sig .tc := ⟨.hbm, 1127, rfl⟩
abbrev main_call8_call0_call0_v129 : Ref sig .tc := ⟨.hbm, 1128, rfl⟩
abbrev main_call8_call0_call0_c_33 : Ref sig .tc := ⟨.hbm, 1129, rfl⟩
abbrev main_call8_call0_call0_v130 : Ref sig .tc := ⟨.hbm, 1130, rfl⟩
abbrev main_call8_call0_call0_v131 : Ref sig .tc := ⟨.hbm, 1131, rfl⟩
abbrev main_call8_call0_call0_c_34 : Ref sig .tc := ⟨.hbm, 1132, rfl⟩
abbrev main_call8_call0_call0_v132 : Ref sig .tc := ⟨.hbm, 1133, rfl⟩
abbrev main_call8_call0_call0_v133 : Ref sig .tc := ⟨.hbm, 1134, rfl⟩
abbrev main_call8_call0_call0_v134 : Ref sig .tc := ⟨.hbm, 1135, rfl⟩
abbrev main_call8_call0_call0_v135 : Ref sig .tc := ⟨.hbm, 1136, rfl⟩
abbrev main_call8_call0_call0_v136 : Ref sig .tc := ⟨.hbm, 1137, rfl⟩
abbrev main_call8_call0_call0_v137 : Ref sig .tc := ⟨.hbm, 1138, rfl⟩
abbrev main_call8_call0_call0_v138 : Ref sig .tc := ⟨.hbm, 1139, rfl⟩
abbrev main_call8_call0_call0_v139 : Ref sig .tc := ⟨.hbm, 1140, rfl⟩
abbrev main_call8_call0_call0_c_35 : Ref sig .tc := ⟨.hbm, 1141, rfl⟩
abbrev main_call8_call0_call0_v140 : Ref sig .tc := ⟨.hbm, 1142, rfl⟩
abbrev main_call8_call0_call0_v141 : Ref sig .tc := ⟨.hbm, 1143, rfl⟩
abbrev main_call8_call0_call0_v142 : Ref sig .tc := ⟨.hbm, 1144, rfl⟩
abbrev main_call8_call0_call0_c_36 : Ref sig .tc := ⟨.hbm, 1145, rfl⟩
abbrev main_call8_call0_call0_v143 : Ref sig .tc := ⟨.hbm, 1146, rfl⟩
abbrev main_call8_call0_call0_v144 : Ref sig .tc := ⟨.hbm, 1147, rfl⟩
abbrev main_call8_call0_call0_c_37 : Ref sig .tc := ⟨.hbm, 1148, rfl⟩
abbrev main_call8_call0_call0_v145 : Ref sig .tc := ⟨.hbm, 1149, rfl⟩
abbrev main_call8_call0_call0_v146 : Ref sig .tc := ⟨.hbm, 1150, rfl⟩
abbrev main_call8_call0_call0_v147 : Ref sig .tc := ⟨.hbm, 1151, rfl⟩
abbrev main_call8_call0_call0_v148 : Ref sig .tc := ⟨.hbm, 1152, rfl⟩
abbrev main_call8_call0_call0_v149 : Ref sig .tc := ⟨.hbm, 1153, rfl⟩
abbrev main_call8_call0_call0_c_38 : Ref sig .tc := ⟨.hbm, 1154, rfl⟩
abbrev main_call8_call0_call0_v150 : Ref sig .tc := ⟨.hbm, 1155, rfl⟩
abbrev main_call8_call0_call0_v151 : Ref sig .tc := ⟨.hbm, 1156, rfl⟩
abbrev main_call8_call0_call0_c_39 : Ref sig .tc := ⟨.hbm, 1157, rfl⟩
abbrev main_call8_call0_call0_v152 : Ref sig .tc := ⟨.hbm, 1158, rfl⟩
abbrev main_call8_call0_call0_v153 : Ref sig .tc := ⟨.hbm, 1159, rfl⟩
abbrev main_call8_call0_call0_v154 : Ref sig .tc := ⟨.hbm, 1160, rfl⟩
abbrev main_call8_call0_call0_v155 : Ref sig .tc := ⟨.hbm, 1161, rfl⟩
abbrev main_call8_call0_call0_v156 : Ref sig .tc := ⟨.hbm, 1162, rfl⟩
abbrev main_call8_call0_call0_c_40 : Ref sig .tc := ⟨.hbm, 1163, rfl⟩
abbrev main_call8_call0_call0_v157 : Ref sig .tc := ⟨.hbm, 1164, rfl⟩
abbrev main_call8_call0_call0_v158 : Ref sig .tc := ⟨.hbm, 1165, rfl⟩
abbrev main_call8_call0_call0_c_41 : Ref sig .tc := ⟨.hbm, 1166, rfl⟩
abbrev main_call8_call0_call0_v159 : Ref sig .tc := ⟨.hbm, 1167, rfl⟩
abbrev main_call8_call0_call0_v160 : Ref sig .tc := ⟨.hbm, 1168, rfl⟩
abbrev main_call8_call0_call0_v161 : Ref sig .tc := ⟨.hbm, 1169, rfl⟩
abbrev main_call8_call0_call0_v162 : Ref sig .tc := ⟨.hbm, 1170, rfl⟩
abbrev main_call8_call0_call0_v163 : Ref sig .tc := ⟨.hbm, 1171, rfl⟩
abbrev main_call8_call0_call0_c_42 : Ref sig .tc := ⟨.hbm, 1172, rfl⟩
abbrev main_call8_call0_call0_v164 : Ref sig .tc := ⟨.hbm, 1173, rfl⟩
abbrev main_call8_call0_call0_v165 : Ref sig .tc := ⟨.hbm, 1174, rfl⟩
abbrev main_call8_call0_call0_c_43 : Ref sig .tc := ⟨.hbm, 1175, rfl⟩
abbrev main_call8_call0_call0_v166 : Ref sig .tc := ⟨.hbm, 1176, rfl⟩
abbrev main_call8_call0_call0_v167 : Ref sig .tc := ⟨.hbm, 1177, rfl⟩
abbrev main_call8_call0_call0_v168 : Ref sig .tc := ⟨.hbm, 1178, rfl⟩
abbrev main_call8_call0_call0_v169 : Ref sig .tc := ⟨.hbm, 1179, rfl⟩
abbrev main_call8_call0_call0_v170 : Ref sig .tc := ⟨.hbm, 1180, rfl⟩
abbrev main_call8_call0_v18_0 : Ref sig .tc := ⟨.hbm, 1181, rfl⟩
abbrev main_call8_call0_call0_v172 : Ref sig .tc := ⟨.hbm, 1182, rfl⟩
abbrev main_call8_call0_call0_v173 : Ref sig .tc := ⟨.hbm, 1183, rfl⟩
abbrev main_call8_call0_call0_c_44 : Ref sig .tc := ⟨.hbm, 1184, rfl⟩
abbrev main_call8_call0_call0_v174 : Ref sig .tc := ⟨.hbm, 1185, rfl⟩
abbrev main_call8_call0_v18_1 : Ref sig .tc := ⟨.hbm, 1186, rfl⟩
abbrev main_call8_call0_v19 : Ref sig .tc := ⟨.hbm, 1187, rfl⟩
abbrev main_call8_call0_c_2 : Ref sig .tc := ⟨.hbm, 1188, rfl⟩
abbrev main_call8_call0_v20 : Ref sig .tc := ⟨.hbm, 1189, rfl⟩
abbrev main_call8_call0_v21 : Ref sig .tc := ⟨.hbm, 1190, rfl⟩
abbrev main_call8_call0_c_3 : Ref sig .tc := ⟨.hbm, 1191, rfl⟩
abbrev main_call8_call0_v22 : Ref sig .tc := ⟨.hbm, 1192, rfl⟩
abbrev main_call8_call0_v23 : Ref sig .tc := ⟨.hbm, 1193, rfl⟩
abbrev main_call8_call0_v24 : Ref sig .tc := ⟨.hbm, 1194, rfl⟩
abbrev main_call8_call0_cst : Ref sig .tc := ⟨.hbm, 1195, rfl⟩
abbrev main_call8_call0_v25 : Ref sig .tc := ⟨.hbm, 1196, rfl⟩
abbrev main_call8_call0_v26 : Ref sig .tc := ⟨.hbm, 1197, rfl⟩
abbrev main_call8_call0_v27 : Ref sig .tc := ⟨.hbm, 1198, rfl⟩
abbrev main_call8_call0_v28 : Ref sig .tc := ⟨.hbm, 1199, rfl⟩
abbrev main_call8_call0_v29 : Ref sig .tc := ⟨.hbm, 1200, rfl⟩
abbrev main_call8_call0_v30 : Ref sig .tc := ⟨.hbm, 1201, rfl⟩
abbrev main_call8_call0_v31 : Ref sig .tc := ⟨.hbm, 1202, rfl⟩
abbrev main_call8_call0_v32 : Ref sig .tc := ⟨.hbm, 1203, rfl⟩
abbrev main_call8_v0 : Ref sig .tc := ⟨.hbm, 1204, rfl⟩
abbrev main_call8_v1 : Ref sig .tc := ⟨.hbm, 1205, rfl⟩
abbrev main_call8_v2 : Ref sig .tc := ⟨.hbm, 1206, rfl⟩
abbrev main_call8_v3 : Ref sig .tc := ⟨.hbm, 1207, rfl⟩
abbrev main_v120 : Ref sig .tc := ⟨.hbm, 1208, rfl⟩
abbrev main_v121 : Ref sig .tc := ⟨.hbm, 1209, rfl⟩
abbrev main_call9_v0 : Ref sig .tc := ⟨.hbm, 1210, rfl⟩
abbrev main_call9_cst : Ref sig .tc := ⟨.hbm, 1211, rfl⟩
abbrev main_call9_c : Ref sig .tc := ⟨.hbm, 1212, rfl⟩
abbrev main_call9_v1_0 : Ref sig .tc := ⟨.hbm, 1213, rfl⟩
abbrev main_v122 : Ref sig .tc := ⟨.hbm, 1214, rfl⟩
abbrev main_v123 : Ref sig .tc := ⟨.hbm, 1215, rfl⟩
abbrev main_cst_23 : Ref sig .tc := ⟨.hbm, 1216, rfl⟩
abbrev main_v124 : Ref sig .tc := ⟨.hbm, 1217, rfl⟩
abbrev main_c_24 : Ref sig .tc := ⟨.hbm, 1218, rfl⟩
abbrev main_v125 : Ref sig .tc := ⟨.hbm, 1219, rfl⟩
abbrev main_v126 : Ref sig .tc := ⟨.hbm, 1220, rfl⟩
abbrev main_c_25 : Ref sig .tc := ⟨.hbm, 1221, rfl⟩
abbrev main_v127 : Ref sig .tc := ⟨.hbm, 1222, rfl⟩
abbrev main_v128 : Ref sig .tc := ⟨.hbm, 1223, rfl⟩
abbrev main_v129 : Ref sig .tc := ⟨.hbm, 1224, rfl⟩
abbrev main_v130 : Ref sig .tc := ⟨.hbm, 1225, rfl⟩
abbrev main_cst_26 : Ref sig .tc := ⟨.hbm, 1226, rfl⟩
abbrev main_v131 : Ref sig .tc := ⟨.hbm, 1227, rfl⟩
abbrev main_v132 : Ref sig .tc := ⟨.hbm, 1228, rfl⟩
abbrev main_v133 : Ref sig .tc := ⟨.hbm, 1229, rfl⟩
abbrev main_v134 : Ref sig .tc := ⟨.hbm, 1230, rfl⟩
abbrev main_v135 : Ref sig .tc := ⟨.hbm, 1231, rfl⟩
abbrev main_v136 : Ref sig .tc := ⟨.hbm, 1232, rfl⟩
abbrev main_v137 : Ref sig .tc := ⟨.hbm, 1233, rfl⟩
abbrev main_call10_cst : Ref sig .tc := ⟨.hbm, 1234, rfl⟩
abbrev main_call10_v0 : Ref sig .tc := ⟨.hbm, 1235, rfl⟩
abbrev main_v138 : Ref sig .tc := ⟨.hbm, 1236, rfl⟩

abbrev nD : Nat := 1
abbrev τ : Topo := Topo.v7x

variable {F : FTy → Type} [FloatOps F]
-- ==== Proof.KernelIdeal.Body.lean ====
module

public import proofs.«01_k».proof.Proof.Gen.KernelIdeal.Frame
public import proofs.«01_k».proof.Proof.Gen.KernelIdeal.Skeleton
public import Idealize.ShloMosaic.Lib.VecWindow
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The memref `M` whole at the contents `X`. -/
abbrev held (c : Dev nD) {sp : Space} {s : Shape} {e : EltTy} (M : Memref sig .tc sp s e) (X : s.Idx → Elt F e) : sProp 𝕄 :=
  M.view.loc (c : Thread nD τ) ↦[M.view.set]{fullShare} M.view.rep X

/-- Whether the point is the grid's first, as the body tests it. -/
abbrev atFirst (i : grid0.Coords) : Prop :=
  Scalar.cmpi .ne (Scalar.extui (Scalar.cmpi .eq (BitVec.ofNat 32 (i 0).val) 0#32) : BitVec 32) 0#32 = 1#1
/-- Whether the point is the last of the first eight, as the body tests it. -/
abbrev atSeventh (i : grid0.Coords) : Prop :=
  Scalar.cmpi .ne (Scalar.extui (Scalar.cmpi .eq (BitVec.ofNat 32 (i 0).val) 7#32) : BitVec 32) 0#32 = 1#1

/-- The one element of a one-by-one array. -/
def cell {α : Type} (X : S1x1.Idx → α) : α := X (fun a => ⟨0, by fin_cases a <;> decide⟩)

/-- The first choice: the least index at which the first head's logits with their noise attain their maximum. -/
def afIdx (X21 : Vec F S1x8192 .f32) (X8 : Vec F S1x1 .f32) (X14 : Vec F S1x8192 .f32) : BitVec 32 :=
  extractAt ![0, 0, 0] (k0_pay7 X21 (cell X8) X14) inpos_S1x1x1_p0_0_0
/-- The second choice, likewise, the first choice's own index left out. -/
def asIdx (a : BitVec 32) (X22 : Vec F S1x8192 .f32) (X11 : Vec F S1x1 .f32) (X15 : Vec F S1x8192 .f32) : BitVec 32 :=
  extractAt ![0, 0, 0] (k0_pay15 a X22 (cell X11) X15) inpos_S1x1x1_p0_0_0
/-- The third choice: whether the second of two logits with noise is the greater. -/
def atIdx (X23 : Vec F S1x768 .f32) (X12 : Vec F S768x2 .f32) (X13 X16 : Vec F S1x2 .f32) : BitVec 32 :=
  Scalar.select (Scalar.cmpf .ogt (k0_pay17 X23 X12 X13 X16) (k0_pay18 X23 X12 X13 X16)) 1#32 0#32

/-- The four weight matrices side by side, as the first point stores them over `D`. -/
def wput (X2 X3 X4 : Vec F S768x768 .f32) (X5 : Vec F S768x64 .f32) (D : Vec F S768x2368 .bf16) : Vec F S768x2368 .bf16 :=
  VecWindow.put (VecWindow.put (VecWindow.put (VecWindow.put D ![0, 0] S768x768.size (k0_pay1 X2))
    ![0, 768] S768x768.size (k0_pay2 X3)) ![0, 1536] S768x768.size (k0_pay3 X4)) ![0, 2304] S768x64.size (k0_pay4 X5)

/-- The four weight matrices side by side: nothing of what the buffer held before is left. -/
def wcat (X2 X3 X4 : Vec F S768x768 .f32) (X5 : Vec F S768x64 .f32) : Vec F S768x2368 .bf16 :=
  wput X2 X3 X4 X5 (constant S768x2368 .bf16 0x0000#16)

theorem wput_eq (X2 X3 X4 : Vec F S768x768 .f32) (X5 : Vec F S768x64 .f32) (D : Vec F S768x2368 .bf16) :
    wput X2 X3 X4 X5 D = wcat X2 X3 X4 X5 := by
  unfold wcat wput VecWindow.put
  funext y
  have hy : (y 1).val < 2368 := (y 1).isLt
  have hy0 : (y 0).val < 768 := (y 0).isLt
  split; · rfl
  rename_i h3
  split; · rfl
  rename_i h2
  split; · rfl
  rename_i h1
  split; · rfl
  rename_i h0
  exfalso
  simp only [Fin.forall_fin_two, S768x768, S768x64, Matrix.cons_val_zero, Matrix.cons_val_one, Matrix.cons_val_fin_one] at h0 h1 h2 h3
  omega

/-- The buffer after the four stores, read whole. -/
theorem read_wcat (M : Memref sig .tc .vmem S768x2368 .bf16) (f : M.view.ty.Contents (Elt F)) (X2 X3 X4 : Vec F S768x768 .f32) (X5 : Vec F S768x64 .f32) :
    M.view.read (Elt F) (M.view.writes (Elt F) f
      [⟨Rect.unit (s := S768x2368) ![0, 2304] S768x64.size inb_S768x2368_S768x64_0_2304, k0_pay4 X5⟩,
       ⟨Rect.unit (s := S768x2368) ![0, 1536] S768x768.size inb_S768x2368_S768x768_0_1536, k0_pay3 X4⟩,
       ⟨Rect.unit (s := S768x2368) ![0, 768] S768x768.size inb_S768x2368_S768x768_0_768, k0_pay2 X3⟩,
       ⟨Rect.unit (s := S768x2368) ![0, 0] S768x768.size inb_S768x2368_S768x768_0_0, k0_pay1 X2⟩]) = wcat X2 X3 X4 X5 := by
  rw [View.read_writes_cons_put _ _ _ _ _ rfl, View.read_writes_cons_put _ _ _ _ _ rfl, View.read_writes_cons_put _ _ _ _ _ rfl,
    View.read_writes_cons_put _ _ _ _ _ rfl]
  exact wput_eq _ _ _ _ _

/-- A whole load after the four stores. -/
theorem readCov_wcat (M : Memref sig .tc .vmem S768x2368 .bf16) (X2 X3 X4 : Vec F S768x768 .f32) (X5 : Vec F S768x64 .f32) :
    M.view.readCov
      [⟨Rect.unit (s := S768x2368) ![0, 2304] S768x64.size inb_S768x2368_S768x64_0_2304, k0_pay4 X5⟩,
       ⟨Rect.unit (s := S768x2368) ![0, 1536] S768x768.size inb_S768x2368_S768x768_0_1536, k0_pay3 X4⟩,
       ⟨Rect.unit (s := S768x2368) ![0, 768] S768x768.size inb_S768x2368_S768x768_0_768, k0_pay2 X3⟩,
       ⟨Rect.unit (s := S768x2368) ![0, 0] S768x768.size inb_S768x2368_S768x768_0_0, k0_pay1 X2⟩]
      (Rect.unit (s := S768x2368) ![0, 0] S768x2368.size inb_S768x2368_S768x2368_0_0).toLoadRect = wcat X2 X3 X4 X5 :=
  (View.readAt_full _ _ _).trans (read_wcat M _ X2 X3 X4 X5)

section
variable (c : Dev nD) (i : grid0.Coords)
  (arg1 : Memref sig .tc .vmem S1024x768 .f32) (harg1 : arg1.IsWhole)
  (arg2 : Memref sig .tc .vmem S768x768 .f32) (harg2 : arg2.IsWhole)
  (arg3 : Memref sig .tc .vmem S768x768 .f32) (harg3 : arg3.IsWhole)
  (arg4 : Memref sig .tc .vmem S768x768 .f32) (harg4 : arg4.IsWhole)
  (arg5 : Memref sig .tc .vmem S768x64 .f32) (harg5 : arg5.IsWhole)
  (arg6 : Memref sig .tc .vmem S1x2368 .f32) (harg6 : arg6.IsWhole)
  (arg7 : Memref sig .tc .vmem S1x768 .f32) (harg7 : arg7.IsWhole)
  (arg8 : Memref sig .tc .smem S1x1 .f32) (harg8 : arg8.IsWhole)
  (arg9 : Memref sig .tc .vmem S1x768 .f32) (harg9 : arg9.IsWhole)
  (arg10 : Memref sig .tc .vmem S1x768 .f32) (harg10 : arg10.IsWhole)
  (arg11 : Memref sig .tc .smem S1x1 .f32) (harg11 : arg11.IsWhole)
  (arg12 : Memref sig .tc .vmem S768x2 .f32) (harg12 : arg12.IsWhole)
  (arg13 : Memref sig .tc .vmem S1x2 .f32) (harg13 : arg13.IsWhole)
  (arg14 : Memref sig .tc .vmem S1x8192 .f32) (harg14 : arg14.IsWhole)
  (arg15 : Memref sig .tc .vmem S1x8192 .f32) (harg15 : arg15.IsWhole)
  (arg16 : Memref sig .tc .vmem S1x2 .f32) (harg16 : arg16.IsWhole)
  (arg17 : Memref sig .tc .vmem S1024x64 .f32) (harg17 : arg17.IsWhole)
  (arg18 : Memref sig .tc .vmem S1x16386 .f32) (harg18 : arg18.IsWhole)
  (arg19 : Memref sig .tc .vmem S768x2368 .bf16) (harg19 : arg19.IsWhole)
  (arg20 : Memref sig .tc .vmem S8x1024x768 .f32) (harg20 : arg20.IsWhole)
  (arg21 : Memref sig .tc .vmem S1x8192 .f32) (harg21 : arg21.IsWhole)
  (arg22 : Memref sig .tc .vmem S1x8192 .f32) (harg22 : arg22.IsWhole)
  (arg23 : Memref sig .tc .vmem S1x768 .f32) (harg23 : arg23.IsWhole)
  (arg24 : Memref sig .tc .smem S1x1 .i32) (harg24 : arg24.IsWhole)

/-- The first point: the weights are stored side by side, then the first block of each value. -/
theorem runA0 (h1 : atFirst i) (h2 : k0_cond2 i = 1#1) (h4 : ¬ atSeventh i) (h5 : ¬ k0_cond5 i = 1#1)
    (X1 X2 X3 X4 X5 X6 X7 X17 X19 X20 X21 X23) (K : PUnit → sProp 𝕄) :
    iprop(held c arg1 X1 ∗ held c arg2 X2 ∗ held c arg3 X3 ∗ held c arg4 X4 ∗ held c arg5 X5 ∗ held c arg6 X6 ∗ held c arg7 X7 ∗ held c arg17 X17 ∗ held c arg19 X19 ∗ held c arg20 X20 ∗ held c arg21 X21 ∗ held c arg23 X23
        ∗ (iprop(held c arg1 X1 ∗ held c arg2 X2 ∗ held c arg3 X3 ∗ held c arg4 X4 ∗ held c arg5 X5 ∗ held c arg6 X6 ∗ held c arg7 X7 ∗ held c arg17 (k0_pay6 (k0_pay10 X1 (wcat X2 X3 X4 X5) X6)) ∗ held c arg19 (wcat X2 X3 X4 X5) ∗ held c arg20 (VecWindow.put X20 (k0_off2 i) S1x1024x768.size (k0_pay12 X1 (wcat X2 X3 X4 X5) X6)) ∗ held c arg21 (VecWindow.put X21 (k0_off1 i) S1x1024.size (k0_pay11 X1 (wcat X2 X3 X4 X5) X6 X7)) ∗ held c arg23 (k0_pay5 (k0_pay14 X1 (wcat X2 X3 X4 X5) X6 k0_pay13))) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__body_eq_skeleton]; unfold cc0__body_skel
  iintro ⟨H1, H2, H3, H4, H5, H6, H7, H17, H19, H20, H21, H23, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H17]
  · ihave H' := (pointsTo_rep_of_read (c : Thread nD τ) arg17 _ fullShare _ ?_) $$ H17
    swap; · iexact H'
    unfold runA0.sl.r runA0.sl.v12 runA0.sl.H19_4
    repeat rw [View.readAt_rep_full]
    rw [View.read_writes_full, readCov_wcat]
  isplitl [H19]
  · ihave H' := (pointsTo_rep_of_read (c : Thread nD τ) arg19 _ fullShare _ ?_) $$ H19
    swap; · iexact H'
    unfold runA0.sl.H19_4
    repeat rw [View.readAt_rep_full]
    rw [read_wcat]
  isplitl [H20]
  · ihave H' := (pointsTo_rep_of_read (c : Thread nD τ) arg20 _ fullShare _ ?_) $$ H20
    swap; · iexact H'
    unfold runA0.sl.v12 runA0.sl.H19_4
    repeat rw [View.readAt_rep_full]
    rw [readCov_wcat]
    exact View.read_writes_rep_unit _ _ _ _ rfl
  isplitl [H21]
  · ihave H' := (pointsTo_rep_of_read (c : Thread nD τ) arg21 _ fullShare _ ?_) $$ H21
    swap; · iexact H'
    unfold runA0.sl.v12 runA0.sl.H19_4
    repeat rw [View.readAt_rep_full]
    rw [readCov_wcat]
    exact View.read_writes_rep_unit _ _ _ _ rfl
  ihave H' := (pointsTo_rep_of_read (c : Thread nD τ) arg23 _ fullShare _ ?_) $$ H23
  swap; · iexact H'
  unfold runA0.sl.r_1 runA0.sl.v12 runA0.sl.H19_4 runA0.sl.v42 runA0.sl.H23_1
  repeat rw [View.readAt_rep_full]
  rw [View.read_writes_full, readCov_wcat, View.readCov_full]

/-- A later point of the first phase before its last: one block of each value is stored. -/
theorem runA (h1 : ¬ atFirst i) (h2 : k0_cond2 i = 1#1) (h4 : ¬ atSeventh i) (h5 : ¬ k0_cond5 i = 1#1)
    (X1 X6 X7 X17 X19 X20 X21 X23) (K : PUnit → sProp 𝕄) :
    iprop(held c arg1 X1 ∗ held c arg6 X6 ∗ held c arg7 X7 ∗ held c arg17 X17 ∗ held c arg19 X19 ∗ held c arg20 X20 ∗ held c arg21 X21 ∗ held c arg23 X23
        ∗ (iprop(held c arg1 X1 ∗ held c arg6 X6 ∗ held c arg7 X7 ∗ held c arg17 (k0_pay6 (k0_pay10 X1 X19 X6)) ∗ held c arg19 X19 ∗ held c arg20 (VecWindow.put X20 (k0_off2 i) S1x1024x768.size (k0_pay12 X1 X19 X6)) ∗ held c arg21 (VecWindow.put X21 (k0_off1 i) S1x1024.size (k0_pay11 X1 X19 X6 X7)) ∗ held c arg23 (k0_pay5 (k0_pay14 X1 X19 X6 X23))) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__body_eq_skeleton]; unfold cc0__body_skel
  iintro ⟨H1, H6, H7, H17, H19, H20, H21, H23, Hk⟩
  sl_exec
  sl_step
  iapply Hk
  isplitl [H1]; · iexact H1
  isplitl [H6]; · iexact H6
  isplitl [H7]; · iexact H7
  isplitl [H17]
  · ihave H' := (pointsTo_rep_of_read (c : Thread nD τ) arg17 _ fullShare _ ?_) $$ H17
    swap; · iexact H'
    unfold runA.sl.r
    repeat rw [View.readAt_rep_full]
    rw [View.read_writes_full]
  isplitl [H19]; · iexact H19
  isplitl [H20]
  · ihave H' := (pointsTo_rep_of_read (c : Thread nD τ) arg20 _ fullShare _ ?_) $$ H20
    swap; · iexact H'
    repeat rw [View.readAt_rep_full]
    exact View.read_writes_rep_unit _ _ _ _ rfl
  isplitl [H21]
  · ihave H' := (pointsTo_rep_of_read (c : Thread nD τ) arg21 _ fullShare _ ?_) $$ H21
    swap; · iexact H'
    repeat rw [View.readAt_rep_full]
    exact View.read_writes_rep_unit _ _ _ _ rfl
  ihave H' := (pointsTo_rep_of_read (c : Thread nD τ) arg23 _ fullShare _ ?_) $$ H23
  swap; · iexact H'
  unfold runA.sl.r_1
  repeat rw [View.readAt_rep_full]
  rw [View.read_writes_full]

/-- The last point of the first phase: besides, the first choice is made. -/
theorem runAlast (hoff : k0_off1 i = ![0, 7168]) (h1 : ¬ atFirst i) (h2 : k0_cond2 i = 1#1) (h4 : atSeventh i) (h5 : ¬ k0_cond5 i = 1#1)
    (X1 X6 X7 X8 X14 X17 X19 X20 X21 X23 X24) (K : PUnit → sProp 𝕄) :
    iprop(held c arg1 X1 ∗ held c arg6 X6 ∗ held c arg7 X7 ∗ held c arg8 X8 ∗ held c arg14 X14 ∗ held c arg17 X17 ∗ held c arg19 X19 ∗ held c arg20 X20 ∗ held c arg21 X21 ∗ held c arg23 X23 ∗ held c arg24 X24
        ∗ (iprop(held c arg1 X1 ∗ held c arg6 X6 ∗ held c arg7 X7 ∗ held c arg8 X8 ∗ held c arg14 X14 ∗ held c arg17 (k0_pay6 (k0_pay10 X1 X19 X6)) ∗ held c arg19 X19 ∗ held c arg20 (VecWindow.put X20 (k0_off2 i) S1x1024x768.size (k0_pay12 X1 X19 X6)) ∗ held c arg21 (VecWindow.put X21 (k0_off1 i) S1x1024.size (k0_pay11 X1 X19 X6 X7)) ∗ held c arg23 (k0_pay5 (k0_pay14 X1 X19 X6 X23)) ∗ held c arg24 (fun _ => afIdx (VecWindow.put X21 (k0_off1 i) S1x1024.size (k0_pay11 X1 X19 X6 X7)) X8 X14)) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__body_eq_skeleton]; unfold cc0__body_skel
  iintro ⟨H1, H6, H7, H8, H14, H17, H19, H20, H21, H23, H24, Hk⟩
  letI : ClosedOff (k0_off1 i) := ⟨![0, 7168], hoff⟩
  sl_exec
  sl_step
  iapply Hk
  isplitl [H1]; · iexact H1
  isplitl [H6]; · iexact H6
  isplitl [H7]; · iexact H7
  isplitl [H8]; · iexact H8
  isplitl [H14]; · iexact H14
  isplitl [H17]
  · ihave H' := (pointsTo_rep_of_read (c : Thread nD τ) arg17 _ fullShare _ ?_) $$ H17
    swap; · iexact H'
    unfold runAlast.sl.r
    repeat rw [View.readAt_rep_full]
    rw [View.read_writes_full]
  isplitl [H19]; · iexact H19
  isplitl [H20]
  · ihave H' := (pointsTo_rep_of_read (c : Thread nD τ) arg20 _ fullShare _ ?_) $$ H20
    swap; · iexact H'
    repeat rw [View.readAt_rep_full]
    exact View.read_writes_rep_unit _ _ _ _ rfl
  isplitl [H21]
  · ihave H' := (pointsTo_rep_of_read (c : Thread nD τ) arg21 _ fullShare _ ?_) $$ H21
    swap; · iexact H'
    unfold runAlast.sl.H21_1
    repeat rw [View.readAt_rep_full]
    exact View.read_writes_rep_unit _ _ _ _ rfl
  isplitl [H23]
  · ihave H' := (pointsTo_rep_of_read (c : Thread nD τ) arg23 _ fullShare _ ?_) $$ H23
    swap; · iexact H'
    unfold runAlast.sl.r_1
    repeat rw [View.readAt_rep_full]
    rw [View.read_writes_full]
  ihave H' := (pointsTo_rep_of_read (c : Thread nD τ) arg24 _ fullShare _ ?_) $$ H24
  swap; · iexact H'
  rw [View.read_writes_full]
  unfold runAlast.sl.v73 runAlast.sl.r_2 runAlast.sl.H21_1
  repeat rw [View.readAt_rep_full]
  rw [View.readAt_full, View.read_writes_rep_unit _ _ _ _ rfl]
  rfl

/-- A point of the second phase before the last: one block of the second head's logits is stored. -/
theorem runB (h1 : ¬ atFirst i) (h2 : ¬ k0_cond2 i = 1#1) (h5 : k0_cond5 i = 1#1) (h6 : ¬ k0_cond6 i = 1#1)
    (X9 X10 X20 X22 X24) (K : PUnit → sProp 𝕄) :
    iprop(held c arg9 X9 ∗ held c arg10 X10 ∗ held c arg20 X20 ∗ held c arg22 X22 ∗ held c arg24 X24
        ∗ (iprop(held c arg9 X9 ∗ held c arg10 X10 ∗ held c arg20 X20 ∗ held c arg22 (VecWindow.put X22 (k0_off4 i) S1x1024.size (k0_pay8 (cell X24) (VecWindow.window X20 (k0_off3 i) S1x1024x768.size (k0_off3_inb i h5)) X9 X10)) ∗ held c arg24 X24) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__body_eq_skeleton]; unfold cc0__body_skel
  iintro ⟨H9, H10, H20, H22, H24, Hk⟩
  sl_exec
  sl_step
  iapply Hk
  isplitl [H9]; · iexact H9
  isplitl [H10]; · iexact H10
  isplitl [H20]; · iexact H20
  isplitl [H22]
  · ihave H' := (pointsTo_rep_of_read (c : Thread nD τ) arg22 _ fullShare _ ?_) $$ H22
    swap; · iexact H'
    unfold runB.sl.r
    repeat rw [View.readAt_rep_full]
    rw [View.read_writes_rep_unit _ _ _ _ rfl, View.readAt_rep_unit _ _ _ rfl (k0_off3_inb i h5)]
    rfl
  iexact H24

/-- The last point: the second head's last block is stored, and the three choices give the actor vector. -/
theorem runBlast (hoff : k0_off4 i = ![0, 7168]) (h1 : ¬ atFirst i) (h2 : ¬ k0_cond2 i = 1#1) (h5 : k0_cond5 i = 1#1) (h6 : k0_cond6 i = 1#1)
    (X9 X10 X11 X12 X13 X15 X16 X18 X20 X22 X23 X24) (K : PUnit → sProp 𝕄) :
    iprop(held c arg9 X9 ∗ held c arg10 X10 ∗ held c arg11 X11 ∗ held c arg12 X12 ∗ held c arg13 X13 ∗ held c arg15 X15 ∗ held c arg16 X16 ∗ held c arg18 X18 ∗ held c arg20 X20 ∗ held c arg22 X22 ∗ held c arg23 X23 ∗ held c arg24 X24
        ∗ (iprop(held c arg9 X9 ∗ held c arg10 X10 ∗ held c arg11 X11 ∗ held c arg12 X12 ∗ held c arg13 X13 ∗ held c arg15 X15 ∗ held c arg16 X16 ∗ held c arg18 (k0_pay9 (cell X24) (asIdx (cell X24) (VecWindow.put X22 (k0_off4 i) S1x1024.size (k0_pay8 (cell X24) (VecWindow.window X20 (k0_off3 i) S1x1024x768.size (k0_off3_inb i h5)) X9 X10)) X11 X15) (atIdx X23 X12 X13 X16)) ∗ held c arg20 X20 ∗ held c arg22 (VecWindow.put X22 (k0_off4 i) S1x1024.size (k0_pay8 (cell X24) (VecWindow.window X20 (k0_off3 i) S1x1024x768.size (k0_off3_inb i h5)) X9 X10)) ∗ held c arg23 X23 ∗ held c arg24 X24) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__body_eq_skeleton]; unfold cc0__body_skel
  iintro ⟨H9, H10, H11, H12, H13, H15, H16, H18, H20, H22, H23, H24, Hk⟩
  letI : ClosedOff (k0_off4 i) := ⟨![0, 7168], hoff⟩
  sl_exec
  sl_step
  iapply Hk
  isplitl [H9]; · iexact H9
  isplitl [H10]; · iexact H10
  isplitl [H11]; · iexact H11
  isplitl [H12]; · iexact H12
  isplitl [H13]; · iexact H13
  isplitl [H15]; · iexact H15
  isplitl [H16]; · iexact H16
  isplitl [H18]
  · ihave H' := (pointsTo_rep_of_read (c : Thread nD τ) arg18 _ fullShare _ ?_) $$ H18
    swap; · iexact H'
    rw [View.read_writes_full]
    unfold runBlast.sl.r runBlast.sl.v57 runBlast.sl.r_1 runBlast.sl.H22_1 runBlast.sl.r runBlast.sl.v72 runBlast.sl.v71
    repeat rw [View.readAt_rep_full]
    rw [View.readAt_full, View.read_writes_rep_unit _ _ _ _ rfl, View.readAt_rep_unit _ _ _ rfl (k0_off3_inb i h5)]
    rfl
  isplitl [H20]; · iexact H20
  isplitl [H22]
  · ihave H' := (pointsTo_rep_of_read (c : Thread nD τ) arg22 _ fullShare _ ?_) $$ H22
    swap; · iexact H'
    unfold runBlast.sl.H22_1 runBlast.sl.r
    repeat rw [View.readAt_rep_full]
    rw [View.read_writes_rep_unit _ _ _ _ rfl, View.readAt_rep_unit _ _ _ rfl (k0_off3_inb i h5)]
    rfl
  isplitl [H23]; · iexact H23
  iexact H24

end

end Cert.KernelIdeal.Hand
end
-- ==== Proof.KernelIdeal.Values.lean ====
module

public import proofs.«01_k».proof.Proof.KernelIdeal.Body
public import Idealize.ShloMosaic.Lib.ValueIdxCore

@[expose] public section

set_option maxRecDepth 16384

noncomputable section

namespace Cert.KernelIdeal.Hand

open Idealize.ShloMosaic Idealize.ShloMosaic.TcCoe Idealize.ShloMosaic.ValueIdx
open Cert.KernelIdeal.Gen

variable {F : FTy → Type} [FloatOps F]

/-- What the kernel is given: the eight row blocks of the features, the weights, the biases and the noise, as its windows stage them. -/
structure Ins (F : FTy → Type) [FloatOps F] where
  x : Fin 8 → Vec F S1024x768 .f32
  w1 : Vec F S768x768 .f32
  w2 : Vec F S768x768 .f32
  w3 : Vec F S768x768 .f32
  w4 : Vec F S768x64 .f32
  b : Vec F S1x2368 .f32
  f2 : Vec F S1x768 .f32
  fb : Vec F S1x1 .f32
  r0 : Vec F S1x768 .f32
  s2 : Vec F S1x768 .f32
  sb : Vec F S1x1 .f32
  t2 : Vec F S768x2 .f32
  tb : Vec F S1x2 .f32
  g1 : Vec F S1x8192 .f32
  g2 : Vec F S1x8192 .f32
  g3 : Vec F S1x2 .f32

namespace Ins
variable (I : Ins F)

/-- The weights side by side. -/
def wc : Vec F S768x2368 .bf16 := wcat I.w1 I.w2 I.w3 I.w4
/-- The critic's block `j`. -/
def crit (j : Fin 8) : Vec F S1024x64 .f32 := k0_pay6 (k0_pay10 (I.x j) I.wc I.b)
/-- Block `j` of the first head's logits. -/
def lg1b (j : Fin 8) : Vec F S1x1024 .f32 := k0_pay11 (I.x j) I.wc I.b I.f2
/-- The first head's logits. -/
def lg1 : Vec F S1x8192 .f32 := fun y =>
  I.lg1b ⟨(y 1).val / 1024, by have : (y 1).val < 8192 := (y 1).isLt; omega⟩ (ix2 (0 : Fin 1) (⟨(y 1).val % 1024, by omega⟩ : Fin 1024))
/-- Block `j` of the second head's hidden layer before the first choice is added. -/
def baseb (j : Fin 8) : Vec F S1x1024x768 .f32 := k0_pay12 (I.x j) I.wc I.b
/-- The second head's hidden layer before the first choice is added, block by block. -/
def base : Vec F S8x1024x768 .f32 := fun y => I.baseb (y 0) (ix3 (0 : Fin 1) (y 1) (y 2))
/-- The third head's sum over the first `n` blocks of rows. -/
def pooled : ℕ → Vec F S1x768 .f32
  | 0 => k0_pay13
  | n + 1 => if h : n < 8 then k0_pay5 (k0_pay14 (I.x ⟨n, h⟩) I.wc I.b (pooled n)) else pooled n
/-- The first choice. -/
def af : BitVec 32 := afIdx I.lg1 I.fb I.g1
/-- Block `j` of the second head's logits. -/
def lg2b (j : Fin 8) : Vec F S1x1024 .f32 := k0_pay8 I.af (I.baseb j) I.r0 I.s2
/-- The second head's logits. -/
def lg2 : Vec F S1x8192 .f32 := fun y =>
  I.lg2b ⟨(y 1).val / 1024, by have : (y 1).val < 8192 := (y 1).isLt; omega⟩ (ix2 (0 : Fin 1) (⟨(y 1).val % 1024, by omega⟩ : Fin 1024))
/-- The actor's vector. -/
def actor : Vec F S1x16386 .f32 := k0_pay9 I.af (asIdx I.af I.lg2 I.sb I.g2) (atIdx (I.pooled 8) I.t2 I.tb I.g3)

end Ins

/-- What the six scratch buffers hold before point `t`. -/
structure Inv (I : Ins F) (t : ℕ) (X19 : Vec F S768x2368 .bf16) (X20 : Vec F S8x1024x768 .f32) (X21 X22 : Vec F S1x8192 .f32)
    (X23 : Vec F S1x768 .f32) (X24 : Vec F S1x1 .i32) : Prop where
  w : 1 ≤ t → X19 = I.wc
  base : ∀ y : S8x1024x768.Idx, (y 0).val < t → X20 y = I.base y
  l1 : ∀ y : S1x8192.Idx, (y 1).val < 1024 * t → X21 y = I.lg1 y
  l2 : ∀ y : S1x8192.Idx, (y 1).val + 8192 < 1024 * t → X22 y = I.lg2 y
  p : 1 ≤ t → X23 = I.pooled (min t 8)
  a : 8 ≤ t → X24 = fun _ => I.af

/-- A row buffer with one block stored, at an index. -/
theorem put_row (X : Vec F S1x8192 .f32) (j : ℕ) (w : Vec F S1x1024 .f32) (y : S1x8192.Idx) :
    VecWindow.put X ![0, 1024 * j] S1x1024.size w y
      = if h : 1024 * j ≤ (y 1).val ∧ (y 1).val < 1024 * j + 1024 then w (ix2 (0 : Fin 1) (⟨(y 1).val - 1024 * j, by omega⟩ : Fin 1024)) else X y := by
  unfold VecWindow.put
  have h0 : (y 0).val = 0 := by have : (y 0).val < 1 := (y 0).isLt; omega
  by_cases h : 1024 * j ≤ (y 1).val ∧ (y 1).val < 1024 * j + 1024
  · rw [dif_pos h, dif_pos (by
      rw [Fin.forall_fin_two]
      exact ⟨⟨Nat.zero_le _, by show (y 0).val < 0 + 1; omega⟩, h⟩)]
    congr 1
    funext a
    match a with
    | ⟨0, _⟩ => exact Fin.ext (by show (y 0).val - 0 = 0; omega)
    | ⟨1, _⟩ => exact Fin.ext rfl
  · rw [dif_neg h, dif_neg (fun hall => h (hall 1))]

/-- The hidden-layer buffer with one block stored, at an index. -/
theorem put_blk (X : Vec F S8x1024x768 .f32) (j : Fin 8) (w : Vec F S1x1024x768 .f32) (y : S8x1024x768.Idx) :
    VecWindow.put X ![j.val, 0, 0] S1x1024x768.size w y = if (y 0).val = j.val then w (ix3 (0 : Fin 1) (y 1) (y 2)) else X y := by
  unfold VecWindow.put
  have h1 : (y 1).val < 1024 := (y 1).isLt
  have h2 : (y 2).val < 768 := (y 2).isLt
  by_cases h : (y 0).val = j.val
  · rw [if_pos h, dif_pos (fun a => by
      match a with
      | ⟨0, _⟩ => exact ⟨by show j.val ≤ (y 0).val; omega, by show (y 0).val < j.val + 1; omega⟩
      | ⟨1, _⟩ => exact ⟨Nat.zero_le _, by show (y 1).val < 0 + 1024; omega⟩
      | ⟨2, _⟩ => exact ⟨Nat.zero_le _, by show (y 2).val < 0 + 768; omega⟩)]
    congr 1
    funext a
    match a with
    | ⟨0, _⟩ => exact Fin.ext (by show (y 0).val - j.val = 0; omega)
    | ⟨1, _⟩ => exact Fin.ext rfl
    | ⟨2, _⟩ => exact Fin.ext rfl
  · rw [if_neg h, dif_neg (fun hall => h (by
      have ha : j.val ≤ (y 0).val ∧ (y 0).val < j.val + 1 := hall 0
      omega))]

/-- Block `j` of the hidden-layer buffer. -/
theorem window_base (X : Vec F S8x1024x768 .f32) (j : Fin 8) (w : Vec F S1x1024x768 .f32)
    (inb : ∀ a, (![j.val, 0, 0] : Fin 3 → ℕ) a + S1x1024x768.size a ≤ S8x1024x768.size a)
    (hX : ∀ y : S8x1024x768.Idx, y 0 = j → X y = w (ix3 (0 : Fin 1) (y 1) (y 2))) :
    VecWindow.window X ![j.val, 0, 0] S1x1024x768.size inb = w := by
  funext y
  unfold VecWindow.window
  have h0 : (y 0).val = 0 := by have : (y 0).val < 1 := (y 0).isLt; omega
  rw [hX _ (Fin.ext (by show j.val + 1 * (y 0).val = j.val; omega))]
  congr 1
  funext a
  match a with
  | ⟨0, _⟩ => exact Fin.ext h0.symm
  | ⟨1, _⟩ => exact Fin.ext (by show 0 + 1 * (y 1).val = (y 1).val; omega)
  | ⟨2, _⟩ => exact Fin.ext (by show 0 + 1 * (y 2).val = (y 2).val; omega)

variable {I : Ins F} {X19 : Vec F S768x2368 .bf16} {X20 : Vec F S8x1024x768 .f32} {X21 X22 : Vec F S1x8192 .f32}
  {X23 : Vec F S1x768 .f32} {X24 : Vec F S1x1 .i32}

theorem row_step1 {j : ℕ} (hj : j < 8) (l1 : ∀ y : S1x8192.Idx, (y 1).val < 1024 * j → X21 y = I.lg1 y) :
    ∀ y : S1x8192.Idx, (y 1).val < 1024 * (j + 1) → VecWindow.put X21 ![0, 1024 * j] S1x1024.size (I.lg1b ⟨j, hj⟩) y = I.lg1 y := by
  intro y hy
  rw [put_row]
  split
  · rename_i h
    unfold Ins.lg1
    have e1 : (y 1).val / 1024 = j := by omega
    have e2 : (y 1).val % 1024 = (y 1).val - 1024 * j := by omega
    simp only [e1, e2]
  · exact l1 y (by omega)

theorem row_step2 {j : ℕ} (hj : j < 8) (l2 : ∀ y : S1x8192.Idx, (y 1).val < 1024 * j → X22 y = I.lg2 y) :
    ∀ y : S1x8192.Idx, (y 1).val < 1024 * (j + 1) → VecWindow.put X22 ![0, 1024 * j] S1x1024.size (I.lg2b ⟨j, hj⟩) y = I.lg2 y := by
  intro y hy
  rw [put_row]
  split
  · rename_i h
    unfold Ins.lg2
    have e1 : (y 1).val / 1024 = j := by omega
    have e2 : (y 1).val % 1024 = (y 1).val - 1024 * j := by omega
    simp only [e1, e2]
  · exact l2 y (by omega)

/-- Before any point nothing is asked. -/
theorem Inv.zero : Inv I 0 X19 X20 X21 X22 X23 X24 :=
  ⟨fun h => absurd h (by omega), fun _ h => absurd h (by omega), fun _ h => absurd h (by omega), fun _ h => absurd h (by omega),
    fun h => absurd h (by omega), fun h => absurd h (by omega)⟩

/-- A point of the first phase: what it stores continues the invariant, whatever it leaves in the choice's cell before the phase's end. -/
theorem Inv.stepA {t : ℕ} (ht : t < 8) (h : Inv I t X19 X20 X21 X22 X23 X24) (P : Vec F S1x768 .f32) (hP : P = I.pooled t)
    (Y24 : Vec F S1x1 .i32) (hY : t = 7 → Y24 = fun _ => afIdx (VecWindow.put X21 ![0, 1024 * t] S1x1024.size (I.lg1b ⟨t, ht⟩)) I.fb I.g1) :
    Inv I (t + 1) I.wc (VecWindow.put X20 ![t, 0, 0] S1x1024x768.size (I.baseb ⟨t, ht⟩))
      (VecWindow.put X21 ![0, 1024 * t] S1x1024.size (I.lg1b ⟨t, ht⟩)) X22 (k0_pay5 (k0_pay14 (I.x ⟨t, ht⟩) I.wc I.b P)) Y24 where
  w _ := rfl
  base y hy := by
    rw [put_blk X20 ⟨t, ht⟩]
    split
    · rename_i e
      have e' : y 0 = (⟨t, ht⟩ : Fin 8) := Fin.ext e
      unfold Ins.base; rw [e']
    · rename_i e
      exact h.base y (by
        have : (y 0).val ≠ t := e
        omega)
  l1 := row_step1 ht h.l1
  l2 y hy := absurd hy (by omega)
  p _ := by
    rw [show min (t + 1) 8 = t + 1 by omega, hP, Ins.pooled, dif_pos ht]
  a h8 := by
    have e : t = 7 := by omega
    rw [hY e]
    funext _
    unfold Ins.af
    congr 1
    funext y
    exact row_step1 ht h.l1 y (by have : (y 1).val < 8192 := (y 1).isLt; omega)

/-- A point of the second phase. -/
theorem Inv.stepB {j : ℕ} (hj : j < 8) (h : Inv I (8 + j) X19 X20 X21 X22 X23 X24) :
    Inv I (8 + j + 1) X19 X20 X21 (VecWindow.put X22 ![0, 1024 * j] S1x1024.size (I.lg2b ⟨j, hj⟩)) X23 X24 where
  w _ := h.w (by omega)
  base y _ := h.base y (by have : (y 0).val < 8 := (y 0).isLt; omega)
  l1 y _ := h.l1 y (by have : (y 1).val < 8192 := (y 1).isLt; omega)
  l2 y hy := row_step2 hj (fun y hy => h.l2 y (by omega)) y (by omega)
  p _ := (h.p (by omega)).trans (by rw [show min (8 + j) 8 = min (8 + j + 1) 8 by omega])
  a _ := h.a (by omega)

/-- The block a point of the second phase loads. -/
theorem Inv.window {j : ℕ} (hj : j < 8) (h : Inv I (8 + j) X19 X20 X21 X22 X23 X24)
    (inb : ∀ a, (![j, 0, 0] : Fin 3 → ℕ) a + S1x1024x768.size a ≤ S8x1024x768.size a) :
    VecWindow.window X20 ![j, 0, 0] S1x1024x768.size inb = I.baseb ⟨j, hj⟩ :=
  window_base X20 ⟨j, hj⟩ _ inb fun y e => (h.base y (by have : (y 0).val < 8 := (y 0).isLt; omega)).trans (by unfold Ins.base; rw [e])

/-- After the last block, the second head's logits are all there. -/
theorem Inv.full2 (h : Inv I 15 X19 X20 X21 X22 X23 X24) :
    VecWindow.put X22 ![0, 1024 * 7] S1x1024.size (I.lg2b ⟨7, by omega⟩) = I.lg2 :=
  funext fun y => row_step2 (by omega) (fun y hy => h.l2 y (by omega)) y (by have : (y 1).val < 8192 := (y 1).isLt; omega)

end Cert.KernelIdeal.Hand
end
-- ==== Proof.KernelIdeal.Run.lean ====
module

public import proofs.«01_k».proof.Proof.KernelIdeal.Values

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem at_first : ∀ t : Fin cfg0.N, atFirst (grid0.coords t) ↔ t.val = 0 := by decide
theorem at_seventh : ∀ t : Fin cfg0.N, atSeventh (grid0.coords t) ↔ t.val = 7 := by decide
theorem cond2 : ∀ t : Fin cfg0.N, k0_cond2 (grid0.coords t) = 1#1 ↔ t.val < 8 := by decide
theorem cond5 : ∀ t : Fin cfg0.N, k0_cond5 (grid0.coords t) = 1#1 ↔ 8 ≤ t.val := by decide
theorem cond6 : ∀ t : Fin cfg0.N, k0_cond6 (grid0.coords t) = 1#1 ↔ t.val = 15 := by decide
theorem off1 : ∀ t : Fin cfg0.N, k0_off1 (grid0.coords t) = ![0, 1024 * t.val] := by decide
theorem off2 : ∀ t : Fin cfg0.N, k0_off2 (grid0.coords t) = ![t.val, 0, 0] := by decide
theorem off3 : ∀ t : Fin cfg0.N, 8 ≤ t.val → k0_off3 (grid0.coords t) = ![t.val - 8, 0, 0] := by decide
theorem off4 : ∀ t : Fin cfg0.N, 8 ≤ t.val → k0_off4 (grid0.coords t) = ![0, 1024 * (t.val - 8)] := by decide
theorem idle16 : ∀ t : Fin cfg0.N, cfg0.idle 16 (cfg0.grid.coords t) = true ↔ 8 ≤ t.val := by decide
theorem idle17 : ∀ t : Fin cfg0.N, cfg0.idle 17 (cfg0.grid.coords t) = true ↔ t.val ≠ 15 := by decide
theorem flush16 : ∀ t : Fin cfg0.N, 8 ≤ t.val → t.val ≠ 15 → (cfg0.win 16).flush t = false := by decide
theorem flush16_last : ∀ t : Fin cfg0.N, t.val = 15 → (cfg0.win 16).flush t = true := by decide
theorem flush17 : ∀ t : Fin cfg0.N, t.val ≠ 15 → (cfg0.win 17).flush t = false := by
  intro t h
  have := (flush0_17 t).not.mpr (by have : t.val < 16 := t.isLt; omega)
  simpa using this
theorem fresh16 : ∀ t : Fin cfg0.N, t.val = 15 → cfg0.fresh 16 t.val = false := by decide

/-! ## The launch data -/

/-- What the windows stage: the kernel's inputs as its host lines leave them. -/
def insOf (c : Dev nD) : Ins F where
  x j := iblk m c 0 ⟨j.val, by have := j.isLt; show j.val < 16; omega⟩
  w1 := iblk m c 1 ⟨0, by decide⟩
  w2 := iblk m c 2 ⟨0, by decide⟩
  w3 := iblk m c 3 ⟨0, by decide⟩
  w4 := iblk m c 4 ⟨0, by decide⟩
  b := iblk m c 5 ⟨0, by decide⟩
  f2 := iblk m c 6 ⟨0, by decide⟩
  fb := iblk m c 7 ⟨0, by decide⟩
  r0 := iblk m c 8 ⟨0, by decide⟩
  s2 := iblk m c 9 ⟨0, by decide⟩
  sb := iblk m c 10 ⟨0, by decide⟩
  t2 := iblk m c 11 ⟨0, by decide⟩
  tb := iblk m c 12 ⟨0, by decide⟩
  g1 := iblk m c 13 ⟨0, by decide⟩
  g2 := iblk m c 14 ⟨0, by decide⟩
  g3 := iblk m c 15 ⟨0, by decide⟩

theorem iblk_x (c : Dev nD) (t : Fin cfg0.N) (h : t.val < 8) : iblk m c 0 t = (insOf m c).x ⟨t.val, h⟩ := by dsimp only [insOf]
theorem iblk_w1 (c : Dev nD) (t : Fin cfg0.N) : iblk m c 1 t = (insOf m c).w1 := by dsimp only [insOf]; rfl
theorem iblk_w2 (c : Dev nD) (t : Fin cfg0.N) : iblk m c 2 t = (insOf m c).w2 := by dsimp only [insOf]; rfl
theorem iblk_w3 (c : Dev nD) (t : Fin cfg0.N) : iblk m c 3 t = (insOf m c).w3 := by dsimp only [insOf]; rfl
theorem iblk_w4 (c : Dev nD) (t : Fin cfg0.N) : iblk m c 4 t = (insOf m c).w4 := by dsimp only [insOf]; rfl
theorem iblk_b (c : Dev nD) (t : Fin cfg0.N) : iblk m c 5 t = (insOf m c).b := by dsimp only [insOf]; rfl
theorem iblk_f2 (c : Dev nD) (t : Fin cfg0.N) : iblk m c 6 t = (insOf m c).f2 := by dsimp only [insOf]; rfl
theorem iblk_fb (c : Dev nD) (t : Fin cfg0.N) : iblk m c 7 t = (insOf m c).fb := by dsimp only [insOf]; rfl
theorem iblk_r0 (c : Dev nD) (t : Fin cfg0.N) : iblk m c 8 t = (insOf m c).r0 := by dsimp only [insOf]; rfl
theorem iblk_s2 (c : Dev nD) (t : Fin cfg0.N) : iblk m c 9 t = (insOf m c).s2 := by dsimp only [insOf]; rfl
theorem iblk_sb (c : Dev nD) (t : Fin cfg0.N) : iblk m c 10 t = (insOf m c).sb := by dsimp only [insOf]; rfl
theorem iblk_t2 (c : Dev nD) (t : Fin cfg0.N) : iblk m c 11 t = (insOf m c).t2 := by dsimp only [insOf]; rfl
theorem iblk_tb (c : Dev nD) (t : Fin cfg0.N) : iblk m c 12 t = (insOf m c).tb := by dsimp only [insOf]; rfl
theorem iblk_g1 (c : Dev nD) (t : Fin cfg0.N) : iblk m c 13 t = (insOf m c).g1 := by dsimp only [insOf]; rfl
theorem iblk_g2 (c : Dev nD) (t : Fin cfg0.N) : iblk m c 14 t = (insOf m c).g2 := by dsimp only [insOf]; rfl
theorem iblk_g3 (c : Dev nD) (t : Fin cfg0.N) : iblk m c 15 t = (insOf m c).g3 := by dsimp only [insOf]; rfl

/-- The scratch at given contents. -/
abbrev scr (c : Dev nD) (X19 : Vec F S768x2368 .bf16) (X20 : Vec F S8x1024x768 .f32) (X21 X22 : Vec F S1x8192 .f32)
    (X23 : Vec F S1x768 .f32) (X24 : Vec F S1x1 .i32) : sProp 𝕄 :=
  iprop(held c (Memref.whole cc0_scratch0) X19 ∗ held c (Memref.whole cc0_scratch1) X20 ∗ held c (Memref.whole cc0_scratch2) X21
    ∗ held c (Memref.whole cc0_scratch3) X22 ∗ held c (Memref.whole cc0_scratch4) X23 ∗ held c (Memref.whole cc0_scratch5) X24)

/-- The scratch before point `t`, with the generator's register. -/
def Φof (I : Ins F) (c : Dev nD) (t : ℕ) : sProp 𝕄 :=
  iprop(∃ X19 X20 X21 X22 X23 X24, ⌜Inv I t X19 X20 X21 X22 X23 X24⌝ ∗ scr c X19 X20 X21 X22 X23 X24 ∗ ∃ r, prngReg c r)

/-- The pipeline's data: each window's array at the region's entry, what the body leaves staged, the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (insOf m c).crit ⟨min t.val 7, by omega⟩
    | ⟨17, _⟩ => (insOf m c).actor
    | ⟨n + 18, h⟩ => absurd (show n + 18 < 18 from h) (by omega)
  Φ t := Φof (insOf m c) c t.val
  q _ := fullShare
  owed _ := 0

theorem Φ_eq (c : Dev nD) (t) : (dats m 0 c).Φ t = Φof (insOf m c) c t.val := by dsimp only [dats]
theorem A_eq (c : Dev nD) (w : Fin cfg0.W) : (dats m 0 c).A w = V m c (Pipeline.arrRef spec0 w) := by dsimp only [dats]
theorem after_0 (c : Dev nD) (t : Fin cfg0.N) : (dats m 0 c).after 0 t = (iblk m c 0 t) := by dsimp only [dats]
theorem after_1 (c : Dev nD) (t : Fin cfg0.N) : (dats m 0 c).after 1 t = (insOf m c).w1 := by dsimp only [dats]; exact iblk_w1 m c t
theorem after_2 (c : Dev nD) (t : Fin cfg0.N) : (dats m 0 c).after 2 t = (insOf m c).w2 := by dsimp only [dats]; exact iblk_w2 m c t
theorem after_3 (c : Dev nD) (t : Fin cfg0.N) : (dats m 0 c).after 3 t = (insOf m c).w3 := by dsimp only [dats]; exact iblk_w3 m c t
theorem after_4 (c : Dev nD) (t : Fin cfg0.N) : (dats m 0 c).after 4 t = (insOf m c).w4 := by dsimp only [dats]; exact iblk_w4 m c t
theorem after_5 (c : Dev nD) (t : Fin cfg0.N) : (dats m 0 c).after 5 t = (insOf m c).b := by dsimp only [dats]; exact iblk_b m c t
theorem after_6 (c : Dev nD) (t : Fin cfg0.N) : (dats m 0 c).after 6 t = (insOf m c).f2 := by dsimp only [dats]; exact iblk_f2 m c t
theorem after_7 (c : Dev nD) (t : Fin cfg0.N) : (dats m 0 c).after 7 t = (insOf m c).fb := by dsimp only [dats]; exact iblk_fb m c t
theorem after_8 (c : Dev nD) (t : Fin cfg0.N) : (dats m 0 c).after 8 t = (insOf m c).r0 := by dsimp only [dats]; exact iblk_r0 m c t
theorem after_9 (c : Dev nD) (t : Fin cfg0.N) : (dats m 0 c).after 9 t = (insOf m c).s2 := by dsimp only [dats]; exact iblk_s2 m c t
theorem after_10 (c : Dev nD) (t : Fin cfg0.N) : (dats m 0 c).after 10 t = (insOf m c).sb := by dsimp only [dats]; exact iblk_sb m c t
theorem after_11 (c : Dev nD) (t : Fin cfg0.N) : (dats m 0 c).after 11 t = (insOf m c).t2 := by dsimp only [dats]; exact iblk_t2 m c t
theorem after_12 (c : Dev nD) (t : Fin cfg0.N) : (dats m 0 c).after 12 t = (insOf m c).tb := by dsimp only [dats]; exact iblk_tb m c t
theorem after_13 (c : Dev nD) (t : Fin cfg0.N) : (dats m 0 c).after 13 t = (insOf m c).g1 := by dsimp only [dats]; exact iblk_g1 m c t
theorem after_14 (c : Dev nD) (t : Fin cfg0.N) : (dats m 0 c).after 14 t = (insOf m c).g2 := by dsimp only [dats]; exact iblk_g2 m c t
theorem after_15 (c : Dev nD) (t : Fin cfg0.N) : (dats m 0 c).after 15 t = (insOf m c).g3 := by dsimp only [dats]; exact iblk_g3 m c t
theorem after_16 (c : Dev nD) (t : Fin cfg0.N) : (dats m 0 c).after 16 t = (insOf m c).crit ⟨min t.val 7, by omega⟩ := by dsimp only [dats]
theorem after_17 (c : Dev nD) (t : Fin cfg0.N) : (dats m 0 c).after 17 t = (insOf m c).actor := by dsimp only [dats]
theorem before_0 (c : Dev nD) (t : Fin cfg0.N) (d) : (dats m 0 c).before 0 t d = (iblk m c 0 t) := (before0_0_of m (dats m 0 c) (A_eq m c 0) (fun t => by dsimp only [dats]) t d)
theorem before_1 (c : Dev nD) (t : Fin cfg0.N) (d) : (dats m 0 c).before 1 t d = (insOf m c).w1 := (before0_1_of m (dats m 0 c) (A_eq m c 1) (fun t => by dsimp only [dats]) t d).trans (iblk_w1 m c t)
theorem before_2 (c : Dev nD) (t : Fin cfg0.N) (d) : (dats m 0 c).before 2 t d = (insOf m c).w2 := (before0_2_of m (dats m 0 c) (A_eq m c 2) (fun t => by dsimp only [dats]) t d).trans (iblk_w2 m c t)
theorem before_3 (c : Dev nD) (t : Fin cfg0.N) (d) : (dats m 0 c).before 3 t d = (insOf m c).w3 := (before0_3_of m (dats m 0 c) (A_eq m c 3) (fun t => by dsimp only [dats]) t d).trans (iblk_w3 m c t)
theorem before_4 (c : Dev nD) (t : Fin cfg0.N) (d) : (dats m 0 c).before 4 t d = (insOf m c).w4 := (before0_4_of m (dats m 0 c) (A_eq m c 4) (fun t => by dsimp only [dats]) t d).trans (iblk_w4 m c t)
theorem before_5 (c : Dev nD) (t : Fin cfg0.N) (d) : (dats m 0 c).before 5 t d = (insOf m c).b := (before0_5_of m (dats m 0 c) (A_eq m c 5) (fun t => by dsimp only [dats]) t d).trans (iblk_b m c t)
theorem before_6 (c : Dev nD) (t : Fin cfg0.N) (d) : (dats m 0 c).before 6 t d = (insOf m c).f2 := (before0_6_of m (dats m 0 c) (A_eq m c 6) (fun t => by dsimp only [dats]) t d).trans (iblk_f2 m c t)
theorem before_7 (c : Dev nD) (t : Fin cfg0.N) (d) : (dats m 0 c).before 7 t d = (insOf m c).fb := (before0_7_of m (dats m 0 c) (A_eq m c 7) (fun t => by dsimp only [dats]) t d).trans (iblk_fb m c t)
theorem before_8 (c : Dev nD) (t : Fin cfg0.N) (d) : (dats m 0 c).before 8 t d = (insOf m c).r0 := (before0_8_of m (dats m 0 c) (A_eq m c 8) (fun t => by dsimp only [dats]) t d).trans (iblk_r0 m c t)
theorem before_9 (c : Dev nD) (t : Fin cfg0.N) (d) : (dats m 0 c).before 9 t d = (insOf m c).s2 := (before0_9_of m (dats m 0 c) (A_eq m c 9) (fun t => by dsimp only [dats]) t d).trans (iblk_s2 m c t)
theorem before_10 (c : Dev nD) (t : Fin cfg0.N) (d) : (dats m 0 c).before 10 t d = (insOf m c).sb := (before0_10_of m (dats m 0 c) (A_eq m c 10) (fun t => by dsimp only [dats]) t d).trans (iblk_sb m c t)
theorem before_11 (c : Dev nD) (t : Fin cfg0.N) (d) : (dats m 0 c).before 11 t d = (insOf m c).t2 := (before0_11_of m (dats m 0 c) (A_eq m c 11) (fun t => by dsimp only [dats]) t d).trans (iblk_t2 m c t)
theorem before_12 (c : Dev nD) (t : Fin cfg0.N) (d) : (dats m 0 c).before 12 t d = (insOf m c).tb := (before0_12_of m (dats m 0 c) (A_eq m c 12) (fun t => by dsimp only [dats]) t d).trans (iblk_tb m c t)
theorem before_13 (c : Dev nD) (t : Fin cfg0.N) (d) : (dats m 0 c).before 13 t d = (insOf m c).g1 := (before0_13_of m (dats m 0 c) (A_eq m c 13) (fun t => by dsimp only [dats]) t d).trans (iblk_g1 m c t)
theorem before_14 (c : Dev nD) (t : Fin cfg0.N) (d) : (dats m 0 c).before 14 t d = (insOf m c).g2 := (before0_14_of m (dats m 0 c) (A_eq m c 14) (fun t => by dsimp only [dats]) t d).trans (iblk_g2 m c t)
theorem before_15 (c : Dev nD) (t : Fin cfg0.N) (d) : (dats m 0 c).before 15 t d = (insOf m c).g3 := (before0_15_of m (dats m 0 c) (A_eq m c 15) (fun t => by dsimp only [dats]) t d).trans (iblk_g3 m c t)

/-- At the last point the critic's buffer still holds the last block. -/
theorem before_16_last (c : Dev nD) (t : Fin cfg0.N) (ht : t.val = 15) (d) : (dats m 0 c).before 16 t d = (dats m 0 c).after 16 t := by
  rw [Pipeline.Dat.before_out_traj (dats m 0 c) 16 rfl (fun _ _ => rfl) (fun t h0 hi _ => by
    rw [after_16, after_16]
    have := (idle16 t).mp hi
    congr 1
    exact Fin.ext (by show min t.val 7 = min (t.val - 1) 7; omega)) t.val t rfl d, fresh16 t ht, if_neg Bool.false_ne_true, after_16, after_16]
  congr 1
  exact Fin.ext (by show min (t.val - 1) 7 = min t.val 7; omega)

/-! ## The body's obligation -/

/-- The staged inputs at point `t`, the features' block being `X`. -/
abbrev ins (I : Ins F) (X : Vec F S1024x768 .f32) (c : Dev nD) (t : Fin cfg0.N) : sProp 𝕄 :=
  iprop(held c (st0_0 t) X ∗ held c (st0_1 t) I.w1 ∗ held c (st0_2 t) I.w2 ∗ held c (st0_3 t) I.w3 ∗ held c (st0_4 t) I.w4 ∗ held c (st0_5 t) I.b ∗ held c (st0_6 t) I.f2 ∗ held c (st0_7 t) I.fb ∗ held c (st0_8 t) I.r0 ∗ held c (st0_9 t) I.s2 ∗ held c (st0_10 t) I.sb ∗ held c (st0_11 t) I.t2 ∗ held c (st0_12 t) I.tb ∗ held c (st0_13 t) I.g1 ∗ held c (st0_14 t) I.g2 ∗ held c (st0_15 t) I.g3)
/-- The critic's and the actor's staging buffers as the point finds them. -/
abbrev bef16 (c : Dev nD) (t : Fin cfg0.N) : sProp 𝕄 := iprop(∃ d, held c (st0_16 t) ((dats m 0 c).before 16 t d))
abbrev bef17 (c : Dev nD) (t : Fin cfg0.N) : sProp 𝕄 := iprop(∃ d, held c (st0_17 t) ((dats m 0 c).before 17 t d))

/-- The first point. -/
theorem sound_first (I : Ins F) (c : Dev nD) (t : Fin cfg0.N) (ht : t.val < 8) (h0 : t.val = 0) (R R17 : sProp 𝕄) :
    iprop(R ∗ Φof I c t.val ∗ ins I (I.x ⟨t.val, ht⟩) c t ∗ (∃ X, held c (st0_16 t) X) ∗ R17)
      ⊢ wp frame (wpE (defs₀ (F := F)) Variants.none c none) Set.univ (bodyAt0 t)
        (fun _ => iprop(R ∗ Φof I c (t.val + 1) ∗ ins I (I.x ⟨t.val, ht⟩) c t ∗ held c (st0_16 t) (I.crit ⟨t.val, ht⟩) ∗ R17)) := by
  unfold Φof
  iintro ⟨HR, ⟨%X19, %X20, %X21, %X22, %X23, %X24, %hI, ⟨H19, H20, H21, H22, H23, H24⟩, Hr⟩, ⟨H1, H2, H3, H4, H5, H6, H7, H8, H9, H10, H11, H12, H13, H14, H15, H16⟩, H17, H18⟩
  have e := Inv.stepA ht hI k0_pay13 (by rw [h0]; rfl) X24 (fun h => absurd h (by omega))
  rw [← off1 t, ← off2 t] at e
  icases H17 with ⟨%d16, H17⟩
  iapply (runA0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) ((at_first t).mpr h0) ((cond2 t).mpr ht) (fun h => by have := (at_seventh t).mp h; omega) (fun h => by have := (cond5 t).mp h; omega) (I.x ⟨t.val, ht⟩) I.w1 I.w2 I.w3 I.w4 I.b I.f2 _ X19 X20 X21 X23 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H17]; · iexact H17
  isplitl [H19]; · iexact H19
  isplitl [H20]; · iexact H20
  isplitl [H21]; · iexact H21
  isplitl [H23]; · iexact H23
  iintro ⟨H1, H2, H3, H4, H5, H6, H7, H17, H19, H20, H21, H23⟩
  isplitl [HR]; · iexact HR
  isplitl [H19 H20 H21 H22 H23 H24 Hr]
  · iexists _, _, _, X22, _, X24
    isplitr; · ipureintro; exact e
    isplitl [H19 H20 H21 H22 H23 H24]
    · isplitl [H19]; · iexact H19
      isplitl [H20]; · iexact H20
      isplitl [H21]; · iexact H21
      isplitl [H22]; · iexact H22
      isplitl [H23]; · iexact H23
      iexact H24
    iexact Hr
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17]; · iexact H17
  iexact H18

/-- Points one to six. -/
theorem sound_lo (I : Ins F) (c : Dev nD) (t : Fin cfg0.N) (ht : t.val < 8) (h0 : t.val ≠ 0) (h7 : t.val < 7) (R R17 : sProp 𝕄) :
    iprop(R ∗ Φof I c t.val ∗ ins I (I.x ⟨t.val, ht⟩) c t ∗ (∃ X, held c (st0_16 t) X) ∗ R17)
      ⊢ wp frame (wpE (defs₀ (F := F)) Variants.none c none) Set.univ (bodyAt0 t)
        (fun _ => iprop(R ∗ Φof I c (t.val + 1) ∗ ins I (I.x ⟨t.val, ht⟩) c t ∗ held c (st0_16 t) (I.crit ⟨t.val, ht⟩) ∗ R17)) := by
  unfold Φof
  iintro ⟨HR, ⟨%X19, %X20, %X21, %X22, %X23, %X24, %hI, ⟨H19, H20, H21, H22, H23, H24⟩, Hr⟩, ⟨H1, H2, H3, H4, H5, H6, H7, H8, H9, H10, H11, H12, H13, H14, H15, H16⟩, H17, H18⟩
  obtain rfl := hI.w (by omega)
  have e := Inv.stepA ht hI X23 ((hI.p (by omega)).trans (by rw [Nat.min_eq_left (by omega)])) X24 (fun h => absurd h (by omega))
  rw [← off1 t, ← off2 t] at e
  icases H17 with ⟨%d16, H17⟩
  iapply (runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (fun h => by have := (at_first t).mp h; omega) ((cond2 t).mpr ht) (fun h => by have := (at_seventh t).mp h; omega) (fun h => by have := (cond5 t).mp h; omega) (I.x ⟨t.val, ht⟩) I.b I.f2 _ I.wc X20 X21 X23 _)
  isplitl [H1]; · iexact H1
  isplitl [H6]; · iexact H6
  isplitl [H7]; · iexact H7
  isplitl [H17]; · iexact H17
  isplitl [H19]; · iexact H19
  isplitl [H20]; · iexact H20
  isplitl [H21]; · iexact H21
  isplitl [H23]; · iexact H23
  iintro ⟨H1, H6, H7, H17, H19, H20, H21, H23⟩
  isplitl [HR]; · iexact HR
  isplitl [H19 H20 H21 H22 H23 H24 Hr]
  · iexists _, _, _, X22, _, X24
    isplitr; · ipureintro; exact e
    isplitl [H19 H20 H21 H22 H23 H24]
    · isplitl [H19]; · iexact H19
      isplitl [H20]; · iexact H20
      isplitl [H21]; · iexact H21
      isplitl [H22]; · iexact H22
      isplitl [H23]; · iexact H23
      iexact H24
    iexact Hr
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17]; · iexact H17
  iexact H18

/-- Point seven, which makes the first choice. -/
theorem sound_mid (I : Ins F) (c : Dev nD) (t : Fin cfg0.N) (ht : t.val < 8) (h7 : t.val = 7) (R R17 : sProp 𝕄) :
    iprop(R ∗ Φof I c t.val ∗ ins I (I.x ⟨t.val, ht⟩) c t ∗ (∃ X, held c (st0_16 t) X) ∗ R17)
      ⊢ wp frame (wpE (defs₀ (F := F)) Variants.none c none) Set.univ (bodyAt0 t)
        (fun _ => iprop(R ∗ Φof I c (t.val + 1) ∗ ins I (I.x ⟨t.val, ht⟩) c t ∗ held c (st0_16 t) (I.crit ⟨t.val, ht⟩) ∗ R17)) := by
  unfold Φof
  iintro ⟨HR, ⟨%X19, %X20, %X21, %X22, %X23, %X24, %hI, ⟨H19, H20, H21, H22, H23, H24⟩, Hr⟩, ⟨H1, H2, H3, H4, H5, H6, H7, H8, H9, H10, H11, H12, H13, H14, H15, H16⟩, H17, H18⟩
  obtain rfl := hI.w (by omega)
  have e := Inv.stepA ht hI X23 ((hI.p (by omega)).trans (by rw [Nat.min_eq_left (by omega)])) (fun _ => afIdx (VecWindow.put X21 ![0, 1024 * t.val] S1x1024.size (I.lg1b ⟨t.val, ht⟩)) I.fb I.g1) (fun _ => rfl)
  rw [← off1 t, ← off2 t] at e
  icases H17 with ⟨%d16, H17⟩
  iapply (runAlast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) ((off1 t).trans (by rw [h7])) (fun h => by have := (at_first t).mp h; omega) ((cond2 t).mpr ht) ((at_seventh t).mpr h7) (fun h => by have := (cond5 t).mp h; omega) (I.x ⟨t.val, ht⟩) I.b I.f2 I.fb I.g1 _ I.wc X20 X21 X23 X24 _)
  isplitl [H1]; · iexact H1
  isplitl [H6]; · iexact H6
  isplitl [H7]; · iexact H7
  isplitl [H8]; · iexact H8
  isplitl [H14]; · iexact H14
  isplitl [H17]; · iexact H17
  isplitl [H19]; · iexact H19
  isplitl [H20]; · iexact H20
  isplitl [H21]; · iexact H21
  isplitl [H23]; · iexact H23
  isplitl [H24]; · iexact H24
  iintro ⟨H1, H6, H7, H8, H14, H17, H19, H20, H21, H23, H24⟩
  isplitl [HR]; · iexact HR
  isplitl [H19 H20 H21 H22 H23 H24 Hr]
  · iexists _, _, _, X22, _, _
    isplitr; · ipureintro; exact e
    isplitl [H19 H20 H21 H22 H23 H24]
    · isplitl [H19]; · iexact H19
      isplitl [H20]; · iexact H20
      isplitl [H21]; · iexact H21
      isplitl [H22]; · iexact H22
      isplitl [H23]; · iexact H23
      iexact H24
    iexact Hr
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17]; · iexact H17
  iexact H18

/-- Points eight to fourteen. -/
theorem sound_hi (I : Ins F) (c : Dev nD) (t : Fin cfg0.N) (X) (h8 : 8 ≤ t.val) (h15 : t.val ≠ 15) (R R16 R17 : sProp 𝕄) :
    iprop(R ∗ Φof I c t.val ∗ ins I X c t ∗ R16 ∗ R17)
      ⊢ wp frame (wpE (defs₀ (F := F)) Variants.none c none) Set.univ (bodyAt0 t)
        (fun _ => iprop(R ∗ Φof I c (t.val + 1) ∗ ins I X c t ∗ R16 ∗ R17)) := by
  unfold Φof
  iintro ⟨HR, ⟨%X19, %X20, %X21, %X22, %X23, %X24, %hI, ⟨H19, H20, H21, H22, H23, H24⟩, Hr⟩, ⟨H1, H2, H3, H4, H5, H6, H7, H8, H9, H10, H11, H12, H13, H14, H15, H16⟩, H17, H18⟩
  obtain ⟨j, hj, ej⟩ : ∃ j, j < 8 ∧ t.val = 8 + j := ⟨t.val - 8, by have : t.val < 16 := t.isLt; omega, by omega⟩
  have hI' : Inv I (8 + j) X19 X20 X21 X22 X23 X24 := ej ▸ hI
  obtain rfl := hI'.a (by omega)
  have h5 := (cond5 t).mpr (by omega)
  have o3 : k0_off3 (grid0.coords t) = ![j, 0, 0] := (off3 t (by omega)).trans (by rw [show t.val - 8 = j by omega])
  have o4 : k0_off4 (grid0.coords t) = ![0, 1024 * j] := (off4 t (by omega)).trans (by rw [show t.val - 8 = j by omega])
  have hw : VecWindow.window X20 (k0_off3 (grid0.coords t)) S1x1024x768.size (k0_off3_inb (grid0.coords t) h5) = I.baseb ⟨j, hj⟩ := by
    have e : ∀ o : Fin 3 → ℕ, o = ![j, 0, 0] → ∀ inb, VecWindow.window X20 o S1x1024x768.size inb = I.baseb ⟨j, hj⟩ := by
      rintro _ rfl inb; exact hI'.window hj inb
    exact e _ o3 _
  have hput : VecWindow.put X22 (k0_off4 (grid0.coords t)) S1x1024.size (k0_pay8 (cell (fun _ => I.af)) (VecWindow.window X20 (k0_off3 (grid0.coords t)) S1x1024x768.size (k0_off3_inb (grid0.coords t) h5)) I.r0 I.s2)
      = VecWindow.put X22 ![0, 1024 * j] S1x1024.size (I.lg2b ⟨j, hj⟩) := by
    rw [hw, o4]; rfl
  have e := hI'.stepB hj
  rw [← hput, show 8 + j + 1 = t.val + 1 by omega] at e
  iapply (runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (fun h => by have := (at_first t).mp h; omega) (fun h => by have := (cond2 t).mp h; omega) h5 (fun h => by have := (cond6 t).mp h; omega) I.r0 I.s2 X20 X22 (fun _ => I.af) _)
  isplitl [H9]; · iexact H9
  isplitl [H10]; · iexact H10
  isplitl [H20]; · iexact H20
  isplitl [H22]; · iexact H22
  isplitl [H24]; · iexact H24
  iintro ⟨H9, H10, H20, H22, H24⟩
  isplitl [HR]; · iexact HR
  isplitl [H19 H20 H21 H22 H23 H24 Hr]
  · iexists X19, _, X21, _, _, _
    isplitr; · ipureintro; exact e
    isplitl [H19 H20 H21 H22 H23 H24]
    · isplitl [H19]; · iexact H19
      isplitl [H20]; · iexact H20
      isplitl [H21]; · iexact H21
      isplitl [H22]; · iexact H22
      isplitl [H23]; · iexact H23
      iexact H24
    iexact Hr
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17]; · iexact H17
  iexact H18

/-- The last point, which makes the other choices and writes the actor. -/
theorem sound_last (I : Ins F) (c : Dev nD) (t : Fin cfg0.N) (X) (h15 : t.val = 15) (R R16 : sProp 𝕄) :
    iprop(R ∗ Φof I c t.val ∗ ins I X c t ∗ R16 ∗ (∃ X, held c (st0_17 t) X))
      ⊢ wp frame (wpE (defs₀ (F := F)) Variants.none c none) Set.univ (bodyAt0 t)
        (fun _ => iprop(R ∗ Φof I c (t.val + 1) ∗ ins I X c t ∗ R16 ∗ held c (st0_17 t) I.actor)) := by
  unfold Φof
  iintro ⟨HR, ⟨%X19, %X20, %X21, %X22, %X23, %X24, %hI, ⟨H19, H20, H21, H22, H23, H24⟩, Hr⟩, ⟨H1, H2, H3, H4, H5, H6, H7, H8, H9, H10, H11, H12, H13, H14, H15, H16⟩, H17, H18⟩
  obtain ⟨j, hj, ej⟩ : ∃ j, j < 8 ∧ t.val = 8 + j := ⟨t.val - 8, by have : t.val < 16 := t.isLt; omega, by omega⟩
  have hI' : Inv I (8 + j) X19 X20 X21 X22 X23 X24 := ej ▸ hI
  obtain rfl := hI'.a (by omega)
  have h5 := (cond5 t).mpr (by omega)
  have o3 : k0_off3 (grid0.coords t) = ![j, 0, 0] := (off3 t (by omega)).trans (by rw [show t.val - 8 = j by omega])
  have o4 : k0_off4 (grid0.coords t) = ![0, 1024 * j] := (off4 t (by omega)).trans (by rw [show t.val - 8 = j by omega])
  have hw : VecWindow.window X20 (k0_off3 (grid0.coords t)) S1x1024x768.size (k0_off3_inb (grid0.coords t) h5) = I.baseb ⟨j, hj⟩ := by
    have e : ∀ o : Fin 3 → ℕ, o = ![j, 0, 0] → ∀ inb, VecWindow.window X20 o S1x1024x768.size inb = I.baseb ⟨j, hj⟩ := by
      rintro _ rfl inb; exact hI'.window hj inb
    exact e _ o3 _
  have hput : VecWindow.put X22 (k0_off4 (grid0.coords t)) S1x1024.size (k0_pay8 (cell (fun _ => I.af)) (VecWindow.window X20 (k0_off3 (grid0.coords t)) S1x1024x768.size (k0_off3_inb (grid0.coords t) h5)) I.r0 I.s2)
      = VecWindow.put X22 ![0, 1024 * j] S1x1024.size (I.lg2b ⟨j, hj⟩) := by
    rw [hw, o4]; rfl
  have e := hI'.stepB hj
  rw [← hput, show 8 + j + 1 = t.val + 1 by omega] at e
  obtain rfl : j = 7 := by omega
  have hfull := hI'.full2
  obtain rfl := hI'.p (by omega)
  have hact : k0_pay9 (cell (fun _ => I.af)) (asIdx (cell (fun _ => I.af)) (VecWindow.put X22 (k0_off4 (grid0.coords t)) S1x1024.size (k0_pay8 (cell (fun _ => I.af)) (VecWindow.window X20 (k0_off3 (grid0.coords t)) S1x1024x768.size (k0_off3_inb (grid0.coords t) h5)) I.r0 I.s2)) I.sb I.g2) (atIdx (I.pooled (min (8 + 7) 8)) I.t2 I.tb I.g3) = I.actor := by
    rw [hput, hfull]; rfl
  icases H18 with ⟨%d17, H18⟩
  iapply (runBlast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) o4 (fun h => by have := (at_first t).mp h; omega) (fun h => by have := (cond2 t).mp h; omega) h5 ((cond6 t).mpr h15) I.r0 I.s2 I.sb I.t2 I.tb I.g2 I.g3 _ X20 X22 _ (fun _ => I.af) _)
  isplitl [H9]; · iexact H9
  isplitl [H10]; · iexact H10
  isplitl [H11]; · iexact H11
  isplitl [H12]; · iexact H12
  isplitl [H13]; · iexact H13
  isplitl [H15]; · iexact H15
  isplitl [H16]; · iexact H16
  isplitl [H18]; · iexact H18
  isplitl [H20]; · iexact H20
  isplitl [H22]; · iexact H22
  isplitl [H23]; · iexact H23
  isplitl [H24]; · iexact H24
  iintro ⟨H9, H10, H11, H12, H13, H15, H16, H18, H20, H22, H23, H24⟩
  rw [hact]
  isplitl [HR]; · iexact HR
  isplitl [H19 H20 H21 H22 H23 H24 Hr]
  · iexists X19, _, X21, _, _, _
    isplitr; · ipureintro; exact e
    isplitl [H19 H20 H21 H22 H23 H24]
    · isplitl [H19]; · iexact H19
      isplitl [H20]; · iexact H20
      isplitl [H21]; · iexact H21
      isplitl [H22]; · iexact H22
      isplitl [H23]; · iexact H23
      iexact H24
    iexact Hr
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17]; · iexact H17
  iexact H18

/-- A buffer held at a block whichever way is that buffer held at the block. -/
theorem held_found (c : Dev nD) {β : Type} {sp : Space} {s : Shape} {e : EltTy} (M : Memref sig .tc sp s e) (f : β → s.Idx → Elt F e)
    (X : s.Idx → Elt F e) (h : ∀ d, f d = X) : iprop(∃ d, held c M (f d)) ⊢ (held c M X : sProp 𝕄) := by
  simp only [h]
  iintro ⟨%d, H⟩
  iexact H

/-- Every point's body, whatever phase the point is in. -/
theorem sound_body (c : Dev nD) (t : Fin cfg0.N) (R : sProp 𝕄) :
    iprop(R ∗ Φof (insOf m c) c t.val ∗ ins (insOf m c) (iblk m c 0 t) c t ∗ bef16 m c t ∗ bef17 m c t)
      ⊢ wp frame (wpE (defs₀ (F := F)) Variants.none c none) Set.univ (bodyAt0 t)
        (fun _ => iprop(R ∗ Φof (insOf m c) c (t.val + 1) ∗ ins (insOf m c) (iblk m c 0 t) c t ∗ (dats m 0 c).leavesExact 16 t ∗ (dats m 0 c).leavesExact 17 t)) := by
  have hN : t.val < 16 := t.isLt
  have w16 : bef16 m c t ⊢ iprop(∃ X, held c (st0_16 t) X) := by iintro ⟨%d, H⟩; iexists _; iexact H
  have w17 : bef17 m c t ⊢ iprop(∃ X, held c (st0_17 t) X) := by iintro ⟨%d, H⟩; iexists _; iexact H
  have e16 (h : t.val < 8) : (dats m 0 c).leavesExact 16 t = held c (st0_16 t) ((insOf m c).crit ⟨t.val, h⟩) := by
    have hi : cfg0.idle 16 (cfg0.grid.coords t) = false := by
      have := (idle16 t).not.mpr (by omega); simpa using this
    have hc : (⟨min t.val 7, by omega⟩ : Fin 8) = ⟨t.val, h⟩ := Fin.ext (by show min t.val 7 = t.val; omega)
    unfold Dat.leavesExact; rw [hi, after_16, hc]; exact owns_eq_rep _ _ _ _
  have i17 : t.val ≠ 15 → (dats m 0 c).leavesExact 17 t = bef17 m c t := fun h => by
    rw [Dat.leavesExact_idle _ _ _ ((idle17 t).mpr h) (flush17 t h)]; simp only [owns_eq_rep]
  by_cases h8 : t.val < 8
  · rw [e16 h8, i17 (by omega), iblk_x m c t h8]
    refine triple_restated (P := iprop(R ∗ Φof (insOf m c) c t.val ∗ ins (insOf m c) ((insOf m c).x ⟨t.val, h8⟩) c t ∗ (∃ X, held c (st0_16 t) X) ∗ bef17 m c t))
      ?_ rfl ?_ fun _ => .rfl
    · generalize insOf m c = I
      generalize bef17 m c t = R17
      by_cases h0 : t.val = 0
      · exact sound_first I c t h8 h0 R R17
      by_cases h7 : t.val < 7
      · exact sound_lo I c t h8 h0 h7 R R17
      exact sound_mid I c t h8 (by omega) R R17
    · iintro ⟨HR, HΦ, HI, H16, H17⟩
      isplitl [HR]; · iexact HR
      isplitl [HΦ]; · iexact HΦ
      isplitl [HI]; · iexact HI
      isplitl [H16]; · iapply w16; iexact H16
      iexact H17
  by_cases h15 : t.val = 15
  · have a16 : (dats m 0 c).leavesExact 16 t = held c (st0_16 t) ((dats m 0 c).after 16 t) := by
      unfold Dat.leavesExact; rw [(idle16 t).mpr (by omega), flush16_last t h15]; exact owns_eq_rep _ _ _ _
    have b16 : bef16 m c t ⊢ held c (st0_16 t) ((dats m 0 c).after 16 t) := held_found c _ _ _ (before_16_last m c t h15)
    have a17 : (dats m 0 c).leavesExact 17 t = held c (st0_17 t) ((insOf m c).actor) := by
      have hi : cfg0.idle 17 (cfg0.grid.coords t) = false := by
        have := (idle17 t).not.mpr (by omega); simpa using this
      unfold Dat.leavesExact; rw [hi, after_17]; exact owns_eq_rep _ _ _ _
    rw [a17, a16]
    refine triple_restated (P := iprop(R ∗ Φof (insOf m c) c t.val ∗ ins (insOf m c) (iblk m c 0 t) c t ∗ held c (st0_16 t) ((dats m 0 c).after 16 t) ∗ (∃ X, held c (st0_17 t) X)))
      ?_ rfl ?_ fun _ => .rfl
    · generalize insOf m c = I, iblk m c 0 t = X, held c (st0_16 t) ((dats m 0 c).after 16 t) = R16
      exact sound_last I c t X h15 R R16
    · iintro ⟨HR, HΦ, HI, H16, H17⟩
      isplitl [HR]; · iexact HR
      isplitl [HΦ]; · iexact HΦ
      isplitl [HI]; · iexact HI
      isplitl [H16]; · iapply b16; iexact H16
      iapply w17; iexact H17
  · have i16 : (dats m 0 c).leavesExact 16 t = bef16 m c t := by
      rw [Dat.leavesExact_idle _ _ _ ((idle16 t).mpr (by omega)) (flush16 t (by omega) h15)]; simp only [owns_eq_rep]
    rw [i16, i17 h15]; exact sound_hi (insOf m c) c t (iblk m c 0 t) (by omega) h15 R (bef16 m c t) (bef17 m c t)

theorem defs₀_row (t : Fin cfg0.N) : defs₀ (F := F) .tc cfg0.body (cfg0.bodyArgs t (cfg0.slots t)) = bodyAt0 t := by
  unfold defs₀; rw [Defs.onTc_tc]

/-- A staging buffer found at a block whichever way is that buffer at the block. -/
theorem found (c : Dev nD) {sp : Space} {s : Shape} {e : EltTy} (M : Memref sig .tc sp s e) (f : (s.Idx → Elt F e) → s.Idx → Elt F e)
    (X : s.Idx → Elt F e) (h : ∀ d, f d = X) : iprop(∃ d, owns (c : Thread nD τ) M fullShare (f d)) ⊢ (held c M X : sProp 𝕄) := by
  simp only [h, owns_eq_rep]
  iintro ⟨%d, H⟩
  iexact H

/-- What the body's obligation hands over is what `sound_body` asks. -/
theorem handed (c : Dev nD) (t : Fin cfg0.N) :
    iprop((dats (F := F) m 0 c).Φ t.castSucc ∗ (dats (F := F) m 0 c).owesAt () t.castSucc
      ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)))
    ⊢ (iprop((dats (F := F) m 0 c).owesAt () t.castSucc ∗ Φof (insOf m c) c t.val ∗ ins (insOf m c) (iblk m c 0 t) c t ∗ bef16 m c t ∗ bef17 m c t) : sProp 𝕄) := by
  rw [Φ_eq, show t.castSucc.val = t.val from rfl]
  iintro ⟨HΦ, HO, H0, H1, H2, H3, H4, H5, H6, H7, H8, H9, H10, H11, H12, H13, H14, H15, H16, H17⟩
  isplitl [HO]; · iexact HO
  isplitl [HΦ]; · iexact HΦ
  isplitl [H0 H1 H2 H3 H4 H5 H6 H7 H8 H9 H10 H11 H12 H13 H14 H15]
  · isplitl [H0]; · iapply (found c (st0_0 t) ((dats m 0 c).before 0 t) (iblk m c 0 t) (before_0 m c t)); iexact H0
    isplitl [H1]; · iapply (found c (st0_1 t) ((dats m 0 c).before 1 t) (insOf m c).w1 (before_1 m c t)); iexact H1
    isplitl [H2]; · iapply (found c (st0_2 t) ((dats m 0 c).before 2 t) (insOf m c).w2 (before_2 m c t)); iexact H2
    isplitl [H3]; · iapply (found c (st0_3 t) ((dats m 0 c).before 3 t) (insOf m c).w3 (before_3 m c t)); iexact H3
    isplitl [H4]; · iapply (found c (st0_4 t) ((dats m 0 c).before 4 t) (insOf m c).w4 (before_4 m c t)); iexact H4
    isplitl [H5]; · iapply (found c (st0_5 t) ((dats m 0 c).before 5 t) (insOf m c).b (before_5 m c t)); iexact H5
    isplitl [H6]; · iapply (found c (st0_6 t) ((dats m 0 c).before 6 t) (insOf m c).f2 (before_6 m c t)); iexact H6
    isplitl [H7]; · iapply (found c (st0_7 t) ((dats m 0 c).before 7 t) (insOf m c).fb (before_7 m c t)); iexact H7
    isplitl [H8]; · iapply (found c (st0_8 t) ((dats m 0 c).before 8 t) (insOf m c).r0 (before_8 m c t)); iexact H8
    isplitl [H9]; · iapply (found c (st0_9 t) ((dats m 0 c).before 9 t) (insOf m c).s2 (before_9 m c t)); iexact H9
    isplitl [H10]; · iapply (found c (st0_10 t) ((dats m 0 c).before 10 t) (insOf m c).sb (before_10 m c t)); iexact H10
    isplitl [H11]; · iapply (found c (st0_11 t) ((dats m 0 c).before 11 t) (insOf m c).t2 (before_11 m c t)); iexact H11
    isplitl [H12]; · iapply (found c (st0_12 t) ((dats m 0 c).before 12 t) (insOf m c).tb (before_12 m c t)); iexact H12
    isplitl [H13]; · iapply (found c (st0_13 t) ((dats m 0 c).before 13 t) (insOf m c).g1 (before_13 m c t)); iexact H13
    isplitl [H14]; · iapply (found c (st0_14 t) ((dats m 0 c).before 14 t) (insOf m c).g2 (before_14 m c t)); iexact H14
    iapply (found c (st0_15 t) ((dats m 0 c).before 15 t) (insOf m c).g3 (before_15 m c t)); iexact H15
  simp only [owns_eq_rep]
  isplitl [H16]; · iexact H16
  iexact H17

/-- What `sound_body` leaves is what the body's obligation asks. -/
theorem left (c : Dev nD) (t : Fin cfg0.N) :
    (iprop((dats (F := F) m 0 c).owesAt () t.castSucc ∗ Φof (insOf m c) c (t.val + 1) ∗ ins (insOf m c) (iblk m c 0 t) c t ∗ (dats m 0 c).leavesExact 16 t ∗ (dats m 0 c).leavesExact 17 t) : sProp 𝕄)
    ⊢ iprop((dats (F := F) m 0 c).Φ t.succ ∗ (dats (F := F) m 0 c).owesAt () t.succ
      ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ (dats m 0 c).leavesExact 16 t ∗ (dats m 0 c).leavesExact 17 t) := by
  rw [Φ_eq, show t.succ.val = t.val + 1 from rfl]
  simp only [owns_eq_rep, after_0, after_1, after_2, after_3, after_4, after_5, after_6, after_7, after_8, after_9, after_10, after_11, after_12, after_13, after_14, after_15]
  iintro ⟨HO, HΦ, ⟨H0, H1, H2, H3, H4, H5, H6, H7, H8, H9, H10, H11, H12, H13, H14, H15⟩, H16, H17⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem body_obligation (c : Dev nD) : BodyObligation (dats (F := F) m 0 c) (defs₀ (F := F)) Variants.none () Set.univ := fun t => by
  rw [bigSep_W0, bigSep_W0, defs₀_row]
  exact triple_restated (sound_body m c t ((dats (F := F) m 0 c).owesAt () t.castSucc)) rfl (handed m c t) fun _ => left m c t

end Cert.KernelIdeal.Hand
end
-- ==== Proof.KernelIdeal.Launch.lean ====
module

public import proofs.«01_k».proof.Proof.KernelIdeal.Run
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A scratch buffer at some contents is that buffer held at some contents. -/
theorem whole_held (c : Dev nD) (b : Ref sig .tc) (f : b.ty.Contents (Elt F)) :
    (((c : Thread nD τ).loc b) ↦{fullShare} f : sProp 𝕄) ⊢ held c (Memref.whole b) f := by
  unfold held; rw [← owns_eq_rep, owns_whole]

/-- A scratch buffer held at some contents is that buffer at some contents. -/
theorem held_whole (c : Dev nD) (b : Ref sig .tc) (f : b.ty.Contents (Elt F)) :
    held c (Memref.whole b) f ⊢ (((c : Thread nD τ).loc b) ↦{fullShare} f : sProp 𝕄) := by
  unfold held; rw [← owns_eq_rep, owns_whole]

/-- What the launch hands over is the scratch as the first point asks it. -/
theorem hin (c : Dev nD) : (Pipeline.ΦA spec0 c : sProp 𝕄) ⊢ (dats m 0 c).Φ 0 := by
  rw [Φ_eq]
  unfold Pipeline.ΦA Φof
  rw [scopedRest0_eq]
  iintro ⟨⟨⟨%f0, H0⟩, ⟨%f1, H1⟩, ⟨%f2, H2⟩, ⟨%f3, H3⟩, ⟨%f4, H4⟩, ⟨%f5, H5⟩⟩, Hr⟩
  iexists f0, f1, f2, f3, f4, f5
  isplitr; · ipureintro; exact Inv.zero
  isplitr [Hr]
  · isplitl [H0]; · iapply whole_held; iexact H0
    isplitl [H1]; · iapply whole_held; iexact H1
    isplitl [H2]; · iapply whole_held; iexact H2
    isplitl [H3]; · iapply whole_held; iexact H3
    isplitl [H4]; · iapply whole_held; iexact H4
    iapply whole_held; iexact H5
  iexact Hr

/-- What the last point leaves is what the launch asks back. -/
theorem hout (c : Dev nD) : (dats m 0 c).Φ (Fin.last cfg0.N) ⊢ (Pipeline.ΦA spec0 c : sProp 𝕄) := by
  rw [Φ_eq]
  unfold Pipeline.ΦA Φof
  rw [scopedRest0_eq]
  iintro ⟨%X19, %X20, %X21, %X22, %X23, %X24, %hI, ⟨H0, H1, H2, H3, H4, H5⟩, Hr⟩
  isplitr [Hr]
  · isplitl [H0]; · iexists X19; iapply held_whole; iexact H0
    isplitl [H1]; · iexists X20; iapply held_whole; iexact H1
    isplitl [H2]; · iexists X21; iapply held_whole; iexact H2
    isplitl [H3]; · iexists X22; iapply held_whole; iexact H3
    isplitl [H4]; · iexists X23; iapply held_whole; iexact H4
    iexists X24; iapply held_whole; iexact H5
  iexact Hr

-- the launch theorem's implicit arguments are found by unifying its conclusion with this statement
set_option backward.isDefEq.respectTransparency.types false in
/-- From any memory with zero counters every fair execution of the program terminates, every window's array ends at what the
    pipeline's data say, every other buffer at what the host lines around the region leave, and every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (Q' := fun r => Pipeline.FramePost cfgs (dats m) 0 (Pipeline.afterTail₀ cfgs (dats m) 0 (V0 m) [hostOps1]) r ∧ r.2.sem = fun _ => 0)
    (hQ' := fun _ h => h)

/-- The arguments end as they began and the counters at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand
end
-- ==== Proof.ReferenceIdeal.Frame.lean ====
module

public import proofs.«01_k».proof.Defs
public import proofs.«01_k».proof.Proof.Gen.ReferenceIdeal
public import Idealize.ShloMosaic.Lib.Claim
public import Idealize.ShloMosaic.Lib.Quiescent

@[expose] public section
noncomputable section
namespace Cert.ReferenceIdeal.Hand
open Idealize.ShloMosaic

set_option maxHeartbeats 0 in
/-- The reference runs to its end, leaves its arguments as they were and every counter at zero. -/
theorem frame : Cert.quiescent_ReferenceIdeal (hReferenceIdeal := Cert.ReferenceIdeal.Gen.facts) := by
  unfold Cert.quiescent_ReferenceIdeal
  intro m g _
  hlo_run
  · intro c; trivial
  · exact sem_eq_zero_of_no_sems (by decide) _

end Cert.ReferenceIdeal.Hand
end
-- ==== Proof.KernelIdeal.Final.lean ====
module

public import proofs.«01_k».proof.Proof.KernelIdeal.Launch
public import Idealize.ShloMosaic.Lib.Pointwise
public import Idealize.ShloMosaic.Lib.ValueIdx
public import Idealize.ShloMosaic.Lib.Pipeline.ValueKit

@[expose] public section

set_option maxRecDepth 16384

noncomputable section

/-!
  What the kernel leaves in its two result buffers.
-/

namespace Cert.KernelIdeal.Hand

open Idealize.ShloMosaic Idealize.ShloMosaic.TcCoe Idealize.ShloMosaic.StableHlo Idealize.SL.Sem
open Cert.KernelIdeal.Gen

variable (m : (ℓ : Loc nD τ sig) → Buf (Elt Ideal) ℓ) (ρ : Dev nD → PrngReg)

/-- The critic's window is at block `min t 7` at point `t`. -/
theorem index_crit : ∀ t : Fin cfg0.N, win0_16.index t = ![min t.val 7, 0] := by
  decide +kernel

theorem index_actor : ∀ t : Fin cfg0.N, win0_17.index t = ![0, 0] := by
  decide +kernel

/-- The critic's array ends as its blocks. -/
theorem final_crit (c : Dev nD) : (dats m 0 c).arrAt 16 cfg0.N = fun i : S8192x64.Idx =>
    ((insOf m c).crit ⟨(i 0).val / 1024, by have : (i 0).val < 8192 := (i 0).isLt; omega⟩ : S1024x64.Idx → EReal)
      (ix2 ⟨(i 0).val % 1024, Nat.mod_lt _ (by norm_num)⟩ (i 1)) := by
  refine (dats m 0 c).arrAt_eq_of_covers 16 _ (by decide +kernel) fun t hf y => ?_
  blk_simp
  rw [after_16]
  generalize insOf m c = I
  have h0 : win0_16.index t 0 = min t.val 7 := by rw [index_crit]; rfl
  have h1 : win0_16.index t 1 = 0 := by rw [index_crit]; rfl
  have hy : (y 0).val < 1024 := (y 0).isLt
  have e1 : (win0_16.index t 0 * 1024 + (y 0).val) / 1024 = min t.val 7 := by rw [h0]; omega
  have e2 : (win0_16.index t 0 * 1024 + (y 0).val) % 1024 = (y 0).val := by omega
  have e3 : ((win0_16.blk t).view.emb y 1).val = (y 1).val := by blk_simp; rw [h1]; omega
  have key : ∀ (j j' : Fin 8) (a : S1024x64.Idx) (r : Fin 1024) (k : Fin 64), j = j' → r.val = (a 0).val → k.val = (a 1).val →
      (I.crit j : S1024x64.Idx → EReal) a = (I.crit j' : S1024x64.Idx → EReal) (ix2 r k) := by
    intro j j' a r k h hr hk
    subst h
    congr 1
    funext b
    fin_cases b
    · exact Fin.ext hr.symm
    · exact Fin.ext hk.symm
  exact key _ _ y _ _ (Fin.ext e1.symm) e2 e3

/-- The actor's array ends as what the last point wrote. -/
theorem final_actor (c : Dev nD) : (dats m 0 c).arrAt 17 cfg0.N = (insOf m c).actor := by
  refine (dats m 0 c).arrAt_eq_of_after_last 17 ⟨15, by decide⟩ (by decide +kernel) _ fun j => ?_
  refine (congrFun (after_17 m c ⟨15, by decide⟩) _).trans ?_
  refine congrArg (insOf m c).actor ?_
  have e := index_actor ⟨15, by decide⟩
  blk_ext [e]

end Cert.KernelIdeal.Hand
-- ==== Proof.KernelIdeal.Results.lean ====
module

public import proofs.«01_k».proof.Proof.KernelIdeal.Launch
public import proofs.«01_k».proof.Proof.KernelIdeal.Final

@[expose] public section

set_option maxRecDepth 16384

noncomputable section

/-!
  The kernel's two results after its run.
-/

namespace Cert.KernelIdeal.Hand

open Idealize.ShloMosaic Idealize.ShloMosaic.TcCoe Idealize.ShloMosaic.StableHlo Idealize.SL.Sem
open Cert.KernelIdeal.Gen

variable (m : (ℓ : Loc nD τ sig) → Buf (Elt Ideal) ℓ) (ρ : Dev nD → PrngReg)

/-- What the last host line leaves of the critic: the region's array, with a leading axis. -/
theorem critic_tail (c : Dev nD) (r : Fin 8192) (k : Fin 64) :
    (Pipeline.afterTail₀ cfgs (dats m) 0 (V0 m) [hostOps1] c main_v32 : S1x8192x64.Idx → EReal) (ix3 0 r k)
      = ((insOf m c).crit ⟨r.val / 1024, by omega⟩ : S1024x64.Idx → EReal) (ix2 ⟨r.val % 1024, Nat.mod_lt _ (by norm_num)⟩ k) := by
  have e : Pipeline.withArrays (cfgs 0).spec c (V0 m c) (fun w => (dats m 0 c).arrAt w (cfgs 0).N) (main_v31_0 : DevRef τ sig)
      = (dats m 0 c).arrAt 16 cfg0.N :=
    Pipeline.withArrays_arr spec0 (by decide) c (V0 m c) (fun w => (dats m 0 c).arrAt w cfg0.N) 16
  unfold Pipeline.afterTail₀
  generalize Pipeline.withArrays (cfgs 0).spec c (V0 m c) (fun w => (dats m 0 c).arrAt w (cfgs 0).N) = X at e ⊢
  rw [final_crit] at e
  simp only [List.flatten_cons, List.flatten_nil, List.append_nil]
  after_results_simp
  rw [e]
  pointwise

variable {m} in
/-- The critic's buffer after the run. -/
theorem critic_mem {r : PUnit × MemSt nD τ sig (Elt Ideal)}
    (h : Pipeline.FramePost cfgs (dats m) 0 (Pipeline.afterTail₀ cfgs (dats m) 0 (V0 m) [hostOps1]) r) (c : Dev nD) :
    r.2.mem ((c.tc : Thread nD τ).loc main_v32) = Pipeline.afterTail₀ cfgs (dats m) 0 (V0 m) [hostOps1] c main_v32 :=
  h.rest_eq c main_v32 (by decide)

variable {m} in
/-- The actor's buffer after the run. -/
theorem actor_mem {r : PUnit × MemSt nD τ sig (Elt Ideal)}
    (h : Pipeline.FramePost cfgs (dats m) 0 (Pipeline.afterTail₀ cfgs (dats m) 0 (V0 m) [hostOps1]) r) (c : Dev nD) :
    r.2.mem ((c.tc : Thread nD τ).loc main_v31_1) = (insOf m c).actor :=
  (h.out_eq c 17).trans (final_actor m c)

end Cert.KernelIdeal.Hand
end
-- ==== Proof.Sim.lean ====
module

public import Idealize.ShloMosaic.Lib.Claim

@[expose] public section

noncomputable section

/-!
  Two straight lines of host operations that do the same thing to buffers of different names: `Sim` relates them operation by
  operation, and `Sim.agree` says what follows of the contents they leave.
-/

namespace Cert.Hand

open Idealize.ShloMosaic Idealize.ShloMosaic.StableHlo

variable {τ τ' : Topo} {σ σ' : RefSig} {Val : EltTy → Type}

/-- Every operation of the line writes only references of index `n` and up. -/
def WritesFrom (n : ℕ) (l : List (HloOp τ σ Val)) : Prop :=
  l.Forall fun op => ∃ r : Ref σ .tc, op.writes = {Proc.devRef (τ := τ) .tc r} ∧ n ≤ r.idx.val

/-- A reference of a smaller index keeps its contents. -/
theorem WritesFrom.keep {n : ℕ} {l : List (HloOp τ σ Val)} (h : WritesFrom n l) (V : Valuation τ σ Val) {r : Ref σ .tc} (hr : r.idx.val < n) :
    after l V (Proc.devRef .tc r) = V (Proc.devRef .tc r) :=
  after_of_forall_not_mem l V fun op hop hb => by
    obtain ⟨y, hy, hn⟩ := (List.forall_iff_forall_mem.mp h) op hop
    rw [hy, Finset.mem_singleton] at hb
    have := Proc.devRef_injective _ hb
    subst this; omega

theorem WritesFrom.cons {n : ℕ} {op : HloOp τ σ Val} {l : List (HloOp τ σ Val)} (r : Ref σ .tc)
    (hop : op.writes = {Proc.devRef (τ := τ) .tc r}) (hr : n ≤ r.idx.val) (h : WritesFrom n l) : WritesFrom n (op :: l) := by
  unfold WritesFrom at h ⊢
  rw [List.forall_cons]
  exact ⟨⟨r, hop, hr⟩, h⟩

theorem WritesFrom.nil {n : ℕ} : WritesFrom n ([] : List (HloOp τ σ Val)) := by simp [WritesFrom]

theorem WritesFrom.mono {n k : ℕ} {l : List (HloOp τ σ Val)} (h : WritesFrom n l) (hk : k ≤ n) : WritesFrom k l := by
  unfold WritesFrom at h ⊢
  rw [List.forall_iff_forall_mem] at h ⊢
  intro op hop
  obtain ⟨r, h1, h2⟩ := h op hop
  exact ⟨r, h1, hk.trans h2⟩

theorem WritesFrom.append {n : ℕ} {l l' : List (HloOp τ σ Val)} (h : WritesFrom n l) (h' : WritesFrom n l') : WritesFrom n (l ++ l') := by
  unfold WritesFrom at h h' ⊢
  rw [List.forall_iff_forall_mem] at h h' ⊢
  intro op hop
  exact (List.mem_append.mp hop).elim (h op) (h' op)

/-- Running one line and then another is running their concatenation. -/
theorem after_cat (l l' : List (HloOp τ σ Val)) (V : Valuation τ σ Val) : after (l ++ l') V = after l' (after l V) := by
  induction l generalizing V with
  | nil => rfl
  | cons op l ih => exact ih _

/-- A buffer of the one program and a buffer of the other that hold values of the same type. -/
structure Link (σ σ' : RefSig) where
  T : BufTy
  a : TRef σ T
  b : TRef σ' T

/-- The two buffers hold the same value. -/
def Link.Agree (V : Valuation τ σ Val) (V' : Valuation τ' σ' Val) (l : Link σ σ') : Prop :=
  l.a.ofBuf (V (Proc.devRef .tc l.a.ref)) = l.b.ofBuf (V' (Proc.devRef .tc l.b.ref))

/-- The two lines do the same, operation by operation: from linked buffers `E` (of indices below `n` and `n'`) that agree, the
    buffers `G` agree after. -/
inductive Sim : ℕ → ℕ → List (Link σ σ') → List (HloOp τ σ Val) → List (HloOp τ' σ' Val) → List (Link σ σ') → Prop
  | nil {n n' E G} (h : ∀ x ∈ G, x ∈ E) : Sim n n' E [] [] G
  | step {n n' E G op op' l l'} {T : BufTy} (y : TRef σ T) (y' : TRef σ' T)
      (hw : op.writes = {Proc.devRef .tc y.ref}) (hw' : op'.writes = {Proc.devRef .tc y'.ref})
      (hn : n ≤ y.ref.idx.val) (hn' : n' ≤ y'.ref.idx.val)
      (hv : ∀ V V', (∀ x ∈ E, x.Agree V V') →
        y.ofBuf (op.result V (Proc.devRef .tc y.ref)) = y'.ofBuf (op'.result V' (Proc.devRef .tc y'.ref)))
      (h : Sim (y.ref.idx.val + 1) (y'.ref.idx.val + 1) (⟨T, y, y'⟩ :: E) l l' G) : Sim n n' E (op :: l) (op' :: l') G

namespace Sim

variable {n n' : ℕ} {E G : List (Link σ σ')} {l : List (HloOp τ σ Val)} {l' : List (HloOp τ' σ' Val)}

/-- What agreed before agrees after, on the buffers the relation promises. -/
theorem agree (h : Sim n n' E l l' G) : ∀ (V : Valuation τ σ Val) (V' : Valuation τ' σ' Val),
    (∀ x ∈ E, x.a.ref.idx.val < n ∧ x.b.ref.idx.val < n') → (∀ x ∈ E, x.Agree V V') → ∀ x ∈ G, x.Agree (after l V) (after l' V') := by
  induction h with
  | nil h => exact fun V V' _ hE x hx => hE x (h x hx)
  | @step n n' E G op op' l l' T y y' hw hw' hn hn' hv h ih =>
    intro V V' hlt hE x hx
    refine ih (op.result V) (op'.result V') ?_ ?_ x hx
    · intro x hx
      rcases List.mem_cons.mp hx with rfl | hx
      · exact ⟨Nat.lt_succ_self _, Nat.lt_succ_self _⟩
      · have := hlt x hx; exact ⟨by omega, by omega⟩
    · intro x hx
      rcases List.mem_cons.mp hx with rfl | hx
      · exact hv V V' hE
      · have hl := hlt x hx
        have h1 : op.result V (Proc.devRef .tc x.a.ref) = V (Proc.devRef .tc x.a.ref) := op.result_of_not_mem V (by
          rw [hw, Finset.mem_singleton]; intro he
          have := Proc.devRef_injective _ he
          rw [this] at hl; omega)
        have h2 : op'.result V' (Proc.devRef .tc x.b.ref) = V' (Proc.devRef .tc x.b.ref) := op'.result_of_not_mem V' (by
          rw [hw', Finset.mem_singleton]; intro he
          have := Proc.devRef_injective _ he
          rw [this] at hl; omega)
        unfold Link.Agree
        rw [h1, h2]
        exact hE x hx

/-- The first line writes only references from `n` up. -/
theorem left (h : Sim n n' E l l' G) : WritesFrom n l := by
  induction h with
  | nil h => exact .nil
  | step y y' hw hw' hn hn' hv h ih => exact .cons y.ref hw hn (ih.mono (by omega))

/-- The second line writes only references from `n'` up. -/
theorem right (h : Sim n n' E l l' G) : WritesFrom n' l' := by
  induction h with
  | nil h => exact .nil
  | step y y' hw hw' hn hn' hv h ih => exact .cons y'.ref hw' hn' (ih.mono (by omega))

variable {T Ta Tb : BufTy}

/-- The same constant on both sides. -/
theorem nullary (y : TRef σ T) (y' : TRef σ' T) (v : T.Contents Val) (hn : n ≤ y.ref.idx.val) (hn' : n' ≤ y'.ref.idx.val)
    (h : Sim (y.ref.idx.val + 1) (y'.ref.idx.val + 1) (⟨T, y, y'⟩ :: E) l l' G) :
    Sim n n' E (TRef.nullary y v :: l) (TRef.nullary y' v :: l') G := by
  refine .step y y' rfl rfl hn hn' (fun V V' _ => ?_) h
  obtain ⟨y, rfl, _, _⟩ := y
  obtain ⟨y', e, _, _⟩ := y'
  dsimp only [TRef.nullary, TRef.ofBuf, TRef.toBuf]
  rw [nullary_result, nullary_result]
  simp

/-- The same function of linked operands. -/
theorem unary (x : TRef σ Ta) (x' : TRef σ' Ta) (y : TRef σ T) (y' : TRef σ' T) (f : Ta.Contents Val → T.Contents Val)
    (hx : (⟨Ta, x, x'⟩ : Link σ σ') ∈ E) (hn : n ≤ y.ref.idx.val) (hn' : n' ≤ y'.ref.idx.val)
    (h : Sim (y.ref.idx.val + 1) (y'.ref.idx.val + 1) (⟨T, y, y'⟩ :: E) l l' G) :
    Sim n n' E (TRef.unary x y f :: l) (TRef.unary x' y' f :: l') G := by
  refine .step y y' rfl rfl hn hn' (fun V V' hE => ?_) h
  have hx := hE _ hx
  dsimp only [TRef.unary, TRef.ofBuf, TRef.toBuf, Link.Agree] at hx ⊢
  rw [unary_result, unary_result]
  simp only [cast_cast, cast_eq]
  rw [hx]

/-- The same function of two linked operands. -/
theorem binary (a : TRef σ Ta) (a' : TRef σ' Ta) (b : TRef σ Tb) (b' : TRef σ' Tb) (y : TRef σ T) (y' : TRef σ' T)
    (f : Ta.Contents Val → Tb.Contents Val → T.Contents Val)
    (ha : (⟨Ta, a, a'⟩ : Link σ σ') ∈ E) (hb : (⟨Tb, b, b'⟩ : Link σ σ') ∈ E) (hn : n ≤ y.ref.idx.val) (hn' : n' ≤ y'.ref.idx.val)
    (h : Sim (y.ref.idx.val + 1) (y'.ref.idx.val + 1) (⟨T, y, y'⟩ :: E) l l' G) :
    Sim n n' E (TRef.binary a b y f :: l) (TRef.binary a' b' y' f :: l') G := by
  refine .step y y' rfl rfl hn hn' (fun V V' hE => ?_) h
  have ha := hE _ ha
  have hb := hE _ hb
  dsimp only [TRef.binary, TRef.ofBuf, TRef.toBuf, Link.Agree] at ha hb ⊢
  rw [binary_result, binary_result]
  simp only [cast_cast, cast_eq]
  rw [ha, hb]

/-- The same reshape of linked operands. -/
theorem reshape (x : TRef σ Ta) (x' : TRef σ' Ta) (y : TRef σ T) (y' : TRef σ' T) (he : Ta.elt = T.elt)
    (hc : Ta.shape.ShapeCasts T.shape)
    (hx : (⟨Ta, x, x'⟩ : Link σ σ') ∈ E) (hn : n ≤ y.ref.idx.val) (hn' : n' ≤ y'.ref.idx.val)
    (h : Sim (y.ref.idx.val + 1) (y'.ref.idx.val + 1) (⟨T, y, y'⟩ :: E) l l' G) :
    Sim n n' E (TRef.reshape x y he hc :: l) (TRef.reshape x' y' he hc :: l') G := by
  refine .step y y' rfl rfl hn hn' (fun V V' hE => ?_) h
  have hx := hE _ hx
  have key : ∀ {sg : RefSig} {tp : Topo} (x : TRef sg Ta) (y : TRef sg T) (V : Valuation tp sg Val),
      y.ofBuf ((TRef.reshape (Val := Val) (τ := tp) x y he hc).result V (Proc.devRef .tc y.ref))
        = fun i => he ▸ shapeCast T.shape (x.ofBuf (V (Proc.devRef .tc x.ref))) hc i := by
    intro sg tp x y V
    obtain ⟨x, rfl, _, _⟩ := x
    obtain ⟨y, rfl, _, _⟩ := y
    dsimp only [TRef.reshape, TRef.ofBuf]
    rw [reshape_result]
    rfl
  rw [key x y V, key x' y' V']
  unfold Link.Agree at hx
  dsimp only at hx
  rw [hx]

end Sim

end Cert.Hand
end
-- ==== Proof.ReferenceIdeal.Lines.lean ====
module

public import proofs.«01_k».proof.Proof.Gen.ReferenceIdeal
public import proofs.«01_k».proof.Proof.Sim

@[expose] public section

set_option maxRecDepth 16384

noncomputable section

/-!
  The reference's straight line of host operations, cut where its mathematics is: `main` is `lines` run in order.
-/

namespace Cert.ReferenceIdeal.Hand

open Idealize.ShloMosaic Idealize.ShloMosaic.TcCoe Idealize.ShloMosaic.StableHlo Idealize.SL.Sem
open Cert.Hand
open Facts₀ Facts

variable {F : FTy → Type} [FloatOps F]

set_option quotPrecheck false in
/-- The programs the reference is made of. -/
local notation "Line" => Prog (TpuEff nD τ sig (Elt F) (Pipeline.Sig Λ₀ (Fin 0) fun p => (pcfgs (F := F) p).Adm) .tc) PUnit

/-- A line run before another. -/
theorem IsSeq.call {p k : Line} {l l' : List (HloOp τ sig (Elt F))} (h : IsSeq p l) (h' : IsSeq k l') :
    IsSeq (p >>= fun _ => k) (l ++ l') := by
  unfold IsSeq at h h' ⊢
  rw [seq_append, h, h']

/-- A line run last. -/
theorem IsSeq.last {p : Line} {l : List (HloOp τ sig (Elt F))} (h : IsSeq p l) : IsSeq p (l ++ []) := by
  rwa [List.append_nil]

set_option maxHeartbeats 0 in
/-- The operations of @threefry_split, read off its body. -/
def splitSeq (x : TRef sig ⟨S2, .i32⟩) (φ : fn_threefry_split.Bufs) :
    {l : List (HloOp τ sig (Elt F)) // IsSeq (fn_threefry_split.body x φ : Line) l} :=
  by apply Subtype.mk; hlo_seq

set_option maxHeartbeats 0 in
/-- The operations of @relu, read off its body. -/
def reluSeq (x : TRef sig ⟨S1x8192x768, .f32⟩) (φ : fn_relu.Bufs) :
    {l : List (HloOp τ sig (Elt F)) // IsSeq (fn_relu.body x φ : Line) l} :=
  by apply Subtype.mk; hlo_seq

set_option maxHeartbeats 0 in
/-- The operations of @gumbel, read off its body. -/
def gumbelSeq (x : TRef sig ⟨S2, .i32⟩) (φ : fn_gumbel.Bufs) :
    {l : List (HloOp τ sig (Elt F)) // IsSeq (fn_gumbel.body x φ : Line) l} :=
  by apply Subtype.mk; hlo_seq

set_option maxHeartbeats 0 in
/-- The operations of @argmax, read off its body. -/
def argmaxSeq (x : TRef sig ⟨S1x8192, .f32⟩) (φ : fn_argmax.Bufs) :
    {l : List (HloOp τ sig (Elt F)) // IsSeq (fn_argmax.body x φ : Line) l} :=
  by apply Subtype.mk; hlo_seq

set_option maxHeartbeats 0 in
/-- The operations of @gumbel_1, read off its body. -/
def gumbelTSeq (x : TRef sig ⟨S2, .i32⟩) (φ : fn_gumbel_1.Bufs) :
    {l : List (HloOp τ sig (Elt F)) // IsSeq (fn_gumbel_1.body x φ : Line) l} :=
  by apply Subtype.mk; hlo_seq

set_option maxHeartbeats 0 in
/-- The operations of @argmax_4, read off its body. -/
def argmaxTSeq (x : TRef sig ⟨S1x2, .f32⟩) (φ : fn_argmax_4.Bufs) :
    {l : List (HloOp τ sig (Elt F)) // IsSeq (fn_argmax_4.body x φ : Line) l} :=
  by apply Subtype.mk; hlo_seq

set_option maxHeartbeats 0 in
/-- The operations of @relu_5, read off its body. -/
def reluCSeq (x : TRef sig ⟨S1x8192x64, .f32⟩) (φ : fn_relu_5.Bufs) :
    {l : List (HloOp τ sig (Elt F)) // IsSeq (fn_relu_5.body x φ : Line) l} :=
  by apply Subtype.mk; hlo_seq

/-- Operations of @main, in order. -/
abbrev keyOps : List (HloOp τ sig (Elt F)) :=
  [ StableHlo.nullary main_c (constantI S_ 32 42#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

/-- Operations of @main, in order. -/
abbrev keysOps : List (HloOp τ sig (Elt F)) :=
  [ StableHlo.unary main_v7 main_v8 ((extractStridedSlice S1x2 ![0, 0] · slices_S3x2_S1x2_0_0) : (⟨S3x2, .i32⟩ : BufTy).Contents (Elt F) → (⟨S1x2, .i32⟩ : BufTy).Contents (Elt F)),
    StableHlo.reshape main_v8 main_v9 (rfl : (.i32 : EltTy) = .i32) shapeCasts_S1x2_S2,
    StableHlo.unary main_v7 main_v10 ((extractStridedSlice S1x2 ![1, 0] · slices_S3x2_S1x2_1_0) : (⟨S3x2, .i32⟩ : BufTy).Contents (Elt F) → (⟨S1x2, .i32⟩ : BufTy).Contents (Elt F)),
    StableHlo.reshape main_v10 main_v11 (rfl : (.i32 : EltTy) = .i32) shapeCasts_S1x2_S2,
    StableHlo.unary main_v7 main_v12 ((extractStridedSlice S1x2 ![2, 0] · slices_S3x2_S1x2_2_0) : (⟨S3x2, .i32⟩ : BufTy).Contents (Elt F) → (⟨S1x2, .i32⟩ : BufTy).Contents (Elt F)),
    StableHlo.reshape main_v12 main_v13 (rfl : (.i32 : EltTy) = .i32) shapeCasts_S1x2_S2 ]

/-- Operations of @main, in order. -/
abbrev emb1Ops : List (HloOp τ sig (Elt F)) :=
  [ StableHlo.binary main_arg0 main_arg1 main_v14 ((fun l r => Host.dotGeneral dot_S1x8192x768_S768x768_S1x8192x768_2_0_01_1_n_n none l r) : (⟨S1x8192x768, .f32⟩ : BufTy).Contents (Elt F) → (⟨S768x768, .f32⟩ : BufTy).Contents (Elt F) → (⟨S1x8192x768, .f32⟩ : BufTy).Contents (Elt F)),
    StableHlo.unary main_arg2 main_v15 (broadcastInDim S1x1x768 ![2] bcast_S768_S1x1x768_2 : (⟨S768, .f32⟩ : BufTy).Contents (Elt F) → (⟨S1x1x768, .f32⟩ : BufTy).Contents (Elt F)),
    StableHlo.unary main_v15 main_v16 (broadcastInDim S1x8192x768 ![0, 1, 2] bcast_S1x1x768_S1x8192x768_0_1_2 : (⟨S1x1x768, .f32⟩ : BufTy).Contents (Elt F) → (⟨S1x8192x768, .f32⟩ : BufTy).Contents (Elt F)),
    StableHlo.binary main_v14 main_v16 main_v17 (addf : (⟨S1x8192x768, .f32⟩ : BufTy).Contents (Elt F) → (⟨S1x8192x768, .f32⟩ : BufTy).Contents (Elt F) → (⟨S1x8192x768, .f32⟩ : BufTy).Contents (Elt F)) ]

/-- Operations of @main, in order. -/
abbrev logit1Ops : List (HloOp τ sig (Elt F)) :=
  [ StableHlo.binary main_v18 main_arg3 main_v19 ((fun l r => Host.dotGeneral dot_S1x8192x768_S768x1_S1x8192x1_2_0_01_1_n_n none l r) : (⟨S1x8192x768, .f32⟩ : BufTy).Contents (Elt F) → (⟨S768x1, .f32⟩ : BufTy).Contents (Elt F) → (⟨S1x8192x1, .f32⟩ : BufTy).Contents (Elt F)),
    StableHlo.unary main_arg4 main_v20 (broadcastInDim S1x1x1 ![2] bcast_S1_S1x1x1_2 : (⟨S1, .f32⟩ : BufTy).Contents (Elt F) → (⟨S1x1x1, .f32⟩ : BufTy).Contents (Elt F)),
    StableHlo.unary main_v20 main_v21 (broadcastInDim S1x8192x1 ![0, 1, 2] bcast_S1x1x1_S1x8192x1_0_1_2 : (⟨S1x1x1, .f32⟩ : BufTy).Contents (Elt F) → (⟨S1x8192x1, .f32⟩ : BufTy).Contents (Elt F)),
    StableHlo.binary main_v19 main_v21 main_v22 (addf : (⟨S1x8192x1, .f32⟩ : BufTy).Contents (Elt F) → (⟨S1x8192x1, .f32⟩ : BufTy).Contents (Elt F) → (⟨S1x8192x1, .f32⟩ : BufTy).Contents (Elt F)),
    StableHlo.reshape main_v22 main_v23 (rfl : (.f32 : EltTy) = .f32) shapeCasts_S1x8192x1_S1x8192 ]

/-- Operations of @main, in order. -/
abbrev soft1Ops : List (HloOp τ sig (Elt F)) :=
  [ StableHlo.nullary main_cst (constant S_ .f32 0xFF800000#32),
    StableHlo.binary main_v23 main_cst main_v24 ((fun x v => Host.reduce FloatOps.maximumf x v reducesTo_S1x8192_S1_d1 h_S_) : (⟨S1x8192, .f32⟩ : BufTy).Contents (Elt F) → (⟨S_, .f32⟩ : BufTy).Contents (Elt F) → (⟨S1, .f32⟩ : BufTy).Contents (Elt F)),
    StableHlo.nullary main_cst_2 (constant S_ .f32 0xFF800000#32),
    StableHlo.unary main_cst_2 main_v25 (broadcastInDim S1 ![] bcast_S_S1 : (⟨S_, .f32⟩ : BufTy).Contents (Elt F) → (⟨S1, .f32⟩ : BufTy).Contents (Elt F)),
    StableHlo.binary main_v25 main_v24 main_v26 (maximumf : (⟨S1, .f32⟩ : BufTy).Contents (Elt F) → (⟨S1, .f32⟩ : BufTy).Contents (Elt F) → (⟨S1, .f32⟩ : BufTy).Contents (Elt F)),
    StableHlo.unary main_v26 main_v27 (broadcastInDim S1x1 ![0] bcast_S1_S1x1_0 : (⟨S1, .f32⟩ : BufTy).Contents (Elt F) → (⟨S1x1, .f32⟩ : BufTy).Contents (Elt F)),
    StableHlo.unary main_v27 main_v28 (broadcastInDim S1x8192 ![0, 1] bcast_S1x1_S1x8192_0_1 : (⟨S1x1, .f32⟩ : BufTy).Contents (Elt F) → (⟨S1x8192, .f32⟩ : BufTy).Contents (Elt F)),
    StableHlo.binary main_v23 main_v28 main_v29 (subf : (⟨S1x8192, .f32⟩ : BufTy).Contents (Elt F) → (⟨S1x8192, .f32⟩ : BufTy).Contents (Elt F) → (⟨S1x8192, .f32⟩ : BufTy).Contents (Elt F)),
    StableHlo.unary main_v29 main_v30 (Host.exp : (⟨S1x8192, .f32⟩ : BufTy).Contents (Elt F) → (⟨S1x8192, .f32⟩ : BufTy).Contents (Elt F)),
    StableHlo.nullary main_cst_3 (constant S_ .f32 0x00000000#32),
    StableHlo.binary main_v30 main_cst_3 main_v31 ((fun x v => Host.reduceAdd x v reducesTo_S1x8192_S1_d1 h_S_) : (⟨S1x8192, .f32⟩ : BufTy).Contents (Elt F) → (⟨S_, .f32⟩ : BufTy).Contents (Elt F) → (⟨S1, .f32⟩ : BufTy).Contents (Elt F)),
    StableHlo.unary main_v31 main_v32 (broadcastInDim S1x1 ![0] bcast_S1_S1x1_0 : (⟨S1, .f32⟩ : BufTy).Contents (Elt F) → (⟨S1x1, .f32⟩ : BufTy).Contents (Elt F)),
    StableHlo.unary main_v32 main_v33 (broadcastInDim S1x8192 ![0, 1] bcast_S1x1_S1x8192_0_1 : (⟨S1x1, .f32⟩ : BufTy).Contents (Elt F) → (⟨S1x8192, .f32⟩ : BufTy).Contents (Elt F)),
    StableHlo.binary main_v30 main_v33 main_v34 (Host.divf : (⟨S1x8192, .f32⟩ : BufTy).Contents (Elt F) → (⟨S1x8192, .f32⟩ : BufTy).Contents (Elt F) → (⟨S1x8192, .f32⟩ : BufTy).Contents (Elt F)),
    StableHlo.unary main_v34 main_v35 (Host.log : (⟨S1x8192, .f32⟩ : BufTy).Contents (Elt F) → (⟨S1x8192, .f32⟩ : BufTy).Contents (Elt F)) ]

/-- Operations of @main, in order. -/
abbrev z1Ops : List (HloOp τ sig (Elt F)) :=
  [ StableHlo.binary main_v36 main_v35 main_v37 (addf : (⟨S1x8192, .f32⟩ : BufTy).Contents (Elt F) → (⟨S1x8192, .f32⟩ : BufTy).Contents (Elt F) → (⟨S1x8192, .f32⟩ : BufTy).Contents (Elt F)) ]

/-- Operations of @main, in order. -/
abbrev act1Ops : List (HloOp τ sig (Elt F)) :=
  [ StableHlo.reshape main_v38 main_v39 (rfl : (.i32 : EltTy) = .i32) shapeCasts_S1_S1x1,
    StableHlo.nullary main_cst_4 (constant S_ .f32 0x00000000#32),
    StableHlo.unary main_cst_4 main_v40 (broadcastInDim S1x8192 ![] bcast_S_S1x8192 : (⟨S_, .f32⟩ : BufTy).Contents (Elt F) → (⟨S1x8192, .f32⟩ : BufTy).Contents (Elt F)),
    StableHlo.nullary main_c_5 (constantI S_ 32 0#32),
    StableHlo.unary main_c_5 main_v41 (broadcastInDim S1x1 ![] bcast_S_S1x1 : (⟨S_, .i32⟩ : BufTy).Contents (Elt F) → (⟨S1x1, .i32⟩ : BufTy).Contents (Elt F)),
    StableHlo.binary main_v39 main_v41 main_v42 (cmpi .slt : (⟨S1x1, .i32⟩ : BufTy).Contents (Elt F) → (⟨S1x1, .i32⟩ : BufTy).Contents (Elt F) → (⟨S1x1, .i1⟩ : BufTy).Contents (Elt F)),
    StableHlo.nullary main_c_6 (constantI S_ 32 1#32),
    StableHlo.unary main_c_6 main_v43 (broadcastInDim S1x1 ![] bcast_S_S1x1 : (⟨S_, .i32⟩ : BufTy).Contents (Elt F) → (⟨S1x1, .i32⟩ : BufTy).Contents (Elt F)),
    StableHlo.binary main_v39 main_v43 main_v44 (addi : (⟨S1x1, .i32⟩ : BufTy).Contents (Elt F) → (⟨S1x1, .i32⟩ : BufTy).Contents (Elt F) → (⟨S1x1, .i32⟩ : BufTy).Contents (Elt F)),
    StableHlo.ternary main_v42 main_v44 main_v39 main_v45 (select : (⟨S1x1, .i1⟩ : BufTy).Contents (Elt F) → (⟨S1x1, .i32⟩ : BufTy).Contents (Elt F) → (⟨S1x1, .i32⟩ : BufTy).Contents (Elt F) → (⟨S1x1, .i32⟩ : BufTy).Contents (Elt F)),
    StableHlo.unary main_v45 main_v46 (broadcastInDim S1x1x1 ![0, 1] bcast_S1x1_S1x1x1_0_1 : (⟨S1x1, .i32⟩ : BufTy).Contents (Elt F) → (⟨S1x1x1, .i32⟩ : BufTy).Contents (Elt F)),
    StableHlo.nullary main_cst_7 (constant S_ .f32 0x3F800000#32),
    StableHlo.unary main_cst_7 main_v47 (broadcastInDim S1x1x8192 ![] bcast_S_S1x1x8192 : (⟨S_, .f32⟩ : BufTy).Contents (Elt F) → (⟨S1x1x8192, .f32⟩ : BufTy).Contents (Elt F)),
    StableHlo.ternary main_v40 main_v46 main_v47 main_v48 ((fun x i u => Host.scatter scatter_S1x8192_S1x1x1_S1x1x8192_2_0_0_2 (fun _ b => b) x i u) : (⟨S1x8192, .f32⟩ : BufTy).Contents (Elt F) → (⟨S1x1x1, .i32⟩ : BufTy).Contents (Elt F) → (⟨S1x1x8192, .f32⟩ : BufTy).Contents (Elt F) → (⟨S1x8192, .f32⟩ : BufTy).Contents (Elt F)),
    StableHlo.unary main_v39 main_v49 (sitofp .f32 : (⟨S1x1, .i32⟩ : BufTy).Contents (Elt F) → (⟨S1x1, .f32⟩ : BufTy).Contents (Elt F)) ]

/-- Operations of @main, in order. -/
abbrev emb2Ops : List (HloOp τ sig (Elt F)) :=
  [ StableHlo.unary main_v49 main_v50 (broadcastInDim S1x1x1 ![1, 2] bcast_S1x1_S1x1x1_1_2 : (⟨S1x1, .f32⟩ : BufTy).Contents (Elt F) → (⟨S1x1x1, .f32⟩ : BufTy).Contents (Elt F)),
    StableHlo.reshape main_v50 main_v51 (rfl : (.f32 : EltTy) = .f32) shapeCasts_S1x1x1_S1x1x1x1x1x1,
    StableHlo.unary main_v51 main_v52 (broadcastInDim S1x1x8192x1x1x1 ![0, 1, 2, 3, 4, 5] bcast_S1x1x1x1x1x1_S1x1x8192x1x1x1_0_1_2_3_4_5 : (⟨S1x1x1x1x1x1, .f32⟩ : BufTy).Contents (Elt F) → (⟨S1x1x8192x1x1x1, .f32⟩ : BufTy).Contents (Elt F)),
    StableHlo.reshape main_v52 main_v53 (rfl : (.f32 : EltTy) = .f32) shapeCasts_S1x1x8192x1x1x1_S1x8192x1,
    StableHlo.binary main_v53 main_arg0 main_v54 ((fun a b => concatenate S1x8192x769 2 [⟨S1x8192x1, a⟩, ⟨S1x8192x768, b⟩] concatenates_S1x8192x1_S1x8192x768_S1x8192x769_d2) : (⟨S1x8192x1, .f32⟩ : BufTy).Contents (Elt F) → (⟨S1x8192x768, .f32⟩ : BufTy).Contents (Elt F) → (⟨S1x8192x769, .f32⟩ : BufTy).Contents (Elt F)),
    StableHlo.binary main_v54 main_arg5 main_v55 ((fun l r => Host.dotGeneral dot_S1x8192x769_S769x768_S1x8192x768_2_0_01_1_n_n none l r) : (⟨S1x8192x769, .f32⟩ : BufTy).Contents (Elt F) → (⟨S769x768, .f32⟩ : BufTy).Contents (Elt F) → (⟨S1x8192x768, .f32⟩ : BufTy).Contents (Elt F)),
    StableHlo.unary main_arg6 main_v56 (broadcastInDim S1x1x768 ![2] bcast_S768_S1x1x768_2 : (⟨S768, .f32⟩ : BufTy).Contents (Elt F) → (⟨S1x1x768, .f32⟩ : BufTy).Contents (Elt F)),
    StableHlo.unary main_v56 main_v57 (broadcastInDim S1x8192x768 ![0, 1, 2] bcast_S1x1x768_S1x8192x768_0_1_2 : (⟨S1x1x768, .f32⟩ : BufTy).Contents (Elt F) → (⟨S1x8192x768, .f32⟩ : BufTy).Contents (Elt F)),
    StableHlo.binary main_v55 main_v57 main_v58 (addf : (⟨S1x8192x768, .f32⟩ : BufTy).Contents (Elt F) → (⟨S1x8192x768, .f32⟩ : BufTy).Contents (Elt F) → (⟨S1x8192x768, .f32⟩ : BufTy).Contents (Elt F)) ]

/-- Operations of @main, in order. -/
abbrev logit2Ops : List (HloOp τ sig (Elt F)) :=
  [ StableHlo.binary main_v59 main_arg7 main_v60 ((fun l r => Host.dotGeneral dot_S1x8192x768_S768x1_S1x8192x1_2_0_01_1_n_n none l r) : (⟨S1x8192x768, .f32⟩ : BufTy).Contents (Elt F) → (⟨S768x1, .f32⟩ : BufTy).Contents (Elt F) → (⟨S1x8192x1, .f32⟩ : BufTy).Contents (Elt F)),
    StableHlo.unary main_arg8 main_v61 (broadcastInDim S1x1x1 ![2] bcast_S1_S1x1x1_2 : (⟨S1, .f32⟩ : BufTy).Contents (Elt F) → (⟨S1x1x1, .f32⟩ : BufTy).Contents (Elt F)),
    StableHlo.unary main_v61 main_v62 (broadcastInDim S1x8192x1 ![0, 1, 2] bcast_S1x1x1_S1x8192x1_0_1_2 : (⟨S1x1x1, .f32⟩ : BufTy).Contents (Elt F) → (⟨S1x8192x1, .f32⟩ : BufTy).Contents (Elt F)),
    StableHlo.binary main_v60 main_v62 main_v63 (addf : (⟨S1x8192x1, .f32⟩ : BufTy).Contents (Elt F) → (⟨S1x8192x1, .f32⟩ : BufTy).Contents (Elt F) → (⟨S1x8192x1, .f32⟩ : BufTy).Contents (Elt F)),
    StableHlo.reshape main_v63 main_v64 (rfl : (.f32 : EltTy) = .f32) shapeCasts_S1x8192x1_S1x8192 ]

/-- Operations of @main, in order. -/
abbrev soft2Ops : List (HloOp τ sig (Elt F)) :=
  [ StableHlo.nullary main_cst_8 (constant S_ .f32 0xFF800000#32),
    StableHlo.binary main_v64 main_cst_8 main_v65 ((fun x v => Host.reduce FloatOps.maximumf x v reducesTo_S1x8192_S1_d1 h_S_) : (⟨S1x8192, .f32⟩ : BufTy).Contents (Elt F) → (⟨S_, .f32⟩ : BufTy).Contents (Elt F) → (⟨S1, .f32⟩ : BufTy).Contents (Elt F)),
    StableHlo.nullary main_cst_9 (constant S_ .f32 0xFF800000#32),
    StableHlo.unary main_cst_9 main_v66 (broadcastInDim S1 ![] bcast_S_S1 : (⟨S_, .f32⟩ : BufTy).Contents (Elt F) → (⟨S1, .f32⟩ : BufTy).Contents (Elt F)),
    StableHlo.binary main_v66 main_v65 main_v67 (maximumf : (⟨S1, .f32⟩ : BufTy).Contents (Elt F) → (⟨S1, .f32⟩ : BufTy).Contents (Elt F) → (⟨S1, .f32⟩ : BufTy).Contents (Elt F)),
    StableHlo.unary main_v67 main_v68 (broadcastInDim S1x1 ![0] bcast_S1_S1x1_0 : (⟨S1, .f32⟩ : BufTy).Contents (Elt F) → (⟨S1x1, .f32⟩ : BufTy).Contents (Elt F)),
    StableHlo.unary main_v68 main_v69 (broadcastInDim S1x8192 ![0, 1] bcast_S1x1_S1x8192_0_1 : (⟨S1x1, .f32⟩ : BufTy).Contents (Elt F) → (⟨S1x8192, .f32⟩ : BufTy).Contents (Elt F)),
    StableHlo.binary main_v64 main_v69 main_v70 (subf : (⟨S1x8192, .f32⟩ : BufTy).Contents (Elt F) → (⟨S1x8192, .f32⟩ : BufTy).Contents (Elt F) → (⟨S1x8192, .f32⟩ : BufTy).Contents (Elt F)),
    StableHlo.unary main_v70 main_v71 (Host.exp : (⟨S1x8192, .f32⟩ : BufTy).Contents (Elt F) → (⟨S1x8192, .f32⟩ : BufTy).Contents (Elt F)),
    StableHlo.nullary main_cst_10 (constant S_ .f32 0x00000000#32),
    StableHlo.binary main_v71 main_cst_10 main_v72 ((fun x v => Host.reduceAdd x v reducesTo_S1x8192_S1_d1 h_S_) : (⟨S1x8192, .f32⟩ : BufTy).Contents (Elt F) → (⟨S_, .f32⟩ : BufTy).Contents (Elt F) → (⟨S1, .f32⟩ : BufTy).Contents (Elt F)),
    StableHlo.unary main_v72 main_v73 (broadcastInDim S1x1 ![0] bcast_S1_S1x1_0 : (⟨S1, .f32⟩ : BufTy).Contents (Elt F) → (⟨S1x1, .f32⟩ : BufTy).Contents (Elt F)),
    StableHlo.unary main_v73 main_v74 (broadcastInDim S1x8192 ![0, 1] bcast_S1x1_S1x8192_0_1 : (⟨S1x1, .f32⟩ : BufTy).Contents (Elt F) → (⟨S1x8192, .f32⟩ : BufTy).Contents (Elt F)),
    StableHlo.binary main_v71 main_v74 main_v75 (Host.divf : (⟨S1x8192, .f32⟩ : BufTy).Contents (Elt F) → (⟨S1x8192, .f32⟩ : BufTy).Contents (Elt F) → (⟨S1x8192, .f32⟩ : BufTy).Contents (Elt F)) ]

/-- Operations of @main, in order. -/
abbrev mask2Ops : List (HloOp τ sig (Elt F)) :=
  [ StableHlo.nullary main_c_11 (constantI S_ 32 0#32),
    StableHlo.unary main_c_11 main_v76 (broadcastInDim S1x1 ![] bcast_S_S1x1 : (⟨S_, .i32⟩ : BufTy).Contents (Elt F) → (⟨S1x1, .i32⟩ : BufTy).Contents (Elt F)),
    StableHlo.binary main_v39 main_v76 main_v77 (cmpi .slt : (⟨S1x1, .i32⟩ : BufTy).Contents (Elt F) → (⟨S1x1, .i32⟩ : BufTy).Contents (Elt F) → (⟨S1x1, .i1⟩ : BufTy).Contents (Elt F)),
    StableHlo.nullary main_c_12 (constantI S_ 32 8192#32),
    StableHlo.unary main_c_12 main_v78 (broadcastInDim S1x1 ![] bcast_S_S1x1 : (⟨S_, .i32⟩ : BufTy).Contents (Elt F) → (⟨S1x1, .i32⟩ : BufTy).Contents (Elt F)),
    StableHlo.binary main_v39 main_v78 main_v79 (addi : (⟨S1x1, .i32⟩ : BufTy).Contents (Elt F) → (⟨S1x1, .i32⟩ : BufTy).Contents (Elt F) → (⟨S1x1, .i32⟩ : BufTy).Contents (Elt F)),
    StableHlo.ternary main_v77 main_v79 main_v39 main_v80 (select : (⟨S1x1, .i1⟩ : BufTy).Contents (Elt F) → (⟨S1x1, .i32⟩ : BufTy).Contents (Elt F) → (⟨S1x1, .i32⟩ : BufTy).Contents (Elt F) → (⟨S1x1, .i32⟩ : BufTy).Contents (Elt F)),
    StableHlo.nullary main_c_13 (constantI S_ 32 0#32),
    StableHlo.unary main_c_13 main_v81 (broadcastInDim S1x1 ![] bcast_S_S1x1 : (⟨S_, .i32⟩ : BufTy).Contents (Elt F) → (⟨S1x1, .i32⟩ : BufTy).Contents (Elt F)),
    StableHlo.unary main_v81 main_v82 (id : (⟨S1x1, .i32⟩ : BufTy).Contents (Elt F) → (⟨S1x1, .i32⟩ : BufTy).Contents (Elt F)),
    StableHlo.unary main_v82 main_v83 (broadcastInDim S1x1x1 ![0, 1] bcast_S1x1_S1x1x1_0_1 : (⟨S1x1, .i32⟩ : BufTy).Contents (Elt F) → (⟨S1x1x1, .i32⟩ : BufTy).Contents (Elt F)),
    StableHlo.unary main_v80 main_v84 (broadcastInDim S1x1x1 ![0, 1] bcast_S1x1_S1x1x1_0_1 : (⟨S1x1, .i32⟩ : BufTy).Contents (Elt F) → (⟨S1x1x1, .i32⟩ : BufTy).Contents (Elt F)),
    StableHlo.binary main_v83 main_v84 main_v85 ((fun a b => concatenate S1x1x2 2 [⟨S1x1x1, a⟩, ⟨S1x1x1, b⟩] concatenates_S1x1x1_S1x1x1_S1x1x2_d2) : (⟨S1x1x1, .i32⟩ : BufTy).Contents (Elt F) → (⟨S1x1x1, .i32⟩ : BufTy).Contents (Elt F) → (⟨S1x1x2, .i32⟩ : BufTy).Contents (Elt F)),
    StableHlo.nullary main_cst_14 (constant S_ .f32 0x00000000#32),
    StableHlo.unary main_cst_14 main_v86 (broadcastInDim S1x1 ![] bcast_S_S1x1 : (⟨S_, .f32⟩ : BufTy).Contents (Elt F) → (⟨S1x1, .f32⟩ : BufTy).Contents (Elt F)),
    StableHlo.ternary main_v75 main_v85 main_v86 main_v87 ((fun x i u => Host.scatter scatter_S1x8192_S1x1x2_S1x1_n_01_01_2 (fun _ b => b) x i u) : (⟨S1x8192, .f32⟩ : BufTy).Contents (Elt F) → (⟨S1x1x2, .i32⟩ : BufTy).Contents (Elt F) → (⟨S1x1, .f32⟩ : BufTy).Contents (Elt F) → (⟨S1x8192, .f32⟩ : BufTy).Contents (Elt F)),
    StableHlo.unary main_v87 main_v88 (Host.log : (⟨S1x8192, .f32⟩ : BufTy).Contents (Elt F) → (⟨S1x8192, .f32⟩ : BufTy).Contents (Elt F)) ]

/-- Operations of @main, in order. -/
abbrev z2Ops : List (HloOp τ sig (Elt F)) :=
  [ StableHlo.binary main_v89 main_v88 main_v90 (addf : (⟨S1x8192, .f32⟩ : BufTy).Contents (Elt F) → (⟨S1x8192, .f32⟩ : BufTy).Contents (Elt F) → (⟨S1x8192, .f32⟩ : BufTy).Contents (Elt F)) ]

/-- Operations of @main, in order. -/
abbrev act2Ops : List (HloOp τ sig (Elt F)) :=
  [ StableHlo.reshape main_v91 main_v92 (rfl : (.i32 : EltTy) = .i32) shapeCasts_S1_S1x1,
    StableHlo.nullary main_cst_15 (constant S_ .f32 0x00000000#32),
    StableHlo.unary main_cst_15 main_v93 (broadcastInDim S1x8192 ![] bcast_S_S1x8192 : (⟨S_, .f32⟩ : BufTy).Contents (Elt F) → (⟨S1x8192, .f32⟩ : BufTy).Contents (Elt F)),
    StableHlo.nullary main_c_16 (constantI S_ 32 0#32),
    StableHlo.unary main_c_16 main_v94 (broadcastInDim S1x1 ![] bcast_S_S1x1 : (⟨S_, .i32⟩ : BufTy).Contents (Elt F) → (⟨S1x1, .i32⟩ : BufTy).Contents (Elt F)),
    StableHlo.binary main_v92 main_v94 main_v95 (cmpi .slt : (⟨S1x1, .i32⟩ : BufTy).Contents (Elt F) → (⟨S1x1, .i32⟩ : BufTy).Contents (Elt F) → (⟨S1x1, .i1⟩ : BufTy).Contents (Elt F)),
    StableHlo.nullary main_c_17 (constantI S_ 32 1#32),
    StableHlo.unary main_c_17 main_v96 (broadcastInDim S1x1 ![] bcast_S_S1x1 : (⟨S_, .i32⟩ : BufTy).Contents (Elt F) → (⟨S1x1, .i32⟩ : BufTy).Contents (Elt F)),
    StableHlo.binary main_v92 main_v96 main_v97 (addi : (⟨S1x1, .i32⟩ : BufTy).Contents (Elt F) → (⟨S1x1, .i32⟩ : BufTy).Contents (Elt F) → (⟨S1x1, .i32⟩ : BufTy).Contents (Elt F)),
    StableHlo.ternary main_v95 main_v97 main_v92 main_v98 (select : (⟨S1x1, .i1⟩ : BufTy).Contents (Elt F) → (⟨S1x1, .i32⟩ : BufTy).Contents (Elt F) → (⟨S1x1, .i32⟩ : BufTy).Contents (Elt F) → (⟨S1x1, .i32⟩ : BufTy).Contents (Elt F)),
    StableHlo.unary main_v98 main_v99 (broadcastInDim S1x1x1 ![0, 1] bcast_S1x1_S1x1x1_0_1 : (⟨S1x1, .i32⟩ : BufTy).Contents (Elt F) → (⟨S1x1x1, .i32⟩ : BufTy).Contents (Elt F)) ]

/-- Operations of @main, in order. -/
abbrev hot2Ops : List (HloOp τ sig (Elt F)) :=
  [ StableHlo.nullary main_cst_18 (constant S_ .f32 0x3F800000#32),
    StableHlo.unary main_cst_18 main_v100 (broadcastInDim S1x1x8192 ![] bcast_S_S1x1x8192 : (⟨S_, .f32⟩ : BufTy).Contents (Elt F) → (⟨S1x1x8192, .f32⟩ : BufTy).Contents (Elt F)),
    StableHlo.ternary main_v93 main_v99 main_v100 main_v101 ((fun x i u => Host.scatter scatter_S1x8192_S1x1x1_S1x1x8192_2_0_0_2 (fun _ b => b) x i u) : (⟨S1x8192, .f32⟩ : BufTy).Contents (Elt F) → (⟨S1x1x1, .i32⟩ : BufTy).Contents (Elt F) → (⟨S1x1x8192, .f32⟩ : BufTy).Contents (Elt F) → (⟨S1x8192, .f32⟩ : BufTy).Contents (Elt F)) ]

/-- Operations of @main, in order. -/
abbrev emb3Ops : List (HloOp τ sig (Elt F)) :=
  [ StableHlo.binary main_arg0 main_arg9 main_v102 ((fun l r => Host.dotGeneral dot_S1x8192x768_S768x768_S1x8192x768_2_0_01_1_n_n none l r) : (⟨S1x8192x768, .f32⟩ : BufTy).Contents (Elt F) → (⟨S768x768, .f32⟩ : BufTy).Contents (Elt F) → (⟨S1x8192x768, .f32⟩ : BufTy).Contents (Elt F)) ]

/-- Operations of @main, in order. -/
abbrev logit3Ops : List (HloOp τ sig (Elt F)) :=
  [ StableHlo.nullary main_cst_19 (constant S_ .f32 0x00000000#32),
    StableHlo.binary main_v103 main_cst_19 main_v104 ((fun x v => Host.reduceAdd x v reducesTo_S1x8192x768_S1x768_d1 h_S_) : (⟨S1x8192x768, .f32⟩ : BufTy).Contents (Elt F) → (⟨S_, .f32⟩ : BufTy).Contents (Elt F) → (⟨S1x768, .f32⟩ : BufTy).Contents (Elt F)),
    StableHlo.binary main_v104 main_arg10 main_v105 ((fun l r => Host.dotGeneral dot_S1x768_S768x2_S1x2_1_0_0_1_n_n none l r) : (⟨S1x768, .f32⟩ : BufTy).Contents (Elt F) → (⟨S768x2, .f32⟩ : BufTy).Contents (Elt F) → (⟨S1x2, .f32⟩ : BufTy).Contents (Elt F)),
    StableHlo.unary main_arg11 main_v106 (broadcastInDim S1x2 ![1] bcast_S2_S1x2_1 : (⟨S2, .f32⟩ : BufTy).Contents (Elt F) → (⟨S1x2, .f32⟩ : BufTy).Contents (Elt F)),
    StableHlo.binary main_v105 main_v106 main_v107 (addf : (⟨S1x2, .f32⟩ : BufTy).Contents (Elt F) → (⟨S1x2, .f32⟩ : BufTy).Contents (Elt F) → (⟨S1x2, .f32⟩ : BufTy).Contents (Elt F)) ]

/-- Operations of @main, in order. -/
abbrev soft3Ops : List (HloOp τ sig (Elt F)) :=
  [ StableHlo.nullary main_cst_20 (constant S_ .f32 0xFF800000#32),
    StableHlo.binary main_v107 main_cst_20 main_v108 ((fun x v => Host.reduce FloatOps.maximumf x v reducesTo_S1x2_S1_d1 h_S_) : (⟨S1x2, .f32⟩ : BufTy).Contents (Elt F) → (⟨S_, .f32⟩ : BufTy).Contents (Elt F) → (⟨S1, .f32⟩ : BufTy).Contents (Elt F)),
    StableHlo.nullary main_cst_21 (constant S_ .f32 0xFF800000#32),
    StableHlo.unary main_cst_21 main_v109 (broadcastInDim S1 ![] bcast_S_S1 : (⟨S_, .f32⟩ : BufTy).Contents (Elt F) → (⟨S1, .f32⟩ : BufTy).Contents (Elt F)),
    StableHlo.binary main_v109 main_v108 main_v110 (maximumf : (⟨S1, .f32⟩ : BufTy).Contents (Elt F) → (⟨S1, .f32⟩ : BufTy).Contents (Elt F) → (⟨S1, .f32⟩ : BufTy).Contents (Elt F)),
    StableHlo.unary main_v110 main_v111 (broadcastInDim S1x1 ![0] bcast_S1_S1x1_0 : (⟨S1, .f32⟩ : BufTy).Contents (Elt F) → (⟨S1x1, .f32⟩ : BufTy).Contents (Elt F)),
    StableHlo.unary main_v111 main_v112 (broadcastInDim S1x2 ![0, 1] bcast_S1x1_S1x2_0_1 : (⟨S1x1, .f32⟩ : BufTy).Contents (Elt F) → (⟨S1x2, .f32⟩ : BufTy).Contents (Elt F)),
    StableHlo.binary main_v107 main_v112 main_v113 (subf : (⟨S1x2, .f32⟩ : BufTy).Contents (Elt F) → (⟨S1x2, .f32⟩ : BufTy).Contents (Elt F) → (⟨S1x2, .f32⟩ : BufTy).Contents (Elt F)),
    StableHlo.unary main_v113 main_v114 (Host.exp : (⟨S1x2, .f32⟩ : BufTy).Contents (Elt F) → (⟨S1x2, .f32⟩ : BufTy).Contents (Elt F)),
    StableHlo.nullary main_cst_22 (constant S_ .f32 0x00000000#32),
    StableHlo.binary main_v114 main_cst_22 main_v115 ((fun x v => Host.reduceAdd x v reducesTo_S1x2_S1_d1 h_S_) : (⟨S1x2, .f32⟩ : BufTy).Contents (Elt F) → (⟨S_, .f32⟩ : BufTy).Contents (Elt F) → (⟨S1, .f32⟩ : BufTy).Contents (Elt F)),
    StableHlo.unary main_v115 main_v116 (broadcastInDim S1x1 ![0] bcast_S1_S1x1_0 : (⟨S1, .f32⟩ : BufTy).Contents (Elt F) → (⟨S1x1, .f32⟩ : BufTy).Contents (Elt F)),
    StableHlo.unary main_v116 main_v117 (broadcastInDim S1x2 ![0, 1] bcast_S1x1_S1x2_0_1 : (⟨S1x1, .f32⟩ : BufTy).Contents (Elt F) → (⟨S1x2, .f32⟩ : BufTy).Contents (Elt F)),
    StableHlo.binary main_v114 main_v117 main_v118 (Host.divf : (⟨S1x2, .f32⟩ : BufTy).Contents (Elt F) → (⟨S1x2, .f32⟩ : BufTy).Contents (Elt F) → (⟨S1x2, .f32⟩ : BufTy).Contents (Elt F)),
    StableHlo.unary main_v118 main_v119 (Host.log : (⟨S1x2, .f32⟩ : BufTy).Contents (Elt F) → (⟨S1x2, .f32⟩ : BufTy).Contents (Elt F)) ]

/-- Operations of @main, in order. -/
abbrev z3Ops : List (HloOp τ sig (Elt F)) :=
  [ StableHlo.binary main_v120 main_v119 main_v121 (addf : (⟨S1x2, .f32⟩ : BufTy).Contents (Elt F) → (⟨S1x2, .f32⟩ : BufTy).Contents (Elt F) → (⟨S1x2, .f32⟩ : BufTy).Contents (Elt F)) ]

/-- Operations of @main, in order. -/
abbrev hot3Ops : List (HloOp τ sig (Elt F)) :=
  [ StableHlo.reshape main_v122 main_v123 (rfl : (.i32 : EltTy) = .i32) shapeCasts_S1_S1x1,
    StableHlo.nullary main_cst_23 (constant S_ .f32 0x00000000#32),
    StableHlo.unary main_cst_23 main_v124 (broadcastInDim S1x2 ![] bcast_S_S1x2 : (⟨S_, .f32⟩ : BufTy).Contents (Elt F) → (⟨S1x2, .f32⟩ : BufTy).Contents (Elt F)),
    StableHlo.nullary main_c_24 (constantI S_ 32 0#32),
    StableHlo.unary main_c_24 main_v125 (broadcastInDim S1x1 ![] bcast_S_S1x1 : (⟨S_, .i32⟩ : BufTy).Contents (Elt F) → (⟨S1x1, .i32⟩ : BufTy).Contents (Elt F)),
    StableHlo.binary main_v123 main_v125 main_v126 (cmpi .slt : (⟨S1x1, .i32⟩ : BufTy).Contents (Elt F) → (⟨S1x1, .i32⟩ : BufTy).Contents (Elt F) → (⟨S1x1, .i1⟩ : BufTy).Contents (Elt F)),
    StableHlo.nullary main_c_25 (constantI S_ 32 1#32),
    StableHlo.unary main_c_25 main_v127 (broadcastInDim S1x1 ![] bcast_S_S1x1 : (⟨S_, .i32⟩ : BufTy).Contents (Elt F) → (⟨S1x1, .i32⟩ : BufTy).Contents (Elt F)),
    StableHlo.binary main_v123 main_v127 main_v128 (addi : (⟨S1x1, .i32⟩ : BufTy).Contents (Elt F) → (⟨S1x1, .i32⟩ : BufTy).Contents (Elt F) → (⟨S1x1, .i32⟩ : BufTy).Contents (Elt F)),
    StableHlo.ternary main_v126 main_v128 main_v123 main_v129 (select : (⟨S1x1, .i1⟩ : BufTy).Contents (Elt F) → (⟨S1x1, .i32⟩ : BufTy).Contents (Elt F) → (⟨S1x1, .i32⟩ : BufTy).Contents (Elt F) → (⟨S1x1, .i32⟩ : BufTy).Contents (Elt F)),
    StableHlo.unary main_v129 main_v130 (broadcastInDim S1x1x1 ![0, 1] bcast_S1x1_S1x1x1_0_1 : (⟨S1x1, .i32⟩ : BufTy).Contents (Elt F) → (⟨S1x1x1, .i32⟩ : BufTy).Contents (Elt F)),
    StableHlo.nullary main_cst_26 (constant S_ .f32 0x3F800000#32),
    StableHlo.unary main_cst_26 main_v131 (broadcastInDim S1x1x2 ![] bcast_S_S1x1x2 : (⟨S_, .f32⟩ : BufTy).Contents (Elt F) → (⟨S1x1x2, .f32⟩ : BufTy).Contents (Elt F)),
    StableHlo.ternary main_v124 main_v130 main_v131 main_v132 ((fun x i u => Host.scatter scatter_S1x2_S1x1x1_S1x1x2_2_0_0_2 (fun _ b => b) x i u) : (⟨S1x2, .f32⟩ : BufTy).Contents (Elt F) → (⟨S1x1x1, .i32⟩ : BufTy).Contents (Elt F) → (⟨S1x1x2, .f32⟩ : BufTy).Contents (Elt F) → (⟨S1x2, .f32⟩ : BufTy).Contents (Elt F)),
    StableHlo.nary ![main_v48, main_v101, main_v132] main_v133 (fun u => (concatenate S1x16386 1 [⟨S1x8192, (u 0 : (⟨S1x8192, .f32⟩ : BufTy).Contents (Elt F))⟩, ⟨S1x8192, (u 1 : (⟨S1x8192, .f32⟩ : BufTy).Contents (Elt F))⟩, ⟨S1x2, (u 2 : (⟨S1x2, .f32⟩ : BufTy).Contents (Elt F))⟩] concatenates_S1x8192_S1x8192_S1x2_S1x16386_d1 : (⟨S1x16386, .f32⟩ : BufTy).Contents (Elt F))) ]

/-- Operations of @main, in order. -/
abbrev criticOps : List (HloOp τ sig (Elt F)) :=
  [ StableHlo.binary main_arg0 main_arg12 main_v134 ((fun l r => Host.dotGeneral dot_S1x8192x768_S768x64_S1x8192x64_2_0_01_1_n_n none l r) : (⟨S1x8192x768, .f32⟩ : BufTy).Contents (Elt F) → (⟨S768x64, .f32⟩ : BufTy).Contents (Elt F) → (⟨S1x8192x64, .f32⟩ : BufTy).Contents (Elt F)),
    StableHlo.unary main_arg13 main_v135 (broadcastInDim S1x1x64 ![2] bcast_S64_S1x1x64_2 : (⟨S64, .f32⟩ : BufTy).Contents (Elt F) → (⟨S1x1x64, .f32⟩ : BufTy).Contents (Elt F)),
    StableHlo.unary main_v135 main_v136 (broadcastInDim S1x8192x64 ![0, 1, 2] bcast_S1x1x64_S1x8192x64_0_1_2 : (⟨S1x1x64, .f32⟩ : BufTy).Contents (Elt F) → (⟨S1x8192x64, .f32⟩ : BufTy).Contents (Elt F)),
    StableHlo.binary main_v134 main_v136 main_v137 (addf : (⟨S1x8192x64, .f32⟩ : BufTy).Contents (Elt F) → (⟨S1x8192x64, .f32⟩ : BufTy).Contents (Elt F) → (⟨S1x8192x64, .f32⟩ : BufTy).Contents (Elt F)) ]

/-- What @main's window 0 runs. -/
abbrev lines0 : List (List (HloOp τ sig (Elt F))) :=
  [ keyOps,
    (splitSeq (.of main_v6) main_call0).1,
    keysOps,
    emb1Ops,
    (reluSeq (.of main_v17) main_call1).1,
    logit1Ops,
    soft1Ops,
    (gumbelSeq (.of main_v9) main_call2).1,
    z1Ops,
    (argmaxSeq (.of main_v37) main_call3).1,
    act1Ops ]

/-- What @main's window 1 runs. -/
abbrev lines1 : List (List (HloOp τ sig (Elt F))) :=
  [ emb2Ops,
    (reluSeq (.of main_v58) main_call4).1,
    logit2Ops,
    soft2Ops,
    mask2Ops,
    (gumbelSeq (.of main_v11) main_call5).1,
    z2Ops,
    (argmaxSeq (.of main_v90) main_call6).1,
    act2Ops ]

/-- What @main's window 2 runs. -/
abbrev lines2 : List (List (HloOp τ sig (Elt F))) :=
  [ hot2Ops,
    emb3Ops,
    (reluSeq (.of main_v102) main_call7).1,
    logit3Ops,
    soft3Ops,
    (gumbelTSeq (.of main_v13) main_call8).1,
    z3Ops,
    (argmaxTSeq (.of main_v121) main_call9).1,
    hot3Ops,
    criticOps,
    (reluCSeq (.of main_v137) main_call10).1 ]

/-- Everything the reference runs, in order. -/
abbrev lines : List (List (HloOp τ sig (Elt F))) := lines0 ++ (lines1 ++ lines2)

set_option maxHeartbeats 0 in
theorem isSeq0 (d : Dev nD) : IsSeq (main_part0 (F := F) d) (lines0 (F := F)).flatten := by
  unfold main_part0
  rw [show (lines0 (F := F)).flatten = _ from rfl]
  repeat (first
    | exact IsSeq.nil
    | apply IsSeq.call (splitSeq _ _).2 | apply IsSeq.call (reluSeq _ _).2 | apply IsSeq.call (gumbelSeq _ _).2
    | apply IsSeq.call (argmaxSeq _ _).2 | apply IsSeq.call (gumbelTSeq _ _).2 | apply IsSeq.call (argmaxTSeq _ _).2
    | apply IsSeq.call (reluCSeq _ _).2
    | apply IsSeq.cons)

set_option maxHeartbeats 0 in
theorem isSeq1 (d : Dev nD) : IsSeq (main_part1 (F := F) d) (lines1 (F := F)).flatten := by
  unfold main_part1
  rw [show (lines1 (F := F)).flatten = _ from rfl]
  repeat (first
    | exact IsSeq.nil
    | apply IsSeq.call (splitSeq _ _).2 | apply IsSeq.call (reluSeq _ _).2 | apply IsSeq.call (gumbelSeq _ _).2
    | apply IsSeq.call (argmaxSeq _ _).2 | apply IsSeq.call (gumbelTSeq _ _).2 | apply IsSeq.call (argmaxTSeq _ _).2
    | apply IsSeq.call (reluCSeq _ _).2
    | apply IsSeq.cons)

set_option maxHeartbeats 0 in
theorem isSeq2 (d : Dev nD) : IsSeq (main_part2 (F := F) d) (lines2 (F := F)).flatten := by
  unfold main_part2
  rw [show (lines2 (F := F)).flatten = _ from rfl]
  repeat (first
    | exact IsSeq.nil
    | apply IsSeq.call (splitSeq _ _).2 | apply IsSeq.call (reluSeq _ _).2 | apply IsSeq.call (gumbelSeq _ _).2
    | apply IsSeq.call (argmaxSeq _ _).2 | apply IsSeq.call (gumbelTSeq _ _).2 | apply IsSeq.call (argmaxTSeq _ _).2
    | apply IsSeq.call (reluCSeq _ _).2
    | apply IsSeq.cons)

end Cert.ReferenceIdeal.Hand
end
-- ==== Proof.ReferenceIdeal.Fresh.lean ====
module

public import proofs.«01_k».proof.Proof.ReferenceIdeal.Lines
public import Idealize.ShloMosaic.Lib.Quiescent

@[expose] public section

set_option maxRecDepth 16384

noncomputable section

namespace Cert.ReferenceIdeal.Hand

open Idealize.ShloMosaic Idealize.ShloMosaic.TcCoe Idealize.ShloMosaic.StableHlo Idealize.SL.Sem
open Cert.Hand
open Facts₀ Facts

variable {F : FTy → Type} [FloatOps F]

/-- Every operation of the line touches the device's own buffers only and determines what it writes. -/
def Determined (l : List (HloOp τ sig (Elt F))) : Prop := ∀ op ∈ l, op.bufs ⊆ tcRefs τ sig ∧ op.fresh = ∅

theorem Determined.nil : Determined ([] : List (HloOp τ sig (Elt F))) := by simp [Determined]
theorem Determined.cons {op : HloOp τ sig (Elt F)} {l : List (HloOp τ sig (Elt F))} (hb : op.bufs ⊆ tcRefs τ sig) (h : op.fresh = ∅) (hl : Determined l) :
    Determined (op :: l) := by
  intro o ho
  rcases List.mem_cons.mp ho with rfl | ho
  · exact ⟨hb, h⟩
  · exact hl o ho
theorem Determined.append {l l' : List (HloOp τ sig (Elt F))} (h : Determined l) (h' : Determined l') : Determined (l ++ l') := by
  intro o ho
  exact (List.mem_append.mp ho).elim (h o) (h' o)

set_option maxHeartbeats 0 in
theorem split_determined (x φ) : Determined (splitSeq (F := F) x φ).1 := by
  unfold splitSeq; dsimp only; repeat (first | exact .nil | refine .cons (by simp only [nullary_bufs_sub, unary_bufs_sub, binary_bufs_sub, reshape_bufs_sub, ternary_bufs_sub, quaternary_bufs_sub, nary_bufs_sub]) rfl ?_)
set_option maxHeartbeats 0 in
theorem gumbel_determined (x φ) : Determined (gumbelSeq (F := F) x φ).1 := by
  unfold gumbelSeq; dsimp only; repeat (first | exact .nil | refine .cons (by simp only [nullary_bufs_sub, unary_bufs_sub, binary_bufs_sub, reshape_bufs_sub, ternary_bufs_sub, quaternary_bufs_sub, nary_bufs_sub]) rfl ?_)
set_option maxHeartbeats 0 in
theorem gumbelT_determined (x φ) : Determined (gumbelTSeq (F := F) x φ).1 := by
  unfold gumbelTSeq; dsimp only; repeat (first | exact .nil | refine .cons (by simp only [nullary_bufs_sub, unary_bufs_sub, binary_bufs_sub, reshape_bufs_sub, ternary_bufs_sub, quaternary_bufs_sub, nary_bufs_sub]) rfl ?_)
theorem relu_determined (x φ) : Determined (reluSeq (F := F) x φ).1 := by
  unfold reluSeq; dsimp only; repeat (first | exact .nil | refine .cons (by simp only [nullary_bufs_sub, unary_bufs_sub, binary_bufs_sub, reshape_bufs_sub, ternary_bufs_sub, quaternary_bufs_sub, nary_bufs_sub]) rfl ?_)
theorem argmax_determined (x φ) : Determined (argmaxSeq (F := F) x φ).1 := by
  unfold argmaxSeq; dsimp only; repeat (first | exact .nil | refine .cons (by simp only [nullary_bufs_sub, unary_bufs_sub, binary_bufs_sub, reshape_bufs_sub, ternary_bufs_sub, quaternary_bufs_sub, nary_bufs_sub]) rfl ?_)
theorem argmaxT_determined (x φ) : Determined (argmaxTSeq (F := F) x φ).1 := by
  unfold argmaxTSeq; dsimp only; repeat (first | exact .nil | refine .cons (by simp only [nullary_bufs_sub, unary_bufs_sub, binary_bufs_sub, reshape_bufs_sub, ternary_bufs_sub, quaternary_bufs_sub, nary_bufs_sub]) rfl ?_)
theorem reluC_determined (x φ) : Determined (reluCSeq (F := F) x φ).1 := by
  unfold reluCSeq; dsimp only; repeat (first | exact .nil | refine .cons (by simp only [nullary_bufs_sub, unary_bufs_sub, binary_bufs_sub, reshape_bufs_sub, ternary_bufs_sub, quaternary_bufs_sub, nary_bufs_sub]) rfl ?_)

end Cert.ReferenceIdeal.Hand
end
-- ==== Proof.ReferenceIdeal.Run.lean ====
module

public import proofs.«01_k».proof.Proof.ReferenceIdeal.Fresh
public import Idealize.ShloMosaic.Lib.Quiescent

@[expose] public section

set_option maxRecDepth 16384

noncomputable section

namespace Cert.ReferenceIdeal.Hand

open Idealize.ShloMosaic Idealize.ShloMosaic.TcCoe Idealize.ShloMosaic.StableHlo Idealize.SL.Sem
open Cert.Hand
open Facts₀ Facts

variable {F : FTy → Type} [FloatOps F]

theorem keyOps_determined : Determined (keyOps (F := F)) := by
  repeat (first | exact .nil | refine .cons (by simp only [nullary_bufs_sub, unary_bufs_sub, binary_bufs_sub, reshape_bufs_sub, ternary_bufs_sub, quaternary_bufs_sub, nary_bufs_sub]) rfl ?_)
theorem keysOps_determined : Determined (keysOps (F := F)) := by
  repeat (first | exact .nil | refine .cons (by simp only [nullary_bufs_sub, unary_bufs_sub, binary_bufs_sub, reshape_bufs_sub, ternary_bufs_sub, quaternary_bufs_sub, nary_bufs_sub]) rfl ?_)
theorem emb1Ops_determined : Determined (emb1Ops (F := F)) := by
  repeat (first | exact .nil | refine .cons (by simp only [nullary_bufs_sub, unary_bufs_sub, binary_bufs_sub, reshape_bufs_sub, ternary_bufs_sub, quaternary_bufs_sub, nary_bufs_sub]) rfl ?_)
theorem logit1Ops_determined : Determined (logit1Ops (F := F)) := by
  repeat (first | exact .nil | refine .cons (by simp only [nullary_bufs_sub, unary_bufs_sub, binary_bufs_sub, reshape_bufs_sub, ternary_bufs_sub, quaternary_bufs_sub, nary_bufs_sub]) rfl ?_)
theorem soft1Ops_determined : Determined (soft1Ops (F := F)) := by
  repeat (first | exact .nil | refine .cons (by simp only [nullary_bufs_sub, unary_bufs_sub, binary_bufs_sub, reshape_bufs_sub, ternary_bufs_sub, quaternary_bufs_sub, nary_bufs_sub]) rfl ?_)
theorem z1Ops_determined : Determined (z1Ops (F := F)) := by
  repeat (first | exact .nil | refine .cons (by simp only [nullary_bufs_sub, unary_bufs_sub, binary_bufs_sub, reshape_bufs_sub, ternary_bufs_sub, quaternary_bufs_sub, nary_bufs_sub]) rfl ?_)
theorem act1Ops_determined : Determined (act1Ops (F := F)) := by
  repeat (first | exact .nil | refine .cons (by simp only [nullary_bufs_sub, unary_bufs_sub, binary_bufs_sub, reshape_bufs_sub, ternary_bufs_sub, quaternary_bufs_sub, nary_bufs_sub]) rfl ?_)
theorem emb2Ops_determined : Determined (emb2Ops (F := F)) := by
  repeat (first | exact .nil | refine .cons (by simp only [nullary_bufs_sub, unary_bufs_sub, binary_bufs_sub, reshape_bufs_sub, ternary_bufs_sub, quaternary_bufs_sub, nary_bufs_sub]) rfl ?_)
theorem logit2Ops_determined : Determined (logit2Ops (F := F)) := by
  repeat (first | exact .nil | refine .cons (by simp only [nullary_bufs_sub, unary_bufs_sub, binary_bufs_sub, reshape_bufs_sub, ternary_bufs_sub, quaternary_bufs_sub, nary_bufs_sub]) rfl ?_)
theorem soft2Ops_determined : Determined (soft2Ops (F := F)) := by
  repeat (first | exact .nil | refine .cons (by simp only [nullary_bufs_sub, unary_bufs_sub, binary_bufs_sub, reshape_bufs_sub, ternary_bufs_sub, quaternary_bufs_sub, nary_bufs_sub]) rfl ?_)
theorem mask2Ops_determined : Determined (mask2Ops (F := F)) := by
  repeat (first | exact .nil | refine .cons (by simp only [nullary_bufs_sub, unary_bufs_sub, binary_bufs_sub, reshape_bufs_sub, ternary_bufs_sub, quaternary_bufs_sub, nary_bufs_sub]) rfl ?_)
theorem z2Ops_determined : Determined (z2Ops (F := F)) := by
  repeat (first | exact .nil | refine .cons (by simp only [nullary_bufs_sub, unary_bufs_sub, binary_bufs_sub, reshape_bufs_sub, ternary_bufs_sub, quaternary_bufs_sub, nary_bufs_sub]) rfl ?_)
theorem act2Ops_determined : Determined (act2Ops (F := F)) := by
  repeat (first | exact .nil | refine .cons (by simp only [nullary_bufs_sub, unary_bufs_sub, binary_bufs_sub, reshape_bufs_sub, ternary_bufs_sub, quaternary_bufs_sub, nary_bufs_sub]) rfl ?_)
theorem hot2Ops_determined : Determined (hot2Ops (F := F)) := by
  repeat (first | exact .nil | refine .cons (by simp only [nullary_bufs_sub, unary_bufs_sub, binary_bufs_sub, reshape_bufs_sub, ternary_bufs_sub, quaternary_bufs_sub, nary_bufs_sub]) rfl ?_)
theorem emb3Ops_determined : Determined (emb3Ops (F := F)) := by
  repeat (first | exact .nil | refine .cons (by simp only [nullary_bufs_sub, unary_bufs_sub, binary_bufs_sub, reshape_bufs_sub, ternary_bufs_sub, quaternary_bufs_sub, nary_bufs_sub]) rfl ?_)
theorem logit3Ops_determined : Determined (logit3Ops (F := F)) := by
  repeat (first | exact .nil | refine .cons (by simp only [nullary_bufs_sub, unary_bufs_sub, binary_bufs_sub, reshape_bufs_sub, ternary_bufs_sub, quaternary_bufs_sub, nary_bufs_sub]) rfl ?_)
theorem soft3Ops_determined : Determined (soft3Ops (F := F)) := by
  repeat (first | exact .nil | refine .cons (by simp only [nullary_bufs_sub, unary_bufs_sub, binary_bufs_sub, reshape_bufs_sub, ternary_bufs_sub, quaternary_bufs_sub, nary_bufs_sub]) rfl ?_)
theorem z3Ops_determined : Determined (z3Ops (F := F)) := by
  repeat (first | exact .nil | refine .cons (by simp only [nullary_bufs_sub, unary_bufs_sub, binary_bufs_sub, reshape_bufs_sub, ternary_bufs_sub, quaternary_bufs_sub, nary_bufs_sub]) rfl ?_)
theorem hot3Ops_determined : Determined (hot3Ops (F := F)) := by
  repeat (first | exact .nil | refine .cons (by simp only [nullary_bufs_sub, unary_bufs_sub, binary_bufs_sub, reshape_bufs_sub, ternary_bufs_sub, quaternary_bufs_sub, nary_bufs_sub]) rfl ?_)
theorem criticOps_determined : Determined (criticOps (F := F)) := by
  repeat (first | exact .nil | refine .cons (by simp only [nullary_bufs_sub, unary_bufs_sub, binary_bufs_sub, reshape_bufs_sub, ternary_bufs_sub, quaternary_bufs_sub, nary_bufs_sub]) rfl ?_)

theorem Determined.flatten {L : List (List (HloOp τ sig (Elt F)))} (h : L.Forall Determined) : Determined L.flatten := by
  intro op hop
  obtain ⟨l, hl, ho⟩ := List.mem_flatten.mp hop
  exact (List.forall_iff_forall_mem.mp h) l hl op ho

theorem lines0_determined : (lines0 (F := F)).Forall Determined :=
  ⟨keyOps_determined,
    split_determined _ _,
    keysOps_determined,
    emb1Ops_determined,
    relu_determined _ _,
    logit1Ops_determined,
    soft1Ops_determined,
    gumbel_determined _ _,
    z1Ops_determined,
    argmax_determined _ _,
    act1Ops_determined⟩

theorem lines1_determined : (lines1 (F := F)).Forall Determined :=
  ⟨emb2Ops_determined,
    relu_determined _ _,
    logit2Ops_determined,
    soft2Ops_determined,
    mask2Ops_determined,
    gumbel_determined _ _,
    z2Ops_determined,
    argmax_determined _ _,
    act2Ops_determined⟩

theorem lines2_determined : (lines2 (F := F)).Forall Determined :=
  ⟨hot2Ops_determined,
    emb3Ops_determined,
    relu_determined _ _,
    logit3Ops_determined,
    soft3Ops_determined,
    gumbelT_determined _ _,
    z3Ops_determined,
    argmaxT_determined _ _,
    hot3Ops_determined,
    criticOps_determined,
    reluC_determined _ _⟩

/-- Everything the reference runs determines what it writes. -/
theorem lines_determined : Determined (lines (F := F)).flatten := by
  have h : (lines (F := F)).flatten = (lines0 (F := F)).flatten ++ ((lines1 (F := F)).flatten ++ (lines2 (F := F)).flatten) := by
    rw [← List.flatten_append, ← List.flatten_append]
  rw [h]
  exact .append (.flatten lines0_determined) (.append (.flatten lines1_determined) (.flatten lines2_determined))

/-- The reference is `lines` in order. -/
theorem isSeq (d : Dev nD) : IsSeq (main (F := F) d) (lines (F := F)).flatten := by
  have h : (lines (F := F)).flatten = (lines0 (F := F)).flatten ++ ((lines1 (F := F)).flatten ++ (lines2 (F := F)).flatten) := by
    rw [← List.flatten_append, ← List.flatten_append]
  rw [h]
  exact IsSeq.call (isSeq0 d) (IsSeq.call (isSeq1 d) (isSeq2 d))

variable (m : (ℓ : Loc nD τ sig) → Buf (Elt F) ℓ) (ρ : Dev nD → PrngReg)

/-- The reference runs to its end and leaves in every buffer what its line of operations does. -/
theorem run : θ_run defs (onTc (τ := τ) (main (F := F))) ⟨m, fun _ => 0, ρ⟩
    (fun r => ∀ (d : Dev nD) (b : Ref sig .tc), r.2.mem ((d.tc : Thread nD τ).loc b) = after (lines (F := F)).flatten (launchContents m d) (Proc.devRef .tc b)) :=
  run_hlo defs main isSeq (by decide) (by decide)
    (List.forall_iff_forall_mem.mpr fun op hop => (lines_determined op hop).1) (fun op hop => (lines_determined op hop).2) m ρ

end Cert.ReferenceIdeal.Hand
end
-- ==== Proof.Math.lean ====
module

public import Idealize.ShloMosaic.Lib.Pointwise
public import Idealize.ShloMosaic.Lib.ValueIdx
public import Idealize.ShloMosaic.Lib.IdealHost
public import Idealize.ShloMosaic.Lib.SortNet.Extract

@[expose] public section

noncomputable section

/-!
  The mathematics of one draw, over the extended reals: the first index at which a row is greatest, the two ways the
  programs find it, and that adding a real constant to the row, as a softmax's logarithm does, does not move it.
-/

namespace Cert.Hand

open Idealize.ShloMosaic

/-! ## The first greatest -/

/-- `i` is the first index at which `z` is greatest. -/
def IsFirst {n : Nat} (z : Fin n → EReal) (i : Fin n) : Prop := (∀ j, z j ≤ z i) ∧ ∀ j, j < i → z j < z i

/-- There is one such index only. -/
theorem IsFirst.unique {n : Nat} {z : Fin n → EReal} {i j : Fin n} (hi : IsFirst z i) (hj : IsFirst z j) : i = j := by
  rcases lt_trichotomy i j with h | h | h
  · exact absurd (hj.2 i h) (not_lt.2 (hi.1 j))
  · exact h
  · exact absurd (hi.2 j h) (not_lt.2 (hj.1 i))

/-- A row that is not empty has one. -/
theorem exists_isFirst {n : Nat} (hn : 0 < n) (z : Fin n → EReal) : ∃ i, IsFirst z i := by
  haveI : Nonempty (Fin n) := ⟨⟨0, hn⟩⟩
  obtain ⟨m, hm⟩ := Finite.exists_max z
  have hne : (Finset.univ.filter fun i : Fin n => z i = z m).Nonempty := ⟨m, by simp⟩
  refine ⟨Finset.min' _ hne, ?_, ?_⟩
  · have := Finset.min'_mem _ hne
    rw [Finset.mem_filter] at this
    intro j; rw [this.2]; exact hm j
  · intro j hj
    have h := Finset.min'_mem _ hne
    rw [Finset.mem_filter] at h
    rw [h.2]
    refine lt_of_le_of_ne (hm j) fun e => ?_
    exact absurd (Finset.min'_le _ j (by rw [Finset.mem_filter]; exact ⟨Finset.mem_univ _, e⟩)) (not_le.2 hj)

/-- A real constant added to the row leaves it where it was. -/
theorem IsFirst.shift {n : Nat} {z z' : Fin n → EReal} {i : Fin n} (c : ℝ) (h : ∀ j, z' j = z j + (c : EReal)) (hi : IsFirst z i) :
    IsFirst z' i :=
  ⟨fun j => by rw [h, h]; exact add_le_add (hi.1 j) le_rfl,
    fun j hj => by rw [h, h]; exact EReal.add_lt_add_right_coe (hi.2 j hj) c⟩

/-! ## By two reductions: the greatest, then the least index that holds it -/

/-- The greatest of a row, taken from −∞, is the value at the first greatest. -/
theorem fold_max_eq {n : Nat} {z : Fin n → EReal} {i : Fin n} (hi : IsFirst z i) :
    (Finset.univ.fold max ⊥ z : EReal) = z i := by
  refine le_antisymm ?_ ?_
  · rw [Finset.fold_max_le]; exact ⟨bot_le, fun j _ => hi.1 j⟩
  · rw [Finset.le_fold_max]; exact Or.inr ⟨i, Finset.mem_univ _, le_rfl⟩

/-- A fold of the signed minimum: at most its start and every word, and one of them. -/
theorem fold_minsi_spec {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  refine Finset.induction_on s ⟨le_of_eq (by rw [Finset.fold_empty]), fun i hi => absurd hi (Finset.notMem_empty i),
    Or.inl (by rw [Finset.fold_empty])⟩ ?_
  intro a s has ih
  obtain ⟨h1, h2, h3⟩ := ih
  rw [Finset.fold_insert has]
  have hm := SortNet.toInt_minsi (g a) (s.fold IntOp.minsi init g)
  refine ⟨le_trans (by rw [hm]; exact min_le_right _ _) h1, fun i hi => ?_, ?_⟩
  · rcases Finset.mem_insert.mp hi with rfl | hi
    · rw [hm]; exact min_le_left _ _
    · exact le_trans (by rw [hm]; exact min_le_right _ _) (h2 i hi)
  · have hc : IntOp.minsi (g a) (s.fold IntOp.minsi init g) = g a
        ∨ IntOp.minsi (g a) (s.fold IntOp.minsi init g) = s.fold IntOp.minsi init g := by
      unfold IntOp.minsi; split
      · exact Or.inl rfl
      · exact Or.inr rfl
    rcases hc with e | e
    · exact Or.inr ⟨a, Finset.mem_insert_self _ _, e⟩
    · rcases h3 with h3 | ⟨i, hi, h3⟩
      · exact Or.inl (e.trans h3)
      · exact Or.inr ⟨i, Finset.mem_insert_of_mem hi, e.trans h3⟩

/-- A small natural number's word, read signed. -/
theorem toInt_ofNat {k : Nat} (h : k < 2 ^ 31) : (BitVec.ofNat 32 k).toInt = (k : Int) := by
  rw [BitVec.toInt_eq_toNat_cond, BitVec.toNat_ofNat, Nat.mod_eq_of_lt (by omega)]
  rw [if_pos (by omega)]

/-- The least index word among those that hold the greatest is the first greatest's. -/
theorem first_of_min {z : Fin 8192 → EReal} {i : Fin 8192} (hi : IsFirst z i) :
    Finset.univ.fold IntOp.minsi 2147483647#32
        (fun j : Fin 8192 => if z j = Finset.univ.fold max ⊥ z then BitVec.ofNat 32 j.val else 8192#32)
      = BitVec.ofNat 32 i.val := by
  rw [fold_max_eq hi]
  obtain ⟨h1, h2, h3⟩ := fold_minsi_spec (fun j : Fin 8192 => if z j = z i then BitVec.ofNat 32 j.val else 8192#32) Finset.univ 2147483647#32
  have hle := h2 i (Finset.mem_univ _)
  rw [if_pos rfl, toInt_ofNat (by omega)] at hle
  rcases h3 with h3 | ⟨k, _, h3⟩
  · rw [h3] at hle
    have : (2147483647#32 : BitVec 32).toInt = 2147483647 := by decide
    omega
  · rw [h3] at hle ⊢
    by_cases hk : z k = z i
    · rw [if_pos hk] at hle ⊢
      rw [toInt_ofNat (by omega)] at hle
      have hki : ¬ k < i := fun h => absurd hk (ne_of_lt (hi.2 k h))
      have : k = i := Fin.ext (by have : ¬ k.val < i.val := hki; omega)
      rw [this]
    · rw [if_neg hk] at hle
      have : (8192#32 : BitVec 32).toInt = 8192 := by decide
      omega

/-! ## By one fold over pairs -/

/-- One step of the arg-max: the greater value with its index, the smaller index on equal values. -/
def amax (a b : EReal × BitVec 32) : EReal × BitVec 32 :=
  (max a.1 b.1, if b.1 < a.1 ∨ (a.1 = b.1 ∧ a.2.toInt < b.2.toInt) then a.2 else b.2)

/-- The fold over an ascending list of indices, started at an index before them all, ends at the first greatest. -/
theorem foldl_amax {n : Nat} (hn : n ≤ 2 ^ 31) (z : Fin n → EReal) (l : List (Fin n)) : ∀ i : Fin n, (i :: l).Pairwise (· < ·) →
    ∃ k ∈ i :: l, l.foldl (fun a j => amax a (z j, BitVec.ofNat 32 j.val)) (z i, BitVec.ofNat 32 i.val) = (z k, BitVec.ofNat 32 k.val)
      ∧ ∀ j ∈ i :: l, z j ≤ z k ∧ (j < k → z j < z k) := by
  induction l with
  | nil =>
    intro i _
    refine ⟨i, List.mem_cons_self, rfl, fun j hj => ?_⟩
    rw [List.mem_singleton] at hj; subst hj
    exact ⟨le_rfl, fun h => absurd h (lt_irrefl _)⟩
  | cons j l ih =>
    intro i hp
    have hij : i < j := (List.pairwise_cons.1 hp).1 j List.mem_cons_self
    have hjl := (List.pairwise_cons.1 hp).2
    have hil : (i :: l).Pairwise (· < ·) :=
      List.pairwise_cons.2 ⟨fun a ha => (List.pairwise_cons.1 hp).1 a (List.mem_cons_of_mem _ ha), (List.pairwise_cons.1 hjl).2⟩
    rw [List.foldl_cons]
    by_cases h : z j ≤ z i
    · have e : amax (z i, BitVec.ofNat 32 i.val) (z j, BitVec.ofNat 32 j.val) = (z i, BitVec.ofNat 32 i.val) := by
        unfold amax
        simp only
        rw [max_eq_left h, if_pos]
        rcases lt_or_eq_of_le h with h | h
        · exact Or.inl h
        · refine Or.inr ⟨h.symm, ?_⟩
          rw [toInt_ofNat (by omega), toInt_ofNat (by omega)]
          exact_mod_cast hij
      rw [e]
      obtain ⟨k, hk, hf, hall⟩ := ih i hil
      refine ⟨k, ?_, hf, fun a ha => ?_⟩
      · rcases List.mem_cons.1 hk with rfl | hk
        · exact List.mem_cons_self
        · exact List.mem_cons_of_mem _ (List.mem_cons_of_mem _ hk)
      · rcases List.mem_cons.1 ha with rfl | ha
        · exact hall _ List.mem_cons_self
        · rcases List.mem_cons.1 ha with rfl | ha
          · have hi := hall i List.mem_cons_self
            exact ⟨le_trans h hi.1, fun hk => lt_of_le_of_lt h (hi.2 (lt_trans hij hk))⟩
          · exact hall _ (List.mem_cons_of_mem _ ha)
    · have h' := not_le.1 h
      have e : amax (z i, BitVec.ofNat 32 i.val) (z j, BitVec.ofNat 32 j.val) = (z j, BitVec.ofNat 32 j.val) := by
        unfold amax
        simp only
        rw [max_eq_right (le_of_lt h'), if_neg]
        rintro (q | q)
        · exact absurd q (not_lt.2 (le_of_lt h'))
        · exact absurd q.1 (ne_of_lt h')
      rw [e]
      obtain ⟨k, hk, hf, hall⟩ := ih j hjl
      refine ⟨k, List.mem_cons_of_mem _ hk, hf, fun a ha => ?_⟩
      rcases List.mem_cons.1 ha with rfl | ha
      · have hj := hall j List.mem_cons_self
        exact ⟨le_trans (le_of_lt h') hj.1, fun _ => lt_of_lt_of_le h' hj.1⟩
      · exact hall _ ha

/-- The fold over all the indices from −∞ ends at the first greatest. -/
theorem foldl_amax_all {n : Nat} (h0 : 0 < n) (hn : n ≤ 2 ^ 31) (z : Fin n → EReal) (i : Fin n) (hi : IsFirst z i) :
    (List.finRange n).foldl (fun a j => amax a (z j, BitVec.ofNat 32 j.val)) (⊥, 0#32) = (z i, BitVec.ofNat 32 i.val) := by
  obtain ⟨n, rfl⟩ : ∃ m, n = m + 1 := ⟨n - 1, by omega⟩
  have hp := List.pairwise_lt_finRange (n + 1)
  have hmem : ∀ j : Fin (n + 1), j ∈ List.finRange (n + 1) := List.mem_finRange
  rw [List.finRange_succ] at hp hmem ⊢
  rw [List.foldl_cons]
  have e : amax (⊥, 0#32) (z 0, BitVec.ofNat 32 (0 : Fin (n + 1)).val) = (z 0, BitVec.ofNat 32 (0 : Fin (n + 1)).val) := by
    unfold amax
    simp
  rw [e]
  obtain ⟨k, _, hf, hall⟩ := foldl_amax hn z _ 0 hp
  rw [hf]
  have : IsFirst z k := ⟨fun j => (hall j (hmem j)).1, fun j => (hall j (hmem j)).2⟩
  rw [this.unique hi]

/-! ## Reals among the extended reals -/

/-- An extended real that is a real. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.zero : IsReal 0 := ⟨0, rfl⟩

theorem IsReal.sum {ι : Type} (s : Finset ι) {f : ι → EReal} (h : ∀ i, IsReal (f i)) : IsReal (∑ i ∈ s, f i) := by
  classical
  refine Finset.induction_on s ⟨0, rfl⟩ fun a s ha ih => ?_
  rw [Finset.sum_insert ha]; exact (h a).add ih

/-- A sum of reals is the reals' sum. -/
theorem coe_sum {ι : Type} (s : Finset ι) (f : ι → ℝ) : (∑ i ∈ s, ((f i : ℝ) : EReal)) = ((∑ i ∈ s, f i : ℝ) : EReal) := by
  classical
  refine Finset.induction_on s rfl fun a s ha ih => ?_
  rw [Finset.sum_insert ha, Finset.sum_insert ha, ih, EReal.coe_add]

/-- The softmax of a row, as the reference computes it. -/
def soft {n : Nat} (l : Fin n → EReal) (r : Fin n) : EReal :=
  Ideal.div (Ideal.exp (l r - max ⊥ (Finset.univ.fold max ⊥ l))) (∑ x, Ideal.exp (l x - max ⊥ (Finset.univ.fold max ⊥ l)))

/-- The logarithm of a softmax of reals is the row and a real constant. -/
theorem log_soft {n : Nat} (hn : 0 < n) (l : Fin n → EReal) (hl : ∀ j, IsReal (l j)) :
    ∃ c : ℝ, ∀ r, Ideal.log (soft l r) = l r + (c : EReal) := by
  obtain ⟨i, hi⟩ := exists_isFirst hn l
  choose f hf using hl
  obtain rfl : l = fun j => ((f j : ℝ) : EReal) := funext hf
  have hS : 0 < ∑ x, Real.exp (f x - f i) := Finset.sum_pos (fun _ _ => Real.exp_pos _) ⟨i, Finset.mem_univ _⟩
  refine ⟨-f i - Real.log (∑ x, Real.exp (f x - f i)), fun r => ?_⟩
  unfold soft
  rw [fold_max_eq hi, max_eq_right bot_le]
  simp only [← EReal.coe_sub, Ideal.exp_coe]
  rw [coe_sum, Ideal.div_coe (ne_of_gt hS), ← EReal.coe_mul, Ideal.log_coe, if_neg (not_le.2 (mul_pos (Real.exp_pos _) (one_div_pos.2 hS))),
    Real.log_mul (ne_of_gt (Real.exp_pos _)) (ne_of_gt (one_div_pos.2 hS)), Real.log_exp, one_div, Real.log_inv, ← EReal.coe_add]
  congr 1; ring

/-- One draw: the index at which noise and softmax's logarithm are greatest is the one at which noise and logits are. -/
theorem first_soft {n : Nat} (hn : 0 < n) (l g z : Fin n → EReal) (hl : ∀ j, IsReal (l j)) (i : Fin n)
    (hz : ∀ j, z j = l j + g j) (hi : IsFirst z i) : IsFirst (fun j => g j + Ideal.log (soft l j)) i := by
  obtain ⟨c, hc⟩ := log_soft hn l hl
  exact hi.shift c fun j => by rw [hc, hz, ← add_assoc, add_comm (g j)]

/-- The same with one index ruled out. -/
theorem first_soft_mask {n : Nat} (hn : 0 < n) (l g z : Fin n → EReal) (hl : ∀ j, IsReal (l j)) (i a : Fin n)
    (hz : ∀ j, z j = if j = a then ⊥ else l j + g j) (hi : IsFirst z i) :
    IsFirst (fun j => g j + Ideal.log (if j = a then 0 else soft l j)) i := by
  obtain ⟨c, hc⟩ := log_soft hn l hl
  refine hi.shift c fun j => ?_
  by_cases h : j = a
  · have : Ideal.log 0 = ⊥ := by
      rw [← EReal.coe_zero, Ideal.log_coe, if_pos le_rfl]
    rw [hz, if_pos h, if_pos h, this, EReal.add_bot, EReal.bot_add]
  · rw [hz, if_neg h, if_neg h, hc, ← add_assoc, add_comm (g j)]

end Cert.Hand
-- ==== Proof.Precondition.lean ====
module

public import proofs.«01_k».proof.Pre_logits_are_real
public import proofs.«01_k».proof.Proof.Math
public import Idealize.ShloMosaic.Lib.Pointwise
public import Idealize.ShloMosaic.Lib.IdealHost

@[expose] public section

set_option maxRecDepth 16384

noncomputable section

/-!
  The precondition over the extended reals: every number it looks at is real.
-/

namespace Cert.Hand

open Idealize.ShloMosaic

/-- The broadcasts that the precondition takes. -/
theorem preFacts : Pre_logits_are_real.Facts := by
  constructor <;> decide

/-- Above minus infinity and below plus infinity, at every element. -/
theorem isReal_of_between {S : Shape} (x : S.Idx → EReal) (lo hi : S.Idx → EReal) (hlo : ∀ i, lo i = ⊥) (hhi : ∀ i, hi i = ⊤)
    (h : (andi (cmpf (F := Ideal) (φ := .f32) .ogt x lo) (cmpf (F := Ideal) (φ := .f32) .olt x hi) : S.Idx → BitVec 1) = fun _ => 1#1) (i : S.Idx) : IsReal (x i) := by
  have e := congrFun h i
  have e' : BitVec.ofBool (decide (lo i < x i)) &&& BitVec.ofBool (decide (x i < hi i)) = 1#1 := e
  rw [hlo, hhi] at e'
  have hb : (⊥ : EReal) < x i := by
    by_contra hn
    simp [hn] at e'
  have ht : x i < ⊤ := by
    by_contra hn
    simp [hn] at e'
  exact ⟨(x i).toReal, (EReal.coe_toReal ht.ne hb.ne').symm⟩

theorem lo_apply {S : Shape} (hb : (⟨0, ![]⟩ : Shape).BroadcastsInDim S ![]) (i : S.Idx) :
    (broadcastInDim S ![] hb (constant (F := Ideal) (⟨0, ![]⟩ : Shape) .f32 0xFF800000#32) : S.Idx → EReal) i = ⊥ := by
  show Ideal.ofBits .f32 0xFF800000#32 = ⊥
  simp [Ideal.ofBits, Ideal.ieee]

theorem hi_apply {S : Shape} (hb : (⟨0, ![]⟩ : Shape).BroadcastsInDim S ![]) (i : S.Idx) :
    (broadcastInDim S ![] hb (constant (F := Ideal) (⟨0, ![]⟩ : Shape) .f32 0x7F800000#32) : S.Idx → EReal) i = ⊤ := by
  show Ideal.ofBits .f32 0x7F800000#32 = ⊤
  simp [Ideal.ofBits, Ideal.ieee]

/-- What the precondition checks of one argument. -/
theorem isReal_of_check {S : Shape} (hb : (⟨0, ![]⟩ : Shape).BroadcastsInDim S ![]) (x : S.Idx → EReal)
    (h : (andi (cmpf (F := Ideal) (φ := .f32) .ogt x (broadcastInDim S ![] hb (constant (F := Ideal) (⟨0, ![]⟩ : Shape) .f32 0xFF800000#32)))
      (cmpf (F := Ideal) (φ := .f32) .olt x (broadcastInDim S ![] hb (constant (F := Ideal) (⟨0, ![]⟩ : Shape) .f32 0x7F800000#32))) : S.Idx → BitVec 1)
        = fun _ => 1#1) (i : S.Idx) : IsReal (x i) :=
  isReal_of_between x _ _ (lo_apply hb) (hi_apply hb) h i

end Cert.Hand
end
-- ==== Proof.Gumbel.lean ====
module

public import proofs.«01_k».proof.Proof.ReferenceIdeal.Lines
public import proofs.«01_k».proof.Proof.Gen.KernelIdeal.Launch

@[expose] public section

set_option maxRecDepth 16384

noncomputable section

/-!
  The random numbers: the kernel's host lines and the reference's split the same key and draw from it by the same operations.
-/

namespace Cert.Hand

open Idealize.ShloMosaic Idealize.ShloMosaic.TcCoe Idealize.ShloMosaic.StableHlo

variable {F : FTy → Type} [FloatOps F]

set_option maxHeartbeats 0 in
/-- The two programs split a key alike. -/
theorem split_sim : Sim (Val := Elt F) 24 24
    [⟨⟨KernelIdeal.S2, .i32⟩, .of KernelIdeal.main_v6, .of ReferenceIdeal.main_v6⟩]
    (KernelIdeal.Gen.hostOps0_1 (F := F)) (ReferenceIdeal.Hand.splitSeq (F := F) (.of ReferenceIdeal.main_v6) ReferenceIdeal.main_call0).1
    [⟨⟨KernelIdeal.S3x2, .i32⟩, .of KernelIdeal.main_v7, .of ReferenceIdeal.main_v7⟩] := by
  unfold ReferenceIdeal.Hand.splitSeq
  dsimp only
  repeat (first
    | refine Sim.unary _ _ _ _ _ (by first | exact .head _ | (repeat (first | exact .head _ | apply List.Mem.tail))) (by decide) (by decide) ?_
    | refine Sim.binary _ _ _ _ _ _ _ (by repeat (first | exact .head _ | apply List.Mem.tail)) (by repeat (first | exact .head _ | apply List.Mem.tail)) (by decide) (by decide) ?_
    | refine Sim.nullary _ _ _ (by decide) (by decide) ?_
    | refine Sim.reshape _ _ _ _ _ _ (by repeat (first | exact .head _ | apply List.Mem.tail)) (by decide) (by decide) ?_)
  exact .nil (by intro x hx; rw [List.mem_singleton] at hx; subst hx; exact .head _)

set_option maxHeartbeats 0 in
/-- The two programs make the first draw alike. -/
theorem gumbel1_sim : Sim (Val := Elt F) 268 295
    [⟨⟨KernelIdeal.S2, .i32⟩, .of KernelIdeal.main_v9, .of ReferenceIdeal.main_v9⟩]
    (KernelIdeal.Gen.hostOps0_3 (F := F)) (ReferenceIdeal.Hand.gumbelSeq (F := F) (.of ReferenceIdeal.main_v9) ReferenceIdeal.main_call2).1
    [⟨⟨KernelIdeal.S1x8192, .f32⟩, .of KernelIdeal.main_v14, .of ReferenceIdeal.main_v36⟩] := by
  unfold ReferenceIdeal.Hand.gumbelSeq
  dsimp only
  repeat (first
    | refine Sim.unary _ _ _ _ _ (by first | exact .head _ | (repeat (first | exact .head _ | apply List.Mem.tail))) (by decide) (by decide) ?_
    | refine Sim.binary _ _ _ _ _ _ _ (by repeat (first | exact .head _ | apply List.Mem.tail)) (by repeat (first | exact .head _ | apply List.Mem.tail)) (by decide) (by decide) ?_
    | refine Sim.nullary _ _ _ (by decide) (by decide) ?_
    | refine Sim.reshape _ _ _ _ _ _ (by repeat (first | exact .head _ | apply List.Mem.tail)) (by decide) (by decide) ?_)
  exact .nil (by intro x hx; rw [List.mem_singleton] at hx; subst hx; exact .head _)

set_option maxHeartbeats 0 in
/-- The two programs make the second draw alike. -/
theorem gumbel2_sim : Sim (Val := Elt F) 535 631
    [⟨⟨KernelIdeal.S2, .i32⟩, .of KernelIdeal.main_v11, .of ReferenceIdeal.main_v11⟩]
    (KernelIdeal.Gen.hostOps0_4 (F := F)) (ReferenceIdeal.Hand.gumbelSeq (F := F) (.of ReferenceIdeal.main_v11) ReferenceIdeal.main_call5).1
    [⟨⟨KernelIdeal.S1x8192, .f32⟩, .of KernelIdeal.main_v15, .of ReferenceIdeal.main_v89⟩] := by
  unfold ReferenceIdeal.Hand.gumbelSeq
  dsimp only
  repeat (first
    | refine Sim.unary _ _ _ _ _ (by first | exact .head _ | (repeat (first | exact .head _ | apply List.Mem.tail))) (by decide) (by decide) ?_
    | refine Sim.binary _ _ _ _ _ _ _ (by repeat (first | exact .head _ | apply List.Mem.tail)) (by repeat (first | exact .head _ | apply List.Mem.tail)) (by decide) (by decide) ?_
    | refine Sim.nullary _ _ _ (by decide) (by decide) ?_
    | refine Sim.reshape _ _ _ _ _ _ (by repeat (first | exact .head _ | apply List.Mem.tail)) (by decide) (by decide) ?_)
  exact .nil (by intro x hx; rw [List.mem_singleton] at hx; subst hx; exact .head _)

set_option maxHeartbeats 0 in
/-- The two programs make the third draw alike. -/
theorem gumbel3_sim : Sim (Val := Elt F) 802 942
    [⟨⟨KernelIdeal.S2, .i32⟩, .of KernelIdeal.main_v13, .of ReferenceIdeal.main_v13⟩]
    (KernelIdeal.Gen.hostOps0_5 (F := F)) (ReferenceIdeal.Hand.gumbelTSeq (F := F) (.of ReferenceIdeal.main_v13) ReferenceIdeal.main_call8).1
    [⟨⟨KernelIdeal.S1x2, .f32⟩, .of KernelIdeal.main_v16, .of ReferenceIdeal.main_v120⟩] := by
  unfold ReferenceIdeal.Hand.gumbelTSeq
  dsimp only
  repeat (first
    | refine Sim.unary _ _ _ _ _ (by first | exact .head _ | (repeat (first | exact .head _ | apply List.Mem.tail))) (by decide) (by decide) ?_
    | refine Sim.binary _ _ _ _ _ _ _ (by repeat (first | exact .head _ | apply List.Mem.tail)) (by repeat (first | exact .head _ | apply List.Mem.tail)) (by decide) (by decide) ?_
    | refine Sim.nullary _ _ _ (by decide) (by decide) ?_
    | refine Sim.reshape _ _ _ _ _ _ (by repeat (first | exact .head _ | apply List.Mem.tail)) (by decide) (by decide) ?_)
  exact .nil (by intro x hx; rw [List.mem_singleton] at hx; subst hx; exact .head _)

end Cert.Hand
end
-- ==== Proof.KernelIdeal.Stages.lean ====
module

public import proofs.«01_k».proof.Proof.Sim
public import proofs.«01_k».proof.Proof.Gumbel
public import proofs.«01_k».proof.Proof.KernelIdeal.Run

@[expose] public section

set_option maxRecDepth 16384

noncomputable section

/-!
  The kernel's host lines one after another, and what they leave alone.
-/

namespace Cert.KernelIdeal.Hand

open Idealize.ShloMosaic Idealize.ShloMosaic.TcCoe Idealize.ShloMosaic.StableHlo
open Cert.Hand Cert.KernelIdeal.Gen

variable {F : FTy → Type} [FloatOps F]

theorem hostOps0_writes : WritesFrom 14 (hostOps0 (F := F)) := by
  repeat refine .cons _ rfl (by decide) ?_
  exact .nil

theorem hostOps0_2_writes : WritesFrom 262 (hostOps0_2 (F := F)) := by
  repeat refine .cons _ rfl (by decide) ?_
  exact .nil

theorem hostOps0_6_writes : WritesFrom 1069 (hostOps0_6 (F := F)) := by
  repeat refine .cons _ rfl (by decide) ?_
  exact .nil

variable (L : Valuation τ sig (Elt F))

/-- After the key is made. -/
def afterKey : Valuation τ sig (Elt F) := after hostOps0 L
/-- After the key is split. -/
def afterSplit : Valuation τ sig (Elt F) := after hostOps0_1 (afterKey L)
/-- After the three keys are cut out. -/
def afterKeys : Valuation τ sig (Elt F) := after hostOps0_2 (afterSplit L)
/-- After the first draw. -/
def afterDraw1 : Valuation τ sig (Elt F) := after hostOps0_3 (afterKeys L)
/-- After the second draw. -/
def afterDraw2 : Valuation τ sig (Elt F) := after hostOps0_4 (afterDraw1 L)
/-- After the third draw. -/
def afterDraw3 : Valuation τ sig (Elt F) := after hostOps0_5 (afterDraw2 L)

theorem V0_eq (m : (ℓ : Loc nD τ sig) → Buf (Elt F) ℓ) (c : Dev nD) : V0 m c = after hostOps0_6 (afterDraw3 fun b => m (c, b)) := by
  unfold V0 afterDraw3 afterDraw2 afterDraw1 afterKeys afterSplit afterKey
  simp only [List.flatten_cons, List.flatten_nil, List.append_nil, after_cat]

/-- The arguments come through the draws as they were. -/
theorem afterDraw3_keep {r : Ref sig .tc} (hr : r.idx.val < 14) : afterDraw3 L (r : DevRef τ sig) = L (r : DevRef τ sig) :=
  (gumbel3_sim.left.keep _ (by omega)).trans <| (gumbel2_sim.left.keep _ (by omega)).trans <| (gumbel1_sim.left.keep _ (by omega)).trans <|
    (hostOps0_2_writes.keep _ (by omega)).trans <| (split_sim.left.keep _ (by omega)).trans (hostOps0_writes.keep _ hr)

end Cert.KernelIdeal.Hand
end
-- ==== Proof.KernelIdeal.Layout.lean ====
module

public import proofs.«01_k».proof.Proof.KernelIdeal.Run
public import proofs.«01_k».proof.Proof.Sim
public import Idealize.ShloMosaic.Lib.Pointwise
public import Idealize.ShloMosaic.Lib.Pipeline.ValueKit
public import Idealize.ShloMosaic.Lib.ValueIdx
public import Idealize.ShloMosaic.Lib.IdealHost

@[expose] public section

set_option maxRecDepth 16384

noncomputable section

/-!
  What the kernel's host lines hand to the region: the arguments, laid out.
-/

namespace Cert.KernelIdeal.Hand

open Idealize.ShloMosaic Idealize.ShloMosaic.TcCoe Idealize.ShloMosaic.StableHlo
open Cert.Hand Cert.KernelIdeal.Gen

section Lines

variable (V : Valuation τ sig (Elt Ideal))

theorem v17_apply (x : S1x8192x768.Idx → EReal) (hx : V (main_arg0 : DevRef τ sig) = x) (r : Fin 8192) (f : Fin 768) :
    (after hostOps0_6 V (main_v17 : DevRef τ sig) : S8192x768.Idx → EReal) (ix2 r f) = x (ix3 0 r f) := by
  subst hx
  after_results_simp
  pointwise

theorem v21_apply (x : S768x1.Idx → EReal) (hx : V (main_arg3 : DevRef τ sig) = x) (k : Fin 768) :
    (after hostOps0_6 V (main_v21 : DevRef τ sig) : S1x768.Idx → EReal) (ix2 0 k) = x (ix2 k 0) := by
  subst hx
  after_results_simp
  pointwise

theorem v22_apply (x : S1.Idx → EReal) (hx : V (main_arg4 : DevRef τ sig) = x) :
    (after hostOps0_6 V (main_v22 : DevRef τ sig) : S1x1.Idx → EReal) (ix2 0 0) = x (ix1 0) := by
  subst hx
  after_results_simp
  pointwise

theorem v25_apply (x : S769x768.Idx → EReal) (hx : V (main_arg5 : DevRef τ sig) = x) (k : Fin 768) :
    (after hostOps0_6 V (main_v25 : DevRef τ sig) : S1x768.Idx → EReal) (ix2 0 k) = x (ix2 0 k) := by
  subst hx
  after_results_simp
  pointwise

theorem v26_apply (x : S768x1.Idx → EReal) (hx : V (main_arg7 : DevRef τ sig) = x) (k : Fin 768) :
    (after hostOps0_6 V (main_v26 : DevRef τ sig) : S1x768.Idx → EReal) (ix2 0 k) = x (ix2 k 0) := by
  subst hx
  after_results_simp
  pointwise

theorem v27_apply (x : S1.Idx → EReal) (hx : V (main_arg8 : DevRef τ sig) = x) :
    (after hostOps0_6 V (main_v27 : DevRef τ sig) : S1x1.Idx → EReal) (ix2 0 0) = x (ix1 0) := by
  subst hx
  after_results_simp
  pointwise

theorem v28_apply (x : S2.Idx → EReal) (hx : V (main_arg11 : DevRef τ sig) = x) (k : Fin 2) :
    (after hostOps0_6 V (main_v28 : DevRef τ sig) : S1x2.Idx → EReal) (ix2 0 k) = x (ix1 k) := by
  subst hx
  after_results_simp
  pointwise

theorem v30_apply (x : S769x768.Idx → EReal) (hx : V (main_arg5 : DevRef τ sig) = x) (f k : Fin 768) :
    (after hostOps0_6 V (main_v30 : DevRef τ sig) : S768x768.Idx → EReal) (ix2 f k) = x (ix2 ⟨1 + f.val, by omega⟩ k) := by
  subst hx
  after_results_simp
  pointwise

/-- The biases side by side. -/
theorem v20_apply (b1 b2 : S768.Idx → EReal) (b4 : S64.Idx → EReal) (h1 : V (main_arg2 : DevRef τ sig) = b1)
    (h2 : V (main_arg6 : DevRef τ sig) = b2) (h4 : V (main_arg13 : DevRef τ sig) = b4) (k : Fin 2368) :
    (after hostOps0_6 V (main_v20 : DevRef τ sig) : S1x2368.Idx → EReal) (ix2 0 k)
      = if h : k.val < 768 then b1 (ix1 ⟨k.val, h⟩) else if h : k.val < 1536 then b2 (ix1 ⟨k.val - 768, by omega⟩)
        else if h : k.val < 2304 then 0 else b4 (ix1 ⟨k.val - 2304, by omega⟩) := by
  have e1 : (after (hostOps0_6.take 3) V (main_v18 : DevRef τ sig) : S768.Idx → EReal) = fun _ => (0 : EReal) := by
    simp only [List.take]
    after_results_simp
    funext y
    pointwise
  have e2 : after (hostOps0_6.take 3) V (main_arg2 : DevRef τ sig) = b1 := by
    simp only [List.take]; after_results_simp; exact h1
  have e3 : after (hostOps0_6.take 3) V (main_arg6 : DevRef τ sig) = b2 := by
    simp only [List.take]; after_results_simp; exact h2
  have e4 : after (hostOps0_6.take 3) V (main_arg13 : DevRef τ sig) = b4 := by
    simp only [List.take]; after_results_simp; exact h4
  rw [show (hostOps0_6 (F := Ideal)) = hostOps0_6.take 3 ++ hostOps0_6.drop 3 from (List.take_append_drop 3 _).symm, after_cat]
  generalize after (hostOps0_6.take 3) V = V' at *
  simp only [List.drop]
  after_results_simp
  pointwise
  subst e2 e3 e4
  simp only [Nat.sub_sub, Nat.reduceAdd]
  by_cases a : k.val < 768
  · rw [dif_pos a, dif_pos a]
  rw [dif_neg a, dif_neg a]
  by_cases b : k.val < 1536
  · rw [dif_pos (by omega), dif_pos b]
  rw [dif_neg (by omega), dif_neg b]
  by_cases d : k.val < 2304
  · rw [dif_pos (by omega), dif_pos d]
    exact congrFun e1 _
  rw [dif_neg (by omega), dif_neg d]

end Lines

/-! ## The windows' blocks -/

end Cert.KernelIdeal.Hand
-- ==== Proof.KernelIdeal.Windows.lean ====
module

public import proofs.«01_k».proof.Proof.KernelIdeal.Run
public import proofs.«01_k».proof.Proof.Sim
public import Idealize.ShloMosaic.Lib.Pointwise
public import Idealize.ShloMosaic.Lib.Pipeline.ValueKit
public import Idealize.ShloMosaic.Lib.ValueIdx
public import Idealize.ShloMosaic.Lib.IdealHost

@[expose] public section

set_option maxRecDepth 16384

noncomputable section

/-!
  What the region's windows hand to its body: the blocks of the host's arrays.
-/

namespace Cert.KernelIdeal.Hand

open Idealize.ShloMosaic Idealize.ShloMosaic.TcCoe Idealize.ShloMosaic.StableHlo
open Cert.Hand Cert.KernelIdeal.Gen

variable (m : (ℓ : Loc nD τ sig) → Buf (Elt Ideal) ℓ) (c : Dev nD)

theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, win0_7.index t = ![0, 0] := by decide +kernel
theorem index_8 : ∀ t : Fin cfg0.N, win0_8.index t = ![0, 0] := by decide +kernel
theorem index_9 : ∀ t : Fin cfg0.N, win0_9.index t = ![0, 0] := by decide +kernel
theorem index_10 : ∀ t : Fin cfg0.N, win0_10.index t = ![0, 0] := by decide +kernel
theorem index_11 : ∀ t : Fin cfg0.N, win0_11.index t = ![0, 0] := by decide +kernel
theorem index_12 : ∀ t : Fin cfg0.N, win0_12.index t = ![0, 0] := by decide +kernel
theorem index_13 : ∀ t : Fin cfg0.N, win0_13.index t = ![0, 0] := by decide +kernel
theorem index_14 : ∀ t : Fin cfg0.N, win0_14.index t = ![0, 0] := by decide +kernel
theorem index_15 : ∀ t : Fin cfg0.N, win0_15.index t = ![0, 0] := by decide +kernel

theorem index_x : ∀ j : Fin 8, win0_0.index ⟨j.val, lt_trans j.isLt (by decide)⟩ = ![j.val, 0] := by
  decide +kernel

/-- A row of the features in its block. -/
theorem ins_x (j : Fin 8) (r : Fin 1024) (f : Fin 768) :
    ((insOf m c).x j : S1024x768.Idx → EReal) (ix2 r f)
      = (V m c main_v17 : S8192x768.Idx → EReal) (ix2 ⟨j.val * 1024 + r.val, by omega⟩ f) := by
  dsimp only [insOf, V, iblk]
  generalize V0 m c = U
  show U main_v17 _ = U main_v17 _
  congr 1
  blk_ext [index_x j]

/-! Every other window is a whole buffer. -/

theorem emb_1 (t : Fin cfg0.N) (y : S768x768.Idx) : (win0_1.blk t).view.emb y = y := by
  have h0 : win0_1.index t 0 = 0 := congrFun (index_1 t) 0
  have h1 : win0_1.index t 1 = 0 := congrFun (index_1 t) 1
  funext a
  fin_cases a
  · refine Fin.ext (show ((win0_1.blk t).view.emb y 0).val = (y 0).val from ?_)
    blk_simp
    first | exact h0 | (rw [h0]; omega)
  · refine Fin.ext (show ((win0_1.blk t).view.emb y 1).val = (y 1).val from ?_)
    blk_simp
    first | exact h1 | (rw [h1]; omega)

theorem ins_w1 : ((insOf m c).w1 : S768x768.Idx → EReal) = V0 m c (main_arg1 : DevRef τ sig) := by
  funext y
  dsimp only [insOf, V, iblk]
  generalize V0 m c = U
  generalize (⟨0, by decide⟩ : Fin cfg0.N) = t
  rw [View.read_apply]
  refine (cast_eq _ _).trans ?_
  erw [emb_1 t y]

theorem emb_2 (t : Fin cfg0.N) (y : S768x768.Idx) : (win0_2.blk t).view.emb y = y := by
  have h0 : win0_2.index t 0 = 0 := congrFun (index_2 t) 0
  have h1 : win0_2.index t 1 = 0 := congrFun (index_2 t) 1
  funext a
  fin_cases a
  · refine Fin.ext (show ((win0_2.blk t).view.emb y 0).val = (y 0).val from ?_)
    blk_simp
    first | exact h0 | (rw [h0]; omega)
  · refine Fin.ext (show ((win0_2.blk t).view.emb y 1).val = (y 1).val from ?_)
    blk_simp
    first | exact h1 | (rw [h1]; omega)

theorem ins_w2 : ((insOf m c).w2 : S768x768.Idx → EReal) = V0 m c (main_v30 : DevRef τ sig) := by
  funext y
  dsimp only [insOf, V, iblk]
  generalize V0 m c = U
  generalize (⟨0, by decide⟩ : Fin cfg0.N) = t
  rw [View.read_apply]
  refine (cast_eq _ _).trans ?_
  erw [emb_2 t y]

theorem emb_3 (t : Fin cfg0.N) (y : S768x768.Idx) : (win0_3.blk t).view.emb y = y := by
  have h0 : win0_3.index t 0 = 0 := congrFun (index_3 t) 0
  have h1 : win0_3.index t 1 = 0 := congrFun (index_3 t) 1
  funext a
  fin_cases a
  · refine Fin.ext (show ((win0_3.blk t).view.emb y 0).val = (y 0).val from ?_)
    blk_simp
    first | exact h0 | (rw [h0]; omega)
  · refine Fin.ext (show ((win0_3.blk t).view.emb y 1).val = (y 1).val from ?_)
    blk_simp
    first | exact h1 | (rw [h1]; omega)

theorem ins_w3 : ((insOf m c).w3 : S768x768.Idx → EReal) = V0 m c (main_arg9 : DevRef τ sig) := by
  funext y
  dsimp only [insOf, V, iblk]
  generalize V0 m c = U
  generalize (⟨0, by decide⟩ : Fin cfg0.N) = t
  rw [View.read_apply]
  refine (cast_eq _ _).trans ?_
  erw [emb_3 t y]

theorem emb_4 (t : Fin cfg0.N) (y : S768x64.Idx) : (win0_4.blk t).view.emb y = y := by
  have h0 : win0_4.index t 0 = 0 := congrFun (index_4 t) 0
  have h1 : win0_4.index t 1 = 0 := congrFun (index_4 t) 1
  funext a
  fin_cases a
  · refine Fin.ext (show ((win0_4.blk t).view.emb y 0).val = (y 0).val from ?_)
    blk_simp
    first | exact h0 | (rw [h0]; omega)
  · refine Fin.ext (show ((win0_4.blk t).view.emb y 1).val = (y 1).val from ?_)
    blk_simp
    first | exact h1 | (rw [h1]; omega)

theorem ins_w4 : ((insOf m c).w4 : S768x64.Idx → EReal) = V0 m c (main_arg12 : DevRef τ sig) := by
  funext y
  dsimp only [insOf, V, iblk]
  generalize V0 m c = U
  generalize (⟨0, by decide⟩ : Fin cfg0.N) = t
  rw [View.read_apply]
  refine (cast_eq _ _).trans ?_
  erw [emb_4 t y]

theorem emb_5 (t : Fin cfg0.N) (y : S1x2368.Idx) : (win0_5.blk t).view.emb y = y := by
  have h0 : win0_5.index t 0 = 0 := congrFun (index_5 t) 0
  have h1 : win0_5.index t 1 = 0 := congrFun (index_5 t) 1
  funext a
  fin_cases a
  · refine Fin.ext (show ((win0_5.blk t).view.emb y 0).val = (y 0).val from ?_)
    blk_simp
    first | exact h0 | (rw [h0]; omega)
  · refine Fin.ext (show ((win0_5.blk t).view.emb y 1).val = (y 1).val from ?_)
    blk_simp
    first | exact h1 | (rw [h1]; omega)

theorem ins_b : ((insOf m c).b : S1x2368.Idx → EReal) = V0 m c (main_v20 : DevRef τ sig) := by
  funext y
  dsimp only [insOf, V, iblk]
  generalize V0 m c = U
  generalize (⟨0, by decide⟩ : Fin cfg0.N) = t
  rw [View.read_apply]
  refine (cast_eq _ _).trans ?_
  erw [emb_5 t y]

theorem emb_6 (t : Fin cfg0.N) (y : S1x768.Idx) : (win0_6.blk t).view.emb y = y := by
  have h0 : win0_6.index t 0 = 0 := congrFun (index_6 t) 0
  have h1 : win0_6.index t 1 = 0 := congrFun (index_6 t) 1
  funext a
  fin_cases a
  · refine Fin.ext (show ((win0_6.blk t).view.emb y 0).val = (y 0).val from ?_)
    blk_simp
    first | exact h0 | (rw [h0]; omega)
  · refine Fin.ext (show ((win0_6.blk t).view.emb y 1).val = (y 1).val from ?_)
    blk_simp
    first | exact h1 | (rw [h1]; omega)

theorem ins_f2 : ((insOf m c).f2 : S1x768.Idx → EReal) = V0 m c (main_v21 : DevRef τ sig) := by
  funext y
  dsimp only [insOf, V, iblk]
  generalize V0 m c = U
  generalize (⟨0, by decide⟩ : Fin cfg0.N) = t
  rw [View.read_apply]
  refine (cast_eq _ _).trans ?_
  erw [emb_6 t y]

theorem emb_7 (t : Fin cfg0.N) (y : S1x1.Idx) : (win0_7.blk t).view.emb y = y := by
  have h0 : win0_7.index t 0 = 0 := congrFun (index_7 t) 0
  have h1 : win0_7.index t 1 = 0 := congrFun (index_7 t) 1
  funext a
  fin_cases a
  · refine Fin.ext (show ((win0_7.blk t).view.emb y 0).val = (y 0).val from ?_)
    blk_simp
    first | exact h0 | (rw [h0]; omega)
  · refine Fin.ext (show ((win0_7.blk t).view.emb y 1).val = (y 1).val from ?_)
    blk_simp
    first | exact h1 | (rw [h1]; omega)

theorem ins_fb : ((insOf m c).fb : S1x1.Idx → EReal) = V0 m c (main_v22 : DevRef τ sig) := by
  funext y
  dsimp only [insOf, V, iblk]
  generalize V0 m c = U
  generalize (⟨0, by decide⟩ : Fin cfg0.N) = t
  rw [View.read_apply]
  refine (cast_eq _ _).trans ?_
  erw [emb_7 t y]

theorem emb_8 (t : Fin cfg0.N) (y : S1x768.Idx) : (win0_8.blk t).view.emb y = y := by
  have h0 : win0_8.index t 0 = 0 := congrFun (index_8 t) 0
  have h1 : win0_8.index t 1 = 0 := congrFun (index_8 t) 1
  funext a
  fin_cases a
  · refine Fin.ext (show ((win0_8.blk t).view.emb y 0).val = (y 0).val from ?_)
    blk_simp
    first | exact h0 | (rw [h0]; omega)
  · refine Fin.ext (show ((win0_8.blk t).view.emb y 1).val = (y 1).val from ?_)
    blk_simp
    first | exact h1 | (rw [h1]; omega)

theorem ins_r0 : ((insOf m c).r0 : S1x768.Idx → EReal) = V0 m c (main_v25 : DevRef τ sig) := by
  funext y
  dsimp only [insOf, V, iblk]
  generalize V0 m c = U
  generalize (⟨0, by decide⟩ : Fin cfg0.N) = t
  rw [View.read_apply]
  refine (cast_eq _ _).trans ?_
  erw [emb_8 t y]

theorem emb_9 (t : Fin cfg0.N) (y : S1x768.Idx) : (win0_9.blk t).view.emb y = y := by
  have h0 : win0_9.index t 0 = 0 := congrFun (index_9 t) 0
  have h1 : win0_9.index t 1 = 0 := congrFun (index_9 t) 1
  funext a
  fin_cases a
  · refine Fin.ext (show ((win0_9.blk t).view.emb y 0).val = (y 0).val from ?_)
    blk_simp
    first | exact h0 | (rw [h0]; omega)
  · refine Fin.ext (show ((win0_9.blk t).view.emb y 1).val = (y 1).val from ?_)
    blk_simp
    first | exact h1 | (rw [h1]; omega)

theorem ins_s2 : ((insOf m c).s2 : S1x768.Idx → EReal) = V0 m c (main_v26 : DevRef τ sig) := by
  funext y
  dsimp only [insOf, V, iblk]
  generalize V0 m c = U
  generalize (⟨0, by decide⟩ : Fin cfg0.N) = t
  rw [View.read_apply]
  refine (cast_eq _ _).trans ?_
  erw [emb_9 t y]

theorem emb_10 (t : Fin cfg0.N) (y : S1x1.Idx) : (win0_10.blk t).view.emb y = y := by
  have h0 : win0_10.index t 0 = 0 := congrFun (index_10 t) 0
  have h1 : win0_10.index t 1 = 0 := congrFun (index_10 t) 1
  funext a
  fin_cases a
  · refine Fin.ext (show ((win0_10.blk t).view.emb y 0).val = (y 0).val from ?_)
    blk_simp
    first | exact h0 | (rw [h0]; omega)
  · refine Fin.ext (show ((win0_10.blk t).view.emb y 1).val = (y 1).val from ?_)
    blk_simp
    first | exact h1 | (rw [h1]; omega)

theorem ins_sb : ((insOf m c).sb : S1x1.Idx → EReal) = V0 m c (main_v27 : DevRef τ sig) := by
  funext y
  dsimp only [insOf, V, iblk]
  generalize V0 m c = U
  generalize (⟨0, by decide⟩ : Fin cfg0.N) = t
  rw [View.read_apply]
  refine (cast_eq _ _).trans ?_
  erw [emb_10 t y]

theorem emb_11 (t : Fin cfg0.N) (y : S768x2.Idx) : (win0_11.blk t).view.emb y = y := by
  have h0 : win0_11.index t 0 = 0 := congrFun (index_11 t) 0
  have h1 : win0_11.index t 1 = 0 := congrFun (index_11 t) 1
  funext a
  fin_cases a
  · refine Fin.ext (show ((win0_11.blk t).view.emb y 0).val = (y 0).val from ?_)
    blk_simp
    first | exact h0 | (rw [h0]; omega)
  · refine Fin.ext (show ((win0_11.blk t).view.emb y 1).val = (y 1).val from ?_)
    blk_simp
    first | exact h1 | (rw [h1]; omega)

theorem ins_t2 : ((insOf m c).t2 : S768x2.Idx → EReal) = V0 m c (main_arg10 : DevRef τ sig) := by
  funext y
  dsimp only [insOf, V, iblk]
  generalize V0 m c = U
  generalize (⟨0, by decide⟩ : Fin cfg0.N) = t
  rw [View.read_apply]
  refine (cast_eq _ _).trans ?_
  erw [emb_11 t y]

theorem emb_12 (t : Fin cfg0.N) (y : S1x2.Idx) : (win0_12.blk t).view.emb y = y := by
  have h0 : win0_12.index t 0 = 0 := congrFun (index_12 t) 0
  have h1 : win0_12.index t 1 = 0 := congrFun (index_12 t) 1
  funext a
  fin_cases a
  · refine Fin.ext (show ((win0_12.blk t).view.emb y 0).val = (y 0).val from ?_)
    blk_simp
    first | exact h0 | (rw [h0]; omega)
  · refine Fin.ext (show ((win0_12.blk t).view.emb y 1).val = (y 1).val from ?_)
    blk_simp
    first | exact h1 | (rw [h1]; omega)

theorem ins_tb : ((insOf m c).tb : S1x2.Idx → EReal) = V0 m c (main_v28 : DevRef τ sig) := by
  funext y
  dsimp only [insOf, V, iblk]
  generalize V0 m c = U
  generalize (⟨0, by decide⟩ : Fin cfg0.N) = t
  rw [View.read_apply]
  refine (cast_eq _ _).trans ?_
  erw [emb_12 t y]

theorem emb_13 (t : Fin cfg0.N) (y : S1x8192.Idx) : (win0_13.blk t).view.emb y = y := by
  have h0 : win0_13.index t 0 = 0 := congrFun (index_13 t) 0
  have h1 : win0_13.index t 1 = 0 := congrFun (index_13 t) 1
  funext a
  fin_cases a
  · refine Fin.ext (show ((win0_13.blk t).view.emb y 0).val = (y 0).val from ?_)
    blk_simp
    first | exact h0 | (rw [h0]; omega)
  · refine Fin.ext (show ((win0_13.blk t).view.emb y 1).val = (y 1).val from ?_)
    blk_simp
    first | exact h1 | (rw [h1]; omega)

theorem ins_g1 : ((insOf m c).g1 : S1x8192.Idx → EReal) = V0 m c (main_v14 : DevRef τ sig) := by
  funext y
  dsimp only [insOf, V, iblk]
  generalize V0 m c = U
  generalize (⟨0, by decide⟩ : Fin cfg0.N) = t
  rw [View.read_apply]
  refine (cast_eq _ _).trans ?_
  erw [emb_13 t y]

theorem emb_14 (t : Fin cfg0.N) (y : S1x8192.Idx) : (win0_14.blk t).view.emb y = y := by
  have h0 : win0_14.index t 0 = 0 := congrFun (index_14 t) 0
  have h1 : win0_14.index t 1 = 0 := congrFun (index_14 t) 1
  funext a
  fin_cases a
  · refine Fin.ext (show ((win0_14.blk t).view.emb y 0).val = (y 0).val from ?_)
    blk_simp
    first | exact h0 | (rw [h0]; omega)
  · refine Fin.ext (show ((win0_14.blk t).view.emb y 1).val = (y 1).val from ?_)
    blk_simp
    first | exact h1 | (rw [h1]; omega)

theorem ins_g2 : ((insOf m c).g2 : S1x8192.Idx → EReal) = V0 m c (main_v15 : DevRef τ sig) := by
  funext y
  dsimp only [insOf, V, iblk]
  generalize V0 m c = U
  generalize (⟨0, by decide⟩ : Fin cfg0.N) = t
  rw [View.read_apply]
  refine (cast_eq _ _).trans ?_
  erw [emb_14 t y]

theorem emb_15 (t : Fin cfg0.N) (y : S1x2.Idx) : (win0_15.blk t).view.emb y = y := by
  have h0 : win0_15.index t 0 = 0 := congrFun (index_15 t) 0
  have h1 : win0_15.index t 1 = 0 := congrFun (index_15 t) 1
  funext a
  fin_cases a
  · refine Fin.ext (show ((win0_15.blk t).view.emb y 0).val = (y 0).val from ?_)
    blk_simp
    first | exact h0 | (rw [h0]; omega)
  · refine Fin.ext (show ((win0_15.blk t).view.emb y 1).val = (y 1).val from ?_)
    blk_simp
    first | exact h1 | (rw [h1]; omega)

theorem ins_g3 : ((insOf m c).g3 : S1x2.Idx → EReal) = V0 m c (main_v16 : DevRef τ sig) := by
  funext y
  dsimp only [insOf, V, iblk]
  generalize V0 m c = U
  generalize (⟨0, by decide⟩ : Fin cfg0.N) = t
  rw [View.read_apply]
  refine (cast_eq _ _).trans ?_
  erw [emb_15 t y]

end Cert.KernelIdeal.Hand
-- ==== Proof.KernelIdeal.Heads.lean ====
module

public import proofs.«01_k».proof.Proof.KernelIdeal.Values
public import proofs.«01_k».proof.Proof.Math
public import Idealize.ShloMosaic.Lib.Pointwise
public import Idealize.ShloMosaic.Lib.ValueIdx

@[expose] public section

set_option maxRecDepth 16384

noncomputable section

/-!
  What the kernel's values are at an element, over the extended reals.
-/

namespace Cert.KernelIdeal.Hand

open Idealize.ShloMosaic Idealize.ShloMosaic.TcCoe
open Cert.Hand Cert.KernelIdeal.Gen

variable (I : Ins Ideal)

/-- The four layers side by side, before their ramps. -/
theorem lin_apply (x : S1024x768.Idx → EReal) (w : S768x2368.Idx → EReal) (b : S1x2368.Idx → EReal) (r : Fin 1024) (k : Fin 2368) :
    (k0_pay10 (F := Ideal) x w b : S1024x2368.Idx → EReal) (ix2 r k) = (∑ f : Fin 768, x (ix2 r f) * w (ix2 f k)) + b (ix2 0 k) := by
  unfold k0_pay10
  pointwise

theorem crit_apply (y : S1024x2368.Idx → EReal) (r : Fin 1024) (k : Fin 64) :
    (k0_pay6 (F := Ideal) y : S1024x64.Idx → EReal) (ix2 r k) = max (y (ix2 r ⟨2304 + k.val, by omega⟩)) 0 := by
  unfold k0_pay6
  pointwise

theorem lg1b_apply (x : S1024x768.Idx → EReal) (w : S768x2368.Idx → EReal) (b : S1x2368.Idx → EReal) (f2 : S1x768.Idx → EReal) (r : Fin 1024) :
    (k0_pay11 (F := Ideal) x w b f2 : S1x1024.Idx → EReal) (ix2 0 r)
      = ∑ k : Fin 768, f2 (ix2 0 k) * max ((k0_pay10 (F := Ideal) x w b : S1024x2368.Idx → EReal) (ix2 r ⟨k.val, by omega⟩)) 0 := by
  unfold k0_pay11
  generalize k0_pay10 (F := Ideal) x w b = y
  pointwise

theorem baseb_apply (x : S1024x768.Idx → EReal) (w : S768x2368.Idx → EReal) (b : S1x2368.Idx → EReal) (r : Fin 1024) (k : Fin 768) :
    (k0_pay12 (F := Ideal) x w b : S1x1024x768.Idx → EReal) (ix3 0 r k)
      = (k0_pay10 (F := Ideal) x w b : S1024x2368.Idx → EReal) (ix2 r ⟨768 + k.val, by omega⟩) := by
  unfold k0_pay12
  generalize k0_pay10 (F := Ideal) x w b = y
  pointwise

theorem pool_apply (x : S1024x768.Idx → EReal) (w : S768x2368.Idx → EReal) (b : S1x2368.Idx → EReal) (p : S1x768.Idx → EReal) (k : Fin 768) :
    (k0_pay5 (F := Ideal) (k0_pay14 (F := Ideal) x w b p) : S1x768.Idx → EReal) (ix2 0 k)
      = p (ix2 0 k) + ∑ r : Fin 1024, max ((k0_pay10 (F := Ideal) x w b : S1024x2368.Idx → EReal) (ix2 r ⟨1536 + k.val, by omega⟩)) 0 := by
  unfold k0_pay5 k0_pay14
  dsimp only
  generalize k0_pay10 (F := Ideal) x w b = y
  pointwise

theorem pool0_apply (k : Fin 768) : (k0_pay13 (F := Ideal) : S1x768.Idx → EReal) (ix2 0 k) = 0 := by
  unfold k0_pay13
  pointwise

theorem lg2b_apply (a : BitVec 32) (h : S1x1024x768.Idx → EReal) (r0 s2 : S1x768.Idx → EReal) (r : Fin 1024) :
    (k0_pay8 (F := Ideal) a h r0 s2 : S1x1024.Idx → EReal) (ix2 0 r)
      = ∑ k : Fin 768, s2 (ix2 0 k) * max (h (ix3 0 r k) + ((a.toInt : ℝ) : EReal) * r0 (ix2 0 k)) 0 := by
  unfold k0_pay8
  pointwise

/-- A fold over a one-row table is a fold over its row. -/
theorem fold_row {α : Type} {n : ℕ} (op : α → α → α) [Std.Commutative op] [Std.Associative op] (b : α) (f : Fin n → α) :
    Finset.univ.fold op b (fun x : Fin 1 × Fin n => f x.2) = Finset.univ.fold op b f := by
  have e : (Finset.univ : Finset (Fin 1 × Fin n)) = Finset.univ.map ⟨fun j : Fin n => ((0 : Fin 1), j), fun a b h => (Prod.mk.inj h).2⟩ := by
    ext ⟨a, c⟩
    obtain rfl : a = 0 := Subsingleton.elim _ _
    exact ⟨fun _ => Finset.mem_map.mpr ⟨c, Finset.mem_univ _, rfl⟩, fun _ => Finset.mem_univ _⟩
  rw [e, Finset.fold_map]
  rfl

theorem ninf : Ideal.ofBits FTy.f32 4286578688#32 = ⊥ := by simp [Ideal.ofBits, Ideal.ieee]

/-- The first head's choice is the first place of its largest perturbed logit. -/
theorem af_apply (lg g : S1x8192.Idx → EReal) (fb : S1x1.Idx → EReal) (i : Fin 8192)
    (hi : IsFirst (fun j => (lg (ix2 0 j) + fb (ix2 0 0)) + g (ix2 0 j)) i) :
    afIdx (F := Ideal) lg fb g = BitVec.ofNat 32 i.val := by
  have hc : cell fb = fb (ix2 0 0) := by
    unfold cell
    congr 1
    funext a
    fin_cases a <;> rfl
  rw [← hc] at hi
  unfold afIdx
  generalize cell fb = t at hi ⊢
  unfold k0_pay7
  pointwise
  rw [← first_of_min hi, ninf]
  rw [fold_row max ⊥ (fun j => (lg (ix2 0 j) + t) + g (ix2 0 j))]
  exact fold_row _ _ (fun j => if (lg (ix2 0 j) + t) + g (ix2 0 j) = _ then BitVec.ofNat 32 j.val else 8192#32)

theorem cmp_words {a j : ℕ} (ha : a < 8192) (hj : j < 8192) (u v : EReal) :
    Scalar.select (IntOp.cmpi CmpIPredicate.eq (BitVec.ofNat 32 j) (BitVec.ofNat 32 a)) u v = if j = a then u else v := by
  unfold Scalar.select IntOp.cmpi
  by_cases h : j = a
  · subst h; simp
  · have : ¬ (BitVec.ofNat 32 j = BitVec.ofNat 32 a) := fun e => h (by
      have := congrArg BitVec.toNat e
      simp only [BitVec.toNat_ofNat] at this
      omega)
    rw [if_neg h, beq_eq_false_iff_ne.mpr this]
    rfl

/-- The second head's choice is the first place of its largest perturbed logit, the first choice left out. -/
theorem as_apply (lg g : S1x8192.Idx → EReal) (fb : S1x1.Idx → EReal) (a i : Fin 8192)
    (hi : IsFirst (fun j => if j = a then ⊥ else (lg (ix2 0 j) + fb (ix2 0 0)) + g (ix2 0 j)) i) :
    asIdx (F := Ideal) (BitVec.ofNat 32 a.val) lg fb g = BitVec.ofNat 32 i.val := by
  have hc : cell fb = fb (ix2 0 0) := by
    unfold cell
    congr 1
    funext a
    fin_cases a <;> rfl
  rw [← hc] at hi
  unfold asIdx
  generalize cell fb = t at hi ⊢
  unfold k0_pay15
  pointwise
  simp only [ninf, cmp_words a.isLt (Fin.isLt _), ← Fin.ext_iff]
  rw [← first_of_min hi]
  rw [fold_row max ⊥ (fun j => if j = a then ⊥ else (lg (ix2 0 j) + t) + g (ix2 0 j))]
  exact fold_row _ _ (fun j => if (if j = a then ⊥ else (lg (ix2 0 j) + t) + g (ix2 0 j)) = _ then BitVec.ofNat 32 j.val else 8192#32)

/-- The third head's choice is the first place of its larger perturbed logit. -/
theorem at_apply (p : S1x768.Idx → EReal) (t2 : S768x2.Idx → EReal) (tb g : S1x2.Idx → EReal) (i : Fin 2)
    (hi : IsFirst (fun j => ((∑ k : Fin 768, p (ix2 0 k) * t2 (ix2 k j)) + tb (ix2 0 j)) + g (ix2 0 j)) i) :
    atIdx (F := Ideal) p t2 tb g = BitVec.ofNat 32 i.val := by
  unfold atIdx k0_pay17 k0_pay18 k0_pay16
  pointwise
  obtain ⟨h1, h2⟩ := hi
  obtain rfl | rfl : i = 0 ∨ i = 1 := by fin_cases i <;> simp
  · have h := h1 1
    dsimp only at h
    rw [if_neg (not_lt.mpr h)]
    rfl
  · have h := h2 0 (by decide)
    dsimp only at h
    rw [if_pos h]
    rfl

theorem sel_slt {α : Type} {j n : ℕ} (hj : j < 2 ^ 31) (hn : n < 2 ^ 31) (u v : α) :
    Scalar.select (IntOp.cmpi CmpIPredicate.slt (BitVec.ofNat 32 j) (BitVec.ofNat 32 n)) u v = if j < n then u else v := by
  have h : (BitVec.ofNat 32 j).slt (BitVec.ofNat 32 n) = decide (j < n) := by
    rw [BitVec.slt_eq_decide, toInt_ofNat hj, toInt_ofNat hn]
    simp
  unfold Scalar.select IntOp.cmpi
  by_cases h' : j < n <;> simp [h, h']

theorem sel_zero {a : ℕ} (ha : a < 8192) (u v : EReal) :
    Scalar.select (Scalar.cmpi CmpIPredicate.eq (BitVec.ofNat 32 a) 0#32) u v = if a = 0 then u else v :=
  cmp_words (a := 0) (by decide) ha u v

/-- The actor row: each of its three parts says whether its head chose element 0. -/
theorem act_apply (a b c : Nat) (ha : a < 8192) (hb : b < 8192) (hc : c < 8192) (r : Fin 16386) :
    (k0_pay9 (F := Ideal) (BitVec.ofNat 32 a) (BitVec.ofNat 32 b) (BitVec.ofNat 32 c) : S1x16386.Idx → EReal) (ix2 0 r)
      = if r.val < 8192 then (if a = 0 then (1 : EReal) else 0) else if r.val < 16384 then (if b = 0 then (1 : EReal) else 0)
        else if c = 0 then (1 : EReal) else 0 := by
  have hr : r.val < 2 ^ 31 := lt_trans r.isLt (by norm_num)
  unfold k0_pay9
  pointwise
  rw [sel_slt hr (by norm_num), sel_slt hr (by norm_num), sel_zero ha, sel_zero hb, sel_zero hc]

/-- A value put at a window is read back inside it. -/
theorem put_in {α : Type} {m n : ℕ} (x : Shape.Idx (⟨2, ![m, n]⟩ : Shape) → α) (q o : ℕ) (w : ((a : Fin 2) → Fin (![m, q] a)) → α)
    (r : Fin m) (k : Fin q) (h : o + k.val < n) :
    VecWindow.put (s := ⟨2, ![m, n]⟩) x ![0, o] ![m, q] w (ix2 r ⟨o + k.val, h⟩) = w (ix2 r k) := by
  unfold VecWindow.put
  have h' : ∀ a : Fin 2, (![0, o] : Fin 2 → ℕ) a ≤ ((ix2 r ⟨o + k.val, h⟩ : Shape.Idx (⟨2, ![m, n]⟩ : Shape)) a).val
      ∧ ((ix2 r ⟨o + k.val, h⟩ : Shape.Idx (⟨2, ![m, n]⟩ : Shape)) a).val < (![0, o] : Fin 2 → ℕ) a + (![m, q] : Fin 2 → ℕ) a := by
    intro a
    fin_cases a
    · exact ⟨Nat.zero_le _, by simpa using r.isLt⟩
    · exact ⟨Nat.le_add_right _ _, Nat.add_lt_add_left k.isLt _⟩
  rw [dif_pos h']
  congr 1
  funext a
  fin_cases a
  · exact Fin.ext (Nat.sub_zero _)
  · exact Fin.ext (Nat.add_sub_cancel_left _ _)

/-- A value put at a window leaves the columns outside. -/
theorem put_out {α : Type} {m n : ℕ} (x : Shape.Idx (⟨2, ![m, n]⟩ : Shape) → α) (q o : ℕ) (w : ((a : Fin 2) → Fin (![m, q] a)) → α)
    (r : Fin m) (k : Fin n) (h : k.val < o ∨ o + q ≤ k.val) :
    VecWindow.put (s := ⟨2, ![m, n]⟩) x ![0, o] ![m, q] w (ix2 r k) = x (ix2 r k) := by
  unfold VecWindow.put
  rw [dif_neg]
  intro e
  have := e 1
  change o ≤ k.val ∧ k.val < o + q at this
  omega

theorem pay1_eq (w : S768x768.Idx → EReal) : k0_pay1 (F := Ideal) w = w := by
  funext y
  obtain ⟨r, k, rfl⟩ : ∃ r k, y = ix2 r k := ⟨y 0, y 1, by funext a; fin_cases a <;> rfl⟩
  unfold k0_pay1
  pointwise

theorem pay2_eq (w : S768x768.Idx → EReal) : k0_pay2 (F := Ideal) w = w := by
  funext y
  obtain ⟨r, k, rfl⟩ : ∃ r k, y = ix2 r k := ⟨y 0, y 1, by funext a; fin_cases a <;> rfl⟩
  unfold k0_pay2
  pointwise

theorem pay3_eq (w : S768x768.Idx → EReal) : k0_pay3 (F := Ideal) w = w := by
  funext y
  obtain ⟨r, k, rfl⟩ : ∃ r k, y = ix2 r k := ⟨y 0, y 1, by funext a; fin_cases a <;> rfl⟩
  unfold k0_pay3
  pointwise

theorem pay4_eq (w : S768x64.Idx → EReal) : k0_pay4 (F := Ideal) w = w := by
  funext y
  obtain ⟨r, k, rfl⟩ : ∃ r k, y = ix2 r k := ⟨y 0, y 1, by funext a; fin_cases a <;> rfl⟩
  unfold k0_pay4
  pointwise

/-- The weights side by side: the first 768 columns are the first matrix. -/
theorem wc_1 (f k : Fin 768) : (I.wc : S768x2368.Idx → EReal) (ix2 f ⟨k.val, by omega⟩) = (I.w1 : S768x768.Idx → EReal) (ix2 f k) := by
  unfold Ins.wc wcat wput
  refine (put_out (m := 768) (n := 2368) _ 64 2304 _ f _ (.inl (by dsimp only; omega))).trans ?_
  refine (put_out (m := 768) (n := 2368) _ 768 1536 _ f _ (.inl (by dsimp only; omega))).trans ?_
  refine (put_out (m := 768) (n := 2368) _ 768 768 _ f _ (.inl (by dsimp only; omega))).trans ?_
  rw [pay1_eq]
  simpa only [Nat.zero_add] using put_in (m := 768) (n := 2368) _ 768 0 I.w1 f k (by omega)

/-- The next 768 columns are the second matrix. -/
theorem wc_2 (f k : Fin 768) : (I.wc : S768x2368.Idx → EReal) (ix2 f ⟨768 + k.val, by omega⟩) = (I.w2 : S768x768.Idx → EReal) (ix2 f k) := by
  unfold Ins.wc wcat wput
  refine (put_out (m := 768) (n := 2368) _ 64 2304 _ f _ (.inl (by dsimp only; omega))).trans ?_
  refine (put_out (m := 768) (n := 2368) _ 768 1536 _ f _ (.inl (by dsimp only; omega))).trans ?_
  rw [pay2_eq]
  exact put_in (m := 768) (n := 2368) _ 768 768 I.w2 f k (by omega)

/-- The next 768 columns are the third matrix. -/
theorem wc_3 (f k : Fin 768) : (I.wc : S768x2368.Idx → EReal) (ix2 f ⟨1536 + k.val, by omega⟩) = (I.w3 : S768x768.Idx → EReal) (ix2 f k) := by
  unfold Ins.wc wcat wput
  refine (put_out (m := 768) (n := 2368) _ 64 2304 _ f _ (.inl (by dsimp only; omega))).trans ?_
  rw [pay3_eq]
  exact put_in (m := 768) (n := 2368) _ 768 1536 I.w3 f k (by omega)

/-- The last 64 columns are the fourth matrix. -/
theorem wc_4 (f : Fin 768) (k : Fin 64) : (I.wc : S768x2368.Idx → EReal) (ix2 f ⟨2304 + k.val, by omega⟩) = (I.w4 : S768x64.Idx → EReal) (ix2 f k) := by
  unfold Ins.wc wcat wput
  rw [pay4_eq]
  exact put_in (m := 768) (n := 2368) _ 64 2304 I.w4 f k (by omega)

/-- The features as the kernel reads them: row `r` is row `r % 1024` of block `r / 1024`. -/
def Ins.row (r : Fin 8192) (f : Fin 768) : EReal :=
  (I.x ⟨r.val / 1024, by omega⟩ : S1024x768.Idx → EReal) (ix2 ⟨r.val % 1024, Nat.mod_lt _ (by norm_num)⟩ f)

/-- A row's sum against a column of weights, plus its bias. -/
def Ins.lin {n : ℕ} (w : Shape.Idx (⟨2, ![768, n]⟩ : Shape) → EReal) (o : ℕ) (ho : o + n ≤ 2368) (r : Fin 8192) (k : Fin n) : EReal :=
  (∑ f : Fin 768, I.row r f * w (ix2 f k)) + (I.b : S1x2368.Idx → EReal) (ix2 0 ⟨o + k.val, by omega⟩)

theorem crit_eq (r : Fin 8192) (k : Fin 64) :
    (I.crit ⟨r.val / 1024, by omega⟩ : S1024x64.Idx → EReal) (ix2 ⟨r.val % 1024, Nat.mod_lt _ (by norm_num)⟩ k)
      = max (I.lin (n := 64) I.w4 2304 (by norm_num) r k) 0 := by
  unfold Ins.crit
  rw [crit_apply, lin_apply]
  simp only [wc_4]
  rfl

theorem lg1_eq (r : Fin 8192) :
    (I.lg1 : S1x8192.Idx → EReal) (ix2 0 r)
      = ∑ k : Fin 768, (I.f2 : S1x768.Idx → EReal) (ix2 0 k) * max (I.lin (n := 768) I.w1 0 (by norm_num) r k) 0 := by
  refine (lg1b_apply _ _ _ _ ⟨r.val % 1024, Nat.mod_lt _ (by norm_num)⟩).trans ?_
  refine Finset.sum_congr rfl fun k _ => ?_
  rw [lin_apply]
  simp only [wc_1]
  unfold Ins.lin
  simp only [Nat.zero_add]
  rfl

theorem lg2_eq (a : Fin 8192) (ha : I.af = BitVec.ofNat 32 a.val) (r : Fin 8192) :
    (I.lg2 : S1x8192.Idx → EReal) (ix2 0 r)
      = ∑ k : Fin 768, (I.s2 : S1x768.Idx → EReal) (ix2 0 k)
          * max (I.lin (n := 768) I.w2 768 (by norm_num) r k + ((a.val : ℝ) : EReal) * (I.r0 : S1x768.Idx → EReal) (ix2 0 k)) 0 := by
  refine (lg2b_apply _ _ _ _ ⟨r.val % 1024, Nat.mod_lt _ (by norm_num)⟩).trans ?_
  refine Finset.sum_congr rfl fun k _ => ?_
  have e : (I.baseb ⟨r.val / 1024, by omega⟩ : S1x1024x768.Idx → EReal) (ix3 0 ⟨r.val % 1024, Nat.mod_lt _ (by norm_num)⟩ k)
      = I.lin (n := 768) I.w2 768 (by norm_num) r k := by
    refine (baseb_apply _ _ _ _ k).trans ?_
    rw [lin_apply]
    simp only [wc_2]
    rfl
  rw [ha, toInt_ofNat (lt_trans a.isLt (by norm_num)), ← e]
  simp only [Int.cast_natCast]
  rfl

theorem pooled_eq (k : Fin 768) : (I.pooled 8 : S1x768.Idx → EReal) (ix2 0 k) = ∑ r : Fin 8192, max (I.lin (n := 768) I.w3 1536 (by norm_num) r k) 0 := by
  let G : ℕ → EReal := fun n => if h : n < 8192 then max (I.lin (n := 768) I.w3 1536 (by norm_num) ⟨n, h⟩ k) 0 else 0
  have key : ∀ n, n ≤ 8 → (I.pooled n : S1x768.Idx → EReal) (ix2 0 k) = ∑ i ∈ Finset.range (1024 * n), G i := by
    intro n
    induction n with
    | zero => intro _; exact pool0_apply k
    | succ n ih =>
      intro hn
      have h8 : n < 8 := by omega
      rw [Ins.pooled, dif_pos h8]
      refine (pool_apply _ _ _ _ k).trans ?_
      rw [ih (by omega), Nat.mul_succ, Finset.sum_range_add, Finset.sum_range (n := 1024)]
      congr 1
      refine Finset.sum_congr rfl fun r _ => ?_
      have hr : 1024 * n + r.val < 8192 := by omega
      have e1 : (1024 * n + r.val) / 1024 = n := by omega
      have e2 : (1024 * n + r.val) % 1024 = r.val := by omega
      simp only [G, dif_pos hr]
      rw [lin_apply]
      simp only [wc_3]
      unfold Ins.lin Ins.row
      simp only [e1, e2]
  rw [key 8 le_rfl, Finset.sum_range]
  refine Finset.sum_congr rfl fun r _ => ?_
  simp only [G, dif_pos r.isLt]

end Cert.KernelIdeal.Hand
-- ==== Proof.Net.lean ====
module

public import proofs.«01_k».proof.Proof.Math
public import Idealize.ShloMosaic.Lib.ValueIdx

@[expose] public section

set_option maxRecDepth 16384

noncomputable section

/-!
  The mathematics that both programs compute: three sampled heads over a table of features, and a critic.
-/

namespace Cert.Hand

open Idealize.ShloMosaic

/-- The arguments: the features, then the weights and biases of the three heads and of the critic. -/
structure Net where
  x : Shape.Idx ⟨3, ![1, 8192, 768]⟩ → EReal
  w1 : Shape.Idx ⟨2, ![768, 768]⟩ → EReal
  b1 : Shape.Idx ⟨1, ![768]⟩ → EReal
  u1 : Shape.Idx ⟨2, ![768, 1]⟩ → EReal
  c1 : Shape.Idx ⟨1, ![1]⟩ → EReal
  w2 : Shape.Idx ⟨2, ![769, 768]⟩ → EReal
  b2 : Shape.Idx ⟨1, ![768]⟩ → EReal
  u2 : Shape.Idx ⟨2, ![768, 1]⟩ → EReal
  c2 : Shape.Idx ⟨1, ![1]⟩ → EReal
  w3 : Shape.Idx ⟨2, ![768, 768]⟩ → EReal
  u3 : Shape.Idx ⟨2, ![768, 2]⟩ → EReal
  c3 : Shape.Idx ⟨1, ![2]⟩ → EReal
  wv : Shape.Idx ⟨2, ![768, 64]⟩ → EReal
  bv : Shape.Idx ⟨1, ![64]⟩ → EReal

namespace Net

variable (A : Net)

/-- The first head's hidden layer. -/
def hid1 (r : Fin 8192) (k : Fin 768) : EReal := max ((∑ f : Fin 768, A.x (ix3 0 r f) * A.w1 (ix2 f k)) + A.b1 (ix1 k)) 0
/-- The first head's logits. -/
def logit1 (r : Fin 8192) : EReal := (∑ k : Fin 768, A.hid1 r k * A.u1 (ix2 k 0)) + A.c1 (ix1 0)
/-- The second head's hidden layer: the first head's choice is a feature of every row. -/
def hid2 (a : Fin 8192) (r : Fin 8192) (k : Fin 768) : EReal :=
  max ((((a.val : ℝ) : EReal) * A.w2 (ix2 0 k) + ∑ f : Fin 768, A.x (ix3 0 r f) * A.w2 (ix2 ⟨1 + f.val, by omega⟩ k)) + A.b2 (ix1 k)) 0
/-- The second head's logits. -/
def logit2 (a : Fin 8192) (r : Fin 8192) : EReal := (∑ k : Fin 768, A.hid2 a r k * A.u2 (ix2 k 0)) + A.c2 (ix1 0)
/-- The third head's hidden layer. -/
def hid3 (r : Fin 8192) (k : Fin 768) : EReal := max (∑ f : Fin 768, A.x (ix3 0 r f) * A.w3 (ix2 f k)) 0
/-- The third head's two logits, of the hidden layer summed over the rows. -/
def logit3 (j : Fin 2) : EReal := (∑ k : Fin 768, (∑ r : Fin 8192, A.hid3 r k) * A.u3 (ix2 k j)) + A.c3 (ix1 j)
/-- The critic. -/
def critic (r : Fin 8192) (k : Fin 64) : EReal := max ((∑ f : Fin 768, A.x (ix3 0 r f) * A.wv (ix2 f k)) + A.bv (ix1 k)) 0

/-- The three choices under the noise `g1`, `g2`, `g3`: each head takes the first place of its largest perturbed logit, the second
    one not the first one's. -/
structure Chosen (g1 g2 : Fin 8192 → EReal) (g3 : Fin 2 → EReal) (i1 i2 : Fin 8192) (i3 : Fin 2) : Prop where
  h1 : IsFirst (fun j => A.logit1 j + g1 j) i1
  h2 : IsFirst (fun j => if j = i1 then ⊥ else A.logit2 i1 j + g2 j) i2
  h3 : IsFirst (fun j => A.logit3 j + g3 j) i3

theorem exists_chosen (g1 g2 : Fin 8192 → EReal) (g3 : Fin 2 → EReal) : ∃ i1 i2 i3, A.Chosen g1 g2 g3 i1 i2 i3 := by
  obtain ⟨i1, h1⟩ := exists_isFirst (by norm_num) fun j => A.logit1 j + g1 j
  obtain ⟨i2, h2⟩ := exists_isFirst (by norm_num) fun j => if j = i1 then ⊥ else A.logit2 i1 j + g2 j
  obtain ⟨i3, h3⟩ := exists_isFirst (by norm_num) fun j => A.logit3 j + g3 j
  exact ⟨i1, i2, i3, h1, h2, h3⟩

/-- Whether element 0 was chosen, as a number. -/
def mark (n : ℕ) : EReal := if n = 0 then 1 else 0

/-- The actor's row: each of its three parts holds its head's mark throughout. -/
def actor (i1 i2 : Fin 8192) (i3 : Fin 2) (r : Fin 16386) : EReal :=
  if r.val < 8192 then mark i1.val else if r.val < 16384 then mark i2.val else mark i3.val

/-- Every number the heads read is real. -/
structure Reals : Prop where
  x : ∀ i, IsReal (A.x i)
  w1 : ∀ i, IsReal (A.w1 i)
  b1 : ∀ i, IsReal (A.b1 i)
  u1 : ∀ i, IsReal (A.u1 i)
  c1 : ∀ i, IsReal (A.c1 i)
  w2 : ∀ i, IsReal (A.w2 i)
  b2 : ∀ i, IsReal (A.b2 i)
  u2 : ∀ i, IsReal (A.u2 i)
  c2 : ∀ i, IsReal (A.c2 i)
  w3 : ∀ i, IsReal (A.w3 i)
  u3 : ∀ i, IsReal (A.u3 i)
  c3 : ∀ i, IsReal (A.c3 i)

variable {A}

theorem Reals.logit1 (h : A.Reals) (r : Fin 8192) : IsReal (A.logit1 r) :=
  (IsReal.sum _ fun k => ((((IsReal.sum _ fun f => (h.x _).mul (h.w1 _)).add (h.b1 _)).max .zero).mul (h.u1 _))).add (h.c1 _)

theorem Reals.logit2 (h : A.Reals) (a r : Fin 8192) : IsReal (A.logit2 a r) :=
  (IsReal.sum _ fun k => ((((IsReal.mul ⟨(a.val : ℝ), rfl⟩ (h.w2 _)).add (IsReal.sum _ fun f => (h.x _).mul (h.w2 _))).add (h.b2 _)).max .zero).mul
    (h.u2 _)).add (h.c2 _)

theorem Reals.logit3 (h : A.Reals) (j : Fin 2) : IsReal (A.logit3 j) :=
  (IsReal.sum _ fun k => (IsReal.sum _ fun r => (IsReal.sum _ fun f => (h.x _).mul (h.w3 _)).max .zero).mul (h.u3 _)).add (h.c3 _)

end Net

end Cert.Hand
-- ==== Proof.KernelIdeal.Value.lean ====
module

public import proofs.«01_k».proof.Proof.KernelIdeal.Heads
public import proofs.«01_k».proof.Proof.Net

@[expose] public section

set_option maxRecDepth 16384

noncomputable section

/-!
  The kernel's results, given blocks that hold a network's arguments: the network's critic and its choices' marks.
-/

namespace Cert.KernelIdeal.Hand

open Idealize.ShloMosaic Idealize.ShloMosaic.TcCoe
open Cert.Hand Cert.KernelIdeal.Gen

/-- The region's blocks hold the arguments `A` and the noise `g1`, `g2`, `g3`. -/
structure Fits (I : Ins Ideal) (A : Net) (g1 g2 : Fin 8192 → EReal) (g3 : Fin 2 → EReal) : Prop where
  row : ∀ r f, I.row r f = A.x (ix3 0 r f)
  w1 : ∀ f k : Fin 768, (I.w1 : S768x768.Idx → EReal) (ix2 f k) = A.w1 (ix2 f k)
  w2 : ∀ f k : Fin 768, (I.w2 : S768x768.Idx → EReal) (ix2 f k) = A.w2 (ix2 ⟨1 + f.val, by omega⟩ k)
  w3 : ∀ f k : Fin 768, (I.w3 : S768x768.Idx → EReal) (ix2 f k) = A.w3 (ix2 f k)
  w4 : ∀ (f : Fin 768) (k : Fin 64), (I.w4 : S768x64.Idx → EReal) (ix2 f k) = A.wv (ix2 f k)
  b : ∀ k : Fin 2368, (I.b : S1x2368.Idx → EReal) (ix2 0 k)
      = if h : k.val < 768 then A.b1 (ix1 ⟨k.val, h⟩) else if h : k.val < 1536 then A.b2 (ix1 ⟨k.val - 768, by omega⟩)
        else if h : k.val < 2304 then 0 else A.bv (ix1 ⟨k.val - 2304, by omega⟩)
  f2 : ∀ k : Fin 768, (I.f2 : S1x768.Idx → EReal) (ix2 0 k) = A.u1 (ix2 k 0)
  fb : (I.fb : S1x1.Idx → EReal) (ix2 0 0) = A.c1 (ix1 0)
  r0 : ∀ k : Fin 768, (I.r0 : S1x768.Idx → EReal) (ix2 0 k) = A.w2 (ix2 0 k)
  s2 : ∀ k : Fin 768, (I.s2 : S1x768.Idx → EReal) (ix2 0 k) = A.u2 (ix2 k 0)
  sb : (I.sb : S1x1.Idx → EReal) (ix2 0 0) = A.c2 (ix1 0)
  t2 : ∀ (k : Fin 768) (j : Fin 2), (I.t2 : S768x2.Idx → EReal) (ix2 k j) = A.u3 (ix2 k j)
  tb : ∀ j : Fin 2, (I.tb : S1x2.Idx → EReal) (ix2 0 j) = A.c3 (ix1 j)
  g1 : ∀ j : Fin 8192, (I.g1 : S1x8192.Idx → EReal) (ix2 0 j) = g1 j
  g2 : ∀ j : Fin 8192, (I.g2 : S1x8192.Idx → EReal) (ix2 0 j) = g2 j
  g3 : ∀ j : Fin 2, (I.g3 : S1x2.Idx → EReal) (ix2 0 j) = g3 j

namespace Fits

variable {I : Ins Ideal} {A : Net} {g1 g2 : Fin 8192 → EReal} {g3 : Fin 2 → EReal}

theorem lin1 (h : Fits I A g1 g2 g3) (r : Fin 8192) (k : Fin 768) :
    I.lin (n := 768) I.w1 0 (by norm_num) r k = (∑ f : Fin 768, A.x (ix3 0 r f) * A.w1 (ix2 f k)) + A.b1 (ix1 k) := by
  unfold Ins.lin
  have e : (⟨0 + k.val, by omega⟩ : Fin 2368) = ⟨k.val, by omega⟩ := Fin.ext (by simp)
  rw [e, h.b, dif_pos k.isLt]
  simp only [h.row, h.w1]

theorem lin2 (h : Fits I A g1 g2 g3) (r : Fin 8192) (k : Fin 768) :
    I.lin (n := 768) I.w2 768 (by norm_num) r k
      = (∑ f : Fin 768, A.x (ix3 0 r f) * A.w2 (ix2 ⟨1 + f.val, by omega⟩ k)) + A.b2 (ix1 k) := by
  unfold Ins.lin
  rw [h.b, dif_neg (by simp), dif_pos (by show 768 + k.val < 1536; omega)]
  simp only [h.row, h.w2, Nat.add_sub_cancel_left]

theorem lin3 (h : Fits I A g1 g2 g3) (r : Fin 8192) (k : Fin 768) :
    I.lin (n := 768) I.w3 1536 (by norm_num) r k = ∑ f : Fin 768, A.x (ix3 0 r f) * A.w3 (ix2 f k) := by
  unfold Ins.lin
  rw [h.b, dif_neg (by show ¬ 1536 + k.val < 768; omega), dif_neg (by show ¬ 1536 + k.val < 1536; omega),
    dif_pos (by show 1536 + k.val < 2304; omega), add_zero]
  simp only [h.row, h.w3]

theorem lin4 (h : Fits I A g1 g2 g3) (r : Fin 8192) (k : Fin 64) :
    I.lin (n := 64) I.w4 2304 (by norm_num) r k = (∑ f : Fin 768, A.x (ix3 0 r f) * A.wv (ix2 f k)) + A.bv (ix1 k) := by
  unfold Ins.lin
  rw [h.b, dif_neg (by show ¬ 2304 + k.val < 768; omega), dif_neg (by show ¬ 2304 + k.val < 1536; omega),
    dif_neg (by show ¬ 2304 + k.val < 2304; omega)]
  simp only [h.row, h.w4, Nat.add_sub_cancel_left]

/-- The critic's blocks hold the network's critic. -/
theorem critic (h : Fits I A g1 g2 g3) (r : Fin 8192) (k : Fin 64) :
    (I.crit ⟨r.val / 1024, by omega⟩ : S1024x64.Idx → EReal) (ix2 ⟨r.val % 1024, Nat.mod_lt _ (by norm_num)⟩ k) = A.critic r k := by
  rw [crit_eq, h.lin4]
  rfl

theorem logit1 (h : Fits I A g1 g2 g3) (r : Fin 8192) :
    (I.lg1 : S1x8192.Idx → EReal) (ix2 0 r) + (I.fb : S1x1.Idx → EReal) (ix2 0 0) = A.logit1 r := by
  rw [lg1_eq, h.fb]
  unfold Net.logit1 Net.hid1
  congr 1
  refine Finset.sum_congr rfl fun k _ => ?_
  rw [h.f2, h.lin1, mul_comm]

theorem logit2 (h : Fits I A g1 g2 g3) (a : Fin 8192) (ha : I.af = BitVec.ofNat 32 a.val) (r : Fin 8192) :
    (I.lg2 : S1x8192.Idx → EReal) (ix2 0 r) + (I.sb : S1x1.Idx → EReal) (ix2 0 0) = A.logit2 a r := by
  rw [lg2_eq I a ha, h.sb]
  unfold Net.logit2 Net.hid2
  congr 1
  refine Finset.sum_congr rfl fun k _ => ?_
  rw [h.s2, h.lin2, h.r0, mul_comm]
  have e : ∀ p q s : EReal, p + q + s = s + p + q := fun p q s => by rw [add_comm, ← add_assoc]
  rw [e]

theorem logit3 (h : Fits I A g1 g2 g3) (j : Fin 2) :
    (∑ k : Fin 768, (I.pooled 8 : S1x768.Idx → EReal) (ix2 0 k) * (I.t2 : S768x2.Idx → EReal) (ix2 k j)) + (I.tb : S1x2.Idx → EReal) (ix2 0 j)
      = A.logit3 j := by
  rw [h.tb]
  unfold Net.logit3 Net.hid3
  congr 1
  refine Finset.sum_congr rfl fun k _ => ?_
  rw [pooled_eq, h.t2]
  congr 1
  exact Finset.sum_congr rfl fun r _ => by rw [h.lin3]

/-- The actor's row holds the marks of the network's choices. -/
theorem actor (h : Fits I A g1 g2 g3) {i1 i2 : Fin 8192} {i3 : Fin 2} (hc : A.Chosen g1 g2 g3 i1 i2 i3) (r : Fin 16386) :
    (I.actor : S1x16386.Idx → EReal) (ix2 0 r) = Net.actor i1 i2 i3 r := by
  have e1 : I.af = BitVec.ofNat 32 i1.val := af_apply _ _ _ i1 (by simpa only [h.logit1, h.g1] using hc.h1)
  have e2 : asIdx (F := Ideal) (BitVec.ofNat 32 i1.val) I.lg2 I.sb I.g2 = BitVec.ofNat 32 i2.val :=
    as_apply _ _ _ i1 i2 (by simpa only [h.logit2 i1 e1, h.g2] using hc.h2)
  have e3 : atIdx (F := Ideal) (I.pooled 8) I.t2 I.tb I.g3 = BitVec.ofNat 32 i3.val :=
    at_apply _ _ _ _ i3 (by simpa only [h.logit3, h.g3] using hc.h3)
  unfold Ins.actor
  rw [e1, e2, e3]
  exact act_apply _ _ _ i1.isLt i2.isLt (by omega) r

end Fits

end Cert.KernelIdeal.Hand
end
-- ==== Proof.KernelIdeal.Fits.lean ====
module

public import proofs.«01_k».proof.Proof.KernelIdeal.Stages
public import proofs.«01_k».proof.Proof.KernelIdeal.Layout
public import proofs.«01_k».proof.Proof.KernelIdeal.Windows
public import proofs.«01_k».proof.Proof.KernelIdeal.Value

@[expose] public section

set_option maxRecDepth 16384

noncomputable section

/-!
  The region's blocks hold the arguments and the noise.
-/

namespace Cert.KernelIdeal.Hand

open Idealize.ShloMosaic Idealize.ShloMosaic.TcCoe Idealize.ShloMosaic.StableHlo
open Cert.Hand Cert.KernelIdeal.Gen

/-- The arguments that a state holds. -/
def netOf (L : Valuation τ sig (Elt Ideal)) : Net where
  x := L (main_arg0 : DevRef τ sig)
  w1 := L (main_arg1 : DevRef τ sig)
  b1 := L (main_arg2 : DevRef τ sig)
  u1 := L (main_arg3 : DevRef τ sig)
  c1 := L (main_arg4 : DevRef τ sig)
  w2 := L (main_arg5 : DevRef τ sig)
  b2 := L (main_arg6 : DevRef τ sig)
  u2 := L (main_arg7 : DevRef τ sig)
  c2 := L (main_arg8 : DevRef τ sig)
  w3 := L (main_arg9 : DevRef τ sig)
  u3 := L (main_arg10 : DevRef τ sig)
  c3 := L (main_arg11 : DevRef τ sig)
  wv := L (main_arg12 : DevRef τ sig)
  bv := L (main_arg13 : DevRef τ sig)

variable (m : (ℓ : Loc nD τ sig) → Buf (Elt Ideal) ℓ) (c : Dev nD)

/-- What the host lines leave of the arguments. -/
theorem arg_at {r : Ref sig .tc} (hr : r.idx.val < 14) : V0 m c (r : DevRef τ sig) = m (c, (r : DevRef τ sig)) := by
  rw [V0_eq]
  exact (hostOps0_6_writes.keep _ (by omega)).trans (afterDraw3_keep _ hr)

theorem row_at (r : Fin 8192) (f : Fin 768) : (insOf m c).row r f = (V0 m c (main_v17 : DevRef τ sig) : S8192x768.Idx → EReal) (ix2 r f) := by
  unfold Ins.row
  refine (ins_x m c _ _ _).trans ?_
  have e : (⟨(⟨r.val / 1024, by omega⟩ : Fin 8).val * 1024 + (⟨r.val % 1024, Nat.mod_lt _ (by norm_num)⟩ : Fin 1024).val, by dsimp only; omega⟩ : Fin 8192) = r :=
    Fin.ext (by dsimp only; omega)
  exact congrArg (fun i => (V0 m c (main_v17 : DevRef τ sig) : S8192x768.Idx → EReal) (ix2 i f)) e

/-- The blocks hold the arguments, and the noise the host lines drew. -/
theorem fits : Fits (insOf m c) (netOf fun b => m (c, b))
    (fun j => (V0 m c (main_v14 : DevRef τ sig) : S1x8192.Idx → EReal) (ix2 0 j))
    (fun j => (V0 m c (main_v15 : DevRef τ sig) : S1x8192.Idx → EReal) (ix2 0 j))
    (fun j => (V0 m c (main_v16 : DevRef τ sig) : S1x2.Idx → EReal) (ix2 0 j)) where
  row r f := by
    refine (row_at m c r f).trans ?_
    rw [V0_eq]
    exact v17_apply _ _ (afterDraw3_keep _ (by decide)) r f
  w1 f k := congrFun ((ins_w1 m c).trans (arg_at m c (by decide))) _
  w2 f k := by
    refine (congrFun (ins_w2 m c) _).trans ?_
    rw [V0_eq]
    exact v30_apply _ _ (afterDraw3_keep _ (by decide)) f k
  w3 f k := congrFun ((ins_w3 m c).trans (arg_at m c (by decide))) _
  w4 f k := congrFun ((ins_w4 m c).trans (arg_at m c (by decide))) _
  b k := by
    refine (congrFun (ins_b m c) _).trans ?_
    rw [V0_eq]
    exact v20_apply _ _ _ _ (afterDraw3_keep _ (by decide)) (afterDraw3_keep _ (by decide)) (afterDraw3_keep _ (by decide)) k
  f2 k := by
    refine (congrFun (ins_f2 m c) _).trans ?_
    rw [V0_eq]
    exact v21_apply _ _ (afterDraw3_keep _ (by decide)) k
  fb := by
    refine (congrFun (ins_fb m c) _).trans ?_
    rw [V0_eq]
    exact v22_apply _ _ (afterDraw3_keep _ (by decide))
  r0 k := by
    refine (congrFun (ins_r0 m c) _).trans ?_
    rw [V0_eq]
    exact v25_apply _ _ (afterDraw3_keep _ (by decide)) k
  s2 k := by
    refine (congrFun (ins_s2 m c) _).trans ?_
    rw [V0_eq]
    exact v26_apply _ _ (afterDraw3_keep _ (by decide)) k
  sb := by
    refine (congrFun (ins_sb m c) _).trans ?_
    rw [V0_eq]
    exact v27_apply _ _ (afterDraw3_keep _ (by decide))
  t2 k j := congrFun ((ins_t2 m c).trans (arg_at m c (by decide))) _
  tb j := by
    refine (congrFun (ins_tb m c) _).trans ?_
    rw [V0_eq]
    exact v28_apply _ _ (afterDraw3_keep _ (by decide)) j
  g1 j := congrFun (ins_g1 m c) _
  g2 j := congrFun (ins_g2 m c) _
  g3 j := congrFun (ins_g3 m c) _

end Cert.KernelIdeal.Hand
end
-- ==== Proof.Reals.lean ====
module

public import proofs.«01_k».proof.Defs
public import proofs.«01_k».proof.Proof.Precondition
public import proofs.«01_k».proof.Proof.KernelIdeal.Fits

@[expose] public section

set_option maxRecDepth 16384

noncomputable section

/-!
  The precondition says that every number the heads read is real.
-/

namespace Cert.Hand

open Idealize.ShloMosaic Idealize.ShloMosaic.TcCoe

attribute [local instance] preFacts

theorem reals_of_pre (m : (ℓ : Loc KernelIdeal.nD KernelIdeal.τ KernelIdeal.sig) → Buf (Elt Ideal) ℓ)
    (h : Cert.Pre_KernelIdeal_logits_are_real m) (c : Dev KernelIdeal.nD) : (KernelIdeal.Hand.netOf fun b => m (c, b)).Reals := by
  obtain ⟨h0, h1, h2, h3, h4, h5, h6, h7, h8, h9, h10, h11⟩ := h c
  exact ⟨isReal_of_check _ _ h0, isReal_of_check _ _ h1, isReal_of_check _ _ h2, isReal_of_check _ _ h3, isReal_of_check _ _ h4,
    isReal_of_check _ _ h5, isReal_of_check _ _ h6, isReal_of_check _ _ h7, isReal_of_check _ _ h8, isReal_of_check _ _ h9,
    isReal_of_check _ _ h10, isReal_of_check _ _ h11⟩

end Cert.Hand
end
-- ==== Proof.Rng.lean ====
module

public import proofs.«01_k».proof.Proof.KernelIdeal.Stages
public import proofs.«01_k».proof.Proof.ReferenceIdeal.Lines

@[expose] public section

set_option maxRecDepth 16384

noncomputable section

/-!
  The keys: both programs start from the same key and cut the same three out of its split.
-/

namespace Cert.Hand

open Idealize.ShloMosaic Idealize.ShloMosaic.TcCoe Idealize.ShloMosaic.StableHlo

variable {F : FTy → Type} [FloatOps F]

/-- The two programs make the same key. -/
theorem key_eq (V : Valuation KernelIdeal.τ KernelIdeal.sig (Elt F)) (V' : Valuation ReferenceIdeal.τ ReferenceIdeal.sig (Elt F)) :
    (after KernelIdeal.Gen.hostOps0 V (KernelIdeal.main_v6 : DevRef KernelIdeal.τ KernelIdeal.sig) : KernelIdeal.S2.Idx → BitVec 32)
      = after ReferenceIdeal.Hand.keyOps V' (ReferenceIdeal.main_v6 : DevRef ReferenceIdeal.τ ReferenceIdeal.sig) := by
  after_results_simp
  rfl

/-- The two programs cut the same three keys out of the same split. -/
theorem keys_eq (V : Valuation KernelIdeal.τ KernelIdeal.sig (Elt F)) (V' : Valuation ReferenceIdeal.τ ReferenceIdeal.sig (Elt F))
    (x : KernelIdeal.S3x2.Idx → BitVec 32)
    (h : V (KernelIdeal.main_v7 : DevRef KernelIdeal.τ KernelIdeal.sig) = x) (h' : V' (ReferenceIdeal.main_v7 : DevRef ReferenceIdeal.τ ReferenceIdeal.sig) = x) :
    ((after KernelIdeal.Gen.hostOps0_2 V (KernelIdeal.main_v9 : DevRef KernelIdeal.τ KernelIdeal.sig) : KernelIdeal.S2.Idx → BitVec 32)
        = after ReferenceIdeal.Hand.keysOps V' (ReferenceIdeal.main_v9 : DevRef ReferenceIdeal.τ ReferenceIdeal.sig)) ∧
      ((after KernelIdeal.Gen.hostOps0_2 V (KernelIdeal.main_v11 : DevRef KernelIdeal.τ KernelIdeal.sig) : KernelIdeal.S2.Idx → BitVec 32)
        = after ReferenceIdeal.Hand.keysOps V' (ReferenceIdeal.main_v11 : DevRef ReferenceIdeal.τ ReferenceIdeal.sig)) ∧
      ((after KernelIdeal.Gen.hostOps0_2 V (KernelIdeal.main_v13 : DevRef KernelIdeal.τ KernelIdeal.sig) : KernelIdeal.S2.Idx → BitVec 32)
        = after ReferenceIdeal.Hand.keysOps V' (ReferenceIdeal.main_v13 : DevRef ReferenceIdeal.τ ReferenceIdeal.sig)) := by
  after_results_simp
  rw [h, h']
  exact ⟨rfl, rfl, rfl⟩

end Cert.Hand
end
-- ==== Proof.ReferenceIdeal.Stages.lean ====
module

public import proofs.«01_k».proof.Proof.ReferenceIdeal.Lines
public import proofs.«01_k».proof.Proof.Sim

@[expose] public section

set_option maxRecDepth 16384

noncomputable section

/-!
  The reference's stretches one after another, and what each leaves alone.
-/

namespace Cert.ReferenceIdeal.Hand

open Idealize.ShloMosaic Idealize.ShloMosaic.TcCoe Idealize.ShloMosaic.StableHlo
open Cert.Hand

variable {F : FTy → Type} [FloatOps F]

/-- The `k`-th stretch of what the reference runs. -/
def chunk (k : ℕ) : List (HloOp τ sig (Elt F)) := (lines (F := F)).getD k []

/-- No index from this one on is written before the `k`-th stretch. -/
def start (k : ℕ) : ℕ :=
  [14, 24, 262, 268, 272, 275, 280, 295, 562, 563, 568, 583, 592, 595, 600, 614, 631, 898, 899, 904,
    915, 918, 919, 922, 927, 942, 1209, 1210, 1215, 1230, 1234].getD k 1240

set_option maxHeartbeats 0 in
theorem chunk_writes : ∀ k : ℕ, k < 31 → WritesFrom (start k) (chunk (F := F) k) := by
  intro k hk
  obtain ⟨k, rfl⟩ : ∃ i : Fin 31, i.val = k := ⟨⟨k, hk⟩, rfl⟩
  fin_cases k
  all_goals
    dsimp only [chunk, start, lines, lines0, lines1, lines2, List.cons_append, List.nil_append, List.getD_cons_zero, List.getD_cons_succ,
      splitSeq, gumbelSeq, gumbelTSeq, reluSeq, reluCSeq, argmaxSeq, argmaxTSeq]
    repeat (first | exact .nil | refine .cons _ rfl (by decide) ?_)

variable (L : Valuation τ sig (Elt F))

/-- The buffers after the first `k` stretches. -/
def stage : ℕ → Valuation τ sig (Elt F)
  | 0 => L
  | k + 1 => after (chunk k) (stage k)

theorem stage_eq : stage L 31 = after (lines (F := F)).flatten L := by
  simp only [stage, chunk, lines, lines0, lines1, lines2, List.cons_append, List.nil_append, List.getD_cons_zero, List.getD_cons_succ,
    List.flatten_cons, List.flatten_nil, List.append_nil, after_cat]
  rfl

theorem start_mono : ∀ j < 31, ∀ k ≤ j, start k ≤ start j := by decide

/-- A buffer written before the `k`-th stretch keeps its contents from there on. -/
theorem stage_keep {r : Ref sig .tc} (k j : ℕ) (hkj : k ≤ j) (hj : j ≤ 31) (hr : r.idx.val < start k) :
    stage L j (r : DevRef τ sig) = stage L k (r : DevRef τ sig) := by
  induction j, hkj using Nat.le_induction with
  | base => rfl
  | succ j hkj ih =>
    exact ((chunk_writes j (by omega)).keep _ (lt_of_lt_of_le hr (start_mono j (by omega) k hkj))).trans (ih (by omega))

/-- An argument is as it was throughout. -/
theorem stage_arg {r : Ref sig .tc} (j : ℕ) (hj : j ≤ 31) (hr : r.idx.val < 14) : stage L j (r : DevRef τ sig) = L (r : DevRef τ sig) :=
  stage_keep L 0 j (by omega) hj hr

end Cert.ReferenceIdeal.Hand
end
-- ==== Proof.Draws.lean ====
module

public import proofs.«01_k».proof.Proof.Rng
public import proofs.«01_k».proof.Proof.ReferenceIdeal.Stages

@[expose] public section

set_option maxRecDepth 16384

noncomputable section

/-!
  The draws: the noise that the kernel's host lines hand to the region is the noise that the reference adds to its logarithms.
-/

namespace Cert.Hand

open Idealize.ShloMosaic Idealize.ShloMosaic.TcCoe Idealize.ShloMosaic.StableHlo
open Cert.KernelIdeal.Hand (afterKey afterSplit afterKeys afterDraw1 afterDraw2 afterDraw3 hostOps0_6_writes)
open Cert.ReferenceIdeal.Hand (stage stage_keep)

variable {F : FTy → Type} [FloatOps F]

variable (V L : Valuation KernelIdeal.τ KernelIdeal.sig (Elt F)) (V' L' : Valuation ReferenceIdeal.τ ReferenceIdeal.sig (Elt F))

/-- From one agreeing buffer to another. -/
theorem Sim.one {n n' : ℕ} {l : List (HloOp KernelIdeal.τ KernelIdeal.sig (Elt F))} {l' : List (HloOp ReferenceIdeal.τ ReferenceIdeal.sig (Elt F))}
    {e g : Link KernelIdeal.sig ReferenceIdeal.sig} (h : Sim (Val := Elt F) n n' [e] l l' [g])
    (hn : e.a.ref.idx.val < n) (hn' : e.b.ref.idx.val < n') (he : e.Agree V V') : g.Agree (after l V) (after l' V') :=
  h.agree V V' (fun x hx => by rw [List.mem_singleton] at hx; subst hx; exact ⟨hn, hn'⟩)
    (fun x hx => by rw [List.mem_singleton] at hx; subst hx; exact he) g (List.mem_singleton_self g)

/-- The splits agree. -/
theorem split_eq : (afterSplit L (KernelIdeal.main_v7 : DevRef KernelIdeal.τ KernelIdeal.sig) : KernelIdeal.S3x2.Idx → BitVec 32)
    = stage L' 2 (ReferenceIdeal.main_v7 : DevRef ReferenceIdeal.τ ReferenceIdeal.sig) :=
  split_sim.one (afterKey L) (stage L' 1) (by decide) (by decide) (key_eq L L')

/-- The three keys agree. -/
theorem keys_at :
    ((afterKeys L (KernelIdeal.main_v9 : DevRef KernelIdeal.τ KernelIdeal.sig) : KernelIdeal.S2.Idx → BitVec 32)
        = stage L' 3 (ReferenceIdeal.main_v9 : DevRef ReferenceIdeal.τ ReferenceIdeal.sig)) ∧
      ((afterKeys L (KernelIdeal.main_v11 : DevRef KernelIdeal.τ KernelIdeal.sig) : KernelIdeal.S2.Idx → BitVec 32)
        = stage L' 3 (ReferenceIdeal.main_v11 : DevRef ReferenceIdeal.τ ReferenceIdeal.sig)) ∧
      ((afterKeys L (KernelIdeal.main_v13 : DevRef KernelIdeal.τ KernelIdeal.sig) : KernelIdeal.S2.Idx → BitVec 32)
        = stage L' 3 (ReferenceIdeal.main_v13 : DevRef ReferenceIdeal.τ ReferenceIdeal.sig)) :=
  keys_eq (afterSplit L) (stage L' 2) _ (split_eq L L') rfl

/-- From the same key the first draws agree. -/
theorem draw1_of (h : (V (KernelIdeal.main_v9 : DevRef KernelIdeal.τ KernelIdeal.sig) : KernelIdeal.S2.Idx → BitVec 32) = V' (ReferenceIdeal.main_v9 : DevRef ReferenceIdeal.τ ReferenceIdeal.sig)) :
    (after KernelIdeal.Gen.hostOps0_3 V (KernelIdeal.main_v14 : DevRef KernelIdeal.τ KernelIdeal.sig) : KernelIdeal.S1x8192.Idx → F .f32)
      = after (ReferenceIdeal.Hand.gumbelSeq (.of ReferenceIdeal.main_v9) ReferenceIdeal.main_call2).1 V' (ReferenceIdeal.main_v36 : DevRef ReferenceIdeal.τ ReferenceIdeal.sig) := by
  have e := (gumbel1_sim (F := F)).one V V' (by decide) (by decide)
  generalize after KernelIdeal.Gen.hostOps0_3 V = X at e ⊢
  generalize after _ V' = Y at e ⊢
  exact e h

/-- From the same key the second draws agree. -/
theorem draw2_of (h : (V (KernelIdeal.main_v11 : DevRef KernelIdeal.τ KernelIdeal.sig) : KernelIdeal.S2.Idx → BitVec 32) = V' (ReferenceIdeal.main_v11 : DevRef ReferenceIdeal.τ ReferenceIdeal.sig)) :
    (after KernelIdeal.Gen.hostOps0_4 V (KernelIdeal.main_v15 : DevRef KernelIdeal.τ KernelIdeal.sig) : KernelIdeal.S1x8192.Idx → F .f32)
      = after (ReferenceIdeal.Hand.gumbelSeq (.of ReferenceIdeal.main_v11) ReferenceIdeal.main_call5).1 V' (ReferenceIdeal.main_v89 : DevRef ReferenceIdeal.τ ReferenceIdeal.sig) := by
  have e := (gumbel2_sim (F := F)).one V V' (by decide) (by decide)
  generalize after KernelIdeal.Gen.hostOps0_4 V = X at e ⊢
  generalize after _ V' = Y at e ⊢
  exact e h

/-- From the same key the third draws agree. -/
theorem draw3_of (h : (V (KernelIdeal.main_v13 : DevRef KernelIdeal.τ KernelIdeal.sig) : KernelIdeal.S2.Idx → BitVec 32) = V' (ReferenceIdeal.main_v13 : DevRef ReferenceIdeal.τ ReferenceIdeal.sig)) :
    (after KernelIdeal.Gen.hostOps0_5 V (KernelIdeal.main_v16 : DevRef KernelIdeal.τ KernelIdeal.sig) : KernelIdeal.S1x2.Idx → F .f32)
      = after (ReferenceIdeal.Hand.gumbelTSeq (.of ReferenceIdeal.main_v13) ReferenceIdeal.main_call8).1 V' (ReferenceIdeal.main_v120 : DevRef ReferenceIdeal.τ ReferenceIdeal.sig) := by
  have e := (gumbel3_sim (F := F)).one V V' (by decide) (by decide)
  generalize after KernelIdeal.Gen.hostOps0_5 V = X at e ⊢
  generalize after _ V' = Y at e ⊢
  exact e h

/-- The first draws agree. -/
theorem draw1_eq : (afterDraw1 L (KernelIdeal.main_v14 : DevRef KernelIdeal.τ KernelIdeal.sig) : KernelIdeal.S1x8192.Idx → F .f32)
    = stage L' 8 (ReferenceIdeal.main_v36 : DevRef ReferenceIdeal.τ ReferenceIdeal.sig) := by
  have e := stage_keep L' (r := ReferenceIdeal.main_v9) 3 7 (by decide) (by decide) (by decide)
  have hk := (keys_at L L').1
  rw [← e] at hk
  have e1 : stage L' 8 = after (ReferenceIdeal.Hand.gumbelSeq (.of ReferenceIdeal.main_v9) ReferenceIdeal.main_call2).1 (stage L' 7) := rfl
  rw [e1]
  exact draw1_of (afterKeys L) (stage L' 7) hk

/-- The second draws agree. -/
theorem draw2_eq : (afterDraw2 L (KernelIdeal.main_v15 : DevRef KernelIdeal.τ KernelIdeal.sig) : KernelIdeal.S1x8192.Idx → F .f32)
    = stage L' 17 (ReferenceIdeal.main_v89 : DevRef ReferenceIdeal.τ ReferenceIdeal.sig) := by
  have k0 : afterDraw1 L (KernelIdeal.main_v11 : DevRef KernelIdeal.τ KernelIdeal.sig) = afterKeys L (KernelIdeal.main_v11 : DevRef KernelIdeal.τ KernelIdeal.sig) := by
    unfold afterDraw1
    exact (gumbel1_sim (F := F)).left.keep _ (by decide)
  have e := stage_keep L' (r := ReferenceIdeal.main_v11) 3 16 (by decide) (by decide) (by decide)
  have hk := (keys_at L L').2.1
  rw [← e, ← k0] at hk
  have e1 : stage L' 17 = after (ReferenceIdeal.Hand.gumbelSeq (.of ReferenceIdeal.main_v11) ReferenceIdeal.main_call5).1 (stage L' 16) := rfl
  rw [e1]
  exact draw2_of (afterDraw1 L) (stage L' 16) hk

/-- The third draws agree. -/
theorem draw3_eq : (afterDraw3 L (KernelIdeal.main_v16 : DevRef KernelIdeal.τ KernelIdeal.sig) : KernelIdeal.S1x2.Idx → F .f32)
    = stage L' 26 (ReferenceIdeal.main_v120 : DevRef ReferenceIdeal.τ ReferenceIdeal.sig) := by
  have k0 : afterDraw2 L (KernelIdeal.main_v13 : DevRef KernelIdeal.τ KernelIdeal.sig) = afterDraw1 L (KernelIdeal.main_v13 : DevRef KernelIdeal.τ KernelIdeal.sig) := by
    unfold afterDraw2
    exact (gumbel2_sim (F := F)).left.keep _ (by decide)
  have k1 : afterDraw1 L (KernelIdeal.main_v13 : DevRef KernelIdeal.τ KernelIdeal.sig) = afterKeys L (KernelIdeal.main_v13 : DevRef KernelIdeal.τ KernelIdeal.sig) := by
    unfold afterDraw1
    exact (gumbel1_sim (F := F)).left.keep _ (by decide)
  have e := stage_keep L' (r := ReferenceIdeal.main_v13) 3 25 (by decide) (by decide) (by decide)
  have hk := (keys_at L L').2.2
  rw [← e, ← k1, ← k0] at hk
  have e1 : stage L' 26 = after (ReferenceIdeal.Hand.gumbelTSeq (.of ReferenceIdeal.main_v13) ReferenceIdeal.main_call8).1 (stage L' 25) := rfl
  rw [e1]
  exact draw3_of (afterDraw2 L) (stage L' 25) hk

end Cert.Hand
end
-- ==== Proof.Noise.lean ====
module

public import proofs.«01_k».proof.Proof.Draws

@[expose] public section

set_option maxRecDepth 16384

noncomputable section

/-!
  The noise that the kernel's host lines hand to the region is the noise that the reference adds to its logarithms.
-/

namespace Cert.Hand

open Idealize.ShloMosaic Idealize.ShloMosaic.TcCoe Idealize.ShloMosaic.StableHlo
open Cert.KernelIdeal.Hand (afterDraw1 afterDraw2 afterDraw3 hostOps0_6_writes)
open Cert.ReferenceIdeal.Hand (stage stage_keep)

variable {F : FTy → Type} [FloatOps F]

variable (L : Valuation KernelIdeal.τ KernelIdeal.sig (Elt F)) (L' : Valuation ReferenceIdeal.τ ReferenceIdeal.sig (Elt F))

/-- The region is handed the reference's first draw. -/
theorem host1_eq : (after KernelIdeal.Gen.hostOps0_6 (afterDraw3 L) (KernelIdeal.main_v14 : DevRef KernelIdeal.τ KernelIdeal.sig) : KernelIdeal.S1x8192.Idx → F .f32)
    = stage L' 8 (ReferenceIdeal.main_v36 : DevRef ReferenceIdeal.τ ReferenceIdeal.sig) := by
  have k6 : after KernelIdeal.Gen.hostOps0_6 (afterDraw3 L) (KernelIdeal.main_v14 : DevRef KernelIdeal.τ KernelIdeal.sig) = afterDraw3 L (KernelIdeal.main_v14 : DevRef KernelIdeal.τ KernelIdeal.sig) :=
    hostOps0_6_writes.keep _ (by decide)
  have k3 : afterDraw3 L (KernelIdeal.main_v14 : DevRef KernelIdeal.τ KernelIdeal.sig) = afterDraw2 L (KernelIdeal.main_v14 : DevRef KernelIdeal.τ KernelIdeal.sig) := by
    unfold afterDraw3
    exact (gumbel3_sim (F := F)).left.keep _ (by decide)
  have k2 : afterDraw2 L (KernelIdeal.main_v14 : DevRef KernelIdeal.τ KernelIdeal.sig) = afterDraw1 L (KernelIdeal.main_v14 : DevRef KernelIdeal.τ KernelIdeal.sig) := by
    unfold afterDraw2
    exact (gumbel2_sim (F := F)).left.keep _ (by decide)
  rw [k6, k3, k2]
  exact draw1_eq L L'

/-- The region is handed the reference's second draw. -/
theorem host2_eq : (after KernelIdeal.Gen.hostOps0_6 (afterDraw3 L) (KernelIdeal.main_v15 : DevRef KernelIdeal.τ KernelIdeal.sig) : KernelIdeal.S1x8192.Idx → F .f32)
    = stage L' 17 (ReferenceIdeal.main_v89 : DevRef ReferenceIdeal.τ ReferenceIdeal.sig) := by
  have k6 : after KernelIdeal.Gen.hostOps0_6 (afterDraw3 L) (KernelIdeal.main_v15 : DevRef KernelIdeal.τ KernelIdeal.sig) = afterDraw3 L (KernelIdeal.main_v15 : DevRef KernelIdeal.τ KernelIdeal.sig) :=
    hostOps0_6_writes.keep _ (by decide)
  have k3 : afterDraw3 L (KernelIdeal.main_v15 : DevRef KernelIdeal.τ KernelIdeal.sig) = afterDraw2 L (KernelIdeal.main_v15 : DevRef KernelIdeal.τ KernelIdeal.sig) := by
    unfold afterDraw3
    exact (gumbel3_sim (F := F)).left.keep _ (by decide)
  rw [k6, k3]
  exact draw2_eq L L'

/-- The region is handed the reference's third draw. -/
theorem host3_eq : (after KernelIdeal.Gen.hostOps0_6 (afterDraw3 L) (KernelIdeal.main_v16 : DevRef KernelIdeal.τ KernelIdeal.sig) : KernelIdeal.S1x2.Idx → F .f32)
    = stage L' 26 (ReferenceIdeal.main_v120 : DevRef ReferenceIdeal.τ ReferenceIdeal.sig) := by
  have k6 : after KernelIdeal.Gen.hostOps0_6 (afterDraw3 L) (KernelIdeal.main_v16 : DevRef KernelIdeal.τ KernelIdeal.sig) = afterDraw3 L (KernelIdeal.main_v16 : DevRef KernelIdeal.τ KernelIdeal.sig) :=
    hostOps0_6_writes.keep _ (by decide)
  rw [k6]
  exact draw3_eq L L'

end Cert.Hand
end
-- ==== Proof.ReferenceIdeal.Folds.lean ====
module

public import proofs.«01_k».proof.Proof.ReferenceIdeal.Lines
public import proofs.«01_k».proof.Proof.Math
public import Idealize.ShloMosaic.Lib.Pointwise
public import Idealize.ShloMosaic.Lib.Routing.OpsOne
public import Idealize.ShloMosaic.Lib.ValueIdx

@[expose] public section

set_option maxRecDepth 16384

noncomputable section

/-!
  The reference's arg-max and its scatters, over the extended reals.
-/

namespace Cert.ReferenceIdeal.Hand

open Idealize.ShloMosaic Idealize.ShloMosaic.TcCoe Idealize.ShloMosaic.StableHlo Idealize.SL.Sem
open Cert.Hand
open Facts₀ Facts

/-- The word that starts a maximum is −∞. -/
theorem ofBits_bot : Ideal.ofBits FTy.f32 4286578688#32 = ⊥ := by
  simp [Ideal.ofBits, Ideal.ieee]

/-- The arg-max's step. -/
theorem reducer_eq (a b : EReal × BitVec 32) : reducer_argmax_f32_i32 (F := Ideal) a b = amax a b := by
  obtain ⟨a, i⟩ := a
  obtain ⟨b, j⟩ := b
  unfold reducer_argmax_f32_i32 amax
  dsimp only
  simp only [Ideal.cmpf_def, Ideal.cmp]
  rcases lt_trichotomy a b with h | h | h
  · have h1 : ¬ b < a := not_lt.2 (le_of_lt h)
    have h2 : ¬ a = b := ne_of_lt h
    rw [max_eq_right (le_of_lt h)]
    simp [Scalar.select, IntOp.ori, IntOp.andi, IntOp.cmpi, h1, h2]
  · subst h
    by_cases h3 : i.toInt < j.toInt <;>
      simp [Scalar.select, IntOp.ori, IntOp.andi, IntOp.cmpi, BitVec.slt, h3]
  · have h2 : ¬ a = b := ne_of_gt h
    rw [max_eq_left (le_of_lt h)]
    simp [Scalar.select, IntOp.ori, IntOp.andi, IntOp.cmpi, h, h2]

/-- A fold over the positions of one range is the fold over another of the same length. -/
theorem foldl_cast {α : Type} {M N : Nat} (h : M = N) (f : α → Fin N → α) (a : α) :
    (List.finRange M).foldl (fun a n => f a (n.cast h)) a = (List.finRange N).foldl f a := by
  subst h; rfl

/-- A one-element array has one index. -/
theorem row_unique (i j : S1.Idx) : i = j := by
  funext a
  have h : ∀ b : Fin 1, S1.size b = 1 := by decide
  have hi : (i a).val < 1 := (h a) ▸ (i a).isLt
  have hj : (j a).val < 1 := (h a) ▸ (j a).isLt
  exact Fin.ext (by omega)

/-- The arg-max's fold over a row ends at the first greatest. -/
theorem fold_fiber {N : Nat} (h0 : 0 < N) (hN : N ≤ 2 ^ 31) (x : (⟨2, ![1, N]⟩ : Shape).Idx → EReal) {axes : List (Fin 2)}
    (h : (⟨2, ![1, N]⟩ : Shape).ReducesTo axes S1) (j : S1.Idx) (i : Fin N) (hi : IsFirst (fun j => x (ix2 0 j)) i)
    (b : EReal) (hb : b = ⊥) (w : BitVec 32) (hw : w = 0#32) :
    ((Host.argReduceFiber x (iotaInDim ⟨2, ![1, N]⟩ 32 1) h j).foldl (reducer_argmax_f32_i32 (F := Ideal)) (b, w)).2 = BitVec.ofNat 32 i.val := by
  subst hb hw
  unfold Host.argReduceFiber
  rw [List.filter_eq_self.2 (fun n _ => decide_eq_true (row_unique _ _)), List.foldl_map]
  have e : ∀ (a : EReal × BitVec 32) (n : Fin (⟨2, ![1, N]⟩ : Shape).numel),
      reducer_argmax_f32_i32 (F := Ideal) a (x ((⟨2, ![1, N]⟩ : Shape).rowMajor.symm n), iotaInDim ⟨2, ![1, N]⟩ 32 1 ((⟨2, ![1, N]⟩ : Shape).rowMajor.symm n))
        = amax a (x (ix2 0 (n.cast (Routing.numel2 N))), BitVec.ofNat 32 (n.cast (Routing.numel2 N)).val) := by
    intro a n
    rw [Routing.symm2 n, reducer_eq]
    rfl
  simp only [e]
  rw [foldl_cast (Routing.numel2 N) (fun a n => amax a (x (ix2 0 n), BitVec.ofNat 32 n.val)), foldl_amax_all h0 hN _ i hi]

/-- One row set at one row index: written where the index is the row's. -/
theorem scatter_row {N : Nat} (d : ScatterDims ⟨2, ![1, N]⟩ ⟨3, ![1, 1, 1]⟩ ⟨3, ![1, 1, N]⟩)
    (x : (⟨2, ![1, N]⟩ : Shape).Idx → EReal) (idx : IVec ⟨3, ![1, 1, 1]⟩ 32) (upd : (⟨3, ![1, 1, N]⟩ : Shape).Idx → EReal) (a : Int) (v : EReal)
    (hs0 : ∀ k, d.start k idx 0 = a) (hs1 : ∀ k, d.start k idx 1 = 0) (hw0 : ∀ k, d.window k 0 = 0) (hw1 : ∀ k, d.window k 1 = (k 2).val)
    (hv : ∀ k, upd k = v) (r : Fin N) :
    Host.scatter d (fun _ b => b) x idx upd (ix2 0 r) = if a = 0 then v else x (ix2 0 r) := by
  have hl : ∀ k, d.resultIdx? k idx = some (ix2 0 r) ↔ a = 0 ∧ (k 2).val = r.val := by
    intro k
    refine (Routing.resultIdx?_ix2 d k idx 0 r).trans ?_
    rw [hs0, hs1, hw0, hw1]
    simp
  by_cases h : a = 0
  · rw [if_pos h]
    exact Routing.scatter_set_hit d x idx upd _ _ (fun k _ => hv k) (ix3 0 0 r) ((hl _).2 ⟨h, rfl⟩)
  · rw [if_neg h]
    exact Routing.scatter_set_miss d x idx upd _ fun k hk => h ((hl k).1 hk).1

/-- The same for one cell at a pair of index words. -/
theorem scatter_cell {N : Nat} (d : ScatterDims ⟨2, ![1, N]⟩ ⟨3, ![1, 1, 2]⟩ ⟨2, ![1, 1]⟩)
    (x : (⟨2, ![1, N]⟩ : Shape).Idx → EReal) (idx : IVec ⟨3, ![1, 1, 2]⟩ 32) (upd : (⟨2, ![1, 1]⟩ : Shape).Idx → EReal) (a : Int) (v : EReal)
    (hs0 : ∀ k, d.start k idx 0 = 0) (hs1 : ∀ k, d.start k idx 1 = a) (hw0 : ∀ k, d.window k 0 = 0) (hw1 : ∀ k, d.window k 1 = 0)
    (hv : ∀ k, upd k = v) (r : Fin N) :
    Host.scatter d (fun _ b => b) x idx upd (ix2 0 r) = if a = (r.val : Int) then v else x (ix2 0 r) := by
  have hl : ∀ k, d.resultIdx? k idx = some (ix2 0 r) ↔ a = (r.val : Int) := by
    intro k
    refine (Routing.resultIdx?_ix2 d k idx 0 r).trans ?_
    rw [hs0, hs1, hw0, hw1]
    simp
  by_cases h : a = (r.val : Int)
  · rw [if_pos h]
    exact Routing.scatter_set_hit d x idx upd _ _ (fun k _ => hv k) (ix2 0 0) ((hl _).2 h)
  · rw [if_neg h]
    exact Routing.scatter_set_miss d x idx upd _ fun k hk => h ((hl k).1 hk)

end Cert.ReferenceIdeal.Hand
-- ==== Proof.ReferenceIdeal.Pieces.lean ====
module

public import proofs.«01_k».proof.Proof.ReferenceIdeal.Folds
public import proofs.«01_k».proof.Proof.Math
public import Idealize.ShloMosaic.Lib.Pointwise
public import Idealize.ShloMosaic.Lib.Routing.OpsOne
public import Idealize.ShloMosaic.Lib.ValueIdx

@[expose] public section

set_option maxRecDepth 16384

noncomputable section

/-!
  What each part of the reference leaves in its result, at an element, over the extended reals.
-/

namespace Cert.ReferenceIdeal.Hand

open Idealize.ShloMosaic Idealize.ShloMosaic.TcCoe Idealize.ShloMosaic.StableHlo Idealize.SL.Sem
open Cert.Hand
open Facts₀ Facts

variable (V : Valuation τ sig (Elt Ideal))

/-- A hidden layer before the ramp. -/
theorem emb1_apply (x : S1x8192x768.Idx → EReal) (w : S768x768.Idx → EReal) (b : S768.Idx → EReal)
    (hx : V (main_arg0 : DevRef τ sig) = x) (hw : V (main_arg1 : DevRef τ sig) = w) (hb : V (main_arg2 : DevRef τ sig) = b)
    (r : Fin 8192) (k : Fin 768) :
    (after emb1Ops V (main_v17 : DevRef τ sig) : S1x8192x768.Idx → EReal) (ix3 0 r k)
      = (∑ f : Fin 768, x (ix3 0 r f) * w (ix2 f k)) + b (ix1 k) := by
  subst hx hw hb
  after_results_simp
  pointwise

/-- A ramp. -/
theorem relu1_apply (x : S1x8192x768.Idx → EReal) (hx : V (main_v17 : DevRef τ sig) = x) (r : Fin 8192) (k : Fin 768) :
    (after (reluSeq (.of main_v17) main_call1).1 V (main_v18 : DevRef τ sig) : S1x8192x768.Idx → EReal) (ix3 0 r k)
      = max (x (ix3 0 r k)) 0 := by
  subst hx
  unfold reluSeq
  dsimp only
  after_results_simp
  show maximumf (F := Ideal) (φ := .f32) (V (main_v17 : DevRef τ sig)) (broadcastInDim S1x8192x768 ![] (bcast_S_S1x8192x768) (constant (F := Ideal) S_ .f32 0x00000000#32)) (ix3 0 r k) = _
  pointwise

/-- A ramp. -/
theorem relu2_apply (x : S1x8192x768.Idx → EReal) (hx : V (main_v58 : DevRef τ sig) = x) (r : Fin 8192) (k : Fin 768) :
    (after (reluSeq (.of main_v58) main_call4).1 V (main_v59 : DevRef τ sig) : S1x8192x768.Idx → EReal) (ix3 0 r k)
      = max (x (ix3 0 r k)) 0 := by
  subst hx
  unfold reluSeq
  dsimp only
  after_results_simp
  show maximumf (F := Ideal) (φ := .f32) (V (main_v58 : DevRef τ sig)) (broadcastInDim S1x8192x768 ![] (bcast_S_S1x8192x768) (constant (F := Ideal) S_ .f32 0x00000000#32)) (ix3 0 r k) = _
  pointwise

/-- A ramp. -/
theorem relu3_apply (x : S1x8192x768.Idx → EReal) (hx : V (main_v102 : DevRef τ sig) = x) (r : Fin 8192) (k : Fin 768) :
    (after (reluSeq (.of main_v102) main_call7).1 V (main_v103 : DevRef τ sig) : S1x8192x768.Idx → EReal) (ix3 0 r k)
      = max (x (ix3 0 r k)) 0 := by
  subst hx
  unfold reluSeq
  dsimp only
  after_results_simp
  show maximumf (F := Ideal) (φ := .f32) (V (main_v102 : DevRef τ sig)) (broadcastInDim S1x8192x768 ![] (bcast_S_S1x8192x768) (constant (F := Ideal) S_ .f32 0x00000000#32)) (ix3 0 r k) = _
  pointwise

/-- A ramp. -/
theorem reluC_apply (x : S1x8192x64.Idx → EReal) (hx : V (main_v137 : DevRef τ sig) = x) (r : Fin 8192) (k : Fin 64) :
    (after (reluCSeq (.of main_v137) main_call10).1 V (main_v138 : DevRef τ sig) : S1x8192x64.Idx → EReal) (ix3 0 r k)
      = max (x (ix3 0 r k)) 0 := by
  subst hx
  unfold reluCSeq
  dsimp only
  after_results_simp
  show maximumf (F := Ideal) (φ := .f32) (V (main_v137 : DevRef τ sig)) (broadcastInDim S1x8192x64 ![] (bcast_S_S1x8192x64) (constant (F := Ideal) S_ .f32 0x00000000#32)) (ix3 0 r k) = _
  pointwise

/-- A head's logits. -/
theorem logit1_apply (h : S1x8192x768.Idx → EReal) (w : S768x1.Idx → EReal) (b : S1.Idx → EReal)
    (hh : V (main_v18 : DevRef τ sig) = h) (hw : V (main_arg3 : DevRef τ sig) = w) (hb : V (main_arg4 : DevRef τ sig) = b)
    (r : Fin 8192) :
    (after logit1Ops V (main_v23 : DevRef τ sig) : S1x8192.Idx → EReal) (ix2 0 r)
      = (∑ k : Fin 768, h (ix3 0 r k) * w (ix2 k 0)) + b (ix1 0) := by
  subst hh hw hb
  after_results_simp
  pointwise

/-- A head's logits. -/
theorem logit2_apply (h : S1x8192x768.Idx → EReal) (w : S768x1.Idx → EReal) (b : S1.Idx → EReal)
    (hh : V (main_v59 : DevRef τ sig) = h) (hw : V (main_arg7 : DevRef τ sig) = w) (hb : V (main_arg8 : DevRef τ sig) = b)
    (r : Fin 8192) :
    (after logit2Ops V (main_v64 : DevRef τ sig) : S1x8192.Idx → EReal) (ix2 0 r)
      = (∑ k : Fin 768, h (ix3 0 r k) * w (ix2 k 0)) + b (ix1 0) := by
  subst hh hw hb
  after_results_simp
  pointwise

/-- A softmax's logarithm. -/
theorem soft1_apply (l : S1x8192.Idx → EReal) (hl : V (main_v23 : DevRef τ sig) = l) (r : Fin 8192) :
    (after soft1Ops V (main_v35 : DevRef τ sig) : S1x8192.Idx → EReal) (ix2 0 r) = Ideal.log (soft (fun j => l (ix2 0 j)) r) := by
  subst hl
  after_results_simp
  pointwise
  rw [ofBits_bot]
  rfl

/-- A softmax. -/
theorem soft2_apply (l : S1x8192.Idx → EReal) (hl : V (main_v64 : DevRef τ sig) = l) (r : Fin 8192) :
    (after soft2Ops V (main_v75 : DevRef τ sig) : S1x8192.Idx → EReal) (ix2 0 r) = soft (fun j => l (ix2 0 j)) r := by
  subst hl
  after_results_simp
  pointwise
  rw [ofBits_bot]
  rfl

/-- A softmax's logarithm. -/
theorem soft3_apply (l : S1x2.Idx → EReal) (hl : V (main_v107 : DevRef τ sig) = l) (r : Fin 2) :
    (after soft3Ops V (main_v119 : DevRef τ sig) : S1x2.Idx → EReal) (ix2 0 r) = Ideal.log (soft (fun j => l (ix2 0 j)) r) := by
  subst hl
  after_results_simp
  pointwise
  rw [ofBits_bot]
  rfl

/-- Noise and logarithm. -/
theorem z1_apply (g l : S1x8192.Idx → EReal) (hg : V (main_v36 : DevRef τ sig) = g) (hl : V (main_v35 : DevRef τ sig) = l) (r : Fin 8192) :
    (after z1Ops V (main_v37 : DevRef τ sig) : S1x8192.Idx → EReal) (ix2 0 r) = g (ix2 0 r) + l (ix2 0 r) := by
  subst hg hl
  after_results_simp
  pointwise

/-- Noise and logarithm. -/
theorem z2_apply (g l : S1x8192.Idx → EReal) (hg : V (main_v89 : DevRef τ sig) = g) (hl : V (main_v88 : DevRef τ sig) = l) (r : Fin 8192) :
    (after z2Ops V (main_v90 : DevRef τ sig) : S1x8192.Idx → EReal) (ix2 0 r) = g (ix2 0 r) + l (ix2 0 r) := by
  subst hg hl
  after_results_simp
  pointwise

/-- Noise and logarithm. -/
theorem z3_apply (g l : S1x2.Idx → EReal) (hg : V (main_v120 : DevRef τ sig) = g) (hl : V (main_v119 : DevRef τ sig) = l) (r : Fin 2) :
    (after z3Ops V (main_v121 : DevRef τ sig) : S1x2.Idx → EReal) (ix2 0 r) = g (ix2 0 r) + l (ix2 0 r) := by
  subst hg hl
  after_results_simp
  pointwise

/-- An arg-max is the first greatest. -/
theorem argmax1_apply (z : S1x8192.Idx → EReal) (hz : V (main_v37 : DevRef τ sig) = z) (i : Fin 8192) (hi : IsFirst (fun j => z (ix2 0 j)) i) :
    (after (argmaxSeq (.of main_v37) main_call3).1 V (main_v38 : DevRef τ sig) : S1.Idx → BitVec 32) = fun _ => BitVec.ofNat 32 i.val := by
  subst hz
  unfold argmaxSeq
  dsimp only
  after_results_simp
  funext j
  show (Host.argReduce (F := Ideal) (φ := .f32) reducer_argmax_f32_i32 (V (main_v37 : DevRef τ sig)) (iotaInDim S1x8192 32 1)
    (constant (F := Ideal) S_ .f32 0xFF800000#32) (constantI S_ 32 0#32) _ _ j).2 = _
  rw [Ideal.argReduce_eq_reduce2, Host.reduce2_eq_foldl_fiber]
  exact fold_fiber (axes := [1]) (by norm_num) (by norm_num) _ _ j i hi _ ofBits_bot _ rfl

/-- An arg-max is the first greatest. -/
theorem argmax2_apply (z : S1x8192.Idx → EReal) (hz : V (main_v90 : DevRef τ sig) = z) (i : Fin 8192) (hi : IsFirst (fun j => z (ix2 0 j)) i) :
    (after (argmaxSeq (.of main_v90) main_call6).1 V (main_v91 : DevRef τ sig) : S1.Idx → BitVec 32) = fun _ => BitVec.ofNat 32 i.val := by
  subst hz
  unfold argmaxSeq
  dsimp only
  after_results_simp
  funext j
  show (Host.argReduce (F := Ideal) (φ := .f32) reducer_argmax_f32_i32 (V (main_v90 : DevRef τ sig)) (iotaInDim S1x8192 32 1)
    (constant (F := Ideal) S_ .f32 0xFF800000#32) (constantI S_ 32 0#32) _ _ j).2 = _
  rw [Ideal.argReduce_eq_reduce2, Host.reduce2_eq_foldl_fiber]
  exact fold_fiber (axes := [1]) (by norm_num) (by norm_num) _ _ j i hi _ ofBits_bot _ rfl

/-- An arg-max is the first greatest. -/
theorem argmax3_apply (z : S1x2.Idx → EReal) (hz : V (main_v121 : DevRef τ sig) = z) (i : Fin 2) (hi : IsFirst (fun j => z (ix2 0 j)) i) :
    (after (argmaxTSeq (.of main_v121) main_call9).1 V (main_v122 : DevRef τ sig) : S1.Idx → BitVec 32) = fun _ => BitVec.ofNat 32 i.val := by
  subst hz
  unfold argmaxTSeq
  dsimp only
  after_results_simp
  funext j
  show (Host.argReduce (F := Ideal) (φ := .f32) reducer_argmax_f32_i32 (V (main_v121 : DevRef τ sig)) (iotaInDim S1x2 32 1)
    (constant (F := Ideal) S_ .f32 0xFF800000#32) (constantI S_ 32 0#32) _ _ j).2 = _
  rw [Ideal.argReduce_eq_reduce2, Host.reduce2_eq_foldl_fiber]
  exact fold_fiber (axes := [1]) (by norm_num) (by norm_num) _ _ j i hi _ ofBits_bot _ rfl

/-- The third head's hidden layer before the ramp. -/
theorem emb3_apply (x : S1x8192x768.Idx → EReal) (w : S768x768.Idx → EReal)
    (hx : V (main_arg0 : DevRef τ sig) = x) (hw : V (main_arg9 : DevRef τ sig) = w) (r : Fin 8192) (k : Fin 768) :
    (after emb3Ops V (main_v102 : DevRef τ sig) : S1x8192x768.Idx → EReal) (ix3 0 r k) = ∑ f : Fin 768, x (ix3 0 r f) * w (ix2 f k) := by
  subst hx hw
  after_results_simp
  pointwise

/-- The critic before the ramp. -/
theorem critic_apply (x : S1x8192x768.Idx → EReal) (w : S768x64.Idx → EReal) (b : S64.Idx → EReal)
    (hx : V (main_arg0 : DevRef τ sig) = x) (hw : V (main_arg12 : DevRef τ sig) = w) (hb : V (main_arg13 : DevRef τ sig) = b)
    (r : Fin 8192) (k : Fin 64) :
    (after criticOps V (main_v137 : DevRef τ sig) : S1x8192x64.Idx → EReal) (ix3 0 r k)
      = (∑ f : Fin 768, x (ix3 0 r f) * w (ix2 f k)) + b (ix1 k) := by
  subst hx hw hb
  after_results_simp
  pointwise

/-- The third head's logits, of the hidden layer's sum over the positions. -/
theorem logit3_apply (h : S1x8192x768.Idx → EReal) (w : S768x2.Idx → EReal) (b : S2.Idx → EReal)
    (hh : V (main_v103 : DevRef τ sig) = h) (hw : V (main_arg10 : DevRef τ sig) = w) (hb : V (main_arg11 : DevRef τ sig) = b)
    (r : Fin 2) :
    (after logit3Ops V (main_v107 : DevRef τ sig) : S1x2.Idx → EReal) (ix2 0 r)
      = (∑ k : Fin 768, (∑ n : Fin 8192, h (ix3 0 n k)) * w (ix2 k r)) + b (ix1 r) := by
  subst hh hw hb
  after_results_simp
  pointwise

/-- The sampled index as a number, on every feature column's first place. -/
theorem tile_apply (a : S1x1.Idx → EReal) (ha : V (main_v49 : DevRef τ sig) = a) (r : Fin 8192) :
    (after (emb2Ops.take 4) V (main_v53 : DevRef τ sig) : S1x8192x1.Idx → EReal) (ix3 0 r 0) = a (ix2 0 0) := by
  subst ha
  simp only [List.take]
  after_results_simp
  pointwise

/-- What the tiling does not write it leaves. -/
theorem tile_keep :
    after (emb2Ops.take 4) V (main_arg0 : DevRef τ sig) = V (main_arg0 : DevRef τ sig) ∧ after (emb2Ops.take 4) V (main_arg5 : DevRef τ sig) = V (main_arg5 : DevRef τ sig)
      ∧ after (emb2Ops.take 4) V (main_arg6 : DevRef τ sig) = V (main_arg6 : DevRef τ sig) := by
  simp only [List.take]
  refine ⟨?_, ?_, ?_⟩ <;> after_results_simp

/-- The second head's hidden layer before the ramp, on the features with the sampled index before them. -/
theorem emb2_apply (a : S1x1.Idx → EReal) (x : S1x8192x768.Idx → EReal) (w : S769x768.Idx → EReal) (b : S768.Idx → EReal)
    (ha : V (main_v49 : DevRef τ sig) = a)
    (hx : V (main_arg0 : DevRef τ sig) = x) (hw : V (main_arg5 : DevRef τ sig) = w) (hb : V (main_arg6 : DevRef τ sig) = b)
    (r : Fin 8192) (k : Fin 768) :
    (after emb2Ops V (main_v58 : DevRef τ sig) : S1x8192x768.Idx → EReal) (ix3 0 r k)
      = (a (ix2 0 0) * w (ix2 0 k) + ∑ f : Fin 768, x (ix3 0 r f) * w (ix2 ⟨1 + f.val, by omega⟩ k)) + b (ix1 k) := by
  have ht := tile_apply V a ha r
  have hk := tile_keep V
  rw [hx, hw, hb] at hk
  rw [show emb2Ops (F := Ideal) = emb2Ops.take 4 ++ emb2Ops.drop 4 from (List.take_append_drop 4 _).symm, after_cat]
  generalize after (emb2Ops.take 4) V = V' at ht hk ⊢
  simp only [List.drop]
  obtain ⟨rfl, rfl, rfl⟩ := hk
  after_results_simp
  pointwise
  rw [← ht, Finset.sum_const, Finset.card_univ, Fintype.card_fin, one_smul]

end Cert.ReferenceIdeal.Hand
-- ==== Proof.ReferenceIdeal.Hots.lean ====
module

public import proofs.«01_k».proof.Proof.ReferenceIdeal.Folds
public import proofs.«01_k».proof.Proof.Math
public import Idealize.ShloMosaic.Lib.Pointwise
public import Idealize.ShloMosaic.Lib.Routing.OpsOne
public import Idealize.ShloMosaic.Lib.ValueIdx

@[expose] public section

set_option maxRecDepth 16384

noncomputable section

/-!
  The rows of ones and the mask that the reference makes of its draws.
-/

namespace Cert.ReferenceIdeal.Hand

open Idealize.ShloMosaic Idealize.ShloMosaic.TcCoe Idealize.ShloMosaic.StableHlo Idealize.SL.Sem
open Cert.Hand
open Facts₀ Facts

variable (V : Valuation τ sig (Elt Ideal))

/-! ## The rows of ones -/

/-- An index below 8192 that is not negative is not wrapped. -/
theorem wrap (i : Nat) (hi : i < 8192) (a : BitVec 32) :
    Scalar.select (IntOp.cmpi .slt (BitVec.ofNat 32 i) 0#32) a (BitVec.ofNat 32 i) = BitVec.ofNat 32 i :=
  Routing.wrap_of_lt _ _ (by rw [BitVec.toNat_ofNat, Nat.mod_eq_of_lt (by omega)]; omega)

/-- The first head's draw, kept as a one-by-one array. -/
theorem act1_index (a : BitVec 32) (h : (V (main_v38 : DevRef τ sig) : S1.Idx → BitVec 32) = fun _ => a) :
    (after act1Ops V (main_v39 : DevRef τ sig) : S1x1.Idx → BitVec 32) = fun _ => a := by
  after_results_simp
  funext j
  exact congrFun h _

/-- The first head's draw as a number. -/
theorem act1_number (i : Fin 8192) (h : (V (main_v38 : DevRef τ sig) : S1.Idx → BitVec 32) = fun _ => BitVec.ofNat 32 i.val) :
    (after act1Ops V (main_v49 : DevRef τ sig) : S1x1.Idx → EReal) = fun _ => ((i.val : ℝ) : EReal) := by
  after_results_simp
  funext j
  have e : (V (main_v38 : DevRef τ sig) : S1.Idx → BitVec 32) = fun _ => BitVec.ofNat 32 i.val := h
  show (((((V (main_v38 : DevRef τ sig) : S1.Idx → BitVec 32) _).toInt : ℝ)) : EReal) = _
  rw [e, toInt_ofNat (by omega)]
  simp

/-- A row of ones when the draw is 0, else of zeros. -/
def hot (i : Nat) : EReal := if (i : Int) = 0 then 1 else 0

/-- The first head's row: of ones exactly when the draw is 0. -/
theorem act1_row (i : Fin 8192) (h : (V (main_v38 : DevRef τ sig) : S1.Idx → BitVec 32) = fun _ => BitVec.ofNat 32 i.val) (r : Fin 8192) :
    (after act1Ops V (main_v48 : DevRef τ sig) : S1x8192.Idx → EReal) (ix2 0 r) = hot i.val := by
  after_results_simp
  refine (scatter_row scatter_S1x8192_S1x1x1_S1x1x8192_2_0_0_2 _ _ _ i.val 1 (fun k => ?_) (fun k => rfl) (fun k => rfl) (fun k => rfl) (fun k => ?_) r).trans ?_
  · rw [h]
    exact (congrArg BitVec.toInt (wrap i.val i.isLt _)).trans (toInt_ofNat (by omega))
  · pointwise
  · unfold hot
    congr 1
    pointwise

/-- The second head's index and its row of zeros. -/
theorem act2_index (i : Fin 8192) (h : (V (main_v91 : DevRef τ sig) : S1.Idx → BitVec 32) = fun _ => BitVec.ofNat 32 i.val) :
    (after act2Ops V (main_v99 : DevRef τ sig) : S1x1x1.Idx → BitVec 32) = fun _ => BitVec.ofNat 32 i.val := by
  after_results_simp
  rw [h]
  funext j
  exact wrap i.val i.isLt _

theorem act2_zeros : (after act2Ops V (main_v93 : DevRef τ sig) : S1x8192.Idx → EReal) = fun _ => (0 : EReal) := by
  after_results_simp
  funext j
  pointwise

/-- The second head's row. -/
theorem hot2_row (i : Fin 8192) (h : (V (main_v99 : DevRef τ sig) : S1x1x1.Idx → BitVec 32) = fun _ => BitVec.ofNat 32 i.val)
    (h0 : (V (main_v93 : DevRef τ sig) : S1x8192.Idx → EReal) = fun _ => (0 : EReal)) (r : Fin 8192) :
    (after hot2Ops V (main_v101 : DevRef τ sig) : S1x8192.Idx → EReal) (ix2 0 r) = hot i.val := by
  after_results_simp
  refine (scatter_row scatter_S1x8192_S1x1x1_S1x1x8192_2_0_0_2 _ _ _ i.val 1 (fun k => ?_) (fun k => rfl) (fun k => rfl) (fun k => rfl) (fun k => ?_) r).trans ?_
  · rw [h]
    exact toInt_ofNat (by omega)
  · pointwise
  · unfold hot
    rw [h0]

/-- The third head's row. -/
theorem hot3_row (i : Fin 2) (h : (V (main_v122 : DevRef τ sig) : S1.Idx → BitVec 32) = fun _ => BitVec.ofNat 32 i.val) (r : Fin 2) :
    (after (hot3Ops.take 14) V (main_v132 : DevRef τ sig) : S1x2.Idx → EReal) (ix2 0 r) = hot i.val := by
  simp only [List.take]
  after_results_simp
  refine (scatter_row scatter_S1x2_S1x1x1_S1x1x2_2_0_0_2 _ _ _ i.val 1 (fun k => ?_) (fun k => rfl) (fun k => rfl) (fun k => rfl) (fun k => ?_) r).trans ?_
  · rw [h]
    exact (congrArg BitVec.toInt (wrap i.val (by omega) _)).trans (toInt_ofNat (by omega))
  · pointwise
  · unfold hot
    congr 1
    pointwise

/-- What making the third row leaves. -/
theorem hot3_keep :
    after (hot3Ops.take 14) V (main_v48 : DevRef τ sig) = V (main_v48 : DevRef τ sig) ∧ after (hot3Ops.take 14) V (main_v101 : DevRef τ sig) = V (main_v101 : DevRef τ sig) := by
  simp only [List.take]
  refine ⟨?_, ?_⟩ <;> after_results_simp

/-- The actor: the three rows after one another. -/
theorem actor_apply (i : Fin 2) (p q : EReal) (h : (V (main_v122 : DevRef τ sig) : S1.Idx → BitVec 32) = fun _ => BitVec.ofNat 32 i.val)
    (hp : ∀ r : Fin 8192, (V (main_v48 : DevRef τ sig) : S1x8192.Idx → EReal) (ix2 0 r) = p)
    (hq : ∀ r : Fin 8192, (V (main_v101 : DevRef τ sig) : S1x8192.Idx → EReal) (ix2 0 r) = q) (r : Fin 16386) :
    (after hot3Ops V (main_v133 : DevRef τ sig) : S1x16386.Idx → EReal) (ix2 0 r)
      = if r.val < 8192 then p else if r.val < 16384 then q else hot i.val := by
  have ht := hot3_row V i h
  have hk := hot3_keep V
  rw [show hot3Ops (F := Ideal) = hot3Ops.take 14 ++ hot3Ops.drop 14 from (List.take_append_drop 14 _).symm, after_cat]
  rw [← hk.1] at hp
  rw [← hk.2] at hq
  clear hk h
  generalize after (hot3Ops.take 14) V = V' at ht hp hq ⊢
  simp only [List.drop]
  after_results_simp
  pointwise
  by_cases h1 : r.val < 8192
  · rw [dif_pos h1, if_pos h1]; exact hp _
  · rw [dif_neg h1, if_neg h1]
    by_cases h2 : r.val < 16384
    · rw [dif_pos (by omega), if_pos h2]; exact hq _
    · rw [dif_neg (by omega), if_neg h2]; exact ht _

/-- The words of the cell that the mask clears. -/
theorem mask_words (i : Fin 8192) (h : (V (main_v39 : DevRef τ sig) : S1x1.Idx → BitVec 32) = fun _ => BitVec.ofNat 32 i.val) :
    (after (mask2Ops.take 12) V (main_v83 : DevRef τ sig) : S1x1x1.Idx → BitVec 32) = (fun _ => 0#32)
      ∧ (after (mask2Ops.take 12) V (main_v84 : DevRef τ sig) : S1x1x1.Idx → BitVec 32) = (fun _ => BitVec.ofNat 32 i.val)
      ∧ after (mask2Ops.take 12) V (main_v75 : DevRef τ sig) = V (main_v75 : DevRef τ sig) := by
  simp only [List.take]
  refine ⟨?_, ?_, ?_⟩
  · after_results_simp
    funext j
    rfl
  · after_results_simp
    rw [h]
    funext j
    exact wrap i.val i.isLt _
  · after_results_simp

/-- The second head's logarithm, its softmax cleared at the first head's draw. -/
theorem mask2_apply (i : Fin 8192) (p : S1x8192.Idx → EReal)
    (h : (V (main_v39 : DevRef τ sig) : S1x1.Idx → BitVec 32) = fun _ => BitVec.ofNat 32 i.val)
    (hp : V (main_v75 : DevRef τ sig) = p) (r : Fin 8192) :
    (after mask2Ops V (main_v88 : DevRef τ sig) : S1x8192.Idx → EReal) (ix2 0 r) = Ideal.log (if r = i then 0 else p (ix2 0 r)) := by
  obtain ⟨h0, h1, hk⟩ := mask_words V i h
  rw [hp] at hk
  rw [show mask2Ops (F := Ideal) = mask2Ops.take 12 ++ mask2Ops.drop 12 from (List.take_append_drop 12 _).symm, after_cat]
  generalize after (mask2Ops.take 12) V = V' at h0 h1 hk ⊢
  subst hk
  simp only [List.drop]
  after_results_simp
  refine congrArg Ideal.log ((scatter_cell scatter_S1x8192_S1x1x2_S1x1_n_01_01_2 _ _ _ i.val 0 (fun k => ?_) (fun k => ?_) (fun k => rfl) (fun k => rfl) (fun k => ?_) r).trans ?_)
  · rw [h0]; rfl
  · rw [h1]; exact toInt_ofNat (by omega)
  · pointwise
  · by_cases hr : r = i
    · rw [if_pos hr, if_pos (by rw [hr])]
    · rw [if_neg hr, if_neg fun e => hr (Fin.ext (by exact_mod_cast e.symm))]

end Cert.ReferenceIdeal.Hand
-- ==== Proof.ReferenceIdeal.Chain.lean ====
module

public import proofs.«01_k».proof.Proof.ReferenceIdeal.Stages
public import proofs.«01_k».proof.Proof.ReferenceIdeal.Pieces
public import proofs.«01_k».proof.Proof.ReferenceIdeal.Hots
public import proofs.«01_k».proof.Proof.Net

@[expose] public section

set_option maxRecDepth 16384

noncomputable section

/-!
  The reference's results: the network's critic and its choices' marks.
-/

namespace Cert.ReferenceIdeal.Hand

open Idealize.ShloMosaic Idealize.ShloMosaic.TcCoe Idealize.ShloMosaic.StableHlo
open Cert.Hand

variable (L : Valuation τ sig (Elt Ideal))

/-- The arguments that a state holds. -/
def netOf : Net where
  x := L (main_arg0 : DevRef τ sig)
  w1 := L (main_arg1 : DevRef τ sig)
  b1 := L (main_arg2 : DevRef τ sig)
  u1 := L (main_arg3 : DevRef τ sig)
  c1 := L (main_arg4 : DevRef τ sig)
  w2 := L (main_arg5 : DevRef τ sig)
  b2 := L (main_arg6 : DevRef τ sig)
  u2 := L (main_arg7 : DevRef τ sig)
  c2 := L (main_arg8 : DevRef τ sig)
  w3 := L (main_arg9 : DevRef τ sig)
  u3 := L (main_arg10 : DevRef τ sig)
  c3 := L (main_arg11 : DevRef τ sig)
  wv := L (main_arg12 : DevRef τ sig)
  bv := L (main_arg13 : DevRef τ sig)

/-- The first head's noise. -/
def noise1 (j : Fin 8192) : EReal := (stage L 8 (main_v36 : DevRef τ sig) : S1x8192.Idx → EReal) (ix2 0 j)
/-- The second head's noise. -/
def noise2 (j : Fin 8192) : EReal := (stage L 17 (main_v89 : DevRef τ sig) : S1x8192.Idx → EReal) (ix2 0 j)
/-- The third head's noise. -/
def noise3 (j : Fin 2) : EReal := (stage L 26 (main_v120 : DevRef τ sig) : S1x2.Idx → EReal) (ix2 0 j)

theorem hot_eq (n : ℕ) : hot n = Net.mark n := by
  unfold hot Net.mark
  simp only [Int.natCast_eq_zero]

/-- The first head's hidden layer is the network's. -/
theorem hid1_at (r : Fin 8192) (k : Fin 768) :
    (stage L 5 (main_v18 : DevRef τ sig) : S1x8192x768.Idx → EReal) (ix3 0 r k) = (netOf L).hid1 r k :=
  (relu1_apply (stage L 4) _ rfl r k).trans <| congrArg (fun t : EReal => max t 0) <|
    emb1_apply (stage L 3) _ _ _ (stage_arg L 3 (by decide) (by decide)) (stage_arg L 3 (by decide) (by decide))
      (stage_arg L 3 (by decide) (by decide)) r k

/-- The first head's logits are the network's. -/
theorem logit1_at (r : Fin 8192) : (stage L 6 (main_v23 : DevRef τ sig) : S1x8192.Idx → EReal) (ix2 0 r) = (netOf L).logit1 r :=
  (logit1_apply (stage L 5) _ _ _ rfl (stage_arg L 5 (by decide) (by decide)) (stage_arg L 5 (by decide) (by decide)) r).trans <|
    congrArg (fun t : EReal => t + _) <| Finset.sum_congr rfl fun k _ => congrArg (fun t : EReal => t * _) (hid1_at L r k)

/-- The critic is the network's. -/
theorem critic_at (r : Fin 8192) (k : Fin 64) :
    (stage L 31 (main_v138 : DevRef τ sig) : S1x8192x64.Idx → EReal) (ix3 0 r k) = (netOf L).critic r k :=
  (reluC_apply (stage L 30) _ rfl r k).trans <| congrArg (fun t : EReal => max t 0) <|
    critic_apply (stage L 29) _ _ _ (stage_arg L 29 (by decide) (by decide)) (stage_arg L 29 (by decide) (by decide))
      (stage_arg L 29 (by decide) (by decide)) r k

/-- The third head's hidden layer is the network's. -/
theorem hid3_at (r : Fin 8192) (k : Fin 768) :
    (stage L 23 (main_v103 : DevRef τ sig) : S1x8192x768.Idx → EReal) (ix3 0 r k) = (netOf L).hid3 r k :=
  (relu3_apply (stage L 22) _ rfl r k).trans <| congrArg (fun t : EReal => max t 0) <|
    emb3_apply (stage L 21) _ _ (stage_arg L 21 (by decide) (by decide)) (stage_arg L 21 (by decide) (by decide)) r k

/-- The third head's logits, given its hidden layer and its arguments. -/
theorem logit3_of (V : Valuation τ sig (Elt Ideal)) (A : Net) (h : S1x8192x768.Idx → EReal) (hh : V (main_v103 : DevRef τ sig) = h)
    (hu : V (main_arg10 : DevRef τ sig) = A.u3) (hb : V (main_arg11 : DevRef τ sig) = A.c3)
    (hid : ∀ r k, h (ix3 0 r k) = A.hid3 r k) (j : Fin 2) :
    (after logit3Ops V (main_v107 : DevRef τ sig) : S1x2.Idx → EReal) (ix2 0 j) = A.logit3 j := by
  refine (logit3_apply V h _ _ hh hu hb j).trans ?_
  unfold Net.logit3
  simp only [hid]

/-- The third head's logits are the network's. -/
theorem logit3_at (j : Fin 2) : (stage L 24 (main_v107 : DevRef τ sig) : S1x2.Idx → EReal) (ix2 0 j) = (netOf L).logit3 j :=
  logit3_of (stage L 23) (netOf L) _ rfl (stage_arg L 23 (by decide) (by decide)) (stage_arg L 23 (by decide) (by decide)) (hid3_at L) j

section Choices

variable {L} {i1 i2 : Fin 8192} {i3 : Fin 2} (hA : (netOf L).Reals) (hc : (netOf L).Chosen (noise1 L) (noise2 L) (noise3 L) i1 i2 i3)
include hA hc

/-- The first head chooses the network's first choice. -/
theorem choice1 : (stage L 10 (main_v38 : DevRef τ sig) : S1.Idx → BitVec 32) = fun _ => BitVec.ofNat 32 i1.val := by
  refine argmax1_apply (stage L 9) _ rfl i1 ?_
  have hl : (fun j : Fin 8192 => (stage L 6 (main_v23 : DevRef τ sig) : S1x8192.Idx → EReal) (ix2 0 j)) = (netOf L).logit1 :=
    funext fun j => logit1_at L j
  have hz : (fun j : Fin 8192 => (stage L 9 (main_v37 : DevRef τ sig) : S1x8192.Idx → EReal) (ix2 0 j))
      = fun j => noise1 L j + Ideal.log (soft (netOf L).logit1 j) := by
    rw [← hl]
    exact funext fun j => (z1_apply (stage L 8) _ _ rfl (stage_keep L 7 8 (by decide) (by decide) (by decide)) j).trans <|
      congrArg (fun t => noise1 L j + t) (soft1_apply (stage L 6) _ rfl j)
  rw [hz]
  exact first_soft (by norm_num) _ _ _ hA.logit1 i1 (fun _ => rfl) hc.h1

/-- The second head's hidden layer is the network's at its first choice. -/
theorem hid2_at (r : Fin 8192) (k : Fin 768) :
    (stage L 13 (main_v59 : DevRef τ sig) : S1x8192x768.Idx → EReal) (ix3 0 r k) = (netOf L).hid2 i1 r k :=
  (relu2_apply (stage L 12) _ rfl r k).trans <| congrArg (fun t : EReal => max t 0) <|
    emb2_apply (stage L 11) _ _ _ _ (act1_number (stage L 10) i1 (choice1 hA hc)) (stage_arg L 11 (by decide) (by decide))
      (stage_arg L 11 (by decide) (by decide)) (stage_arg L 11 (by decide) (by decide)) r k

/-- The second head's logits are the network's at its first choice. -/
theorem logit2_at (r : Fin 8192) : (stage L 14 (main_v64 : DevRef τ sig) : S1x8192.Idx → EReal) (ix2 0 r) = (netOf L).logit2 i1 r := by
  have e := logit2_apply (stage L 13) _ _ _ rfl (stage_arg L 13 (by decide) (by decide)) (stage_arg L 13 (by decide) (by decide)) r
  simp only [hid2_at hA hc] at e
  exact e

/-- The second head chooses the network's second choice. -/
theorem choice2 : (stage L 19 (main_v91 : DevRef τ sig) : S1.Idx → BitVec 32) = fun _ => BitVec.ofNat 32 i2.val := by
  refine argmax2_apply (stage L 18) _ rfl i2 ?_
  have hl : (fun j : Fin 8192 => (stage L 14 (main_v64 : DevRef τ sig) : S1x8192.Idx → EReal) (ix2 0 j)) = (netOf L).logit2 i1 :=
    funext fun j => logit2_at hA hc j
  have hi : (stage L 15 (main_v39 : DevRef τ sig) : S1x1.Idx → BitVec 32) = fun _ => BitVec.ofNat 32 i1.val :=
    (stage_keep L 11 15 (by decide) (by decide) (by decide)).trans (act1_index (stage L 10) _ (choice1 hA hc))
  have hz : (fun j : Fin 8192 => (stage L 18 (main_v90 : DevRef τ sig) : S1x8192.Idx → EReal) (ix2 0 j))
      = fun j => noise2 L j + Ideal.log (if j = i1 then 0 else soft ((netOf L).logit2 i1) j) := by
    rw [← hl]
    exact funext fun j => (z2_apply (stage L 17) _ _ rfl (stage_keep L 16 17 (by decide) (by decide) (by decide)) j).trans <|
      congrArg (fun t => noise2 L j + t) <| (mask2_apply (stage L 15) i1 _ hi rfl j).trans <|
        congrArg (fun t => Ideal.log (if j = i1 then 0 else t)) (soft2_apply (stage L 14) _ rfl j)
  rw [hz]
  exact first_soft_mask (by norm_num) _ _ _ (hA.logit2 i1) i2 i1 (fun _ => rfl) hc.h2

/-- The third head chooses the network's third choice. -/
theorem choice3 : (stage L 28 (main_v122 : DevRef τ sig) : S1.Idx → BitVec 32) = fun _ => BitVec.ofNat 32 i3.val := by
  refine argmax3_apply (stage L 27) _ rfl i3 ?_
  have hl : (fun j : Fin 2 => (stage L 24 (main_v107 : DevRef τ sig) : S1x2.Idx → EReal) (ix2 0 j)) = (netOf L).logit3 :=
    funext fun j => logit3_at L j
  have hz : (fun j : Fin 2 => (stage L 27 (main_v121 : DevRef τ sig) : S1x2.Idx → EReal) (ix2 0 j))
      = fun j => noise3 L j + Ideal.log (soft (netOf L).logit3 j) := by
    rw [← hl]
    exact funext fun j => (z3_apply (stage L 26) _ _ rfl (stage_keep L 25 26 (by decide) (by decide) (by decide)) j).trans <|
      congrArg (fun t => noise3 L j + t) (soft3_apply (stage L 24) _ rfl j)
  rw [hz]
  exact first_soft (by norm_num) _ _ _ hA.logit3 i3 (fun _ => rfl) hc.h3

/-- The actor's row holds the marks of the network's choices. -/
theorem actor_at (r : Fin 16386) :
    (stage L 31 (main_v133 : DevRef τ sig) : S1x16386.Idx → EReal) (ix2 0 r) = Net.actor i1 i2 i3 r := by
  have h1 : ∀ r : Fin 8192, (stage L 28 (main_v48 : DevRef τ sig) : S1x8192.Idx → EReal) (ix2 0 r) = hot i1.val := fun r =>
    (congrFun (stage_keep L 11 28 (by decide) (by decide) (by decide)) _).trans (act1_row (stage L 10) i1 (choice1 hA hc) r)
  have h2 : ∀ r : Fin 8192, (stage L 28 (main_v101 : DevRef τ sig) : S1x8192.Idx → EReal) (ix2 0 r) = hot i2.val := fun r =>
    (congrFun (stage_keep L 21 28 (by decide) (by decide) (by decide)) _).trans <|
      hot2_row (stage L 20) i2 (act2_index (stage L 19) i2 (choice2 hA hc)) (act2_zeros (stage L 19)) r
  refine (congrFun (stage_keep L 29 31 (by decide) (by decide) (by decide)) _).trans ?_
  refine (actor_apply (stage L 28) i3 _ _ (choice3 hA hc) h1 h2 r).trans ?_
  simp only [hot_eq]
  rfl

end Choices

end Cert.ReferenceIdeal.Hand
end
-- ==== Proof.Agree.lean ====
module

public import proofs.«01_k».proof.Proof.Noise
public import proofs.«01_k».proof.Proof.KernelIdeal.Fits
public import proofs.«01_k».proof.Proof.ReferenceIdeal.Chain

@[expose] public section

set_option maxRecDepth 16384

noncomputable section

/-!
  From equal arguments the two programs' results are equal.
-/

namespace Cert.Hand

open Idealize.ShloMosaic Idealize.ShloMosaic.TcCoe Idealize.ShloMosaic.StableHlo
open Cert.ReferenceIdeal.Hand (stage noise1 noise2 noise3 actor_at critic_at)
open Cert.KernelIdeal.Hand (insOf fits V0_eq)

variable (m : (ℓ : Loc KernelIdeal.nD KernelIdeal.τ KernelIdeal.sig) → Buf (Elt Ideal) ℓ) (c : Dev KernelIdeal.nD)
  (L' : Valuation ReferenceIdeal.τ ReferenceIdeal.sig (Elt Ideal))
  (hN : (KernelIdeal.Hand.netOf fun b => m (c, b)) = ReferenceIdeal.Hand.netOf L')
include hN

/-- The region's blocks hold the reference's arguments and the reference's noise. -/
theorem fits_reference : KernelIdeal.Hand.Fits (insOf m c) (ReferenceIdeal.Hand.netOf L') (noise1 L') (noise2 L') (noise3 L') := by
  have f := fits m c
  have e1 : (fun j : Fin 8192 => (KernelIdeal.Gen.V0 m c (KernelIdeal.main_v14 : DevRef KernelIdeal.τ KernelIdeal.sig) : KernelIdeal.S1x8192.Idx → EReal) (ix2 0 j))
      = noise1 L' := by
    rw [V0_eq]
    exact funext fun j => congrFun (host1_eq (fun b => m (c, b)) L') _
  have e2 : (fun j : Fin 8192 => (KernelIdeal.Gen.V0 m c (KernelIdeal.main_v15 : DevRef KernelIdeal.τ KernelIdeal.sig) : KernelIdeal.S1x8192.Idx → EReal) (ix2 0 j))
      = noise2 L' := by
    rw [V0_eq]
    exact funext fun j => congrFun (host2_eq (fun b => m (c, b)) L') _
  have e3 : (fun j : Fin 2 => (KernelIdeal.Gen.V0 m c (KernelIdeal.main_v16 : DevRef KernelIdeal.τ KernelIdeal.sig) : KernelIdeal.S1x2.Idx → EReal) (ix2 0 j))
      = noise3 L' := by
    rw [V0_eq]
    exact funext fun j => congrFun (host3_eq (fun b => m (c, b)) L') _
  rw [hN, e1, e2, e3] at f
  exact f

/-- The actors agree where the heads' numbers are real. -/
theorem actor_agree (hA : (ReferenceIdeal.Hand.netOf L').Reals) (r : Fin 16386) :
    (stage L' 31 (ReferenceIdeal.main_v133 : DevRef ReferenceIdeal.τ ReferenceIdeal.sig) : ReferenceIdeal.S1x16386.Idx → EReal) (ix2 0 r)
      = ((insOf m c).actor : KernelIdeal.S1x16386.Idx → EReal) (ix2 0 r) := by
  obtain ⟨i1, i2, i3, hc⟩ := (ReferenceIdeal.Hand.netOf L').exists_chosen (noise1 L') (noise2 L') (noise3 L')
  exact (actor_at hA hc r).trans ((fits_reference m c L' hN).actor hc r).symm

/-- The critics agree. -/
theorem critic_agree (r : Fin 8192) (k : Fin 64) :
    (stage L' 31 (ReferenceIdeal.main_v138 : DevRef ReferenceIdeal.τ ReferenceIdeal.sig) : ReferenceIdeal.S1x8192x64.Idx → EReal) (ix3 0 r k)
      = ((insOf m c).crit ⟨r.val / 1024, by omega⟩ : KernelIdeal.S1024x64.Idx → EReal) (ix2 ⟨r.val % 1024, Nat.mod_lt _ (by norm_num)⟩ k) :=
  (critic_at L' r k).trans ((fits_reference m c L' hN).critic r k).symm

end Cert.Hand
end
-- ==== Proof.Algebraic.lean ====
module

public import proofs.«01_k».proof.Defs
public import proofs.«01_k».proof.Proof.KernelIdeal.Launch
public import proofs.«01_k».proof.Proof.KernelIdeal.Results
public import proofs.«01_k».proof.Proof.ReferenceIdeal.Frame
public import proofs.«01_k».proof.Proof.ReferenceIdeal.Run
public import proofs.«01_k».proof.Proof.Reals
public import proofs.«01_k».proof.Proof.Agree

@[expose] public section

set_option maxRecDepth 16384

noncomputable section

/-!
  The kernel's two results are the reference's two results, over the extended reals.
-/

namespace Cert.Hand

open Idealize.ShloMosaic Idealize.ShloMosaic.TcCoe Idealize.ShloMosaic.StableHlo Idealize.SL.Sem
open Cert.ReferenceIdeal.Hand (stage stage_eq)
open Cert.KernelIdeal.Hand (insOf critic_tail critic_mem actor_mem)

/-- What the kernel leaves of the critic. -/
abbrev criticOf (m : (ℓ : Loc KernelIdeal.nD KernelIdeal.τ KernelIdeal.sig) → Buf (Elt Ideal) ℓ) (c : Dev KernelIdeal.nD) :
    KernelIdeal.S1x8192x64.Idx → EReal :=
  Pipeline.afterTail₀ KernelIdeal.cfgs (KernelIdeal.Hand.dats m) 0 (KernelIdeal.Gen.V0 m) [KernelIdeal.Gen.hostOps1] c KernelIdeal.main_v32

section
variable (m : (ℓ : Loc KernelIdeal.nD KernelIdeal.τ KernelIdeal.sig) → Buf (Elt Ideal) ℓ) (c : Dev KernelIdeal.nD)
  (L' : Valuation ReferenceIdeal.τ ReferenceIdeal.sig (Elt Ideal))
  (hN : (KernelIdeal.Hand.netOf fun b => m (c, b)) = ReferenceIdeal.Hand.netOf L')
include hN

theorem actor_eq (hA : (ReferenceIdeal.Hand.netOf L').Reals) :
    (after (ReferenceIdeal.Hand.lines (F := Ideal)).flatten L' (ReferenceIdeal.main_v133 : DevRef ReferenceIdeal.τ ReferenceIdeal.sig) : ReferenceIdeal.S1x16386.Idx → EReal)
      = ((insOf m c).actor : KernelIdeal.S1x16386.Idx → EReal) := by
  rw [← stage_eq]
  funext i
  have hi : i = ix2 0 (i 1) := funext fun a => by
    fin_cases a
    · exact Subsingleton.elim (α := Fin 1) _ _
    · rfl
  rw [hi]
  exact actor_agree m c L' hN hA (i 1)

theorem critic_eq :
    (after (ReferenceIdeal.Hand.lines (F := Ideal)).flatten L' (ReferenceIdeal.main_v138 : DevRef ReferenceIdeal.τ ReferenceIdeal.sig) : ReferenceIdeal.S1x8192x64.Idx → EReal)
      = criticOf m c := by
  rw [← stage_eq]
  funext i
  have hi : i = ix3 0 (i 1) (i 2) := funext fun a => by
    fin_cases a
    · exact Subsingleton.elim (α := Fin 1) _ _
    · rfl
    · rfl
  rw [hi]
  exact (critic_agree m c L' hN (i 1) (i 2)).trans (critic_tail m c (i 1) (i 2)).symm

end

attribute [local instance] preFacts in
/-- From equal arguments, finite where the heads read, the two programs leave the same actor and the same critic. -/
theorem algebraic : Cert.algebraic_KernelIdeal_ReferenceIdeal_pre_logits_are_real (hKernelIdeal := KernelIdeal.Gen.facts)
    (hReferenceIdeal := ReferenceIdeal.Gen.facts) (hPre_logits_are_real := preFacts) := by
  intro m g m' g' hpre hargs
  have hN (c : Dev KernelIdeal.nD) : (KernelIdeal.Hand.netOf fun b => m (c, b)) = ReferenceIdeal.Hand.netOf (launchContents m' c) := by
    obtain ⟨h0, h1, h2, h3, h4, h5, h6, h7, h8, h9, h10, h11, h12, h13⟩ := hargs c
    exact (Net.mk.injEq _ _ _ _ _ _ _ _ _ _ _ _ _ _ _ _ _ _ _ _ _ _ _ _ _ _ _ _).mpr
      ⟨h0.symm, h1.symm, h2.symm, h3.symm, h4.symm, h5.symm, h6.symm, h7.symm, h8.symm, h9.symm, h10.symm, h11.symm, h12.symm, h13.symm⟩
  have hA (c : Dev KernelIdeal.nD) : (ReferenceIdeal.Hand.netOf (launchContents m' c)).Reals := hN c ▸ reals_of_pre m hpre c
  refine ⟨fun c => (insOf m c).actor, fun c => criticOf m c, ?_, ?_⟩
  · refine (θ_run KernelIdeal.defs _ _).mono (fun r h c => ?_) (θ_run_and (KernelIdeal.Hand.run_main m g) (KernelIdeal.Hand.frame m g))
    exact ⟨actor_mem h.1.1 c, critic_mem h.1.1 c, h.2.1 c⟩
  · refine (θ_run ReferenceIdeal.defs _ _).mono (fun r h c => ?_) (θ_run_and (ReferenceIdeal.Hand.run m' g') (ReferenceIdeal.Hand.frame m' g' trivial))
    exact ⟨(h.1 c ReferenceIdeal.main_v133).trans (actor_eq m c _ (hN c) (hA c)),
      (h.1 c ReferenceIdeal.main_v138).trans (critic_eq m c _ (hN c)), h.2.1 c⟩

end Cert.Hand
end
-- ==== Proof.lean ====
module

public import proofs.«01_k».proof.Defs
public import proofs.«01_k».proof.Proof.Kernel.Launch
public import proofs.«01_k».proof.Proof.KernelIdeal.Launch
public import proofs.«01_k».proof.Proof.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem

theorem quiescent_Kernel : Cert.quiescent_Kernel (hKernel := Cert.Kernel.Gen.facts) :=
  fun m g _ => Cert.Kernel.Hand.frame m g

theorem quiescent_KernelIdeal : Cert.quiescent_KernelIdeal (hKernelIdeal := Cert.KernelIdeal.Gen.facts) :=
  fun m g _ => Cert.KernelIdeal.Hand.frame m g

theorem quiescent_KernelIdeal_pre : Cert.quiescent_KernelIdeal_pre_logits_are_real (hKernelIdeal := Cert.KernelIdeal.Gen.facts)
    (hPre_logits_are_real := Cert.Hand.preFacts) :=
  fun m g _ => Cert.KernelIdeal.Hand.frame m g

theorem quiescent_ReferenceIdeal_pre : Cert.quiescent_ReferenceIdeal_pre_logits_are_real (hReferenceIdeal := Cert.ReferenceIdeal.Gen.facts)
    (hPre_logits_are_real := Cert.Hand.preFacts) :=
  fun m g _ => Cert.ReferenceIdeal.Hand.frame m g trivial

theorem claim : Cert.Claim :=
  ⟨Cert.Kernel.Gen.facts, Cert.KernelIdeal.Gen.facts, Cert.ReferenceIdeal.Gen.facts, Cert.Hand.preFacts, quiescent_Kernel,
    quiescent_KernelIdeal, quiescent_KernelIdeal_pre, Cert.ReferenceIdeal.Hand.frame, quiescent_ReferenceIdeal_pre, trivial,
    Cert.Hand.algebraic⟩

end Cert.Proof

end
